-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_zero_row [hPre_no_zero_row : Cert.Pre_no_zero_row.Facts] (m : (ℓ : Loc Cert.KernelIdeal.nD Cert.KernelIdeal.τ Cert.KernelIdeal.sig) → Buf (Elt Ideal) ℓ) : Prop :=
  ∀ c : Dev Cert.KernelIdeal.nD,
    (Cert.Pre_no_zero_row.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_zero_row [hPre_no_zero_row : Cert.Pre_no_zero_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_zero_row.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_zero_row [hKernelIdeal : Cert.KernelIdeal.Facts] [hPre_no_zero_row : Cert.Pre_no_zero_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_zero_row m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_zero_row [hReferenceIdeal : Cert.ReferenceIdeal.Facts] [hPre_no_zero_row : Cert.Pre_no_zero_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_zero_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_zero_row [hKernelIdeal : Cert.KernelIdeal.Facts] [hReferenceIdeal : Cert.ReferenceIdeal.Facts] [hPre_no_zero_row : Cert.Pre_no_zero_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_zero_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_zero_row : Cert.Pre_no_zero_row.Facts),
    quiescent_Kernel (hKernel := hKernel)
    ∧ quiescent_KernelIdeal (hKernelIdeal := hKernelIdeal)
    ∧ quiescent_KernelIdeal_pre_no_zero_row (hKernelIdeal := hKernelIdeal) (hPre_no_zero_row := hPre_no_zero_row)
    ∧ quiescent_ReferenceIdeal (hReferenceIdeal := hReferenceIdeal)
    ∧ quiescent_ReferenceIdeal_pre_no_zero_row (hReferenceIdeal := hReferenceIdeal) (hPre_no_zero_row := hPre_no_zero_row)
    ∧ preserves_Kernel_KernelIdeal
    ∧ algebraic_KernelIdeal_ReferenceIdeal_pre_no_zero_row (hKernelIdeal := hKernelIdeal) (hReferenceIdeal := hReferenceIdeal) (hPre_no_zero_row := hPre_no_zero_row)
-- ==== Pre_no_zero_row.lean ====
abbrev S12x16x1024x64 : Shape := ⟨4, ![12, 16, 1024, 64]⟩
abbrev S16x1024x12x64 : Shape := ⟨4, ![16, 1024, 12, 64]⟩
abbrev S16x1024x768 : Shape := ⟨3, ![16, 1024, 768]⟩
abbrev S_ : Shape := ⟨0, ![]⟩
abbrev S16x1024 : Shape := ⟨2, ![16, 1024]⟩

class Facts : Prop where
  transposes_S12x16x1024x64_S16x1024x12x64_1_2_0_3 : S12x16x1024x64.Transposes [1, 2, 0, 3] S16x1024x12x64
  shapeCasts_S16x1024x12x64_S16x1024x768 : S16x1024x12x64.ShapeCasts S16x1024x768
  reducesTo_S16x1024x768_S16x1024_d2 : S16x1024x768.ReducesTo [2] S16x1024
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S12x16x1024x64 .f32) : IVec S_ 1 :=
  let main_v0 : FVec F S16x1024x12x64 .f32 := (transpose S16x1024x12x64 [1, 2, 0, 3] · transposes_S12x16x1024x64_S16x1024x12x64_1_2_0_3) main_arg0
  let main_v1 : FVec F S16x1024x768 .f32 := shapeCast S16x1024x768 main_v0 shapeCasts_S16x1024x12x64_S16x1024x768
  let main_v2 : FVec F S16x1024x768 .f32 := mulf main_v1 main_v1
  let main_cst : FVec F S_ .f32 := constant S_ .f32 0x00000000#32
  let main_v3 : FVec F S16x1024 .f32 := (fun x v => Host.reduceAdd x v reducesTo_S16x1024x768_S16x1024_d2 h_S_) main_v2 main_cst
  let main_cst_0 : FVec F S_ .f32 := constant S_ .f32 0x00000000#32
  let main_v4 : FVec F S16x1024 .f32 := broadcastInDim S16x1024 ![] bcast_S_S16x1024 main_cst_0
  let main_v5 : IVec S16x1024 1 := cmpf .ogt main_v3 main_v4
  let main_c : IVec S_ 1 := constantI S_ 1 1#1
  let main_v6 : IVec S_ 1 := (fun x v => Host.reduce IntOp.andi x v reducesTo_S16x1024_S_d0_1 h_S_) main_v5 main_c
  main_v6
-- ==== Kernel.lean ====
abbrev S12x16x1024x64 : Shape := ⟨4, ![12, 16, 1024, 64]⟩
abbrev S16x16x1024 : Shape := ⟨3, ![16, 16, 1024]⟩
abbrev S12x1x1024x64 : Shape := ⟨4, ![12, 1, 1024, 64]⟩
abbrev S1x16x1024 : Shape := ⟨3, ![1, 16, 1024]⟩
abbrev S1x1x1024x64 : Shape := ⟨4, ![1, 1, 1024, 64]⟩
abbrev S1024x64 : Shape := ⟨2, ![1024, 64]⟩
abbrev S1024x768 : Shape := ⟨2, ![1024, 768]⟩
abbrev S1024 : Shape := ⟨1, ![1024]⟩
abbrev S1024x1 : Shape := ⟨2, ![1024, 1]⟩
abbrev S1024x1024 : Shape := ⟨2, ![1024, 1024]⟩
abbrev S1024x16 : Shape := ⟨2, ![1024, 16]⟩
abbrev S16x1024 : Shape := ⟨2, ![16, 1024]⟩
abbrev S16x1048576 : Shape := ⟨2, ![16, 1048576]⟩
abbrev S65536 : Shape := ⟨1, ![65536]⟩
abbrev S16 : Shape := ⟨1, ![16]⟩
abbrev S_ : Shape := ⟨0, ![]⟩
abbrev S1x16 : Shape := ⟨2, ![1, 16]⟩
abbrev S1x65536 : Shape := ⟨2, ![1, 65536]⟩
abbrev S16x1024x1024 : Shape := ⟨3, ![16, 1024, 1024]⟩

abbrev nBuf : Table → Nat
  | .hbm => 5
  | .local .tc .vmem => 6
  | .local .scVector .vmem => 3
  | _ => 0

abbrev bufTy : (tb : Table) → Fin (nBuf tb) → BufTy
  | .hbm, ⟨0, _⟩ => ⟨S12x16x1024x64, .f32⟩
  | .hbm, ⟨1, _⟩ => ⟨S16x16x1024, .i32⟩
  | .hbm, ⟨2, _⟩ => ⟨S16x16x1024, .f32⟩
  | .hbm, ⟨3, _⟩ => ⟨S16x1048576, .f32⟩
  | .hbm, ⟨4, _⟩ => ⟨S16x1024x1024, .f32⟩
  | .local .tc .vmem, ⟨0, _⟩ => ⟨S12x1x1024x64, .f32⟩
  | .local .tc .vmem, ⟨1, _⟩ => ⟨S12x1x1024x64, .f32⟩
  | .local .tc .vmem, ⟨2, _⟩ => ⟨S1x16x1024, .i32⟩
  | .local .tc .vmem, ⟨3, _⟩ => ⟨S1x16x1024, .i32⟩
  | .local .tc .vmem, ⟨4, _⟩ => ⟨S1x16x1024, .f32⟩
  | .local .tc .vmem, ⟨5, _⟩ => ⟨S1x16x1024, .f32⟩
  | .local .scVector .vmem, ⟨0, _⟩ => ⟨S16x1024, .i32⟩
  | .local .scVector .vmem, ⟨1, _⟩ => ⟨S16x1024, .f32⟩
  | .local .scVector .vmem, ⟨2, _⟩ => ⟨S65536, .f32⟩
  | _, _ => ⟨S12x16x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v0_0_scv : Ref sig .scVector := ⟨.hbm, 1, rfl⟩
abbrev main_v0_1_scv : Ref sig .scVector := ⟨.hbm, 2, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32_0 : BitVec 32 := 0#32
  let c4096_i32 : BitVec 32 := 4096#32
  let v1 : BitVec 32 := Scalar.addi c0_i32_0 c4096_i32
  let c1_i32 : BitVec 32 := 1#32
  ⟨c0_i32_0, v1, c1_i32⟩
def k1_off1 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v267 : BitVec 32 := Scalar.muli arg8 c16_i32
  let v268 : Index := Scalar.indexCast v267
  ![v268.toNat]
def k1_off2 (i : grid1.Coords) (c0_i32_2 : BitVec 32) : Fin 3 → Nat :=
  let arg0 : BitVec 32 := BitVec.ofNat 32 (i 0).val
  let v2 : BitVec 32 := Scalar.addi c0_i32_2 arg0
  let c0_i32_1282_r0 : BitVec 32 := 0#32
  let c0_i32_1283_r0 : BitVec 32 := 0#32
  ![v2.toNat, 0, 0]
@[reducible] def k1_t2_loop : Scf.Loop 32 :=
  let c0_i32_4 : BitVec 32 := 0#32
  let c64_i32 : BitVec 32 := 64#32
  let v3 : BitVec 32 := Scalar.addi c0_i32_4 c64_i32
  let c1_i32_5 : BitVec 32 := 1#32
  ⟨c0_i32_4, v3, c1_i32_5⟩
def k1_off3 (k1_t2 : Fin k1_t2_loop.trips) : Fin 2 → Nat :=
  let c0_i32_1282 : BitVec 32 := 0#32
  let v267 : Index := Scalar.indexCast c0_i32_1282
  let c0_i32_4 : BitVec 32 := 0#32
  let c1_i32_5 : BitVec 32 := 1#32
  let arg8 : BitVec 32 := Scf.iv c0_i32_4 c1_i32_5 k1_t2
  let c16_i32 : BitVec 32 := 16#32
  let v266 : BitVec 32 := Scalar.muli arg8 c16_i32
  let v268 : Index := Scalar.indexCast v266
  ![0, v268.toNat]

def k1_chk1 (v282 : IVec S16 32) : Prop :=
  (∀ a x, ((![v282] : Fin 1 → IVec S16 32) a x).toNat < S65536.size a)
theorem k1_idx1_inb : ∀ (v282 : IVec S16 32) (k1_hw1 : k1_chk1 v282), ∀ a x, ((![v282] : Fin 1 → IVec S16 32) a x).toNat < S65536.size a := fun v282 k1_hw1 => k1_hw1
@[reducible] def k1_t3_loop : Scf.Loop 32 :=
  let c0_i32_8 : BitVec 32 := 0#32
  let c64_i32_9 : BitVec 32 := 64#32
  let v4 : BitVec 32 := Scalar.addi c0_i32_8 c64_i32_9
  let c1_i32_10 : BitVec 32 := 1#32
  ⟨c0_i32_8, v4, c1_i32_10⟩
def k1_off4 (k1_t3 : Fin k1_t3_loop.trips) : Fin 2 → Nat :=
  let c1_i32_1282 : BitVec 32 := 1#32
  let v267 : Index := Scalar.indexCast c1_i32_1282
  let c0_i32_8 : BitVec 32 := 0#32
  let c1_i32_10 : BitVec 32 := 1#32
  let arg8 : BitVec 32 := Scf.iv c0_i32_8 c1_i32_10 k1_t3
  let c16_i32 : BitVec 32 := 16#32
  let v266 : BitVec 32 := Scalar.muli arg8 c16_i32
  let v268 : Index := Scalar.indexCast v266
  ![1, v268.toNat]

def k1_chk2 (v282 : IVec S16 32) : Prop :=
  (∀ a x, ((![v282] : Fin 1 → IVec S16 32) a x).toNat < S65536.size a)
theorem k1_idx2_inb : ∀ (v282 : IVec S16 32) (k1_hw2 : k1_chk2 v282), ∀ a x, ((![v282] : Fin 1 → IVec S16 32) a x).toNat < S65536.size a := fun v282 k1_hw2 => k1_hw2
@[reducible] def k1_t4_loop : Scf.Loop 32 :=
  let c0_i32_13 : BitVec 32 := 0#32
  let c64_i32_14 : BitVec 32 := 64#32
  let v5 : BitVec 32 := Scalar.addi c0_i32_13 c64_i32_14
  let c1_i32_15 : BitVec 32 := 1#32
  ⟨c0_i32_13, v5, c1_i32_15⟩
def k1_off5 (k1_t4 : Fin k1_t4_loop.trips) : Fin 2 → Nat :=
  let c2_i32_1282 : BitVec 32 := 2#32
  let v267 : Index := Scalar.indexCast c2_i32_1282
  let c0_i32_13 : BitVec 32 := 0#32
  let c1_i32_15 : BitVec 32 := 1#32
  let arg8 : BitVec 32 := Scf.iv c0_i32_13 c1_i32_15 k1_t4
  let c16_i32 : BitVec 32 := 16#32
  let v266 : BitVec 32 := Scalar.muli arg8 c16_i32
  let v268 : Index := Scalar.indexCast v266
  ![2, v268.toNat]

def k1_chk3 (v282 : IVec S16 32) : Prop :=
  (∀ a x, ((![v282] : Fin 1 → IVec S16 32) a x).toNat < S65536.size a)
theorem k1_idx3_inb : ∀ (v282 : IVec S16 32) (k1_hw3 : k1_chk3 v282), ∀ a x, ((![v282] : Fin 1 → IVec S16 32) a x).toNat < S65536.size a := fun v282 k1_hw3 => k1_hw3
@[reducible] def k1_t5_loop : Scf.Loop 32 :=
  let c0_i32_18 : BitVec 32 := 0#32
  let c64_i32_19 : BitVec 32 := 64#32
  let v6 : BitVec 32 := Scalar.addi c0_i32_18 c64_i32_19
  let c1_i32_20 : BitVec 32 := 1#32
  ⟨c0_i32_18, v6, c1_i32_20⟩
def k1_off6 (k1_t5 : Fin k1_t5_loop.trips) : Fin 2 → Nat :=
  let c3_i32 : BitVec 32 := 3#32
  let v267 : Index := Scalar.indexCast c3_i32
  let c0_i32_18 : BitVec 32 := 0#32
  let c1_i32_20 : BitVec 32 := 1#32
  let arg8 : BitVec 32 := Scf.iv c0_i32_18 c1_i32_20 k1_t5
  let c16_i32 : BitVec 32 := 16#32
  let v266 : BitVec 32 := Scalar.muli arg8 c16_i32
  let v268 : Index := Scalar.indexCast v266
  ![3, v268.toNat]

def k1_chk4 (v282 : IVec S16 32) : Prop :=
  (∀ a x, ((![v282] : Fin 1 → IVec S16 32) a x).toNat < S65536.size a)
theorem k1_idx4_inb : ∀ (v282 : IVec S16 32) (k1_hw4 : k1_chk4 v282), ∀ a x, ((![v282] : Fin 1 → IVec S16 32) a x).toNat < S65536.size a := fun v282 k1_hw4 => k1_hw4
@[reducible] def k1_t6_loop : Scf.Loop 32 :=
  let c0_i32_23 : BitVec 32 := 0#32
  let c64_i32_24 : BitVec 32 := 64#32
  let v7 : BitVec 32 := Scalar.addi c0_i32_23 c64_i32_24
  let c1_i32_25 : BitVec 32 := 1#32
  ⟨c0_i32_23, v7, c1_i32_25⟩
def k1_off7 (k1_t6 : Fin k1_t6_loop.trips) : Fin 2 → Nat :=
  let c4_i32_1282 : BitVec 32 := 4#32
  let v267 : Index := Scalar.indexCast c4_i32_1282
  let c0_i32_23 : BitVec 32 := 0#32
  let c1_i32_25 : BitVec 32 := 1#32
  let arg8 : BitVec 32 := Scf.iv c0_i32_23 c1_i32_25 k1_t6
  let c16_i32 : BitVec 32 := 16#32
  let v266 : BitVec 32 := Scalar.muli arg8 c16_i32
  let v268 : Index := Scalar.indexCast v266
  ![4, v268.toNat]

def k1_chk5 (v282 : IVec S16 32) : Prop :=
  (∀ a x, ((![v282] : Fin 1 → IVec S16 32) a x).toNat < S65536.size a)
theorem k1_idx5_inb : ∀ (v282 : IVec S16 32) (k1_hw5 : k1_chk5 v282), ∀ a x, ((![v282] : Fin 1 → IVec S16 32) a x).toNat < S65536.size a := fun v282 k1_hw5 => k1_hw5
@[reducible] def k1_t7_loop : Scf.Loop 32 :=
  let c0_i32_28 : BitVec 32 := 0#32
  let c64_i32_29 : BitVec 32 := 64#32
  let v8 : BitVec 32 := Scalar.addi c0_i32_28 c64_i32_29
  let c1_i32_30 : BitVec 32 := 1#32
  ⟨c0_i32_28, v8, c1_i32_30⟩
def k1_off8 (k1_t7 : Fin k1_t7_loop.trips) : Fin 2 → Nat :=
  let c5_i32 : BitVec 32 := 5#32
  let v267 : Index := Scalar.indexCast c5_i32
  let c0_i32_28 : BitVec 32 := 0#32
  let c1_i32_30 : BitVec 32 := 1#32
  let arg8 : BitVec 32 := Scf.iv c0_i32_28 c1_i32_30 k1_t7
  let c16_i32 : BitVec 32 := 16#32
  let v266 : BitVec 32 := Scalar.muli arg8 c16_i32
  let v268 : Index := Scalar.indexCast v266
  ![5, v268.toNat]

def k1_chk6 (v282 : IVec S16 32) : Prop :=
  (∀ a x, ((![v282] : Fin 1 → IVec S16 32) a x).toNat < S65536.size a)
theorem k1_idx6_inb : ∀ (v282 : IVec S16 32) (k1_hw6 : k1_chk6 v282), ∀ a x, ((![v282] : Fin 1 → IVec S16 32) a x).toNat < S65536.size a := fun v282 k1_hw6 => k1_hw6
@[reducible] def k1_t8_loop : Scf.Loop 32 :=
  let c0_i32_33 : BitVec 32 := 0#32
  let c64_i32_34 : BitVec 32 := 64#32
  let v9 : BitVec 32 := Scalar.addi c0_i32_33 c64_i32_34
  let c1_i32_35 : BitVec 32 := 1#32
  ⟨c0_i32_33, v9, c1_i32_35⟩
def k1_off9 (k1_t8 : Fin k1_t8_loop.trips) : Fin 2 → Nat :=
  let c6_i32_1282 : BitVec 32 := 6#32
  let v267 : Index := Scalar.indexCast c6_i32_1282
  let c0_i32_33 : BitVec 32 := 0#32
  let c1_i32_35 : BitVec 32 := 1#32
  let arg8 : BitVec 32 := Scf.iv c0_i32_33 c1_i32_35 k1_t8
  let c16_i32 : BitVec 32 := 16#32
  let v266 : BitVec 32 := Scalar.muli arg8 c16_i32
  let v268 : Index := Scalar.indexCast v266
  ![6, v268.toNat]

def k1_chk7 (v282 : IVec S16 32) : Prop :=
  (∀ a x, ((![v282] : Fin 1 → IVec S16 32) a x).toNat < S65536.size a)
theorem k1_idx7_inb : ∀ (v282 : IVec S16 32) (k1_hw7 : k1_chk7 v282), ∀ a x, ((![v282] : Fin 1 → IVec S16 32) a x).toNat < S65536.size a := fun v282 k1_hw7 => k1_hw7
@[reducible] def k1_t9_loop : Scf.Loop 32 :=
  let c0_i32_38 : BitVec 32 := 0#32
  let c64_i32_39 : BitVec 32 := 64#32
  let v10 : BitVec 32 := Scalar.addi c0_i32_38 c64_i32_39
  let c1_i32_40 : BitVec 32 := 1#32
  ⟨c0_i32_38, v10, c1_i32_40⟩
def k1_off10 (k1_t9 : Fin k1_t9_loop.trips) : Fin 2 → Nat :=
  let c7_i32 : BitVec 32 := 7#32
  let v267 : Index := Scalar.indexCast c7_i32
  let c0_i32_38 : BitVec 32 := 0#32
  let c1_i32_40 : BitVec 32 := 1#32
  let arg8 : BitVec 32 := Scf.iv c0_i32_38 c1_i32_40 k1_t9
  let c16_i32 : BitVec 32 := 16#32
  let v266 : BitVec 32 := Scalar.muli arg8 c16_i32
  let v268 : Index := Scalar.indexCast v266
  ![7, v268.toNat]

def k1_chk8 (v282 : IVec S16 32) : Prop :=
  (∀ a x, ((![v282] : Fin 1 → IVec S16 32) a x).toNat < S65536.size a)
theorem k1_idx8_inb : ∀ (v282 : IVec S16 32) (k1_hw8 : k1_chk8 v282), ∀ a x, ((![v282] : Fin 1 → IVec S16 32) a x).toNat < S65536.size a := fun v282 k1_hw8 => k1_hw8
@[reducible] def k1_t10_loop : Scf.Loop 32 :=
  let c0_i32_43 : BitVec 32 := 0#32
  let c64_i32_44 : BitVec 32 := 64#32
  let v11 : BitVec 32 := Scalar.addi c0_i32_43 c64_i32_44
  let c1_i32_45 : BitVec 32 := 1#32
  ⟨c0_i32_43, v11, c1_i32_45⟩
def k1_off11 (k1_t10 : Fin k1_t10_loop.trips) : Fin 2 → Nat :=
  let c8_i32_1282 : BitVec 32 := 8#32
  let v267 : Index := Scalar.indexCast c8_i32_1282
  let c0_i32_43 : BitVec 32 := 0#32
  let c1_i32_45 : BitVec 32 := 1#32
  let arg8 : BitVec 32 := Scf.iv c0_i32_43 c1_i32_45 k1_t10
  let c16_i32 : BitVec 32 := 16#32
  let v266 : BitVec 32 := Scalar.muli arg8 c16_i32
  let v268 : Index := Scalar.indexCast v266
  ![8, v268.toNat]

def k1_chk9 (v282 : IVec S16 32) : Prop :=
  (∀ a x, ((![v282] : Fin 1 → IVec S16 32) a x).toNat < S65536.size a)
theorem k1_idx9_inb : ∀ (v282 : IVec S16 32) (k1_hw9 : k1_chk9 v282), ∀ a x, ((![v282] : Fin 1 → IVec S16 32) a x).toNat < S65536.size a := fun v282 k1_hw9 => k1_hw9
@[reducible] def k1_t11_loop : Scf.Loop 32 :=
  let c0_i32_48 : BitVec 32 := 0#32
  let c64_i32_49 : BitVec 32 := 64#32
  let v12 : BitVec 32 := Scalar.addi c0_i32_48 c64_i32_49
  let c1_i32_50 : BitVec 32 := 1#32
  ⟨c0_i32_48, v12, c1_i32_50⟩
def k1_off12 (k1_t11 : Fin k1_t11_loop.trips) : Fin 2 → Nat :=
  let c9_i32 : BitVec 32 := 9#32
  let v267 : Index := Scalar.indexCast c9_i32
  let c0_i32_48 : BitVec 32 := 0#32
  let c1_i32_50 : BitVec 32 := 1#32
  let arg8 : BitVec 32 := Scf.iv c0_i32_48 c1_i32_50 k1_t11
  let c16_i32 : BitVec 32 := 16#32
  let v266 : BitVec 32 := Scalar.muli arg8 c16_i32
  let v268 : Index := Scalar.indexCast v266
  ![9, v268.toNat]

def k1_chk10 (v282 : IVec S16 32) : Prop :=
  (∀ a x, ((![v282] : Fin 1 → IVec S16 32) a x).toNat < S65536.size a)
theorem k1_idx10_inb : ∀ (v282 : IVec S16 32) (k1_hw10 : k1_chk10 v282), ∀ a x, ((![v282] : Fin 1 → IVec S16 32) a x).toNat < S65536.size a := fun v282 k1_hw10 => k1_hw10
@[reducible] def k1_t12_loop : Scf.Loop 32 :=
  let c0_i32_53 : BitVec 32 := 0#32
  let c64_i32_54 : BitVec 32 := 64#32
  let v13 : BitVec 32 := Scalar.addi c0_i32_53 c64_i32_54
  let c1_i32_55 : BitVec 32 := 1#32
  ⟨c0_i32_53, v13, c1_i32_55⟩
def k1_off13 (k1_t12 : Fin k1_t12_loop.trips) : Fin 2 → Nat :=
  let c10_i32_1282 : BitVec 32 := 10#32
  let v267 : Index := Scalar.indexCast c10_i32_1282
  let c0_i32_53 : BitVec 32 := 0#32
  let c1_i32_55 : BitVec 32 := 1#32
  let arg8 : BitVec 32 := Scf.iv c0_i32_53 c1_i32_55 k1_t12
  let c16_i32 : BitVec 32 := 16#32
  let v266 : BitVec 32 := Scalar.muli arg8 c16_i32
  let v268 : Index := Scalar.indexCast v266
  ![10, v268.toNat]

def k1_chk11 (v282 : IVec S16 32) : Prop :=
  (∀ a x, ((![v282] : Fin 1 → IVec S16 32) a x).toNat < S65536.size a)
theorem k1_idx11_inb : ∀ (v282 : IVec S16 32) (k1_hw11 : k1_chk11 v282), ∀ a x, ((![v282] : Fin 1 → IVec S16 32) a x).toNat < S65536.size a := fun v282 k1_hw11 => k1_hw11
@[reducible] def k1_t13_loop : Scf.Loop 32 :=
  let c0_i32_58 : BitVec 32 := 0#32
  let c64_i32_59 : BitVec 32 := 64#32
  let v14 : BitVec 32 := Scalar.addi c0_i32_58 c64_i32_59
  let c1_i32_60 : BitVec 32 := 1#32
  ⟨c0_i32_58, v14, c1_i32_60⟩
def k1_off14 (k1_t13 : Fin k1_t13_loop.trips) : Fin 2 → Nat :=
  let c11_i32 : BitVec 32 := 11#32
  let v267 : Index := Scalar.indexCast c11_i32
  let c0_i32_58 : BitVec 32 := 0#32
  let c1_i32_60 : BitVec 32 := 1#32
  let arg8 : BitVec 32 := Scf.iv c0_i32_58 c1_i32_60 k1_t13
  let c16_i32 : BitVec 32 := 16#32
  let v266 : BitVec 32 := Scalar.muli arg8 c16_i32
  let v268 : Index := Scalar.indexCast v266
  ![11, v268.toNat]

def k1_chk12 (v282 : IVec S16 32) : Prop :=
  (∀ a x, ((![v282] : Fin 1 → IVec S16 32) a x).toNat < S65536.size a)
theorem k1_idx12_inb : ∀ (v282 : IVec S16 32) (k1_hw12 : k1_chk12 v282), ∀ a x, ((![v282] : Fin 1 → IVec S16 32) a x).toNat < S65536.size a := fun v282 k1_hw12 => k1_hw12
@[reducible] def k1_t14_loop : Scf.Loop 32 :=
  let c0_i32_63 : BitVec 32 := 0#32
  let c64_i32_64 : BitVec 32 := 64#32
  let v15 : BitVec 32 := Scalar.addi c0_i32_63 c64_i32_64
  let c1_i32_65 : BitVec 32 := 1#32
  ⟨c0_i32_63, v15, c1_i32_65⟩
def k1_off15 (k1_t14 : Fin k1_t14_loop.trips) : Fin 2 → Nat :=
  let c12_i32_1282 : BitVec 32 := 12#32
  let v267 : Index := Scalar.indexCast c12_i32_1282
  let c0_i32_63 : BitVec 32 := 0#32
  let c1_i32_65 : BitVec 32 := 1#32
  let arg8 : BitVec 32 := Scf.iv c0_i32_63 c1_i32_65 k1_t14
  let c16_i32 : BitVec 32 := 16#32
  let v266 : BitVec 32 := Scalar.muli arg8 c16_i32
  let v268 : Index := Scalar.indexCast v266
  ![12, v268.toNat]

def k1_chk13 (v282 : IVec S16 32) : Prop :=
  (∀ a x, ((![v282] : Fin 1 → IVec S16 32) a x).toNat < S65536.size a)
theorem k1_idx13_inb : ∀ (v282 : IVec S16 32) (k1_hw13 : k1_chk13 v282), ∀ a x, ((![v282] : Fin 1 → IVec S16 32) a x).toNat < S65536.size a := fun v282 k1_hw13 => k1_hw13
@[reducible] def k1_t15_loop : Scf.Loop 32 :=
  let c0_i32_68 : BitVec 32 := 0#32
  let c64_i32_69 : BitVec 32 := 64#32
  let v16 : BitVec 32 := Scalar.addi c0_i32_68 c64_i32_69
  let c1_i32_70 : BitVec 32 := 1#32
  ⟨c0_i32_68, v16, c1_i32_70⟩
def k1_off16 (k1_t15 : Fin k1_t15_loop.trips) : Fin 2 → Nat :=
  let c13_i32 : BitVec 32 := 13#32
  let v267 : Index := Scalar.indexCast c13_i32
  let c0_i32_68 : BitVec 32 := 0#32
  let c1_i32_70 : BitVec 32 := 1#32
  let arg8 : BitVec 32 := Scf.iv c0_i32_68 c1_i32_70 k1_t15
  let c16_i32 : BitVec 32 := 16#32
  let v266 : BitVec 32 := Scalar.muli arg8 c16_i32
  let v268 : Index := Scalar.indexCast v266
  ![13, v268.toNat]

def k1_chk14 (v282 : IVec S16 32) : Prop :=
  (∀ a x, ((![v282] : Fin 1 → IVec S16 32) a x).toNat < S65536.size a)
theorem k1_idx14_inb : ∀ (v282 : IVec S16 32) (k1_hw14 : k1_chk14 v282), ∀ a x, ((![v282] : Fin 1 → IVec S16 32) a x).toNat < S65536.size a := fun v282 k1_hw14 => k1_hw14
@[reducible] def k1_t16_loop : Scf.Loop 32 :=
  let c0_i32_73 : BitVec 32 := 0#32
  let c64_i32_74 : BitVec 32 := 64#32
  let v17 : BitVec 32 := Scalar.addi c0_i32_73 c64_i32_74
  let c1_i32_75 : BitVec 32 := 1#32
  ⟨c0_i32_73, v17, c1_i32_75⟩
def k1_off17 (k1_t16 : Fin k1_t16_loop.trips) : Fin 2 → Nat :=
  let c14_i32_1282 : BitVec 32 := 14#32
  let v267 : Index := Scalar.indexCast c14_i32_1282
  let c0_i32_73 : BitVec 32 := 0#32
  let c1_i32_75 : BitVec 32 := 1#32
  let arg8 : BitVec 32 := Scf.iv c0_i32_73 c1_i32_75 k1_t16
  let c16_i32 : BitVec 32 := 16#32
  let v266 : BitVec 32 := Scalar.muli arg8 c16_i32
  let v268 : Index := Scalar.indexCast v266
  ![14, v268.toNat]

def k1_chk15 (v282 : IVec S16 32) : Prop :=
  (∀ a x, ((![v282] : Fin 1 → IVec S16 32) a x).toNat < S65536.size a)
theorem k1_idx15_inb : ∀ (v282 : IVec S16 32) (k1_hw15 : k1_chk15 v282), ∀ a x, ((![v282] : Fin 1 → IVec S16 32) a x).toNat < S65536.size a := fun v282 k1_hw15 => k1_hw15
@[reducible] def k1_t17_loop : Scf.Loop 32 :=
  let c0_i32_78 : BitVec 32 := 0#32
  let c64_i32_79 : BitVec 32 := 64#32
  let v18 : BitVec 32 := Scalar.addi c0_i32_78 c64_i32_79
  let c1_i32_80 : BitVec 32 := 1#32
  ⟨c0_i32_78, v18, c1_i32_80⟩
def k1_off18 (k1_t17 : Fin k1_t17_loop.trips) : Fin 2 → Nat :=
  let c15_i32 : BitVec 32 := 15#32
  let v267 : Index := Scalar.indexCast c15_i32
  let c0_i32_78 : BitVec 32 := 0#32
  let c1_i32_80 : BitVec 32 := 1#32
  let arg8 : BitVec 32 := Scf.iv c0_i32_78 c1_i32_80 k1_t17
  let c16_i32 : BitVec 32 := 16#32
  let v266 : BitVec 32 := Scalar.muli arg8 c16_i32
  let v268 : Index := Scalar.indexCast v266
  ![15, v268.toNat]

def k1_chk16 (v282 : IVec S16 32) : Prop :=
  (∀ a x, ((![v282] : Fin 1 → IVec S16 32) a x).toNat < S65536.size a)
theorem k1_idx16_inb : ∀ (v282 : IVec S16 32) (k1_hw16 : k1_chk16 v282), ∀ a x, ((![v282] : Fin 1 → IVec S16 32) a x).toNat < S65536.size a := fun v282 k1_hw16 => k1_hw16
def k1_off19 (i : grid1.Coords) (c0_i32_2 : BitVec 32) : Fin 2 → Nat :=
  let arg0 : BitVec 32 := BitVec.ofNat 32 (i 0).val
  let v2 : BitVec 32 := Scalar.addi c0_i32_2 arg0
  let arg1 : BitVec 32 := BitVec.ofNat 32 (i 1).val
  let c65536_i32 : BitVec 32 := 65536#32
  let v0 : BitVec 32 := Scalar.muli arg1 c65536_i32
  ![v2.toNat, v0.toNat]
@[reducible] def k1_t18_loop : Scf.Loop 32 :=
  let c0_i32_83 : BitVec 32 := 0#32
  let c64_i32_84 : BitVec 32 := 64#32
  let v19 : BitVec 32 := Scalar.addi c0_i32_83 c64_i32_84
  let c1_i32_85 : BitVec 32 := 1#32
  ⟨c0_i32_83, v19, c1_i32_85⟩
def k1_off20 (k1_t18 : Fin k1_t18_loop.trips) : Fin 2 → Nat :=
  let c0_i32_1282 : BitVec 32 := 0#32
  let v267 : Index := Scalar.indexCast c0_i32_1282
  let c0_i32_83 : BitVec 32 := 0#32
  let c1_i32_85 : BitVec 32 := 1#32
  let arg8 : BitVec 32 := Scf.iv c0_i32_83 c1_i32_85 k1_t18
  let c16_i32 : BitVec 32 := 16#32
  let v266 : BitVec 32 := Scalar.muli arg8 c16_i32
  let v268 : Index := Scalar.indexCast v266
  ![0, v268.toNat]

def k1_chk17 (v278 : IVec S16 32) : Prop :=
  (∀ a x, ((![v278] : Fin 1 → IVec S16 32) a x).toNat < S65536.size a)
theorem k1_idx17_inb : ∀ (v278 : IVec S16 32) (k1_hw17 : k1_chk17 v278), ∀ a x, ((![v278] : Fin 1 → IVec S16 32) a x).toNat < S65536.size a := fun v278 k1_hw17 => k1_hw17
@[reducible] def k1_t19_loop : Scf.Loop 32 :=
  let c0_i32_88 : BitVec 32 := 0#32
  let c64_i32_89 : BitVec 32 := 64#32
  let v20 : BitVec 32 := Scalar.addi c0_i32_88 c64_i32_89
  let c1_i32_90 : BitVec 32 := 1#32
  ⟨c0_i32_88, v20, c1_i32_90⟩
def k1_off21 (k1_t19 : Fin k1_t19_loop.trips) : Fin 2 → Nat :=
  let c1_i32_1282 : BitVec 32 := 1#32
  let v267 : Index := Scalar.indexCast c1_i32_1282
  let c0_i32_88 : BitVec 32 := 0#32
  let c1_i32_90 : BitVec 32 := 1#32
  let arg8 : BitVec 32 := Scf.iv c0_i32_88 c1_i32_90 k1_t19
  let c16_i32 : BitVec 32 := 16#32
  let v266 : BitVec 32 := Scalar.muli arg8 c16_i32
  let v268 : Index := Scalar.indexCast v266
  ![1, v268.toNat]

def k1_chk18 (v278 : IVec S16 32) : Prop :=
  (∀ a x, ((![v278] : Fin 1 → IVec S16 32) a x).toNat < S65536.size a)
theorem k1_idx18_inb : ∀ (v278 : IVec S16 32) (k1_hw18 : k1_chk18 v278), ∀ a x, ((![v278] : Fin 1 → IVec S16 32) a x).toNat < S65536.size a := fun v278 k1_hw18 => k1_hw18
@[reducible] def k1_t20_loop : Scf.Loop 32 :=
  let c0_i32_93 : BitVec 32 := 0#32
  let c64_i32_94 : BitVec 32 := 64#32
  let v21 : BitVec 32 := Scalar.addi c0_i32_93 c64_i32_94
  let c1_i32_95 : BitVec 32 := 1#32
  ⟨c0_i32_93, v21, c1_i32_95⟩
def k1_off22 (k1_t20 : Fin k1_t20_loop.trips) : Fin 2 → Nat :=
  let c2_i32_1282 : BitVec 32 := 2#32
  let v267 : Index := Scalar.indexCast c2_i32_1282
  let c0_i32_93 : BitVec 32 := 0#32
  let c1_i32_95 : BitVec 32 := 1#32
  let arg8 : BitVec 32 := Scf.iv c0_i32_93 c1_i32_95 k1_t20
  let c16_i32 : BitVec 32 := 16#32
  let v266 : BitVec 32 := Scalar.muli arg8 c16_i32
  let v268 : Index := Scalar.indexCast v266
  ![2, v268.toNat]

def k1_chk19 (v278 : IVec S16 32) : Prop :=
  (∀ a x, ((![v278] : Fin 1 → IVec S16 32) a x).toNat < S65536.size a)
theorem k1_idx19_inb : ∀ (v278 : IVec S16 32) (k1_hw19 : k1_chk19 v278), ∀ a x, ((![v278] : Fin 1 → IVec S16 32) a x).toNat < S65536.size a := fun v278 k1_hw19 => k1_hw19
@[reducible] def k1_t21_loop : Scf.Loop 32 :=
  let c0_i32_98 : BitVec 32 := 0#32
  let c64_i32_99 : BitVec 32 := 64#32
  let v22 : BitVec 32 := Scalar.addi c0_i32_98 c64_i32_99
  let c1_i32_100 : BitVec 32 := 1#32
  ⟨c0_i32_98, v22, c1_i32_100⟩
def k1_off23 (k1_t21 : Fin k1_t21_loop.trips) : Fin 2 → Nat :=
  let c3_i32 : BitVec 32 := 3#32
  let v267 : Index := Scalar.indexCast c3_i32
  let c0_i32_98 : BitVec 32 := 0#32
  let c1_i32_100 : BitVec 32 := 1#32
  let arg8 : BitVec 32 := Scf.iv c0_i32_98 c1_i32_100 k1_t21
  let c16_i32 : BitVec 32 := 16#32
  let v266 : BitVec 32 := Scalar.muli arg8 c16_i32
  let v268 : Index := Scalar.indexCast v266
  ![3, v268.toNat]

def k1_chk20 (v278 : IVec S16 32) : Prop :=
  (∀ a x, ((![v278] : Fin 1 → IVec S16 32) a x).toNat < S65536.size a)
theorem k1_idx20_inb : ∀ (v278 : IVec S16 32) (k1_hw20 : k1_chk20 v278), ∀ a x, ((![v278] : Fin 1 → IVec S16 32) a x).toNat < S65536.size a := fun v278 k1_hw20 => k1_hw20
@[reducible] def k1_t22_loop : Scf.Loop 32 :=
  let c0_i32_103 : BitVec 32 := 0#32
  let c64_i32_104 : BitVec 32 := 64#32
  let v23 : BitVec 32 := Scalar.addi c0_i32_103 c64_i32_104
  let c1_i32_105 : BitVec 32 := 1#32
  ⟨c0_i32_103, v23, c1_i32_105⟩
def k1_off24 (k1_t22 : Fin k1_t22_loop.trips) : Fin 2 → Nat :=
  let c4_i32_1282 : BitVec 32 := 4#32
  let v267 : Index := Scalar.indexCast c4_i32_1282
  let c0_i32_103 : BitVec 32 := 0#32
  let c1_i32_105 : BitVec 32 := 1#32
  let arg8 : BitVec 32 := Scf.iv c0_i32_103 c1_i32_105 k1_t22
  let c16_i32 : BitVec 32 := 16#32
  let v266 : BitVec 32 := Scalar.muli arg8 c16_i32
  let v268 : Index := Scalar.indexCast v266
  ![4, v268.toNat]

def k1_chk21 (v278 : IVec S16 32) : Prop :=
  (∀ a x, ((![v278] : Fin 1 → IVec S16 32) a x).toNat < S65536.size a)
theorem k1_idx21_inb : ∀ (v278 : IVec S16 32) (k1_hw21 : k1_chk21 v278), ∀ a x, ((![v278] : Fin 1 → IVec S16 32) a x).toNat < S65536.size a := fun v278 k1_hw21 => k1_hw21
@[reducible] def k1_t23_loop : Scf.Loop 32 :=
  let c0_i32_108 : BitVec 32 := 0#32
  let c64_i32_109 : BitVec 32 := 64#32
  let v24 : BitVec 32 := Scalar.addi c0_i32_108 c64_i32_109
  let c1_i32_110 : BitVec 32 := 1#32
  ⟨c0_i32_108, v24, c1_i32_110⟩
def k1_off25 (k1_t23 : Fin k1_t23_loop.trips) : Fin 2 → Nat :=
  let c5_i32 : BitVec 32 := 5#32
  let v267 : Index := Scalar.indexCast c5_i32
  let c0_i32_108 : BitVec 32 := 0#32
  let c1_i32_110 : BitVec 32 := 1#32
  let arg8 : BitVec 32 := Scf.iv c0_i32_108 c1_i32_110 k1_t23
  let c16_i32 : BitVec 32 := 16#32
  let v266 : BitVec 32 := Scalar.muli arg8 c16_i32
  let v268 : Index := Scalar.indexCast v266
  ![5, v268.toNat]

def k1_chk22 (v278 : IVec S16 32) : Prop :=
  (∀ a x, ((![v278] : Fin 1 → IVec S16 32) a x).toNat < S65536.size a)
theorem k1_idx22_inb : ∀ (v278 : IVec S16 32) (k1_hw22 : k1_chk22 v278), ∀ a x, ((![v278] : Fin 1 → IVec S16 32) a x).toNat < S65536.size a := fun v278 k1_hw22 => k1_hw22
@[reducible] def k1_t24_loop : Scf.Loop 32 :=
  let c0_i32_113 : BitVec 32 := 0#32
  let c64_i32_114 : BitVec 32 := 64#32
  let v25 : BitVec 32 := Scalar.addi c0_i32_113 c64_i32_114
  let c1_i32_115 : BitVec 32 := 1#32
  ⟨c0_i32_113, v25, c1_i32_115⟩
def k1_off26 (k1_t24 : Fin k1_t24_loop.trips) : Fin 2 → Nat :=
  let c6_i32_1282 : BitVec 32 := 6#32
  let v267 : Index := Scalar.indexCast c6_i32_1282
  let c0_i32_113 : BitVec 32 := 0#32
  let c1_i32_115 : BitVec 32 := 1#32
  let arg8 : BitVec 32 := Scf.iv c0_i32_113 c1_i32_115 k1_t24
  let c16_i32 : BitVec 32 := 16#32
  let v266 : BitVec 32 := Scalar.muli arg8 c16_i32
  let v268 : Index := Scalar.indexCast v266
  ![6, v268.toNat]

def k1_chk23 (v278 : IVec S16 32) : Prop :=
  (∀ a x, ((![v278] : Fin 1 → IVec S16 32) a x).toNat < S65536.size a)
theorem k1_idx23_inb : ∀ (v278 : IVec S16 32) (k1_hw23 : k1_chk23 v278), ∀ a x, ((![v278] : Fin 1 → IVec S16 32) a x).toNat < S65536.size a := fun v278 k1_hw23 => k1_hw23
@[reducible] def k1_t25_loop : Scf.Loop 32 :=
  let c0_i32_118 : BitVec 32 := 0#32
  let c64_i32_119 : BitVec 32 := 64#32
  let v26 : BitVec 32 := Scalar.addi c0_i32_118 c64_i32_119
  let c1_i32_120 : BitVec 32 := 1#32
  ⟨c0_i32_118, v26, c1_i32_120⟩
def k1_off27 (k1_t25 : Fin k1_t25_loop.trips) : Fin 2 → Nat :=
  let c7_i32 : BitVec 32 := 7#32
  let v267 : Index := Scalar.indexCast c7_i32
  let c0_i32_118 : BitVec 32 := 0#32
  let c1_i32_120 : BitVec 32 := 1#32
  let arg8 : BitVec 32 := Scf.iv c0_i32_118 c1_i32_120 k1_t25
  let c16_i32 : BitVec 32 := 16#32
  let v266 : BitVec 32 := Scalar.muli arg8 c16_i32
  let v268 : Index := Scalar.indexCast v266
  ![7, v268.toNat]

def k1_chk24 (v278 : IVec S16 32) : Prop :=
  (∀ a x, ((![v278] : Fin 1 → IVec S16 32) a x).toNat < S65536.size a)
theorem k1_idx24_inb : ∀ (v278 : IVec S16 32) (k1_hw24 : k1_chk24 v278), ∀ a x, ((![v278] : Fin 1 → IVec S16 32) a x).toNat < S65536.size a := fun v278 k1_hw24 => k1_hw24
@[reducible] def k1_t26_loop : Scf.Loop 32 :=
  let c0_i32_123 : BitVec 32 := 0#32
  let c64_i32_124 : BitVec 32 := 64#32
  let v27 : BitVec 32 := Scalar.addi c0_i32_123 c64_i32_124
  let c1_i32_125 : BitVec 32 := 1#32
  ⟨c0_i32_123, v27, c1_i32_125⟩
def k1_off28 (k1_t26 : Fin k1_t26_loop.trips) : Fin 2 → Nat :=
  let c8_i32_1282 : BitVec 32 := 8#32
  let v267 : Index := Scalar.indexCast c8_i32_1282
  let c0_i32_123 : BitVec 32 := 0#32
  let c1_i32_125 : BitVec 32 := 1#32
  let arg8 : BitVec 32 := Scf.iv c0_i32_123 c1_i32_125 k1_t26
  let c16_i32 : BitVec 32 := 16#32
  let v266 : BitVec 32 := Scalar.muli arg8 c16_i32
  let v268 : Index := Scalar.indexCast v266
  ![8, v268.toNat]

def k1_chk25 (v278 : IVec S16 32) : Prop :=
  (∀ a x, ((![v278] : Fin 1 → IVec S16 32) a x).toNat < S65536.size a)
theorem k1_idx25_inb : ∀ (v278 : IVec S16 32) (k1_hw25 : k1_chk25 v278), ∀ a x, ((![v278] : Fin 1 → IVec S16 32) a x).toNat < S65536.size a := fun v278 k1_hw25 => k1_hw25
@[reducible] def k1_t27_loop : Scf.Loop 32 :=
  let c0_i32_128 : BitVec 32 := 0#32
  let c64_i32_129 : BitVec 32 := 64#32
  let v28 : BitVec 32 := Scalar.addi c0_i32_128 c64_i32_129
  let c1_i32_130 : BitVec 32 := 1#32
  ⟨c0_i32_128, v28, c1_i32_130⟩
def k1_off29 (k1_t27 : Fin k1_t27_loop.trips) : Fin 2 → Nat :=
  let c9_i32 : BitVec 32 := 9#32
  let v267 : Index := Scalar.indexCast c9_i32
  let c0_i32_128 : BitVec 32 := 0#32
  let c1_i32_130 : BitVec 32 := 1#32
  let arg8 : BitVec 32 := Scf.iv c0_i32_128 c1_i32_130 k1_t27
  let c16_i32 : BitVec 32 := 16#32
  let v266 : BitVec 32 := Scalar.muli arg8 c16_i32
  let v268 : Index := Scalar.indexCast v266
  ![9, v268.toNat]

def k1_chk26 (v278 : IVec S16 32) : Prop :=
  (∀ a x, ((![v278] : Fin 1 → IVec S16 32) a x).toNat < S65536.size a)
theorem k1_idx26_inb : ∀ (v278 : IVec S16 32) (k1_hw26 : k1_chk26 v278), ∀ a x, ((![v278] : Fin 1 → IVec S16 32) a x).toNat < S65536.size a := fun v278 k1_hw26 => k1_hw26
@[reducible] def k1_t28_loop : Scf.Loop 32 :=
  let c0_i32_133 : BitVec 32 := 0#32
  let c64_i32_134 : BitVec 32 := 64#32
  let v29 : BitVec 32 := Scalar.addi c0_i32_133 c64_i32_134
  let c1_i32_135 : BitVec 32 := 1#32
  ⟨c0_i32_133, v29, c1_i32_135⟩
def k1_off30 (k1_t28 : Fin k1_t28_loop.trips) : Fin 2 → Nat :=
  let c10_i32_1282 : BitVec 32 := 10#32
  let v267 : Index := Scalar.indexCast c10_i32_1282
  let c0_i32_133 : BitVec 32 := 0#32
  let c1_i32_135 : BitVec 32 := 1#32
  let arg8 : BitVec 32 := Scf.iv c0_i32_133 c1_i32_135 k1_t28
  let c16_i32 : BitVec 32 := 16#32
  let v266 : BitVec 32 := Scalar.muli arg8 c16_i32
  let v268 : Index := Scalar.indexCast v266
  ![10, v268.toNat]

def k1_chk27 (v278 : IVec S16 32) : Prop :=
  (∀ a x, ((![v278] : Fin 1 → IVec S16 32) a x).toNat < S65536.size a)
theorem k1_idx27_inb : ∀ (v278 : IVec S16 32) (k1_hw27 : k1_chk27 v278), ∀ a x, ((![v278] : Fin 1 → IVec S16 32) a x).toNat < S65536.size a := fun v278 k1_hw27 => k1_hw27
@[reducible] def k1_t29_loop : Scf.Loop 32 :=
  let c0_i32_138 : BitVec 32 := 0#32
  let c64_i32_139 : BitVec 32 := 64#32
  let v30 : BitVec 32 := Scalar.addi c0_i32_138 c64_i32_139
  let c1_i32_140 : BitVec 32 := 1#32
  ⟨c0_i32_138, v30, c1_i32_140⟩
def k1_off31 (k1_t29 : Fin k1_t29_loop.trips) : Fin 2 → Nat :=
  let c11_i32 : BitVec 32 := 11#32
  let v267 : Index := Scalar.indexCast c11_i32
  let c0_i32_138 : BitVec 32 := 0#32
  let c1_i32_140 : BitVec 32 := 1#32
  let arg8 : BitVec 32 := Scf.iv c0_i32_138 c1_i32_140 k1_t29
  let c16_i32 : BitVec 32 := 16#32
  let v266 : BitVec 32 := Scalar.muli arg8 c16_i32
  let v268 : Index := Scalar.indexCast v266
  ![11, v268.toNat]

def k1_chk28 (v278 : IVec S16 32) : Prop :=
  (∀ a x, ((![v278] : Fin 1 → IVec S16 32) a x).toNat < S65536.size a)
theorem k1_idx28_inb : ∀ (v278 : IVec S16 32) (k1_hw28 : k1_chk28 v278), ∀ a x, ((![v278] : Fin 1 → IVec S16 32) a x).toNat < S65536.size a := fun v278 k1_hw28 => k1_hw28
@[reducible] def k1_t30_loop : Scf.Loop 32 :=
  let c0_i32_143 : BitVec 32 := 0#32
  let c64_i32_144 : BitVec 32 := 64#32
  let v31 : BitVec 32 := Scalar.addi c0_i32_143 c64_i32_144
  let c1_i32_145 : BitVec 32 := 1#32
  ⟨c0_i32_143, v31, c1_i32_145⟩
def k1_off32 (k1_t30 : Fin k1_t30_loop.trips) : Fin 2 → Nat :=
  let c12_i32_1282 : BitVec 32 := 12#32
  let v267 : Index := Scalar.indexCast c12_i32_1282
  let c0_i32_143 : BitVec 32 := 0#32
  let c1_i32_145 : BitVec 32 := 1#32
  let arg8 : BitVec 32 := Scf.iv c0_i32_143 c1_i32_145 k1_t30
  let c16_i32 : BitVec 32 := 16#32
  let v266 : BitVec 32 := Scalar.muli arg8 c16_i32
  let v268 : Index := Scalar.indexCast v266
  ![12, v268.toNat]

def k1_chk29 (v278 : IVec S16 32) : Prop :=
  (∀ a x, ((![v278] : Fin 1 → IVec S16 32) a x).toNat < S65536.size a)
theorem k1_idx29_inb : ∀ (v278 : IVec S16 32) (k1_hw29 : k1_chk29 v278), ∀ a x, ((![v278] : Fin 1 → IVec S16 32) a x).toNat < S65536.size a := fun v278 k1_hw29 => k1_hw29
@[reducible] def k1_t31_loop : Scf.Loop 32 :=
  let c0_i32_148 : BitVec 32 := 0#32
  let c64_i32_149 : BitVec 32 := 64#32
  let v32 : BitVec 32 := Scalar.addi c0_i32_148 c64_i32_149
  let c1_i32_150 : BitVec 32 := 1#32
  ⟨c0_i32_148, v32, c1_i32_150⟩
def k1_off33 (k1_t31 : Fin k1_t31_loop.trips) : Fin 2 → Nat :=
  let c13_i32 : BitVec 32 := 13#32
  let v267 : Index := Scalar.indexCast c13_i32
  let c0_i32_148 : BitVec 32 := 0#32
  let c1_i32_150 : BitVec 32 := 1#32
  let arg8 : BitVec 32 := Scf.iv c0_i32_148 c1_i32_150 k1_t31
  let c16_i32 : BitVec 32 := 16#32
  let v266 : BitVec 32 := Scalar.muli arg8 c16_i32
  let v268 : Index := Scalar.indexCast v266
  ![13, v268.toNat]

def k1_chk30 (v278 : IVec S16 32) : Prop :=
  (∀ a x, ((![v278] : Fin 1 → IVec S16 32) a x).toNat < S65536.size a)
theorem k1_idx30_inb : ∀ (v278 : IVec S16 32) (k1_hw30 : k1_chk30 v278), ∀ a x, ((![v278] : Fin 1 → IVec S16 32) a x).toNat < S65536.size a := fun v278 k1_hw30 => k1_hw30
@[reducible] def k1_t32_loop : Scf.Loop 32 :=
  let c0_i32_153 : BitVec 32 := 0#32
  let c64_i32_154 : BitVec 32 := 64#32
  let v33 : BitVec 32 := Scalar.addi c0_i32_153 c64_i32_154
  let c1_i32_155 : BitVec 32 := 1#32
  ⟨c0_i32_153, v33, c1_i32_155⟩
def k1_off34 (k1_t32 : Fin k1_t32_loop.trips) : Fin 2 → Nat :=
  let c14_i32_1282 : BitVec 32 := 14#32
  let v267 : Index := Scalar.indexCast c14_i32_1282
  let c0_i32_153 : BitVec 32 := 0#32
  let c1_i32_155 : BitVec 32 := 1#32
  let arg8 : BitVec 32 := Scf.iv c0_i32_153 c1_i32_155 k1_t32
  let c16_i32 : BitVec 32 := 16#32
  let v266 : BitVec 32 := Scalar.muli arg8 c16_i32
  let v268 : Index := Scalar.indexCast v266
  ![14, v268.toNat]

def k1_chk31 (v278 : IVec S16 32) : Prop :=
  (∀ a x, ((![v278] : Fin 1 → IVec S16 32) a x).toNat < S65536.size a)
theorem k1_idx31_inb : ∀ (v278 : IVec S16 32) (k1_hw31 : k1_chk31 v278), ∀ a x, ((![v278] : Fin 1 → IVec S16 32) a x).toNat < S65536.size a := fun v278 k1_hw31 => k1_hw31
@[reducible] def k1_t33_loop : Scf.Loop 32 :=
  let c0_i32_158 : BitVec 32 := 0#32
  let c64_i32_159 : BitVec 32 := 64#32
  let v34 : BitVec 32 := Scalar.addi c0_i32_158 c64_i32_159
  let c1_i32_160 : BitVec 32 := 1#32
  ⟨c0_i32_158, v34, c1_i32_160⟩
def k1_off35 (k1_t33 : Fin k1_t33_loop.trips) : Fin 2 → Nat :=
  let c15_i32 : BitVec 32 := 15#32
  let v267 : Index := Scalar.indexCast c15_i32
  let c0_i32_158 : BitVec 32 := 0#32
  let c1_i32_160 : BitVec 32 := 1#32
  let arg8 : BitVec 32 := Scf.iv c0_i32_158 c1_i32_160 k1_t33
  let c16_i32 : BitVec 32 := 16#32
  let v266 : BitVec 32 := Scalar.muli arg8 c16_i32
  let v268 : Index := Scalar.indexCast v266
  ![15, v268.toNat]

def k1_chk32 (v278 : IVec S16 32) : Prop :=
  (∀ a x, ((![v278] : Fin 1 → IVec S16 32) a x).toNat < S65536.size a)
theorem k1_idx32_inb : ∀ (v278 : IVec S16 32) (k1_hw32 : k1_chk32 v278), ∀ a x, ((![v278] : Fin 1 → IVec S16 32) a x).toNat < S65536.size a := fun v278 k1_hw32 => k1_hw32
@[reducible] def k1_t34_loop : Scf.Loop 32 :=
  let c0_i32_163 : BitVec 32 := 0#32
  let c64_i32_164 : BitVec 32 := 64#32
  let v36 : BitVec 32 := Scalar.addi c0_i32_163 c64_i32_164
  let c1_i32_165 : BitVec 32 := 1#32
  ⟨c0_i32_163, v36, c1_i32_165⟩
def k1_off36 (k1_t34 : Fin k1_t34_loop.trips) : Fin 2 → Nat :=
  let c0_i32_1282 : BitVec 32 := 0#32
  let v267 : Index := Scalar.indexCast c0_i32_1282
  let c0_i32_163 : BitVec 32 := 0#32
  let c1_i32_165 : BitVec 32 := 1#32
  let arg8 : BitVec 32 := Scf.iv c0_i32_163 c1_i32_165 k1_t34
  let c16_i32 : BitVec 32 := 16#32
  let v266 : BitVec 32 := Scalar.muli arg8 c16_i32
  let v268 : Index := Scalar.indexCast v266
  ![0, v268.toNat]

def k1_chk33 (v282 : IVec S16 32) : Prop :=
  (∀ a x, ((![v282] : Fin 1 → IVec S16 32) a x).toNat < S65536.size a)
theorem k1_idx33_inb : ∀ (v282 : IVec S16 32) (k1_hw33 : k1_chk33 v282), ∀ a x, ((![v282] : Fin 1 → IVec S16 32) a x).toNat < S65536.size a := fun v282 k1_hw33 => k1_hw33
@[reducible] def k1_t35_loop : Scf.Loop 32 :=
  let c0_i32_168 : BitVec 32 := 0#32
  let c64_i32_169 : BitVec 32 := 64#32
  let v37 : BitVec 32 := Scalar.addi c0_i32_168 c64_i32_169
  let c1_i32_170 : BitVec 32 := 1#32
  ⟨c0_i32_168, v37, c1_i32_170⟩
def k1_off37 (k1_t35 : Fin k1_t35_loop.trips) : Fin 2 → Nat :=
  let c1_i32_1282 : BitVec 32 := 1#32
  let v267 : Index := Scalar.indexCast c1_i32_1282
  let c0_i32_168 : BitVec 32 := 0#32
  let c1_i32_170 : BitVec 32 := 1#32
  let arg8 : BitVec 32 := Scf.iv c0_i32_168 c1_i32_170 k1_t35
  let c16_i32 : BitVec 32 := 16#32
  let v266 : BitVec 32 := Scalar.muli arg8 c16_i32
  let v268 : Index := Scalar.indexCast v266
  ![1, v268.toNat]

def k1_chk34 (v282 : IVec S16 32) : Prop :=
  (∀ a x, ((![v282] : Fin 1 → IVec S16 32) a x).toNat < S65536.size a)
theorem k1_idx34_inb : ∀ (v282 : IVec S16 32) (k1_hw34 : k1_chk34 v282), ∀ a x, ((![v282] : Fin 1 → IVec S16 32) a x).toNat < S65536.size a := fun v282 k1_hw34 => k1_hw34
@[reducible] def k1_t36_loop : Scf.Loop 32 :=
  let c0_i32_173 : BitVec 32 := 0#32
  let c64_i32_174 : BitVec 32 := 64#32
  let v38 : BitVec 32 := Scalar.addi c0_i32_173 c64_i32_174
  let c1_i32_175 : BitVec 32 := 1#32
  ⟨c0_i32_173, v38, c1_i32_175⟩
def k1_off38 (k1_t36 : Fin k1_t36_loop.trips) : Fin 2 → Nat :=
  let c2_i32_1282 : BitVec 32 := 2#32
  let v267 : Index := Scalar.indexCast c2_i32_1282
  let c0_i32_173 : BitVec 32 := 0#32
  let c1_i32_175 : BitVec 32 := 1#32
  let arg8 : BitVec 32 := Scf.iv c0_i32_173 c1_i32_175 k1_t36
  let c16_i32 : BitVec 32 := 16#32
  let v266 : BitVec 32 := Scalar.muli arg8 c16_i32
  let v268 : Index := Scalar.indexCast v266
  ![2, v268.toNat]

def k1_chk35 (v282 : IVec S16 32) : Prop :=
  (∀ a x, ((![v282] : Fin 1 → IVec S16 32) a x).toNat < S65536.size a)
theorem k1_idx35_inb : ∀ (v282 : IVec S16 32) (k1_hw35 : k1_chk35 v282), ∀ a x, ((![v282] : Fin 1 → IVec S16 32) a x).toNat < S65536.size a := fun v282 k1_hw35 => k1_hw35
@[reducible] def k1_t37_loop : Scf.Loop 32 :=
  let c0_i32_178 : BitVec 32 := 0#32
  let c64_i32_179 : BitVec 32 := 64#32
  let v39 : BitVec 32 := Scalar.addi c0_i32_178 c64_i32_179
  let c1_i32_180 : BitVec 32 := 1#32
  ⟨c0_i32_178, v39, c1_i32_180⟩
def k1_off39 (k1_t37 : Fin k1_t37_loop.trips) : Fin 2 → Nat :=
  let c3_i32 : BitVec 32 := 3#32
  let v267 : Index := Scalar.indexCast c3_i32
  let c0_i32_178 : BitVec 32 := 0#32
  let c1_i32_180 : BitVec 32 := 1#32
  let arg8 : BitVec 32 := Scf.iv c0_i32_178 c1_i32_180 k1_t37
  let c16_i32 : BitVec 32 := 16#32
  let v266 : BitVec 32 := Scalar.muli arg8 c16_i32
  let v268 : Index := Scalar.indexCast v266
  ![3, v268.toNat]

def k1_chk36 (v282 : IVec S16 32) : Prop :=
  (∀ a x, ((![v282] : Fin 1 → IVec S16 32) a x).toNat < S65536.size a)
theorem k1_idx36_inb : ∀ (v282 : IVec S16 32) (k1_hw36 : k1_chk36 v282), ∀ a x, ((![v282] : Fin 1 → IVec S16 32) a x).toNat < S65536.size a := fun v282 k1_hw36 => k1_hw36
@[reducible] def k1_t38_loop : Scf.Loop 32 :=
  let c0_i32_183 : BitVec 32 := 0#32
  let c64_i32_184 : BitVec 32 := 64#32
  let v40 : BitVec 32 := Scalar.addi c0_i32_183 c64_i32_184
  let c1_i32_185 : BitVec 32 := 1#32
  ⟨c0_i32_183, v40, c1_i32_185⟩
def k1_off40 (k1_t38 : Fin k1_t38_loop.trips) : Fin 2 → Nat :=
  let c4_i32_1282 : BitVec 32 := 4#32
  let v267 : Index := Scalar.indexCast c4_i32_1282
  let c0_i32_183 : BitVec 32 := 0#32
  let c1_i32_185 : BitVec 32 := 1#32
  let arg8 : BitVec 32 := Scf.iv c0_i32_183 c1_i32_185 k1_t38
  let c16_i32 : BitVec 32 := 16#32
  let v266 : BitVec 32 := Scalar.muli arg8 c16_i32
  let v268 : Index := Scalar.indexCast v266
  ![4, v268.toNat]

def k1_chk37 (v282 : IVec S16 32) : Prop :=
  (∀ a x, ((![v282] : Fin 1 → IVec S16 32) a x).toNat < S65536.size a)
theorem k1_idx37_inb : ∀ (v282 : IVec S16 32) (k1_hw37 : k1_chk37 v282), ∀ a x, ((![v282] : Fin 1 → IVec S16 32) a x).toNat < S65536.size a := fun v282 k1_hw37 => k1_hw37
@[reducible] def k1_t39_loop : Scf.Loop 32 :=
  let c0_i32_188 : BitVec 32 := 0#32
  let c64_i32_189 : BitVec 32 := 64#32
  let v41 : BitVec 32 := Scalar.addi c0_i32_188 c64_i32_189
  let c1_i32_190 : BitVec 32 := 1#32
  ⟨c0_i32_188, v41, c1_i32_190⟩
def k1_off41 (k1_t39 : Fin k1_t39_loop.trips) : Fin 2 → Nat :=
  let c5_i32 : BitVec 32 := 5#32
  let v267 : Index := Scalar.indexCast c5_i32
  let c0_i32_188 : BitVec 32 := 0#32
  let c1_i32_190 : BitVec 32 := 1#32
  let arg8 : BitVec 32 := Scf.iv c0_i32_188 c1_i32_190 k1_t39
  let c16_i32 : BitVec 32 := 16#32
  let v266 : BitVec 32 := Scalar.muli arg8 c16_i32
  let v268 : Index := Scalar.indexCast v266
  ![5, v268.toNat]

def k1_chk38 (v282 : IVec S16 32) : Prop :=
  (∀ a x, ((![v282] : Fin 1 → IVec S16 32) a x).toNat < S65536.size a)
theorem k1_idx38_inb : ∀ (v282 : IVec S16 32) (k1_hw38 : k1_chk38 v282), ∀ a x, ((![v282] : Fin 1 → IVec S16 32) a x).toNat < S65536.size a := fun v282 k1_hw38 => k1_hw38
@[reducible] def k1_t40_loop : Scf.Loop 32 :=
  let c0_i32_193 : BitVec 32 := 0#32
  let c64_i32_194 : BitVec 32 := 64#32
  let v42 : BitVec 32 := Scalar.addi c0_i32_193 c64_i32_194
  let c1_i32_195 : BitVec 32 := 1#32
  ⟨c0_i32_193, v42, c1_i32_195⟩
def k1_off42 (k1_t40 : Fin k1_t40_loop.trips) : Fin 2 → Nat :=
  let c6_i32_1282 : BitVec 32 := 6#32
  let v267 : Index := Scalar.indexCast c6_i32_1282
  let c0_i32_193 : BitVec 32 := 0#32
  let c1_i32_195 : BitVec 32 := 1#32
  let arg8 : BitVec 32 := Scf.iv c0_i32_193 c1_i32_195 k1_t40
  let c16_i32 : BitVec 32 := 16#32
  let v266 : BitVec 32 := Scalar.muli arg8 c16_i32
  let v268 : Index := Scalar.indexCast v266
  ![6, v268.toNat]

def k1_chk39 (v282 : IVec S16 32) : Prop :=
  (∀ a x, ((![v282] : Fin 1 → IVec S16 32) a x).toNat < S65536.size a)
theorem k1_idx39_inb : ∀ (v282 : IVec S16 32) (k1_hw39 : k1_chk39 v282), ∀ a x, ((![v282] : Fin 1 → IVec S16 32) a x).toNat < S65536.size a := fun v282 k1_hw39 => k1_hw39
@[reducible] def k1_t41_loop : Scf.Loop 32 :=
  let c0_i32_198 : BitVec 32 := 0#32
  let c64_i32_199 : BitVec 32 := 64#32
  let v43 : BitVec 32 := Scalar.addi c0_i32_198 c64_i32_199
  let c1_i32_200 : BitVec 32 := 1#32
  ⟨c0_i32_198, v43, c1_i32_200⟩
def k1_off43 (k1_t41 : Fin k1_t41_loop.trips) : Fin 2 → Nat :=
  let c7_i32 : BitVec 32 := 7#32
  let v267 : Index := Scalar.indexCast c7_i32
  let c0_i32_198 : BitVec 32 := 0#32
  let c1_i32_200 : BitVec 32 := 1#32
  let arg8 : BitVec 32 := Scf.iv c0_i32_198 c1_i32_200 k1_t41
  let c16_i32 : BitVec 32 := 16#32
  let v266 : BitVec 32 := Scalar.muli arg8 c16_i32
  let v268 : Index := Scalar.indexCast v266
  ![7, v268.toNat]

def k1_chk40 (v282 : IVec S16 32) : Prop :=
  (∀ a x, ((![v282] : Fin 1 → IVec S16 32) a x).toNat < S65536.size a)
theorem k1_idx40_inb : ∀ (v282 : IVec S16 32) (k1_hw40 : k1_chk40 v282), ∀ a x, ((![v282] : Fin 1 → IVec S16 32) a x).toNat < S65536.size a := fun v282 k1_hw40 => k1_hw40
@[reducible] def k1_t42_loop : Scf.Loop 32 :=
  let c0_i32_203 : BitVec 32 := 0#32
  let c64_i32_204 : BitVec 32 := 64#32
  let v44 : BitVec 32 := Scalar.addi c0_i32_203 c64_i32_204
  let c1_i32_205 : BitVec 32 := 1#32
  ⟨c0_i32_203, v44, c1_i32_205⟩
def k1_off44 (k1_t42 : Fin k1_t42_loop.trips) : Fin 2 → Nat :=
  let c8_i32_1282 : BitVec 32 := 8#32
  let v267 : Index := Scalar.indexCast c8_i32_1282
  let c0_i32_203 : BitVec 32 := 0#32
  let c1_i32_205 : BitVec 32 := 1#32
  let arg8 : BitVec 32 := Scf.iv c0_i32_203 c1_i32_205 k1_t42
  let c16_i32 : BitVec 32 := 16#32
  let v266 : BitVec 32 := Scalar.muli arg8 c16_i32
  let v268 : Index := Scalar.indexCast v266
  ![8, v268.toNat]

def k1_chk41 (v282 : IVec S16 32) : Prop :=
  (∀ a x, ((![v282] : Fin 1 → IVec S16 32) a x).toNat < S65536.size a)
theorem k1_idx41_inb : ∀ (v282 : IVec S16 32) (k1_hw41 : k1_chk41 v282), ∀ a x, ((![v282] : Fin 1 → IVec S16 32) a x).toNat < S65536.size a := fun v282 k1_hw41 => k1_hw41
@[reducible] def k1_t43_loop : Scf.Loop 32 :=
  let c0_i32_208 : BitVec 32 := 0#32
  let c64_i32_209 : BitVec 32 := 64#32
  let v45 : BitVec 32 := Scalar.addi c0_i32_208 c64_i32_209
  let c1_i32_210 : BitVec 32 := 1#32
  ⟨c0_i32_208, v45, c1_i32_210⟩
def k1_off45 (k1_t43 : Fin k1_t43_loop.trips) : Fin 2 → Nat :=
  let c9_i32 : BitVec 32 := 9#32
  let v267 : Index := Scalar.indexCast c9_i32
  let c0_i32_208 : BitVec 32 := 0#32
  let c1_i32_210 : BitVec 32 := 1#32
  let arg8 : BitVec 32 := Scf.iv c0_i32_208 c1_i32_210 k1_t43
  let c16_i32 : BitVec 32 := 16#32
  let v266 : BitVec 32 := Scalar.muli arg8 c16_i32
  let v268 : Index := Scalar.indexCast v266
  ![9, v268.toNat]

def k1_chk42 (v282 : IVec S16 32) : Prop :=
  (∀ a x, ((![v282] : Fin 1 → IVec S16 32) a x).toNat < S65536.size a)
theorem k1_idx42_inb : ∀ (v282 : IVec S16 32) (k1_hw42 : k1_chk42 v282), ∀ a x, ((![v282] : Fin 1 → IVec S16 32) a x).toNat < S65536.size a := fun v282 k1_hw42 => k1_hw42
@[reducible] def k1_t44_loop : Scf.Loop 32 :=
  let c0_i32_213 : BitVec 32 := 0#32
  let c64_i32_214 : BitVec 32 := 64#32
  let v46 : BitVec 32 := Scalar.addi c0_i32_213 c64_i32_214
  let c1_i32_215 : BitVec 32 := 1#32
  ⟨c0_i32_213, v46, c1_i32_215⟩
def k1_off46 (k1_t44 : Fin k1_t44_loop.trips) : Fin 2 → Nat :=
  let c10_i32_1282 : BitVec 32 := 10#32
  let v267 : Index := Scalar.indexCast c10_i32_1282
  let c0_i32_213 : BitVec 32 := 0#32
  let c1_i32_215 : BitVec 32 := 1#32
  let arg8 : BitVec 32 := Scf.iv c0_i32_213 c1_i32_215 k1_t44
  let c16_i32 : BitVec 32 := 16#32
  let v266 : BitVec 32 := Scalar.muli arg8 c16_i32
  let v268 : Index := Scalar.indexCast v266
  ![10, v268.toNat]

def k1_chk43 (v282 : IVec S16 32) : Prop :=
  (∀ a x, ((![v282] : Fin 1 → IVec S16 32) a x).toNat < S65536.size a)
theorem k1_idx43_inb : ∀ (v282 : IVec S16 32) (k1_hw43 : k1_chk43 v282), ∀ a x, ((![v282] : Fin 1 → IVec S16 32) a x).toNat < S65536.size a := fun v282 k1_hw43 => k1_hw43
@[reducible] def k1_t45_loop : Scf.Loop 32 :=
  let c0_i32_218 : BitVec 32 := 0#32
  let c64_i32_219 : BitVec 32 := 64#32
  let v47 : BitVec 32 := Scalar.addi c0_i32_218 c64_i32_219
  let c1_i32_220 : BitVec 32 := 1#32
  ⟨c0_i32_218, v47, c1_i32_220⟩
def k1_off47 (k1_t45 : Fin k1_t45_loop.trips) : Fin 2 → Nat :=
  let c11_i32 : BitVec 32 := 11#32
  let v267 : Index := Scalar.indexCast c11_i32
  let c0_i32_218 : BitVec 32 := 0#32
  let c1_i32_220 : BitVec 32 := 1#32
  let arg8 : BitVec 32 := Scf.iv c0_i32_218 c1_i32_220 k1_t45
  let c16_i32 : BitVec 32 := 16#32
  let v266 : BitVec 32 := Scalar.muli arg8 c16_i32
  let v268 : Index := Scalar.indexCast v266
  ![11, v268.toNat]

def k1_chk44 (v282 : IVec S16 32) : Prop :=
  (∀ a x, ((![v282] : Fin 1 → IVec S16 32) a x).toNat < S65536.size a)
theorem k1_idx44_inb : ∀ (v282 : IVec S16 32) (k1_hw44 : k1_chk44 v282), ∀ a x, ((![v282] : Fin 1 → IVec S16 32) a x).toNat < S65536.size a := fun v282 k1_hw44 => k1_hw44
@[reducible] def k1_t46_loop : Scf.Loop 32 :=
  let c0_i32_223 : BitVec 32 := 0#32
  let c64_i32_224 : BitVec 32 := 64#32
  let v48 : BitVec 32 := Scalar.addi c0_i32_223 c64_i32_224
  let c1_i32_225 : BitVec 32 := 1#32
  ⟨c0_i32_223, v48, c1_i32_225⟩
def k1_off48 (k1_t46 : Fin k1_t46_loop.trips) : Fin 2 → Nat :=
  let c12_i32_1282 : BitVec 32 := 12#32
  let v267 : Index := Scalar.indexCast c12_i32_1282
  let c0_i32_223 : BitVec 32 := 0#32
  let c1_i32_225 : BitVec 32 := 1#32
  let arg8 : BitVec 32 := Scf.iv c0_i32_223 c1_i32_225 k1_t46
  let c16_i32 : BitVec 32 := 16#32
  let v266 : BitVec 32 := Scalar.muli arg8 c16_i32
  let v268 : Index := Scalar.indexCast v266
  ![12, v268.toNat]

def k1_chk45 (v282 : IVec S16 32) : Prop :=
  (∀ a x, ((![v282] : Fin 1 → IVec S16 32) a x).toNat < S65536.size a)
theorem k1_idx45_inb : ∀ (v282 : IVec S16 32) (k1_hw45 : k1_chk45 v282), ∀ a x, ((![v282] : Fin 1 → IVec S16 32) a x).toNat < S65536.size a := fun v282 k1_hw45 => k1_hw45
@[reducible] def k1_t47_loop : Scf.Loop 32 :=
  let c0_i32_228 : BitVec 32 := 0#32
  let c64_i32_229 : BitVec 32 := 64#32
  let v49 : BitVec 32 := Scalar.addi c0_i32_228 c64_i32_229
  let c1_i32_230 : BitVec 32 := 1#32
  ⟨c0_i32_228, v49, c1_i32_230⟩
def k1_off49 (k1_t47 : Fin k1_t47_loop.trips) : Fin 2 → Nat :=
  let c13_i32 : BitVec 32 := 13#32
  let v267 : Index := Scalar.indexCast c13_i32
  let c0_i32_228 : BitVec 32 := 0#32
  let c1_i32_230 : BitVec 32 := 1#32
  let arg8 : BitVec 32 := Scf.iv c0_i32_228 c1_i32_230 k1_t47
  let c16_i32 : BitVec 32 := 16#32
  let v266 : BitVec 32 := Scalar.muli arg8 c16_i32
  let v268 : Index := Scalar.indexCast v266
  ![13, v268.toNat]

def k1_chk46 (v282 : IVec S16 32) : Prop :=
  (∀ a x, ((![v282] : Fin 1 → IVec S16 32) a x).toNat < S65536.size a)
theorem k1_idx46_inb : ∀ (v282 : IVec S16 32) (k1_hw46 : k1_chk46 v282), ∀ a x, ((![v282] : Fin 1 → IVec S16 32) a x).toNat < S65536.size a := fun v282 k1_hw46 => k1_hw46
@[reducible] def k1_t48_loop : Scf.Loop 32 :=
  let c0_i32_233 : BitVec 32 := 0#32
  let c64_i32_234 : BitVec 32 := 64#32
  let v50 : BitVec 32 := Scalar.addi c0_i32_233 c64_i32_234
  let c1_i32_235 : BitVec 32 := 1#32
  ⟨c0_i32_233, v50, c1_i32_235⟩
def k1_off50 (k1_t48 : Fin k1_t48_loop.trips) : Fin 2 → Nat :=
  let c14_i32_1282 : BitVec 32 := 14#32
  let v267 : Index := Scalar.indexCast c14_i32_1282
  let c0_i32_233 : BitVec 32 := 0#32
  let c1_i32_235 : BitVec 32 := 1#32
  let arg8 : BitVec 32 := Scf.iv c0_i32_233 c1_i32_235 k1_t48
  let c16_i32 : BitVec 32 := 16#32
  let v266 : BitVec 32 := Scalar.muli arg8 c16_i32
  let v268 : Index := Scalar.indexCast v266
  ![14, v268.toNat]

def k1_chk47 (v282 : IVec S16 32) : Prop :=
  (∀ a x, ((![v282] : Fin 1 → IVec S16 32) a x).toNat < S65536.size a)
theorem k1_idx47_inb : ∀ (v282 : IVec S16 32) (k1_hw47 : k1_chk47 v282), ∀ a x, ((![v282] : Fin 1 → IVec S16 32) a x).toNat < S65536.size a := fun v282 k1_hw47 => k1_hw47
@[reducible] def k1_t49_loop : Scf.Loop 32 :=
  let c0_i32_238 : BitVec 32 := 0#32
  let c64_i32_239 : BitVec 32 := 64#32
  let v51 : BitVec 32 := Scalar.addi c0_i32_238 c64_i32_239
  let c1_i32_240 : BitVec 32 := 1#32
  ⟨c0_i32_238, v51, c1_i32_240⟩
def k1_off51 (k1_t49 : Fin k1_t49_loop.trips) : Fin 2 → Nat :=
  let c15_i32 : BitVec 32 := 15#32
  let v267 : Index := Scalar.indexCast c15_i32
  let c0_i32_238 : BitVec 32 := 0#32
  let c1_i32_240 : BitVec 32 := 1#32
  let arg8 : BitVec 32 := Scf.iv c0_i32_238 c1_i32_240 k1_t49
  let c16_i32 : BitVec 32 := 16#32
  let v266 : BitVec 32 := Scalar.muli arg8 c16_i32
  let v268 : Index := Scalar.indexCast v266
  ![15, v268.toNat]

def k1_chk48 (v282 : IVec S16 32) : Prop :=
  (∀ a x, ((![v282] : Fin 1 → IVec S16 32) a x).toNat < S65536.size a)
theorem k1_idx48_inb : ∀ (v282 : IVec S16 32) (k1_hw48 : k1_chk48 v282), ∀ a x, ((![v282] : Fin 1 → IVec S16 32) a x).toNat < S65536.size a := fun v282 k1_hw48 => k1_hw48
@[reducible] def k1_t50_loop : Scf.Loop 32 :=
  let c0_i32_243 : BitVec 32 := 0#32
  let c64_i32_244 : BitVec 32 := 64#32
  let v52 : BitVec 32 := Scalar.addi c0_i32_243 c64_i32_244
  let c1_i32_245 : BitVec 32 := 1#32
  ⟨c0_i32_243, v52, c1_i32_245⟩
def k1_off52 (k1_t50 : Fin k1_t50_loop.trips) : Fin 2 → Nat :=
  let c0_i32_1282 : BitVec 32 := 0#32
  let v267 : Index := Scalar.indexCast c0_i32_1282
  let c0_i32_243 : BitVec 32 := 0#32
  let c1_i32_245 : BitVec 32 := 1#32
  let arg8 : BitVec 32 := Scf.iv c0_i32_243 c1_i32_245 k1_t50
  let c16_i32 : BitVec 32 := 16#32
  let v266 : BitVec 32 := Scalar.muli arg8 c16_i32
  let v268 : Index := Scalar.indexCast v266
  ![0, v268.toNat]

def k1_chk49 (v278 : IVec S16 32) : Prop :=
  (∀ a x, ((![v278] : Fin 1 → IVec S16 32) a x).toNat < S65536.size a)
theorem k1_idx49_inb : ∀ (v278 : IVec S16 32) (k1_hw49 : k1_chk49 v278), ∀ a x, ((![v278] : Fin 1 → IVec S16 32) a x).toNat < S65536.size a := fun v278 k1_hw49 => k1_hw49
@[reducible] def k1_t51_loop : Scf.Loop 32 :=
  let c0_i32_248 : BitVec 32 := 0#32
  let c64_i32_249 : BitVec 32 := 64#32
  let v53 : BitVec 32 := Scalar.addi c0_i32_248 c64_i32_249
  let c1_i32_250 : BitVec 32 := 1#32
  ⟨c0_i32_248, v53, c1_i32_250⟩
def k1_off53 (k1_t51 : Fin k1_t51_loop.trips) : Fin 2 → Nat :=
  let c1_i32_1282 : BitVec 32 := 1#32
  let v267 : Index := Scalar.indexCast c1_i32_1282
  let c0_i32_248 : BitVec 32 := 0#32
  let c1_i32_250 : BitVec 32 := 1#32
  let arg8 : BitVec 32 := Scf.iv c0_i32_248 c1_i32_250 k1_t51
  let c16_i32 : BitVec 32 := 16#32
  let v266 : BitVec 32 := Scalar.muli arg8 c16_i32
  let v268 : Index := Scalar.indexCast v266
  ![1, v268.toNat]

def k1_chk50 (v278 : IVec S16 32) : Prop :=
  (∀ a x, ((![v278] : Fin 1 → IVec S16 32) a x).toNat < S65536.size a)
theorem k1_idx50_inb : ∀ (v278 : IVec S16 32) (k1_hw50 : k1_chk50 v278), ∀ a x, ((![v278] : Fin 1 → IVec S16 32) a x).toNat < S65536.size a := fun v278 k1_hw50 => k1_hw50
@[reducible] def k1_t52_loop : Scf.Loop 32 :=
  let c0_i32_253 : BitVec 32 := 0#32
  let c64_i32_254 : BitVec 32 := 64#32
  let v54 : BitVec 32 := Scalar.addi c0_i32_253 c64_i32_254
  let c1_i32_255 : BitVec 32 := 1#32
  ⟨c0_i32_253, v54, c1_i32_255⟩
def k1_off54 (k1_t52 : Fin k1_t52_loop.trips) : Fin 2 → Nat :=
  let c2_i32_1282 : BitVec 32 := 2#32
  let v267 : Index := Scalar.indexCast c2_i32_1282
  let c0_i32_253 : BitVec 32 := 0#32
  let c1_i32_255 : BitVec 32 := 1#32
  let arg8 : BitVec 32 := Scf.iv c0_i32_253 c1_i32_255 k1_t52
  let c16_i32 : BitVec 32 := 16#32
  let v266 : BitVec 32 := Scalar.muli arg8 c16_i32
  let v268 : Index := Scalar.indexCast v266
  ![2, v268.toNat]

def k1_chk51 (v278 : IVec S16 32) : Prop :=
  (∀ a x, ((![v278] : Fin 1 → IVec S16 32) a x).toNat < S65536.size a)
theorem k1_idx51_inb : ∀ (v278 : IVec S16 32) (k1_hw51 : k1_chk51 v278), ∀ a x, ((![v278] : Fin 1 → IVec S16 32) a x).toNat < S65536.size a := fun v278 k1_hw51 => k1_hw51
@[reducible] def k1_t53_loop : Scf.Loop 32 :=
  let c0_i32_258 : BitVec 32 := 0#32
  let c64_i32_259 : BitVec 32 := 64#32
  let v55 : BitVec 32 := Scalar.addi c0_i32_258 c64_i32_259
  let c1_i32_260 : BitVec 32 := 1#32
  ⟨c0_i32_258, v55, c1_i32_260⟩
def k1_off55 (k1_t53 : Fin k1_t53_loop.trips) : Fin 2 → Nat :=
  let c3_i32 : BitVec 32 := 3#32
  let v267 : Index := Scalar.indexCast c3_i32
  let c0_i32_258 : BitVec 32 := 0#32
  let c1_i32_260 : BitVec 32 := 1#32
  let arg8 : BitVec 32 := Scf.iv c0_i32_258 c1_i32_260 k1_t53
  let c16_i32 : BitVec 32 := 16#32
  let v266 : BitVec 32 := Scalar.muli arg8 c16_i32
  let v268 : Index := Scalar.indexCast v266
  ![3, v268.toNat]

def k1_chk52 (v278 : IVec S16 32) : Prop :=
  (∀ a x, ((![v278] : Fin 1 → IVec S16 32) a x).toNat < S65536.size a)
theorem k1_idx52_inb : ∀ (v278 : IVec S16 32) (k1_hw52 : k1_chk52 v278), ∀ a x, ((![v278] : Fin 1 → IVec S16 32) a x).toNat < S65536.size a := fun v278 k1_hw52 => k1_hw52
@[reducible] def k1_t54_loop : Scf.Loop 32 :=
  let c0_i32_263 : BitVec 32 := 0#32
  let c64_i32_264 : BitVec 32 := 64#32
  let v56 : BitVec 32 := Scalar.addi c0_i32_263 c64_i32_264
  let c1_i32_265 : BitVec 32 := 1#32
  ⟨c0_i32_263, v56, c1_i32_265⟩
def k1_off56 (k1_t54 : Fin k1_t54_loop.trips) : Fin 2 → Nat :=
  let c4_i32_1282 : BitVec 32 := 4#32
  let v267 : Index := Scalar.indexCast c4_i32_1282
  let c0_i32_263 : BitVec 32 := 0#32
  let c1_i32_265 : BitVec 32 := 1#32
  let arg8 : BitVec 32 := Scf.iv c0_i32_263 c1_i32_265 k1_t54
  let c16_i32 : BitVec 32 := 16#32
  let v266 : BitVec 32 := Scalar.muli arg8 c16_i32
  let v268 : Index := Scalar.indexCast v266
  ![4, v268.toNat]

def k1_chk53 (v278 : IVec S16 32) : Prop :=
  (∀ a x, ((![v278] : Fin 1 → IVec S16 32) a x).toNat < S65536.size a)
theorem k1_idx53_inb : ∀ (v278 : IVec S16 32) (k1_hw53 : k1_chk53 v278), ∀ a x, ((![v278] : Fin 1 → IVec S16 32) a x).toNat < S65536.size a := fun v278 k1_hw53 => k1_hw53
@[reducible] def k1_t55_loop : Scf.Loop 32 :=
  let c0_i32_268 : BitVec 32 := 0#32
  let c64_i32_269 : BitVec 32 := 64#32
  let v57 : BitVec 32 := Scalar.addi c0_i32_268 c64_i32_269
  let c1_i32_270 : BitVec 32 := 1#32
  ⟨c0_i32_268, v57, c1_i32_270⟩
def k1_off57 (k1_t55 : Fin k1_t55_loop.trips) : Fin 2 → Nat :=
  let c5_i32 : BitVec 32 := 5#32
  let v267 : Index := Scalar.indexCast c5_i32
  let c0_i32_268 : BitVec 32 := 0#32
  let c1_i32_270 : BitVec 32 := 1#32
  let arg8 : BitVec 32 := Scf.iv c0_i32_268 c1_i32_270 k1_t55
  let c16_i32 : BitVec 32 := 16#32
  let v266 : BitVec 32 := Scalar.muli arg8 c16_i32
  let v268 : Index := Scalar.indexCast v266
  ![5, v268.toNat]

def k1_chk54 (v278 : IVec S16 32) : Prop :=
  (∀ a x, ((![v278] : Fin 1 → IVec S16 32) a x).toNat < S65536.size a)
theorem k1_idx54_inb : ∀ (v278 : IVec S16 32) (k1_hw54 : k1_chk54 v278), ∀ a x, ((![v278] : Fin 1 → IVec S16 32) a x).toNat < S65536.size a := fun v278 k1_hw54 => k1_hw54
@[reducible] def k1_t56_loop : Scf.Loop 32 :=
  let c0_i32_273 : BitVec 32 := 0#32
  let c64_i32_274 : BitVec 32 := 64#32
  let v58 : BitVec 32 := Scalar.addi c0_i32_273 c64_i32_274
  let c1_i32_275 : BitVec 32 := 1#32
  ⟨c0_i32_273, v58, c1_i32_275⟩
def k1_off58 (k1_t56 : Fin k1_t56_loop.trips) : Fin 2 → Nat :=
  let c6_i32_1282 : BitVec 32 := 6#32
  let v267 : Index := Scalar.indexCast c6_i32_1282
  let c0_i32_273 : BitVec 32 := 0#32
  let c1_i32_275 : BitVec 32 := 1#32
  let arg8 : BitVec 32 := Scf.iv c0_i32_273 c1_i32_275 k1_t56
  let c16_i32 : BitVec 32 := 16#32
  let v266 : BitVec 32 := Scalar.muli arg8 c16_i32
  let v268 : Index := Scalar.indexCast v266
  ![6, v268.toNat]

def k1_chk55 (v278 : IVec S16 32) : Prop :=
  (∀ a x, ((![v278] : Fin 1 → IVec S16 32) a x).toNat < S65536.size a)
theorem k1_idx55_inb : ∀ (v278 : IVec S16 32) (k1_hw55 : k1_chk55 v278), ∀ a x, ((![v278] : Fin 1 → IVec S16 32) a x).toNat < S65536.size a := fun v278 k1_hw55 => k1_hw55
@[reducible] def k1_t57_loop : Scf.Loop 32 :=
  let c0_i32_278 : BitVec 32 := 0#32
  let c64_i32_279 : BitVec 32 := 64#32
  let v59 : BitVec 32 := Scalar.addi c0_i32_278 c64_i32_279
  let c1_i32_280 : BitVec 32 := 1#32
  ⟨c0_i32_278, v59, c1_i32_280⟩
def k1_off59 (k1_t57 : Fin k1_t57_loop.trips) : Fin 2 → Nat :=
  let c7_i32 : BitVec 32 := 7#32
  let v267 : Index := Scalar.indexCast c7_i32
  let c0_i32_278 : BitVec 32 := 0#32
  let c1_i32_280 : BitVec 32 := 1#32
  let arg8 : BitVec 32 := Scf.iv c0_i32_278 c1_i32_280 k1_t57
  let c16_i32 : BitVec 32 := 16#32
  let v266 : BitVec 32 := Scalar.muli arg8 c16_i32
  let v268 : Index := Scalar.indexCast v266
  ![7, v268.toNat]

def k1_chk56 (v278 : IVec S16 32) : Prop :=
  (∀ a x, ((![v278] : Fin 1 → IVec S16 32) a x).toNat < S65536.size a)
theorem k1_idx56_inb : ∀ (v278 : IVec S16 32) (k1_hw56 : k1_chk56 v278), ∀ a x, ((![v278] : Fin 1 → IVec S16 32) a x).toNat < S65536.size a := fun v278 k1_hw56 => k1_hw56
@[reducible] def k1_t58_loop : Scf.Loop 32 :=
  let c0_i32_283 : BitVec 32 := 0#32
  let c64_i32_284 : BitVec 32 := 64#32
  let v60 : BitVec 32 := Scalar.addi c0_i32_283 c64_i32_284
  let c1_i32_285 : BitVec 32 := 1#32
  ⟨c0_i32_283, v60, c1_i32_285⟩
def k1_off60 (k1_t58 : Fin k1_t58_loop.trips) : Fin 2 → Nat :=
  let c8_i32_1282 : BitVec 32 := 8#32
  let v267 : Index := Scalar.indexCast c8_i32_1282
  let c0_i32_283 : BitVec 32 := 0#32
  let c1_i32_285 : BitVec 32 := 1#32
  let arg8 : BitVec 32 := Scf.iv c0_i32_283 c1_i32_285 k1_t58
  let c16_i32 : BitVec 32 := 16#32
  let v266 : BitVec 32 := Scalar.muli arg8 c16_i32
  let v268 : Index := Scalar.indexCast v266
  ![8, v268.toNat]

def k1_chk57 (v278 : IVec S16 32) : Prop :=
  (∀ a x, ((![v278] : Fin 1 → IVec S16 32) a x).toNat < S65536.size a)
theorem k1_idx57_inb : ∀ (v278 : IVec S16 32) (k1_hw57 : k1_chk57 v278), ∀ a x, ((![v278] : Fin 1 → IVec S16 32) a x).toNat < S65536.size a := fun v278 k1_hw57 => k1_hw57
@[reducible] def k1_t59_loop : Scf.Loop 32 :=
  let c0_i32_288 : BitVec 32 := 0#32
  let c64_i32_289 : BitVec 32 := 64#32
  let v61 : BitVec 32 := Scalar.addi c0_i32_288 c64_i32_289
  let c1_i32_290 : BitVec 32 := 1#32
  ⟨c0_i32_288, v61, c1_i32_290⟩
def k1_off61 (k1_t59 : Fin k1_t59_loop.trips) : Fin 2 → Nat :=
  let c9_i32 : BitVec 32 := 9#32
  let v267 : Index := Scalar.indexCast c9_i32
  let c0_i32_288 : BitVec 32 := 0#32
  let c1_i32_290 : BitVec 32 := 1#32
  let arg8 : BitVec 32 := Scf.iv c0_i32_288 c1_i32_290 k1_t59
  let c16_i32 : BitVec 32 := 16#32
  let v266 : BitVec 32 := Scalar.muli arg8 c16_i32
  let v268 : Index := Scalar.indexCast v266
  ![9, v268.toNat]

def k1_chk58 (v278 : IVec S16 32) : Prop :=
  (∀ a x, ((![v278] : Fin 1 → IVec S16 32) a x).toNat < S65536.size a)
theorem k1_idx58_inb : ∀ (v278 : IVec S16 32) (k1_hw58 : k1_chk58 v278), ∀ a x, ((![v278] : Fin 1 → IVec S16 32) a x).toNat < S65536.size a := fun v278 k1_hw58 => k1_hw58
@[reducible] def k1_t60_loop : Scf.Loop 32 :=
  let c0_i32_293 : BitVec 32 := 0#32
  let c64_i32_294 : BitVec 32 := 64#32
  let v62 : BitVec 32 := Scalar.addi c0_i32_293 c64_i32_294
  let c1_i32_295 : BitVec 32 := 1#32
  ⟨c0_i32_293, v62, c1_i32_295⟩
def k1_off62 (k1_t60 : Fin k1_t60_loop.trips) : Fin 2 → Nat :=
  let c10_i32_1282 : BitVec 32 := 10#32
  let v267 : Index := Scalar.indexCast c10_i32_1282
  let c0_i32_293 : BitVec 32 := 0#32
  let c1_i32_295 : BitVec 32 := 1#32
  let arg8 : BitVec 32 := Scf.iv c0_i32_293 c1_i32_295 k1_t60
  let c16_i32 : BitVec 32 := 16#32
  let v266 : BitVec 32 := Scalar.muli arg8 c16_i32
  let v268 : Index := Scalar.indexCast v266
  ![10, v268.toNat]

def k1_chk59 (v278 : IVec S16 32) : Prop :=
  (∀ a x, ((![v278] : Fin 1 → IVec S16 32) a x).toNat < S65536.size a)
theorem k1_idx59_inb : ∀ (v278 : IVec S16 32) (k1_hw59 : k1_chk59 v278), ∀ a x, ((![v278] : Fin 1 → IVec S16 32) a x).toNat < S65536.size a := fun v278 k1_hw59 => k1_hw59
@[reducible] def k1_t61_loop : Scf.Loop 32 :=
  let c0_i32_298 : BitVec 32 := 0#32
  let c64_i32_299 : BitVec 32 := 64#32
  let v63 : BitVec 32 := Scalar.addi c0_i32_298 c64_i32_299
  let c1_i32_300 : BitVec 32 := 1#32
  ⟨c0_i32_298, v63, c1_i32_300⟩
def k1_off63 (k1_t61 : Fin k1_t61_loop.trips) : Fin 2 → Nat :=
  let c11_i32 : BitVec 32 := 11#32
  let v267 : Index := Scalar.indexCast c11_i32
  let c0_i32_298 : BitVec 32 := 0#32
  let c1_i32_300 : BitVec 32 := 1#32
  let arg8 : BitVec 32 := Scf.iv c0_i32_298 c1_i32_300 k1_t61
  let c16_i32 : BitVec 32 := 16#32
  let v266 : BitVec 32 := Scalar.muli arg8 c16_i32
  let v268 : Index := Scalar.indexCast v266
  ![11, v268.toNat]

def k1_chk60 (v278 : IVec S16 32) : Prop :=
  (∀ a x, ((![v278] : Fin 1 → IVec S16 32) a x).toNat < S65536.size a)
theorem k1_idx60_inb : ∀ (v278 : IVec S16 32) (k1_hw60 : k1_chk60 v278), ∀ a x, ((![v278] : Fin 1 → IVec S16 32) a x).toNat < S65536.size a := fun v278 k1_hw60 => k1_hw60
@[reducible] def k1_t62_loop : Scf.Loop 32 :=
  let c0_i32_303 : BitVec 32 := 0#32
  let c64_i32_304 : BitVec 32 := 64#32
  let v64 : BitVec 32 := Scalar.addi c0_i32_303 c64_i32_304
  let c1_i32_305 : BitVec 32 := 1#32
  ⟨c0_i32_303, v64, c1_i32_305⟩
def k1_off64 (k1_t62 : Fin k1_t62_loop.trips) : Fin 2 → Nat :=
  let c12_i32_1282 : BitVec 32 := 12#32
  let v267 : Index := Scalar.indexCast c12_i32_1282
  let c0_i32_303 : BitVec 32 := 0#32
  let c1_i32_305 : BitVec 32 := 1#32
  let arg8 : BitVec 32 := Scf.iv c0_i32_303 c1_i32_305 k1_t62
  let c16_i32 : BitVec 32 := 16#32
  let v266 : BitVec 32 := Scalar.muli arg8 c16_i32
  let v268 : Index := Scalar.indexCast v266
  ![12, v268.toNat]

def k1_chk61 (v278 : IVec S16 32) : Prop :=
  (∀ a x, ((![v278] : Fin 1 → IVec S16 32) a x).toNat < S65536.size a)
theorem k1_idx61_inb : ∀ (v278 : IVec S16 32) (k1_hw61 : k1_chk61 v278), ∀ a x, ((![v278] : Fin 1 → IVec S16 32) a x).toNat < S65536.size a := fun v278 k1_hw61 => k1_hw61
@[reducible] def k1_t63_loop : Scf.Loop 32 :=
  let c0_i32_308 : BitVec 32 := 0#32
  let c64_i32_309 : BitVec 32 := 64#32
  let v65 : BitVec 32 := Scalar.addi c0_i32_308 c64_i32_309
  let c1_i32_310 : BitVec 32 := 1#32
  ⟨c0_i32_308, v65, c1_i32_310⟩
def k1_off65 (k1_t63 : Fin k1_t63_loop.trips) : Fin 2 → Nat :=
  let c13_i32 : BitVec 32 := 13#32
  let v267 : Index := Scalar.indexCast c13_i32
  let c0_i32_308 : BitVec 32 := 0#32
  let c1_i32_310 : BitVec 32 := 1#32
  let arg8 : BitVec 32 := Scf.iv c0_i32_308 c1_i32_310 k1_t63
  let c16_i32 : BitVec 32 := 16#32
  let v266 : BitVec 32 := Scalar.muli arg8 c16_i32
  let v268 : Index := Scalar.indexCast v266
  ![13, v268.toNat]

def k1_chk62 (v278 : IVec S16 32) : Prop :=
  (∀ a x, ((![v278] : Fin 1 → IVec S16 32) a x).toNat < S65536.size a)
theorem k1_idx62_inb : ∀ (v278 : IVec S16 32) (k1_hw62 : k1_chk62 v278), ∀ a x, ((![v278] : Fin 1 → IVec S16 32) a x).toNat < S65536.size a := fun v278 k1_hw62 => k1_hw62
@[reducible] def k1_t64_loop : Scf.Loop 32 :=
  let c0_i32_313 : BitVec 32 := 0#32
  let c64_i32_314 : BitVec 32 := 64#32
  let v66 : BitVec 32 := Scalar.addi c0_i32_313 c64_i32_314
  let c1_i32_315 : BitVec 32 := 1#32
  ⟨c0_i32_313, v66, c1_i32_315⟩
def k1_off66 (k1_t64 : Fin k1_t64_loop.trips) : Fin 2 → Nat :=
  let c14_i32_1282 : BitVec 32 := 14#32
  let v267 : Index := Scalar.indexCast c14_i32_1282
  let c0_i32_313 : BitVec 32 := 0#32
  let c1_i32_315 : BitVec 32 := 1#32
  let arg8 : BitVec 32 := Scf.iv c0_i32_313 c1_i32_315 k1_t64
  let c16_i32 : BitVec 32 := 16#32
  let v266 : BitVec 32 := Scalar.muli arg8 c16_i32
  let v268 : Index := Scalar.indexCast v266
  ![14, v268.toNat]

def k1_chk63 (v278 : IVec S16 32) : Prop :=
  (∀ a x, ((![v278] : Fin 1 → IVec S16 32) a x).toNat < S65536.size a)
theorem k1_idx63_inb : ∀ (v278 : IVec S16 32) (k1_hw63 : k1_chk63 v278), ∀ a x, ((![v278] : Fin 1 → IVec S16 32) a x).toNat < S65536.size a := fun v278 k1_hw63 => k1_hw63
@[reducible] def k1_t65_loop : Scf.Loop 32 :=
  let c0_i32_318 : BitVec 32 := 0#32
  let c64_i32_319 : BitVec 32 := 64#32
  let v67 : BitVec 32 := Scalar.addi c0_i32_318 c64_i32_319
  let c1_i32_320 : BitVec 32 := 1#32
  ⟨c0_i32_318, v67, c1_i32_320⟩
def k1_off67 (k1_t65 : Fin k1_t65_loop.trips) : Fin 2 → Nat :=
  let c15_i32 : BitVec 32 := 15#32
  let v267 : Index := Scalar.indexCast c15_i32
  let c0_i32_318 : BitVec 32 := 0#32
  let c1_i32_320 : BitVec 32 := 1#32
  let arg8 : BitVec 32 := Scf.iv c0_i32_318 c1_i32_320 k1_t65
  let c16_i32 : BitVec 32 := 16#32
  let v266 : BitVec 32 := Scalar.muli arg8 c16_i32
  let v268 : Index := Scalar.indexCast v266
  ![15, v268.toNat]

def k1_chk64 (v278 : IVec S16 32) : Prop :=
  (∀ a x, ((![v278] : Fin 1 → IVec S16 32) a x).toNat < S65536.size a)
theorem k1_idx64_inb : ∀ (v278 : IVec S16 32) (k1_hw64 : k1_chk64 v278), ∀ a x, ((![v278] : Fin 1 → IVec S16 32) a x).toNat < S65536.size a := fun v278 k1_hw64 => k1_hw64
@[reducible] def k1_t66_loop : Scf.Loop 32 :=
  let c0_i32_323 : BitVec 32 := 0#32
  let c64_i32_324 : BitVec 32 := 64#32
  let v69 : BitVec 32 := Scalar.addi c0_i32_323 c64_i32_324
  let c1_i32_325 : BitVec 32 := 1#32
  ⟨c0_i32_323, v69, c1_i32_325⟩
def k1_off68 (k1_t66 : Fin k1_t66_loop.trips) : Fin 2 → Nat :=
  let c0_i32_1282 : BitVec 32 := 0#32
  let v267 : Index := Scalar.indexCast c0_i32_1282
  let c0_i32_323 : BitVec 32 := 0#32
  let c1_i32_325 : BitVec 32 := 1#32
  let arg8 : BitVec 32 := Scf.iv c0_i32_323 c1_i32_325 k1_t66
  let c16_i32 : BitVec 32 := 16#32
  let v266 : BitVec 32 := Scalar.muli arg8 c16_i32
  let v268 : Index := Scalar.indexCast v266
  ![0, v268.toNat]

def k1_chk65 (v282 : IVec S16 32) : Prop :=
  (∀ a x, ((![v282] : Fin 1 → IVec S16 32) a x).toNat < S65536.size a)
theorem k1_idx65_inb : ∀ (v282 : IVec S16 32) (k1_hw65 : k1_chk65 v282), ∀ a x, ((![v282] : Fin 1 → IVec S16 32) a x).toNat < S65536.size a := fun v282 k1_hw65 => k1_hw65
@[reducible] def k1_t67_loop : Scf.Loop 32 :=
  let c0_i32_328 : BitVec 32 := 0#32
  let c64_i32_329 : BitVec 32 := 64#32
  let v70 : BitVec 32 := Scalar.addi c0_i32_328 c64_i32_329
  let c1_i32_330 : BitVec 32 := 1#32
  ⟨c0_i32_328, v70, c1_i32_330⟩
def k1_off69 (k1_t67 : Fin k1_t67_loop.trips) : Fin 2 → Nat :=
  let c1_i32_1282 : BitVec 32 := 1#32
  let v267 : Index := Scalar.indexCast c1_i32_1282
  let c0_i32_328 : BitVec 32 := 0#32
  let c1_i32_330 : BitVec 32 := 1#32
  let arg8 : BitVec 32 := Scf.iv c0_i32_328 c1_i32_330 k1_t67
  let c16_i32 : BitVec 32 := 16#32
  let v266 : BitVec 32 := Scalar.muli arg8 c16_i32
  let v268 : Index := Scalar.indexCast v266
  ![1, v268.toNat]

def k1_chk66 (v282 : IVec S16 32) : Prop :=
  (∀ a x, ((![v282] : Fin 1 → IVec S16 32) a x).toNat < S65536.size a)
theorem k1_idx66_inb : ∀ (v282 : IVec S16 32) (k1_hw66 : k1_chk66 v282), ∀ a x, ((![v282] : Fin 1 → IVec S16 32) a x).toNat < S65536.size a := fun v282 k1_hw66 => k1_hw66
@[reducible] def k1_t68_loop : Scf.Loop 32 :=
  let c0_i32_333 : BitVec 32 := 0#32
  let c64_i32_334 : BitVec 32 := 64#32
  let v71 : BitVec 32 := Scalar.addi c0_i32_333 c64_i32_334
  let c1_i32_335 : BitVec 32 := 1#32
  ⟨c0_i32_333, v71, c1_i32_335⟩
def k1_off70 (k1_t68 : Fin k1_t68_loop.trips) : Fin 2 → Nat :=
  let c2_i32_1282 : BitVec 32 := 2#32
  let v267 : Index := Scalar.indexCast c2_i32_1282
  let c0_i32_333 : BitVec 32 := 0#32
  let c1_i32_335 : BitVec 32 := 1#32
  let arg8 : BitVec 32 := Scf.iv c0_i32_333 c1_i32_335 k1_t68
  let c16_i32 : BitVec 32 := 16#32
  let v266 : BitVec 32 := Scalar.muli arg8 c16_i32
  let v268 : Index := Scalar.indexCast v266
  ![2, v268.toNat]

def k1_chk67 (v282 : IVec S16 32) : Prop :=
  (∀ a x, ((![v282] : Fin 1 → IVec S16 32) a x).toNat < S65536.size a)
theorem k1_idx67_inb : ∀ (v282 : IVec S16 32) (k1_hw67 : k1_chk67 v282), ∀ a x, ((![v282] : Fin 1 → IVec S16 32) a x).toNat < S65536.size a := fun v282 k1_hw67 => k1_hw67
@[reducible] def k1_t69_loop : Scf.Loop 32 :=
  let c0_i32_338 : BitVec 32 := 0#32
  let c64_i32_339 : BitVec 32 := 64#32
  let v72 : BitVec 32 := Scalar.addi c0_i32_338 c64_i32_339
  let c1_i32_340 : BitVec 32 := 1#32
  ⟨c0_i32_338, v72, c1_i32_340⟩
def k1_off71 (k1_t69 : Fin k1_t69_loop.trips) : Fin 2 → Nat :=
  let c3_i32 : BitVec 32 := 3#32
  let v267 : Index := Scalar.indexCast c3_i32
  let c0_i32_338 : BitVec 32 := 0#32
  let c1_i32_340 : BitVec 32 := 1#32
  let arg8 : BitVec 32 := Scf.iv c0_i32_338 c1_i32_340 k1_t69
  let c16_i32 : BitVec 32 := 16#32
  let v266 : BitVec 32 := Scalar.muli arg8 c16_i32
  let v268 : Index := Scalar.indexCast v266
  ![3, v268.toNat]

def k1_chk68 (v282 : IVec S16 32) : Prop :=
  (∀ a x, ((![v282] : Fin 1 → IVec S16 32) a x).toNat < S65536.size a)
theorem k1_idx68_inb : ∀ (v282 : IVec S16 32) (k1_hw68 : k1_chk68 v282), ∀ a x, ((![v282] : Fin 1 → IVec S16 32) a x).toNat < S65536.size a := fun v282 k1_hw68 => k1_hw68
@[reducible] def k1_t70_loop : Scf.Loop 32 :=
  let c0_i32_343 : BitVec 32 := 0#32
  let c64_i32_344 : BitVec 32 := 64#32
  let v73 : BitVec 32 := Scalar.addi c0_i32_343 c64_i32_344
  let c1_i32_345 : BitVec 32 := 1#32
  ⟨c0_i32_343, v73, c1_i32_345⟩
def k1_off72 (k1_t70 : Fin k1_t70_loop.trips) : Fin 2 → Nat :=
  let c4_i32_1282 : BitVec 32 := 4#32
  let v267 : Index := Scalar.indexCast c4_i32_1282
  let c0_i32_343 : BitVec 32 := 0#32
  let c1_i32_345 : BitVec 32 := 1#32
  let arg8 : BitVec 32 := Scf.iv c0_i32_343 c1_i32_345 k1_t70
  let c16_i32 : BitVec 32 := 16#32
  let v266 : BitVec 32 := Scalar.muli arg8 c16_i32
  let v268 : Index := Scalar.indexCast v266
  ![4, v268.toNat]

def k1_chk69 (v282 : IVec S16 32) : Prop :=
  (∀ a x, ((![v282] : Fin 1 → IVec S16 32) a x).toNat < S65536.size a)
theorem k1_idx69_inb : ∀ (v282 : IVec S16 32) (k1_hw69 : k1_chk69 v282), ∀ a x, ((![v282] : Fin 1 → IVec S16 32) a x).toNat < S65536.size a := fun v282 k1_hw69 => k1_hw69
@[reducible] def k1_t71_loop : Scf.Loop 32 :=
  let c0_i32_348 : BitVec 32 := 0#32
  let c64_i32_349 : BitVec 32 := 64#32
  let v74 : BitVec 32 := Scalar.addi c0_i32_348 c64_i32_349
  let c1_i32_350 : BitVec 32 := 1#32
  ⟨c0_i32_348, v74, c1_i32_350⟩
def k1_off73 (k1_t71 : Fin k1_t71_loop.trips) : Fin 2 → Nat :=
  let c5_i32 : BitVec 32 := 5#32
  let v267 : Index := Scalar.indexCast c5_i32
  let c0_i32_348 : BitVec 32 := 0#32
  let c1_i32_350 : BitVec 32 := 1#32
  let arg8 : BitVec 32 := Scf.iv c0_i32_348 c1_i32_350 k1_t71
  let c16_i32 : BitVec 32 := 16#32
  let v266 : BitVec 32 := Scalar.muli arg8 c16_i32
  let v268 : Index := Scalar.indexCast v266
  ![5, v268.toNat]

def k1_chk70 (v282 : IVec S16 32) : Prop :=
  (∀ a x, ((![v282] : Fin 1 → IVec S16 32) a x).toNat < S65536.size a)
theorem k1_idx70_inb : ∀ (v282 : IVec S16 32) (k1_hw70 : k1_chk70 v282), ∀ a x, ((![v282] : Fin 1 → IVec S16 32) a x).toNat < S65536.size a := fun v282 k1_hw70 => k1_hw70
@[reducible] def k1_t72_loop : Scf.Loop 32 :=
  let c0_i32_353 : BitVec 32 := 0#32
  let c64_i32_354 : BitVec 32 := 64#32
  let v75 : BitVec 32 := Scalar.addi c0_i32_353 c64_i32_354
  let c1_i32_355 : BitVec 32 := 1#32
  ⟨c0_i32_353, v75, c1_i32_355⟩
def k1_off74 (k1_t72 : Fin k1_t72_loop.trips) : Fin 2 → Nat :=
  let c6_i32_1282 : BitVec 32 := 6#32
  let v267 : Index := Scalar.indexCast c6_i32_1282
  let c0_i32_353 : BitVec 32 := 0#32
  let c1_i32_355 : BitVec 32 := 1#32
  let arg8 : BitVec 32 := Scf.iv c0_i32_353 c1_i32_355 k1_t72
  let c16_i32 : BitVec 32 := 16#32
  let v266 : BitVec 32 := Scalar.muli arg8 c16_i32
  let v268 : Index := Scalar.indexCast v266
  ![6, v268.toNat]

def k1_chk71 (v282 : IVec S16 32) : Prop :=
  (∀ a x, ((![v282] : Fin 1 → IVec S16 32) a x).toNat < S65536.size a)
theorem k1_idx71_inb : ∀ (v282 : IVec S16 32) (k1_hw71 : k1_chk71 v282), ∀ a x, ((![v282] : Fin 1 → IVec S16 32) a x).toNat < S65536.size a := fun v282 k1_hw71 => k1_hw71
@[reducible] def k1_t73_loop : Scf.Loop 32 :=
  let c0_i32_358 : BitVec 32 := 0#32
  let c64_i32_359 : BitVec 32 := 64#32
  let v76 : BitVec 32 := Scalar.addi c0_i32_358 c64_i32_359
  let c1_i32_360 : BitVec 32 := 1#32
  ⟨c0_i32_358, v76, c1_i32_360⟩
def k1_off75 (k1_t73 : Fin k1_t73_loop.trips) : Fin 2 → Nat :=
  let c7_i32 : BitVec 32 := 7#32
  let v267 : Index := Scalar.indexCast c7_i32
  let c0_i32_358 : BitVec 32 := 0#32
  let c1_i32_360 : BitVec 32 := 1#32
  let arg8 : BitVec 32 := Scf.iv c0_i32_358 c1_i32_360 k1_t73
  let c16_i32 : BitVec 32 := 16#32
  let v266 : BitVec 32 := Scalar.muli arg8 c16_i32
  let v268 : Index := Scalar.indexCast v266
  ![7, v268.toNat]

def k1_chk72 (v282 : IVec S16 32) : Prop :=
  (∀ a x, ((![v282] : Fin 1 → IVec S16 32) a x).toNat < S65536.size a)
theorem k1_idx72_inb : ∀ (v282 : IVec S16 32) (k1_hw72 : k1_chk72 v282), ∀ a x, ((![v282] : Fin 1 → IVec S16 32) a x).toNat < S65536.size a := fun v282 k1_hw72 => k1_hw72
@[reducible] def k1_t74_loop : Scf.Loop 32 :=
  let c0_i32_363 : BitVec 32 := 0#32
  let c64_i32_364 : BitVec 32 := 64#32
  let v77 : BitVec 32 := Scalar.addi c0_i32_363 c64_i32_364
  let c1_i32_365 : BitVec 32 := 1#32
  ⟨c0_i32_363, v77, c1_i32_365⟩
def k1_off76 (k1_t74 : Fin k1_t74_loop.trips) : Fin 2 → Nat :=
  let c8_i32_1282 : BitVec 32 := 8#32
  let v267 : Index := Scalar.indexCast c8_i32_1282
  let c0_i32_363 : BitVec 32 := 0#32
  let c1_i32_365 : BitVec 32 := 1#32
  let arg8 : BitVec 32 := Scf.iv c0_i32_363 c1_i32_365 k1_t74
  let c16_i32 : BitVec 32 := 16#32
  let v266 : BitVec 32 := Scalar.muli arg8 c16_i32
  let v268 : Index := Scalar.indexCast v266
  ![8, v268.toNat]

def k1_chk73 (v282 : IVec S16 32) : Prop :=
  (∀ a x, ((![v282] : Fin 1 → IVec S16 32) a x).toNat < S65536.size a)
theorem k1_idx73_inb : ∀ (v282 : IVec S16 32) (k1_hw73 : k1_chk73 v282), ∀ a x, ((![v282] : Fin 1 → IVec S16 32) a x).toNat < S65536.size a := fun v282 k1_hw73 => k1_hw73
@[reducible] def k1_t75_loop : Scf.Loop 32 :=
  let c0_i32_368 : BitVec 32 := 0#32
  let c64_i32_369 : BitVec 32 := 64#32
  let v78 : BitVec 32 := Scalar.addi c0_i32_368 c64_i32_369
  let c1_i32_370 : BitVec 32 := 1#32
  ⟨c0_i32_368, v78, c1_i32_370⟩
def k1_off77 (k1_t75 : Fin k1_t75_loop.trips) : Fin 2 → Nat :=
  let c9_i32 : BitVec 32 := 9#32
  let v267 : Index := Scalar.indexCast c9_i32
  let c0_i32_368 : BitVec 32 := 0#32
  let c1_i32_370 : BitVec 32 := 1#32
  let arg8 : BitVec 32 := Scf.iv c0_i32_368 c1_i32_370 k1_t75
  let c16_i32 : BitVec 32 := 16#32
  let v266 : BitVec 32 := Scalar.muli arg8 c16_i32
  let v268 : Index := Scalar.indexCast v266
  ![9, v268.toNat]

def k1_chk74 (v282 : IVec S16 32) : Prop :=
  (∀ a x, ((![v282] : Fin 1 → IVec S16 32) a x).toNat < S65536.size a)
theorem k1_idx74_inb : ∀ (v282 : IVec S16 32) (k1_hw74 : k1_chk74 v282), ∀ a x, ((![v282] : Fin 1 → IVec S16 32) a x).toNat < S65536.size a := fun v282 k1_hw74 => k1_hw74
@[reducible] def k1_t76_loop : Scf.Loop 32 :=
  let c0_i32_373 : BitVec 32 := 0#32
  let c64_i32_374 : BitVec 32 := 64#32
  let v79 : BitVec 32 := Scalar.addi c0_i32_373 c64_i32_374
  let c1_i32_375 : BitVec 32 := 1#32
  ⟨c0_i32_373, v79, c1_i32_375⟩
def k1_off78 (k1_t76 : Fin k1_t76_loop.trips) : Fin 2 → Nat :=
  let c10_i32_1282 : BitVec 32 := 10#32
  let v267 : Index := Scalar.indexCast c10_i32_1282
  let c0_i32_373 : BitVec 32 := 0#32
  let c1_i32_375 : BitVec 32 := 1#32
  let arg8 : BitVec 32 := Scf.iv c0_i32_373 c1_i32_375 k1_t76
  let c16_i32 : BitVec 32 := 16#32
  let v266 : BitVec 32 := Scalar.muli arg8 c16_i32
  let v268 : Index := Scalar.indexCast v266
  ![10, v268.toNat]

def k1_chk75 (v282 : IVec S16 32) : Prop :=
  (∀ a x, ((![v282] : Fin 1 → IVec S16 32) a x).toNat < S65536.size a)
theorem k1_idx75_inb : ∀ (v282 : IVec S16 32) (k1_hw75 : k1_chk75 v282), ∀ a x, ((![v282] : Fin 1 → IVec S16 32) a x).toNat < S65536.size a := fun v282 k1_hw75 => k1_hw75
@[reducible] def k1_t77_loop : Scf.Loop 32 :=
  let c0_i32_378 : BitVec 32 := 0#32
  let c64_i32_379 : BitVec 32 := 64#32
  let v80 : BitVec 32 := Scalar.addi c0_i32_378 c64_i32_379
  let c1_i32_380 : BitVec 32 := 1#32
  ⟨c0_i32_378, v80, c1_i32_380⟩
def k1_off79 (k1_t77 : Fin k1_t77_loop.trips) : Fin 2 → Nat :=
  let c11_i32 : BitVec 32 := 11#32
  let v267 : Index := Scalar.indexCast c11_i32
  let c0_i32_378 : BitVec 32 := 0#32
  let c1_i32_380 : BitVec 32 := 1#32
  let arg8 : BitVec 32 := Scf.iv c0_i32_378 c1_i32_380 k1_t77
  let c16_i32 : BitVec 32 := 16#32
  let v266 : BitVec 32 := Scalar.muli arg8 c16_i32
  let v268 : Index := Scalar.indexCast v266
  ![11, v268.toNat]

def k1_chk76 (v282 : IVec S16 32) : Prop :=
  (∀ a x, ((![v282] : Fin 1 → IVec S16 32) a x).toNat < S65536.size a)
theorem k1_idx76_inb : ∀ (v282 : IVec S16 32) (k1_hw76 : k1_chk76 v282), ∀ a x, ((![v282] : Fin 1 → IVec S16 32) a x).toNat < S65536.size a := fun v282 k1_hw76 => k1_hw76
@[reducible] def k1_t78_loop : Scf.Loop 32 :=
  let c0_i32_383 : BitVec 32 := 0#32
  let c64_i32_384 : BitVec 32 := 64#32
  let v81 : BitVec 32 := Scalar.addi c0_i32_383 c64_i32_384
  let c1_i32_385 : BitVec 32 := 1#32
  ⟨c0_i32_383, v81, c1_i32_385⟩
def k1_off80 (k1_t78 : Fin k1_t78_loop.trips) : Fin 2 → Nat :=
  let c12_i32_1282 : BitVec 32 := 12#32
  let v267 : Index := Scalar.indexCast c12_i32_1282
  let c0_i32_383 : BitVec 32 := 0#32
  let c1_i32_385 : BitVec 32 := 1#32
  let arg8 : BitVec 32 := Scf.iv c0_i32_383 c1_i32_385 k1_t78
  let c16_i32 : BitVec 32 := 16#32
  let v266 : BitVec 32 := Scalar.muli arg8 c16_i32
  let v268 : Index := Scalar.indexCast v266
  ![12, v268.toNat]

def k1_chk77 (v282 : IVec S16 32) : Prop :=
  (∀ a x, ((![v282] : Fin 1 → IVec S16 32) a x).toNat < S65536.size a)
theorem k1_idx77_inb : ∀ (v282 : IVec S16 32) (k1_hw77 : k1_chk77 v282), ∀ a x, ((![v282] : Fin 1 → IVec S16 32) a x).toNat < S65536.size a := fun v282 k1_hw77 => k1_hw77
@[reducible] def k1_t79_loop : Scf.Loop 32 :=
  let c0_i32_388 : BitVec 32 := 0#32
  let c64_i32_389 : BitVec 32 := 64#32
  let v82 : BitVec 32 := Scalar.addi c0_i32_388 c64_i32_389
  let c1_i32_390 : BitVec 32 := 1#32
  ⟨c0_i32_388, v82, c1_i32_390⟩
def k1_off81 (k1_t79 : Fin k1_t79_loop.trips) : Fin 2 → Nat :=
  let c13_i32 : BitVec 32 := 13#32
  let v267 : Index := Scalar.indexCast c13_i32
  let c0_i32_388 : BitVec 32 := 0#32
  let c1_i32_390 : BitVec 32 := 1#32
  let arg8 : BitVec 32 := Scf.iv c0_i32_388 c1_i32_390 k1_t79
  let c16_i32 : BitVec 32 := 16#32
  let v266 : BitVec 32 := Scalar.muli arg8 c16_i32
  let v268 : Index := Scalar.indexCast v266
  ![13, v268.toNat]

def k1_chk78 (v282 : IVec S16 32) : Prop :=
  (∀ a x, ((![v282] : Fin 1 → IVec S16 32) a x).toNat < S65536.size a)
theorem k1_idx78_inb : ∀ (v282 : IVec S16 32) (k1_hw78 : k1_chk78 v282), ∀ a x, ((![v282] : Fin 1 → IVec S16 32) a x).toNat < S65536.size a := fun v282 k1_hw78 => k1_hw78
@[reducible] def k1_t80_loop : Scf.Loop 32 :=
  let c0_i32_393 : BitVec 32 := 0#32
  let c64_i32_394 : BitVec 32 := 64#32
  let v83 : BitVec 32 := Scalar.addi c0_i32_393 c64_i32_394
  let c1_i32_395 : BitVec 32 := 1#32
  ⟨c0_i32_393, v83, c1_i32_395⟩
def k1_off82 (k1_t80 : Fin k1_t80_loop.trips) : Fin 2 → Nat :=
  let c14_i32_1282 : BitVec 32 := 14#32
  let v267 : Index := Scalar.indexCast c14_i32_1282
  let c0_i32_393 : BitVec 32 := 0#32
  let c1_i32_395 : BitVec 32 := 1#32
  let arg8 : BitVec 32 := Scf.iv c0_i32_393 c1_i32_395 k1_t80
  let c16_i32 : BitVec 32 := 16#32
  let v266 : BitVec 32 := Scalar.muli arg8 c16_i32
  let v268 : Index := Scalar.indexCast v266
  ![14, v268.toNat]

def k1_chk79 (v282 : IVec S16 32) : Prop :=
  (∀ a x, ((![v282] : Fin 1 → IVec S16 32) a x).toNat < S65536.size a)
theorem k1_idx79_inb : ∀ (v282 : IVec S16 32) (k1_hw79 : k1_chk79 v282), ∀ a x, ((![v282] : Fin 1 → IVec S16 32) a x).toNat < S65536.size a := fun v282 k1_hw79 => k1_hw79
@[reducible] def k1_t81_loop : Scf.Loop 32 :=
  let c0_i32_398 : BitVec 32 := 0#32
  let c64_i32_399 : BitVec 32 := 64#32
  let v84 : BitVec 32 := Scalar.addi c0_i32_398 c64_i32_399
  let c1_i32_400 : BitVec 32 := 1#32
  ⟨c0_i32_398, v84, c1_i32_400⟩
def k1_off83 (k1_t81 : Fin k1_t81_loop.trips) : Fin 2 → Nat :=
  let c15_i32 : BitVec 32 := 15#32
  let v267 : Index := Scalar.indexCast c15_i32
  let c0_i32_398 : BitVec 32 := 0#32
  let c1_i32_400 : BitVec 32 := 1#32
  let arg8 : BitVec 32 := Scf.iv c0_i32_398 c1_i32_400 k1_t81
  let c16_i32 : BitVec 32 := 16#32
  let v266 : BitVec 32 := Scalar.muli arg8 c16_i32
  let v268 : Index := Scalar.indexCast v266
  ![15, v268.toNat]

def k1_chk80 (v282 : IVec S16 32) : Prop :=
  (∀ a x, ((![v282] : Fin 1 → IVec S16 32) a x).toNat < S65536.size a)
theorem k1_idx80_inb : ∀ (v282 : IVec S16 32) (k1_hw80 : k1_chk80 v282), ∀ a x, ((![v282] : Fin 1 → IVec S16 32) a x).toNat < S65536.size a := fun v282 k1_hw80 => k1_hw80
@[reducible] def k1_t82_loop : Scf.Loop 32 :=
  let c0_i32_403 : BitVec 32 := 0#32
  let c64_i32_404 : BitVec 32 := 64#32
  let v85 : BitVec 32 := Scalar.addi c0_i32_403 c64_i32_404
  let c1_i32_405 : BitVec 32 := 1#32
  ⟨c0_i32_403, v85, c1_i32_405⟩
def k1_off84 (k1_t82 : Fin k1_t82_loop.trips) : Fin 2 → Nat :=
  let c0_i32_1282 : BitVec 32 := 0#32
  let v267 : Index := Scalar.indexCast c0_i32_1282
  let c0_i32_403 : BitVec 32 := 0#32
  let c1_i32_405 : BitVec 32 := 1#32
  let arg8 : BitVec 32 := Scf.iv c0_i32_403 c1_i32_405 k1_t82
  let c16_i32 : BitVec 32 := 16#32
  let v266 : BitVec 32 := Scalar.muli arg8 c16_i32
  let v268 : Index := Scalar.indexCast v266
  ![0, v268.toNat]

def k1_chk81 (v278 : IVec S16 32) : Prop :=
  (∀ a x, ((![v278] : Fin 1 → IVec S16 32) a x).toNat < S65536.size a)
theorem k1_idx81_inb : ∀ (v278 : IVec S16 32) (k1_hw81 : k1_chk81 v278), ∀ a x, ((![v278] : Fin 1 → IVec S16 32) a x).toNat < S65536.size a := fun v278 k1_hw81 => k1_hw81
@[reducible] def k1_t83_loop : Scf.Loop 32 :=
  let c0_i32_408 : BitVec 32 := 0#32
  let c64_i32_409 : BitVec 32 := 64#32
  let v86 : BitVec 32 := Scalar.addi c0_i32_408 c64_i32_409
  let c1_i32_410 : BitVec 32 := 1#32
  ⟨c0_i32_408, v86, c1_i32_410⟩
def k1_off85 (k1_t83 : Fin k1_t83_loop.trips) : Fin 2 → Nat :=
  let c1_i32_1282 : BitVec 32 := 1#32
  let v267 : Index := Scalar.indexCast c1_i32_1282
  let c0_i32_408 : BitVec 32 := 0#32
  let c1_i32_410 : BitVec 32 := 1#32
  let arg8 : BitVec 32 := Scf.iv c0_i32_408 c1_i32_410 k1_t83
  let c16_i32 : BitVec 32 := 16#32
  let v266 : BitVec 32 := Scalar.muli arg8 c16_i32
  let v268 : Index := Scalar.indexCast v266
  ![1, v268.toNat]

def k1_chk82 (v278 : IVec S16 32) : Prop :=
  (∀ a x, ((![v278] : Fin 1 → IVec S16 32) a x).toNat < S65536.size a)
theorem k1_idx82_inb : ∀ (v278 : IVec S16 32) (k1_hw82 : k1_chk82 v278), ∀ a x, ((![v278] : Fin 1 → IVec S16 32) a x).toNat < S65536.size a := fun v278 k1_hw82 => k1_hw82
@[reducible] def k1_t84_loop : Scf.Loop 32 :=
  let c0_i32_413 : BitVec 32 := 0#32
  let c64_i32_414 : BitVec 32 := 64#32
  let v87 : BitVec 32 := Scalar.addi c0_i32_413 c64_i32_414
  let c1_i32_415 : BitVec 32 := 1#32
  ⟨c0_i32_413, v87, c1_i32_415⟩
def k1_off86 (k1_t84 : Fin k1_t84_loop.trips) : Fin 2 → Nat :=
  let c2_i32_1282 : BitVec 32 := 2#32
  let v267 : Index := Scalar.indexCast c2_i32_1282
  let c0_i32_413 : BitVec 32 := 0#32
  let c1_i32_415 : BitVec 32 := 1#32
  let arg8 : BitVec 32 := Scf.iv c0_i32_413 c1_i32_415 k1_t84
  let c16_i32 : BitVec 32 := 16#32
  let v266 : BitVec 32 := Scalar.muli arg8 c16_i32
  let v268 : Index := Scalar.indexCast v266
  ![2, v268.toNat]

def k1_chk83 (v278 : IVec S16 32) : Prop :=
  (∀ a x, ((![v278] : Fin 1 → IVec S16 32) a x).toNat < S65536.size a)
theorem k1_idx83_inb : ∀ (v278 : IVec S16 32) (k1_hw83 : k1_chk83 v278), ∀ a x, ((![v278] : Fin 1 → IVec S16 32) a x).toNat < S65536.size a := fun v278 k1_hw83 => k1_hw83
@[reducible] def k1_t85_loop : Scf.Loop 32 :=
  let c0_i32_418 : BitVec 32 := 0#32
  let c64_i32_419 : BitVec 32 := 64#32
  let v88 : BitVec 32 := Scalar.addi c0_i32_418 c64_i32_419
  let c1_i32_420 : BitVec 32 := 1#32
  ⟨c0_i32_418, v88, c1_i32_420⟩
def k1_off87 (k1_t85 : Fin k1_t85_loop.trips) : Fin 2 → Nat :=
  let c3_i32 : BitVec 32 := 3#32
  let v267 : Index := Scalar.indexCast c3_i32
  let c0_i32_418 : BitVec 32 := 0#32
  let c1_i32_420 : BitVec 32 := 1#32
  let arg8 : BitVec 32 := Scf.iv c0_i32_418 c1_i32_420 k1_t85
  let c16_i32 : BitVec 32 := 16#32
  let v266 : BitVec 32 := Scalar.muli arg8 c16_i32
  let v268 : Index := Scalar.indexCast v266
  ![3, v268.toNat]

def k1_chk84 (v278 : IVec S16 32) : Prop :=
  (∀ a x, ((![v278] : Fin 1 → IVec S16 32) a x).toNat < S65536.size a)
theorem k1_idx84_inb : ∀ (v278 : IVec S16 32) (k1_hw84 : k1_chk84 v278), ∀ a x, ((![v278] : Fin 1 → IVec S16 32) a x).toNat < S65536.size a := fun v278 k1_hw84 => k1_hw84
@[reducible] def k1_t86_loop : Scf.Loop 32 :=
  let c0_i32_423 : BitVec 32 := 0#32
  let c64_i32_424 : BitVec 32 := 64#32
  let v89 : BitVec 32 := Scalar.addi c0_i32_423 c64_i32_424
  let c1_i32_425 : BitVec 32 := 1#32
  ⟨c0_i32_423, v89, c1_i32_425⟩
def k1_off88 (k1_t86 : Fin k1_t86_loop.trips) : Fin 2 → Nat :=
  let c4_i32_1282 : BitVec 32 := 4#32
  let v267 : Index := Scalar.indexCast c4_i32_1282
  let c0_i32_423 : BitVec 32 := 0#32
  let c1_i32_425 : BitVec 32 := 1#32
  let arg8 : BitVec 32 := Scf.iv c0_i32_423 c1_i32_425 k1_t86
  let c16_i32 : BitVec 32 := 16#32
  let v266 : BitVec 32 := Scalar.muli arg8 c16_i32
  let v268 : Index := Scalar.indexCast v266
  ![4, v268.toNat]

def k1_chk85 (v278 : IVec S16 32) : Prop :=
  (∀ a x, ((![v278] : Fin 1 → IVec S16 32) a x).toNat < S65536.size a)
theorem k1_idx85_inb : ∀ (v278 : IVec S16 32) (k1_hw85 : k1_chk85 v278), ∀ a x, ((![v278] : Fin 1 → IVec S16 32) a x).toNat < S65536.size a := fun v278 k1_hw85 => k1_hw85
@[reducible] def k1_t87_loop : Scf.Loop 32 :=
  let c0_i32_428 : BitVec 32 := 0#32
  let c64_i32_429 : BitVec 32 := 64#32
  let v90 : BitVec 32 := Scalar.addi c0_i32_428 c64_i32_429
  let c1_i32_430 : BitVec 32 := 1#32
  ⟨c0_i32_428, v90, c1_i32_430⟩
def k1_off89 (k1_t87 : Fin k1_t87_loop.trips) : Fin 2 → Nat :=
  let c5_i32 : BitVec 32 := 5#32
  let v267 : Index := Scalar.indexCast c5_i32
  let c0_i32_428 : BitVec 32 := 0#32
  let c1_i32_430 : BitVec 32 := 1#32
  let arg8 : BitVec 32 := Scf.iv c0_i32_428 c1_i32_430 k1_t87
  let c16_i32 : BitVec 32 := 16#32
  let v266 : BitVec 32 := Scalar.muli arg8 c16_i32
  let v268 : Index := Scalar.indexCast v266
  ![5, v268.toNat]

def k1_chk86 (v278 : IVec S16 32) : Prop :=
  (∀ a x, ((![v278] : Fin 1 → IVec S16 32) a x).toNat < S65536.size a)
theorem k1_idx86_inb : ∀ (v278 : IVec S16 32) (k1_hw86 : k1_chk86 v278), ∀ a x, ((![v278] : Fin 1 → IVec S16 32) a x).toNat < S65536.size a := fun v278 k1_hw86 => k1_hw86
@[reducible] def k1_t88_loop : Scf.Loop 32 :=
  let c0_i32_433 : BitVec 32 := 0#32
  let c64_i32_434 : BitVec 32 := 64#32
  let v91 : BitVec 32 := Scalar.addi c0_i32_433 c64_i32_434
  let c1_i32_435 : BitVec 32 := 1#32
  ⟨c0_i32_433, v91, c1_i32_435⟩
def k1_off90 (k1_t88 : Fin k1_t88_loop.trips) : Fin 2 → Nat :=
  let c6_i32_1282 : BitVec 32 := 6#32
  let v267 : Index := Scalar.indexCast c6_i32_1282
  let c0_i32_433 : BitVec 32 := 0#32
  let c1_i32_435 : BitVec 32 := 1#32
  let arg8 : BitVec 32 := Scf.iv c0_i32_433 c1_i32_435 k1_t88
  let c16_i32 : BitVec 32 := 16#32
  let v266 : BitVec 32 := Scalar.muli arg8 c16_i32
  let v268 : Index := Scalar.indexCast v266
  ![6, v268.toNat]

def k1_chk87 (v278 : IVec S16 32) : Prop :=
  (∀ a x, ((![v278] : Fin 1 → IVec S16 32) a x).toNat < S65536.size a)
theorem k1_idx87_inb : ∀ (v278 : IVec S16 32) (k1_hw87 : k1_chk87 v278), ∀ a x, ((![v278] : Fin 1 → IVec S16 32) a x).toNat < S65536.size a := fun v278 k1_hw87 => k1_hw87
@[reducible] def k1_t89_loop : Scf.Loop 32 :=
  let c0_i32_438 : BitVec 32 := 0#32
  let c64_i32_439 : BitVec 32 := 64#32
  let v92 : BitVec 32 := Scalar.addi c0_i32_438 c64_i32_439
  let c1_i32_440 : BitVec 32 := 1#32
  ⟨c0_i32_438, v92, c1_i32_440⟩
def k1_off91 (k1_t89 : Fin k1_t89_loop.trips) : Fin 2 → Nat :=
  let c7_i32 : BitVec 32 := 7#32
  let v267 : Index := Scalar.indexCast c7_i32
  let c0_i32_438 : BitVec 32 := 0#32
  let c1_i32_440 : BitVec 32 := 1#32
  let arg8 : BitVec 32 := Scf.iv c0_i32_438 c1_i32_440 k1_t89
  let c16_i32 : BitVec 32 := 16#32
  let v266 : BitVec 32 := Scalar.muli arg8 c16_i32
  let v268 : Index := Scalar.indexCast v266
  ![7, v268.toNat]

def k1_chk88 (v278 : IVec S16 32) : Prop :=
  (∀ a x, ((![v278] : Fin 1 → IVec S16 32) a x).toNat < S65536.size a)
theorem k1_idx88_inb : ∀ (v278 : IVec S16 32) (k1_hw88 : k1_chk88 v278), ∀ a x, ((![v278] : Fin 1 → IVec S16 32) a x).toNat < S65536.size a := fun v278 k1_hw88 => k1_hw88
@[reducible] def k1_t90_loop : Scf.Loop 32 :=
  let c0_i32_443 : BitVec 32 := 0#32
  let c64_i32_444 : BitVec 32 := 64#32
  let v93 : BitVec 32 := Scalar.addi c0_i32_443 c64_i32_444
  let c1_i32_445 : BitVec 32 := 1#32
  ⟨c0_i32_443, v93, c1_i32_445⟩
def k1_off92 (k1_t90 : Fin k1_t90_loop.trips) : Fin 2 → Nat :=
  let c8_i32_1282 : BitVec 32 := 8#32
  let v267 : Index := Scalar.indexCast c8_i32_1282
  let c0_i32_443 : BitVec 32 := 0#32
  let c1_i32_445 : BitVec 32 := 1#32
  let arg8 : BitVec 32 := Scf.iv c0_i32_443 c1_i32_445 k1_t90
  let c16_i32 : BitVec 32 := 16#32
  let v266 : BitVec 32 := Scalar.muli arg8 c16_i32
  let v268 : Index := Scalar.indexCast v266
  ![8, v268.toNat]

def k1_chk89 (v278 : IVec S16 32) : Prop :=
  (∀ a x, ((![v278] : Fin 1 → IVec S16 32) a x).toNat < S65536.size a)
theorem k1_idx89_inb : ∀ (v278 : IVec S16 32) (k1_hw89 : k1_chk89 v278), ∀ a x, ((![v278] : Fin 1 → IVec S16 32) a x).toNat < S65536.size a := fun v278 k1_hw89 => k1_hw89
@[reducible] def k1_t91_loop : Scf.Loop 32 :=
  let c0_i32_448 : BitVec 32 := 0#32
  let c64_i32_449 : BitVec 32 := 64#32
  let v94 : BitVec 32 := Scalar.addi c0_i32_448 c64_i32_449
  let c1_i32_450 : BitVec 32 := 1#32
  ⟨c0_i32_448, v94, c1_i32_450⟩
def k1_off93 (k1_t91 : Fin k1_t91_loop.trips) : Fin 2 → Nat :=
  let c9_i32 : BitVec 32 := 9#32
  let v267 : Index := Scalar.indexCast c9_i32
  let c0_i32_448 : BitVec 32 := 0#32
  let c1_i32_450 : BitVec 32 := 1#32
  let arg8 : BitVec 32 := Scf.iv c0_i32_448 c1_i32_450 k1_t91
  let c16_i32 : BitVec 32 := 16#32
  let v266 : BitVec 32 := Scalar.muli arg8 c16_i32
  let v268 : Index := Scalar.indexCast v266
  ![9, v268.toNat]

def k1_chk90 (v278 : IVec S16 32) : Prop :=
  (∀ a x, ((![v278] : Fin 1 → IVec S16 32) a x).toNat < S65536.size a)
theorem k1_idx90_inb : ∀ (v278 : IVec S16 32) (k1_hw90 : k1_chk90 v278), ∀ a x, ((![v278] : Fin 1 → IVec S16 32) a x).toNat < S65536.size a := fun v278 k1_hw90 => k1_hw90
@[reducible] def k1_t92_loop : Scf.Loop 32 :=
  let c0_i32_453 : BitVec 32 := 0#32
  let c64_i32_454 : BitVec 32 := 64#32
  let v95 : BitVec 32 := Scalar.addi c0_i32_453 c64_i32_454
  let c1_i32_455 : BitVec 32 := 1#32
  ⟨c0_i32_453, v95, c1_i32_455⟩
def k1_off94 (k1_t92 : Fin k1_t92_loop.trips) : Fin 2 → Nat :=
  let c10_i32_1282 : BitVec 32 := 10#32
  let v267 : Index := Scalar.indexCast c10_i32_1282
  let c0_i32_453 : BitVec 32 := 0#32
  let c1_i32_455 : BitVec 32 := 1#32
  let arg8 : BitVec 32 := Scf.iv c0_i32_453 c1_i32_455 k1_t92
  let c16_i32 : BitVec 32 := 16#32
  let v266 : BitVec 32 := Scalar.muli arg8 c16_i32
  let v268 : Index := Scalar.indexCast v266
  ![10, v268.toNat]

def k1_chk91 (v278 : IVec S16 32) : Prop :=
  (∀ a x, ((![v278] : Fin 1 → IVec S16 32) a x).toNat < S65536.size a)
theorem k1_idx91_inb : ∀ (v278 : IVec S16 32) (k1_hw91 : k1_chk91 v278), ∀ a x, ((![v278] : Fin 1 → IVec S16 32) a x).toNat < S65536.size a := fun v278 k1_hw91 => k1_hw91
@[reducible] def k1_t93_loop : Scf.Loop 32 :=
  let c0_i32_458 : BitVec 32 := 0#32
  let c64_i32_459 : BitVec 32 := 64#32
  let v96 : BitVec 32 := Scalar.addi c0_i32_458 c64_i32_459
  let c1_i32_460 : BitVec 32 := 1#32
  ⟨c0_i32_458, v96, c1_i32_460⟩
def k1_off95 (k1_t93 : Fin k1_t93_loop.trips) : Fin 2 → Nat :=
  let c11_i32 : BitVec 32 := 11#32
  let v267 : Index := Scalar.indexCast c11_i32
  let c0_i32_458 : BitVec 32 := 0#32
  let c1_i32_460 : BitVec 32 := 1#32
  let arg8 : BitVec 32 := Scf.iv c0_i32_458 c1_i32_460 k1_t93
  let c16_i32 : BitVec 32 := 16#32
  let v266 : BitVec 32 := Scalar.muli arg8 c16_i32
  let v268 : Index := Scalar.indexCast v266
  ![11, v268.toNat]

def k1_chk92 (v278 : IVec S16 32) : Prop :=
  (∀ a x, ((![v278] : Fin 1 → IVec S16 32) a x).toNat < S65536.size a)
theorem k1_idx92_inb : ∀ (v278 : IVec S16 32) (k1_hw92 : k1_chk92 v278), ∀ a x, ((![v278] : Fin 1 → IVec S16 32) a x).toNat < S65536.size a := fun v278 k1_hw92 => k1_hw92
@[reducible] def k1_t94_loop : Scf.Loop 32 :=
  let c0_i32_463 : BitVec 32 := 0#32
  let c64_i32_464 : BitVec 32 := 64#32
  let v97 : BitVec 32 := Scalar.addi c0_i32_463 c64_i32_464
  let c1_i32_465 : BitVec 32 := 1#32
  ⟨c0_i32_463, v97, c1_i32_465⟩
def k1_off96 (k1_t94 : Fin k1_t94_loop.trips) : Fin 2 → Nat :=
  let c12_i32_1282 : BitVec 32 := 12#32
  let v267 : Index := Scalar.indexCast c12_i32_1282
  let c0_i32_463 : BitVec 32 := 0#32
  let c1_i32_465 : BitVec 32 := 1#32
  let arg8 : BitVec 32 := Scf.iv c0_i32_463 c1_i32_465 k1_t94
  let c16_i32 : BitVec 32 := 16#32
  let v266 : BitVec 32 := Scalar.muli arg8 c16_i32
  let v268 : Index := Scalar.indexCast v266
  ![12, v268.toNat]

def k1_chk93 (v278 : IVec S16 32) : Prop :=
  (∀ a x, ((![v278] : Fin 1 → IVec S16 32) a x).toNat < S65536.size a)
theorem k1_idx93_inb : ∀ (v278 : IVec S16 32) (k1_hw93 : k1_chk93 v278), ∀ a x, ((![v278] : Fin 1 → IVec S16 32) a x).toNat < S65536.size a := fun v278 k1_hw93 => k1_hw93
@[reducible] def k1_t95_loop : Scf.Loop 32 :=
  let c0_i32_468 : BitVec 32 := 0#32
  let c64_i32_469 : BitVec 32 := 64#32
  let v98 : BitVec 32 := Scalar.addi c0_i32_468 c64_i32_469
  let c1_i32_470 : BitVec 32 := 1#32
  ⟨c0_i32_468, v98, c1_i32_470⟩
def k1_off97 (k1_t95 : Fin k1_t95_loop.trips) : Fin 2 → Nat :=
  let c13_i32 : BitVec 32 := 13#32
  let v267 : Index := Scalar.indexCast c13_i32
  let c0_i32_468 : BitVec 32 := 0#32
  let c1_i32_470 : BitVec 32 := 1#32
  let arg8 : BitVec 32 := Scf.iv c0_i32_468 c1_i32_470 k1_t95
  let c16_i32 : BitVec 32 := 16#32
  let v266 : BitVec 32 := Scalar.muli arg8 c16_i32
  let v268 : Index := Scalar.indexCast v266
  ![13, v268.toNat]

def k1_chk94 (v278 : IVec S16 32) : Prop :=
  (∀ a x, ((![v278] : Fin 1 → IVec S16 32) a x).toNat < S65536.size a)
theorem k1_idx94_inb : ∀ (v278 : IVec S16 32) (k1_hw94 : k1_chk94 v278), ∀ a x, ((![v278] : Fin 1 → IVec S16 32) a x).toNat < S65536.size a := fun v278 k1_hw94 => k1_hw94
@[reducible] def k1_t96_loop : Scf.Loop 32 :=
  let c0_i32_473 : BitVec 32 := 0#32
  let c64_i32_474 : BitVec 32 := 64#32
  let v99 : BitVec 32 := Scalar.addi c0_i32_473 c64_i32_474
  let c1_i32_475 : BitVec 32 := 1#32
  ⟨c0_i32_473, v99, c1_i32_475⟩
def k1_off98 (k1_t96 : Fin k1_t96_loop.trips) : Fin 2 → Nat :=
  let c14_i32_1282 : BitVec 32 := 14#32
  let v267 : Index := Scalar.indexCast c14_i32_1282
  let c0_i32_473 : BitVec 32 := 0#32
  let c1_i32_475 : BitVec 32 := 1#32
  let arg8 : BitVec 32 := Scf.iv c0_i32_473 c1_i32_475 k1_t96
  let c16_i32 : BitVec 32 := 16#32
  let v266 : BitVec 32 := Scalar.muli arg8 c16_i32
  let v268 : Index := Scalar.indexCast v266
  ![14, v268.toNat]

def k1_chk95 (v278 : IVec S16 32) : Prop :=
  (∀ a x, ((![v278] : Fin 1 → IVec S16 32) a x).toNat < S65536.size a)
theorem k1_idx95_inb : ∀ (v278 : IVec S16 32) (k1_hw95 : k1_chk95 v278), ∀ a x, ((![v278] : Fin 1 → IVec S16 32) a x).toNat < S65536.size a := fun v278 k1_hw95 => k1_hw95
@[reducible] def k1_t97_loop : Scf.Loop 32 :=
  let c0_i32_478 : BitVec 32 := 0#32
  let c64_i32_479 : BitVec 32 := 64#32
  let v100 : BitVec 32 := Scalar.addi c0_i32_478 c64_i32_479
  let c1_i32_480 : BitVec 32 := 1#32
  ⟨c0_i32_478, v100, c1_i32_480⟩
def k1_off99 (k1_t97 : Fin k1_t97_loop.trips) : Fin 2 → Nat :=
  let c15_i32 : BitVec 32 := 15#32
  let v267 : Index := Scalar.indexCast c15_i32
  let c0_i32_478 : BitVec 32 := 0#32
  let c1_i32_480 : BitVec 32 := 1#32
  let arg8 : BitVec 32 := Scf.iv c0_i32_478 c1_i32_480 k1_t97
  let c16_i32 : BitVec 32 := 16#32
  let v266 : BitVec 32 := Scalar.muli arg8 c16_i32
  let v268 : Index := Scalar.indexCast v266
  ![15, v268.toNat]

def k1_chk96 (v278 : IVec S16 32) : Prop :=
  (∀ a x, ((![v278] : Fin 1 → IVec S16 32) a x).toNat < S65536.size a)
theorem k1_idx96_inb : ∀ (v278 : IVec S16 32) (k1_hw96 : k1_chk96 v278), ∀ a x, ((![v278] : Fin 1 → IVec S16 32) a x).toNat < S65536.size a := fun v278 k1_hw96 => k1_hw96
@[reducible] def k1_t98_loop : Scf.Loop 32 :=
  let c0_i32_483 : BitVec 32 := 0#32
  let c64_i32_484 : BitVec 32 := 64#32
  let v102 : BitVec 32 := Scalar.addi c0_i32_483 c64_i32_484
  let c1_i32_485 : BitVec 32 := 1#32
  ⟨c0_i32_483, v102, c1_i32_485⟩
def k1_off100 (k1_t98 : Fin k1_t98_loop.trips) : Fin 2 → Nat :=
  let c0_i32_1282 : BitVec 32 := 0#32
  let v267 : Index := Scalar.indexCast c0_i32_1282
  let c0_i32_483 : BitVec 32 := 0#32
  let c1_i32_485 : BitVec 32 := 1#32
  let arg8 : BitVec 32 := Scf.iv c0_i32_483 c1_i32_485 k1_t98
  let c16_i32 : BitVec 32 := 16#32
  let v266 : BitVec 32 := Scalar.muli arg8 c16_i32
  let v268 : Index := Scalar.indexCast v266
  ![0, v268.toNat]

def k1_chk97 (v282 : IVec S16 32) : Prop :=
  (∀ a x, ((![v282] : Fin 1 → IVec S16 32) a x).toNat < S65536.size a)
theorem k1_idx97_inb : ∀ (v282 : IVec S16 32) (k1_hw97 : k1_chk97 v282), ∀ a x, ((![v282] : Fin 1 → IVec S16 32) a x).toNat < S65536.size a := fun v282 k1_hw97 => k1_hw97
@[reducible] def k1_t99_loop : Scf.Loop 32 :=
  let c0_i32_488 : BitVec 32 := 0#32
  let c64_i32_489 : BitVec 32 := 64#32
  let v103 : BitVec 32 := Scalar.addi c0_i32_488 c64_i32_489
  let c1_i32_490 : BitVec 32 := 1#32
  ⟨c0_i32_488, v103, c1_i32_490⟩
def k1_off101 (k1_t99 : Fin k1_t99_loop.trips) : Fin 2 → Nat :=
  let c1_i32_1282 : BitVec 32 := 1#32
  let v267 : Index := Scalar.indexCast c1_i32_1282
  let c0_i32_488 : BitVec 32 := 0#32
  let c1_i32_490 : BitVec 32 := 1#32
  let arg8 : BitVec 32 := Scf.iv c0_i32_488 c1_i32_490 k1_t99
  let c16_i32 : BitVec 32 := 16#32
  let v266 : BitVec 32 := Scalar.muli arg8 c16_i32
  let v268 : Index := Scalar.indexCast v266
  ![1, v268.toNat]

def k1_chk98 (v282 : IVec S16 32) : Prop :=
  (∀ a x, ((![v282] : Fin 1 → IVec S16 32) a x).toNat < S65536.size a)
theorem k1_idx98_inb : ∀ (v282 : IVec S16 32) (k1_hw98 : k1_chk98 v282), ∀ a x, ((![v282] : Fin 1 → IVec S16 32) a x).toNat < S65536.size a := fun v282 k1_hw98 => k1_hw98
@[reducible] def k1_t100_loop : Scf.Loop 32 :=
  let c0_i32_493 : BitVec 32 := 0#32
  let c64_i32_494 : BitVec 32 := 64#32
  let v104 : BitVec 32 := Scalar.addi c0_i32_493 c64_i32_494
  let c1_i32_495 : BitVec 32 := 1#32
  ⟨c0_i32_493, v104, c1_i32_495⟩
def k1_off102 (k1_t100 : Fin k1_t100_loop.trips) : Fin 2 → Nat :=
  let c2_i32_1282 : BitVec 32 := 2#32
  let v267 : Index := Scalar.indexCast c2_i32_1282
  let c0_i32_493 : BitVec 32 := 0#32
  let c1_i32_495 : BitVec 32 := 1#32
  let arg8 : BitVec 32 := Scf.iv c0_i32_493 c1_i32_495 k1_t100
  let c16_i32 : BitVec 32 := 16#32
  let v266 : BitVec 32 := Scalar.muli arg8 c16_i32
  let v268 : Index := Scalar.indexCast v266
  ![2, v268.toNat]

def k1_chk99 (v282 : IVec S16 32) : Prop :=
  (∀ a x, ((![v282] : Fin 1 → IVec S16 32) a x).toNat < S65536.size a)
theorem k1_idx99_inb : ∀ (v282 : IVec S16 32) (k1_hw99 : k1_chk99 v282), ∀ a x, ((![v282] : Fin 1 → IVec S16 32) a x).toNat < S65536.size a := fun v282 k1_hw99 => k1_hw99
@[reducible] def k1_t101_loop : Scf.Loop 32 :=
  let c0_i32_498 : BitVec 32 := 0#32
  let c64_i32_499 : BitVec 32 := 64#32
  let v105 : BitVec 32 := Scalar.addi c0_i32_498 c64_i32_499
  let c1_i32_500 : BitVec 32 := 1#32
  ⟨c0_i32_498, v105, c1_i32_500⟩
def k1_off103 (k1_t101 : Fin k1_t101_loop.trips) : Fin 2 → Nat :=
  let c3_i32 : BitVec 32 := 3#32
  let v267 : Index := Scalar.indexCast c3_i32
  let c0_i32_498 : BitVec 32 := 0#32
  let c1_i32_500 : BitVec 32 := 1#32
  let arg8 : BitVec 32 := Scf.iv c0_i32_498 c1_i32_500 k1_t101
  let c16_i32 : BitVec 32 := 16#32
  let v266 : BitVec 32 := Scalar.muli arg8 c16_i32
  let v268 : Index := Scalar.indexCast v266
  ![3, v268.toNat]

def k1_chk100 (v282 : IVec S16 32) : Prop :=
  (∀ a x, ((![v282] : Fin 1 → IVec S16 32) a x).toNat < S65536.size a)
theorem k1_idx100_inb : ∀ (v282 : IVec S16 32) (k1_hw100 : k1_chk100 v282), ∀ a x, ((![v282] : Fin 1 → IVec S16 32) a x).toNat < S65536.size a := fun v282 k1_hw100 => k1_hw100
@[reducible] def k1_t102_loop : Scf.Loop 32 :=
  let c0_i32_503 : BitVec 32 := 0#32
  let c64_i32_504 : BitVec 32 := 64#32
  let v106 : BitVec 32 := Scalar.addi c0_i32_503 c64_i32_504
  let c1_i32_505 : BitVec 32 := 1#32
  ⟨c0_i32_503, v106, c1_i32_505⟩
def k1_off104 (k1_t102 : Fin k1_t102_loop.trips) : Fin 2 → Nat :=
  let c4_i32_1282 : BitVec 32 := 4#32
  let v267 : Index := Scalar.indexCast c4_i32_1282
  let c0_i32_503 : BitVec 32 := 0#32
  let c1_i32_505 : BitVec 32 := 1#32
  let arg8 : BitVec 32 := Scf.iv c0_i32_503 c1_i32_505 k1_t102
  let c16_i32 : BitVec 32 := 16#32
  let v266 : BitVec 32 := Scalar.muli arg8 c16_i32
  let v268 : Index := Scalar.indexCast v266
  ![4, v268.toNat]

def k1_chk101 (v282 : IVec S16 32) : Prop :=
  (∀ a x, ((![v282] : Fin 1 → IVec S16 32) a x).toNat < S65536.size a)
theorem k1_idx101_inb : ∀ (v282 : IVec S16 32) (k1_hw101 : k1_chk101 v282), ∀ a x, ((![v282] : Fin 1 → IVec S16 32) a x).toNat < S65536.size a := fun v282 k1_hw101 => k1_hw101
@[reducible] def k1_t103_loop : Scf.Loop 32 :=
  let c0_i32_508 : BitVec 32 := 0#32
  let c64_i32_509 : BitVec 32 := 64#32
  let v107 : BitVec 32 := Scalar.addi c0_i32_508 c64_i32_509
  let c1_i32_510 : BitVec 32 := 1#32
  ⟨c0_i32_508, v107, c1_i32_510⟩
def k1_off105 (k1_t103 : Fin k1_t103_loop.trips) : Fin 2 → Nat :=
  let c5_i32 : BitVec 32 := 5#32
  let v267 : Index := Scalar.indexCast c5_i32
  let c0_i32_508 : BitVec 32 := 0#32
  let c1_i32_510 : BitVec 32 := 1#32
  let arg8 : BitVec 32 := Scf.iv c0_i32_508 c1_i32_510 k1_t103
  let c16_i32 : BitVec 32 := 16#32
  let v266 : BitVec 32 := Scalar.muli arg8 c16_i32
  let v268 : Index := Scalar.indexCast v266
  ![5, v268.toNat]

def k1_chk102 (v282 : IVec S16 32) : Prop :=
  (∀ a x, ((![v282] : Fin 1 → IVec S16 32) a x).toNat < S65536.size a)
theorem k1_idx102_inb : ∀ (v282 : IVec S16 32) (k1_hw102 : k1_chk102 v282), ∀ a x, ((![v282] : Fin 1 → IVec S16 32) a x).toNat < S65536.size a := fun v282 k1_hw102 => k1_hw102
@[reducible] def k1_t104_loop : Scf.Loop 32 :=
  let c0_i32_513 : BitVec 32 := 0#32
  let c64_i32_514 : BitVec 32 := 64#32
  let v108 : BitVec 32 := Scalar.addi c0_i32_513 c64_i32_514
  let c1_i32_515 : BitVec 32 := 1#32
  ⟨c0_i32_513, v108, c1_i32_515⟩
def k1_off106 (k1_t104 : Fin k1_t104_loop.trips) : Fin 2 → Nat :=
  let c6_i32_1282 : BitVec 32 := 6#32
  let v267 : Index := Scalar.indexCast c6_i32_1282
  let c0_i32_513 : BitVec 32 := 0#32
  let c1_i32_515 : BitVec 32 := 1#32
  let arg8 : BitVec 32 := Scf.iv c0_i32_513 c1_i32_515 k1_t104
  let c16_i32 : BitVec 32 := 16#32
  let v266 : BitVec 32 := Scalar.muli arg8 c16_i32
  let v268 : Index := Scalar.indexCast v266
  ![6, v268.toNat]

def k1_chk103 (v282 : IVec S16 32) : Prop :=
  (∀ a x, ((![v282] : Fin 1 → IVec S16 32) a x).toNat < S65536.size a)
theorem k1_idx103_inb : ∀ (v282 : IVec S16 32) (k1_hw103 : k1_chk103 v282), ∀ a x, ((![v282] : Fin 1 → IVec S16 32) a x).toNat < S65536.size a := fun v282 k1_hw103 => k1_hw103
@[reducible] def k1_t105_loop : Scf.Loop 32 :=
  let c0_i32_518 : BitVec 32 := 0#32
  let c64_i32_519 : BitVec 32 := 64#32
  let v109 : BitVec 32 := Scalar.addi c0_i32_518 c64_i32_519
  let c1_i32_520 : BitVec 32 := 1#32
  ⟨c0_i32_518, v109, c1_i32_520⟩
def k1_off107 (k1_t105 : Fin k1_t105_loop.trips) : Fin 2 → Nat :=
  let c7_i32 : BitVec 32 := 7#32
  let v267 : Index := Scalar.indexCast c7_i32
  let c0_i32_518 : BitVec 32 := 0#32
  let c1_i32_520 : BitVec 32 := 1#32
  let arg8 : BitVec 32 := Scf.iv c0_i32_518 c1_i32_520 k1_t105
  let c16_i32 : BitVec 32 := 16#32
  let v266 : BitVec 32 := Scalar.muli arg8 c16_i32
  let v268 : Index := Scalar.indexCast v266
  ![7, v268.toNat]

def k1_chk104 (v282 : IVec S16 32) : Prop :=
  (∀ a x, ((![v282] : Fin 1 → IVec S16 32) a x).toNat < S65536.size a)
theorem k1_idx104_inb : ∀ (v282 : IVec S16 32) (k1_hw104 : k1_chk104 v282), ∀ a x, ((![v282] : Fin 1 → IVec S16 32) a x).toNat < S65536.size a := fun v282 k1_hw104 => k1_hw104
@[reducible] def k1_t106_loop : Scf.Loop 32 :=
  let c0_i32_523 : BitVec 32 := 0#32
  let c64_i32_524 : BitVec 32 := 64#32
  let v110 : BitVec 32 := Scalar.addi c0_i32_523 c64_i32_524
  let c1_i32_525 : BitVec 32 := 1#32
  ⟨c0_i32_523, v110, c1_i32_525⟩
def k1_off108 (k1_t106 : Fin k1_t106_loop.trips) : Fin 2 → Nat :=
  let c8_i32_1282 : BitVec 32 := 8#32
  let v267 : Index := Scalar.indexCast c8_i32_1282
  let c0_i32_523 : BitVec 32 := 0#32
  let c1_i32_525 : BitVec 32 := 1#32
  let arg8 : BitVec 32 := Scf.iv c0_i32_523 c1_i32_525 k1_t106
  let c16_i32 : BitVec 32 := 16#32
  let v266 : BitVec 32 := Scalar.muli arg8 c16_i32
  let v268 : Index := Scalar.indexCast v266
  ![8, v268.toNat]

def k1_chk105 (v282 : IVec S16 32) : Prop :=
  (∀ a x, ((![v282] : Fin 1 → IVec S16 32) a x).toNat < S65536.size a)
theorem k1_idx105_inb : ∀ (v282 : IVec S16 32) (k1_hw105 : k1_chk105 v282), ∀ a x, ((![v282] : Fin 1 → IVec S16 32) a x).toNat < S65536.size a := fun v282 k1_hw105 => k1_hw105
@[reducible] def k1_t107_loop : Scf.Loop 32 :=
  let c0_i32_528 : BitVec 32 := 0#32
  let c64_i32_529 : BitVec 32 := 64#32
  let v111 : BitVec 32 := Scalar.addi c0_i32_528 c64_i32_529
  let c1_i32_530 : BitVec 32 := 1#32
  ⟨c0_i32_528, v111, c1_i32_530⟩
def k1_off109 (k1_t107 : Fin k1_t107_loop.trips) : Fin 2 → Nat :=
  let c9_i32 : BitVec 32 := 9#32
  let v267 : Index := Scalar.indexCast c9_i32
  let c0_i32_528 : BitVec 32 := 0#32
  let c1_i32_530 : BitVec 32 := 1#32
  let arg8 : BitVec 32 := Scf.iv c0_i32_528 c1_i32_530 k1_t107
  let c16_i32 : BitVec 32 := 16#32
  let v266 : BitVec 32 := Scalar.muli arg8 c16_i32
  let v268 : Index := Scalar.indexCast v266
  ![9, v268.toNat]

def k1_chk106 (v282 : IVec S16 32) : Prop :=
  (∀ a x, ((![v282] : Fin 1 → IVec S16 32) a x).toNat < S65536.size a)
theorem k1_idx106_inb : ∀ (v282 : IVec S16 32) (k1_hw106 : k1_chk106 v282), ∀ a x, ((![v282] : Fin 1 → IVec S16 32) a x).toNat < S65536.size a := fun v282 k1_hw106 => k1_hw106
@[reducible] def k1_t108_loop : Scf.Loop 32 :=
  let c0_i32_533 : BitVec 32 := 0#32
  let c64_i32_534 : BitVec 32 := 64#32
  let v112 : BitVec 32 := Scalar.addi c0_i32_533 c64_i32_534
  let c1_i32_535 : BitVec 32 := 1#32
  ⟨c0_i32_533, v112, c1_i32_535⟩
def k1_off110 (k1_t108 : Fin k1_t108_loop.trips) : Fin 2 → Nat :=
  let c10_i32_1282 : BitVec 32 := 10#32
  let v267 : Index := Scalar.indexCast c10_i32_1282
  let c0_i32_533 : BitVec 32 := 0#32
  let c1_i32_535 : BitVec 32 := 1#32
  let arg8 : BitVec 32 := Scf.iv c0_i32_533 c1_i32_535 k1_t108
  let c16_i32 : BitVec 32 := 16#32
  let v266 : BitVec 32 := Scalar.muli arg8 c16_i32
  let v268 : Index := Scalar.indexCast v266
  ![10, v268.toNat]

def k1_chk107 (v282 : IVec S16 32) : Prop :=
  (∀ a x, ((![v282] : Fin 1 → IVec S16 32) a x).toNat < S65536.size a)
theorem k1_idx107_inb : ∀ (v282 : IVec S16 32) (k1_hw107 : k1_chk107 v282), ∀ a x, ((![v282] : Fin 1 → IVec S16 32) a x).toNat < S65536.size a := fun v282 k1_hw107 => k1_hw107
@[reducible] def k1_t109_loop : Scf.Loop 32 :=
  let c0_i32_538 : BitVec 32 := 0#32
  let c64_i32_539 : BitVec 32 := 64#32
  let v113 : BitVec 32 := Scalar.addi c0_i32_538 c64_i32_539
  let c1_i32_540 : BitVec 32 := 1#32
  ⟨c0_i32_538, v113, c1_i32_540⟩
def k1_off111 (k1_t109 : Fin k1_t109_loop.trips) : Fin 2 → Nat :=
  let c11_i32 : BitVec 32 := 11#32
  let v267 : Index := Scalar.indexCast c11_i32
  let c0_i32_538 : BitVec 32 := 0#32
  let c1_i32_540 : BitVec 32 := 1#32
  let arg8 : BitVec 32 := Scf.iv c0_i32_538 c1_i32_540 k1_t109
  let c16_i32 : BitVec 32 := 16#32
  let v266 : BitVec 32 := Scalar.muli arg8 c16_i32
  let v268 : Index := Scalar.indexCast v266
  ![11, v268.toNat]

def k1_chk108 (v282 : IVec S16 32) : Prop :=
  (∀ a x, ((![v282] : Fin 1 → IVec S16 32) a x).toNat < S65536.size a)
theorem k1_idx108_inb : ∀ (v282 : IVec S16 32) (k1_hw108 : k1_chk108 v282), ∀ a x, ((![v282] : Fin 1 → IVec S16 32) a x).toNat < S65536.size a := fun v282 k1_hw108 => k1_hw108
@[reducible] def k1_t110_loop : Scf.Loop 32 :=
  let c0_i32_543 : BitVec 32 := 0#32
  let c64_i32_544 : BitVec 32 := 64#32
  let v114 : BitVec 32 := Scalar.addi c0_i32_543 c64_i32_544
  let c1_i32_545 : BitVec 32 := 1#32
  ⟨c0_i32_543, v114, c1_i32_545⟩
def k1_off112 (k1_t110 : Fin k1_t110_loop.trips) : Fin 2 → Nat :=
  let c12_i32_1282 : BitVec 32 := 12#32
  let v267 : Index := Scalar.indexCast c12_i32_1282
  let c0_i32_543 : BitVec 32 := 0#32
  let c1_i32_545 : BitVec 32 := 1#32
  let arg8 : BitVec 32 := Scf.iv c0_i32_543 c1_i32_545 k1_t110
  let c16_i32 : BitVec 32 := 16#32
  let v266 : BitVec 32 := Scalar.muli arg8 c16_i32
  let v268 : Index := Scalar.indexCast v266
  ![12, v268.toNat]

def k1_chk109 (v282 : IVec S16 32) : Prop :=
  (∀ a x, ((![v282] : Fin 1 → IVec S16 32) a x).toNat < S65536.size a)
theorem k1_idx109_inb : ∀ (v282 : IVec S16 32) (k1_hw109 : k1_chk109 v282), ∀ a x, ((![v282] : Fin 1 → IVec S16 32) a x).toNat < S65536.size a := fun v282 k1_hw109 => k1_hw109
@[reducible] def k1_t111_loop : Scf.Loop 32 :=
  let c0_i32_548 : BitVec 32 := 0#32
  let c64_i32_549 : BitVec 32 := 64#32
  let v115 : BitVec 32 := Scalar.addi c0_i32_548 c64_i32_549
  let c1_i32_550 : BitVec 32 := 1#32
  ⟨c0_i32_548, v115, c1_i32_550⟩
def k1_off113 (k1_t111 : Fin k1_t111_loop.trips) : Fin 2 → Nat :=
  let c13_i32 : BitVec 32 := 13#32
  let v267 : Index := Scalar.indexCast c13_i32
  let c0_i32_548 : BitVec 32 := 0#32
  let c1_i32_550 : BitVec 32 := 1#32
  let arg8 : BitVec 32 := Scf.iv c0_i32_548 c1_i32_550 k1_t111
  let c16_i32 : BitVec 32 := 16#32
  let v266 : BitVec 32 := Scalar.muli arg8 c16_i32
  let v268 : Index := Scalar.indexCast v266
  ![13, v268.toNat]

def k1_chk110 (v282 : IVec S16 32) : Prop :=
  (∀ a x, ((![v282] : Fin 1 → IVec S16 32) a x).toNat < S65536.size a)
theorem k1_idx110_inb : ∀ (v282 : IVec S16 32) (k1_hw110 : k1_chk110 v282), ∀ a x, ((![v282] : Fin 1 → IVec S16 32) a x).toNat < S65536.size a := fun v282 k1_hw110 => k1_hw110
@[reducible] def k1_t112_loop : Scf.Loop 32 :=
  let c0_i32_553 : BitVec 32 := 0#32
  let c64_i32_554 : BitVec 32 := 64#32
  let v116 : BitVec 32 := Scalar.addi c0_i32_553 c64_i32_554
  let c1_i32_555 : BitVec 32 := 1#32
  ⟨c0_i32_553, v116, c1_i32_555⟩
def k1_off114 (k1_t112 : Fin k1_t112_loop.trips) : Fin 2 → Nat :=
  let c14_i32_1282 : BitVec 32 := 14#32
  let v267 : Index := Scalar.indexCast c14_i32_1282
  let c0_i32_553 : BitVec 32 := 0#32
  let c1_i32_555 : BitVec 32 := 1#32
  let arg8 : BitVec 32 := Scf.iv c0_i32_553 c1_i32_555 k1_t112
  let c16_i32 : BitVec 32 := 16#32
  let v266 : BitVec 32 := Scalar.muli arg8 c16_i32
  let v268 : Index := Scalar.indexCast v266
  ![14, v268.toNat]

def k1_chk111 (v282 : IVec S16 32) : Prop :=
  (∀ a x, ((![v282] : Fin 1 → IVec S16 32) a x).toNat < S65536.size a)
theorem k1_idx111_inb : ∀ (v282 : IVec S16 32) (k1_hw111 : k1_chk111 v282), ∀ a x, ((![v282] : Fin 1 → IVec S16 32) a x).toNat < S65536.size a := fun v282 k1_hw111 => k1_hw111
@[reducible] def k1_t113_loop : Scf.Loop 32 :=
  let c0_i32_558 : BitVec 32 := 0#32
  let c64_i32_559 : BitVec 32 := 64#32
  let v117 : BitVec 32 := Scalar.addi c0_i32_558 c64_i32_559
  let c1_i32_560 : BitVec 32 := 1#32
  ⟨c0_i32_558, v117, c1_i32_560⟩
def k1_off115 (k1_t113 : Fin k1_t113_loop.trips) : Fin 2 → Nat :=
  let c15_i32 : BitVec 32 := 15#32
  let v267 : Index := Scalar.indexCast c15_i32
  let c0_i32_558 : BitVec 32 := 0#32
  let c1_i32_560 : BitVec 32 := 1#32
  let arg8 : BitVec 32 := Scf.iv c0_i32_558 c1_i32_560 k1_t113
  let c16_i32 : BitVec 32 := 16#32
  let v266 : BitVec 32 := Scalar.muli arg8 c16_i32
  let v268 : Index := Scalar.indexCast v266
  ![15, v268.toNat]

def k1_chk112 (v282 : IVec S16 32) : Prop :=
  (∀ a x, ((![v282] : Fin 1 → IVec S16 32) a x).toNat < S65536.size a)
theorem k1_idx112_inb : ∀ (v282 : IVec S16 32) (k1_hw112 : k1_chk112 v282), ∀ a x, ((![v282] : Fin 1 → IVec S16 32) a x).toNat < S65536.size a := fun v282 k1_hw112 => k1_hw112
@[reducible] def k1_t114_loop : Scf.Loop 32 :=
  let c0_i32_563 : BitVec 32 := 0#32
  let c64_i32_564 : BitVec 32 := 64#32
  let v118 : BitVec 32 := Scalar.addi c0_i32_563 c64_i32_564
  let c1_i32_565 : BitVec 32 := 1#32
  ⟨c0_i32_563, v118, c1_i32_565⟩
def k1_off116 (k1_t114 : Fin k1_t114_loop.trips) : Fin 2 → Nat :=
  let c0_i32_1282 : BitVec 32 := 0#32
  let v267 : Index := Scalar.indexCast c0_i32_1282
  let c0_i32_563 : BitVec 32 := 0#32
  let c1_i32_565 : BitVec 32 := 1#32
  let arg8 : BitVec 32 := Scf.iv c0_i32_563 c1_i32_565 k1_t114
  let c16_i32 : BitVec 32 := 16#32
  let v266 : BitVec 32 := Scalar.muli arg8 c16_i32
  let v268 : Index := Scalar.indexCast v266
  ![0, v268.toNat]

def k1_chk113 (v278 : IVec S16 32) : Prop :=
  (∀ a x, ((![v278] : Fin 1 → IVec S16 32) a x).toNat < S65536.size a)
theorem k1_idx113_inb : ∀ (v278 : IVec S16 32) (k1_hw113 : k1_chk113 v278), ∀ a x, ((![v278] : Fin 1 → IVec S16 32) a x).toNat < S65536.size a := fun v278 k1_hw113 => k1_hw113
@[reducible] def k1_t115_loop : Scf.Loop 32 :=
  let c0_i32_568 : BitVec 32 := 0#32
  let c64_i32_569 : BitVec 32 := 64#32
  let v119 : BitVec 32 := Scalar.addi c0_i32_568 c64_i32_569
  let c1_i32_570 : BitVec 32 := 1#32
  ⟨c0_i32_568, v119, c1_i32_570⟩
def k1_off117 (k1_t115 : Fin k1_t115_loop.trips) : Fin 2 → Nat :=
  let c1_i32_1282 : BitVec 32 := 1#32
  let v267 : Index := Scalar.indexCast c1_i32_1282
  let c0_i32_568 : BitVec 32 := 0#32
  let c1_i32_570 : BitVec 32 := 1#32
  let arg8 : BitVec 32 := Scf.iv c0_i32_568 c1_i32_570 k1_t115
  let c16_i32 : BitVec 32 := 16#32
  let v266 : BitVec 32 := Scalar.muli arg8 c16_i32
  let v268 : Index := Scalar.indexCast v266
  ![1, v268.toNat]

def k1_chk114 (v278 : IVec S16 32) : Prop :=
  (∀ a x, ((![v278] : Fin 1 → IVec S16 32) a x).toNat < S65536.size a)
theorem k1_idx114_inb : ∀ (v278 : IVec S16 32) (k1_hw114 : k1_chk114 v278), ∀ a x, ((![v278] : Fin 1 → IVec S16 32) a x).toNat < S65536.size a := fun v278 k1_hw114 => k1_hw114
@[reducible] def k1_t116_loop : Scf.Loop 32 :=
  let c0_i32_573 : BitVec 32 := 0#32
  let c64_i32_574 : BitVec 32 := 64#32
  let v120 : BitVec 32 := Scalar.addi c0_i32_573 c64_i32_574
  let c1_i32_575 : BitVec 32 := 1#32
  ⟨c0_i32_573, v120, c1_i32_575⟩
def k1_off118 (k1_t116 : Fin k1_t116_loop.trips) : Fin 2 → Nat :=
  let c2_i32_1282 : BitVec 32 := 2#32
  let v267 : Index := Scalar.indexCast c2_i32_1282
  let c0_i32_573 : BitVec 32 := 0#32
  let c1_i32_575 : BitVec 32 := 1#32
  let arg8 : BitVec 32 := Scf.iv c0_i32_573 c1_i32_575 k1_t116
  let c16_i32 : BitVec 32 := 16#32
  let v266 : BitVec 32 := Scalar.muli arg8 c16_i32
  let v268 : Index := Scalar.indexCast v266
  ![2, v268.toNat]

def k1_chk115 (v278 : IVec S16 32) : Prop :=
  (∀ a x, ((![v278] : Fin 1 → IVec S16 32) a x).toNat < S65536.size a)
theorem k1_idx115_inb : ∀ (v278 : IVec S16 32) (k1_hw115 : k1_chk115 v278), ∀ a x, ((![v278] : Fin 1 → IVec S16 32) a x).toNat < S65536.size a := fun v278 k1_hw115 => k1_hw115
@[reducible] def k1_t117_loop : Scf.Loop 32 :=
  let c0_i32_578 : BitVec 32 := 0#32
  let c64_i32_579 : BitVec 32 := 64#32
  let v121 : BitVec 32 := Scalar.addi c0_i32_578 c64_i32_579
  let c1_i32_580 : BitVec 32 := 1#32
  ⟨c0_i32_578, v121, c1_i32_580⟩
def k1_off119 (k1_t117 : Fin k1_t117_loop.trips) : Fin 2 → Nat :=
  let c3_i32 : BitVec 32 := 3#32
  let v267 : Index := Scalar.indexCast c3_i32
  let c0_i32_578 : BitVec 32 := 0#32
  let c1_i32_580 : BitVec 32 := 1#32
  let arg8 : BitVec 32 := Scf.iv c0_i32_578 c1_i32_580 k1_t117
  let c16_i32 : BitVec 32 := 16#32
  let v266 : BitVec 32 := Scalar.muli arg8 c16_i32
  let v268 : Index := Scalar.indexCast v266
  ![3, v268.toNat]

def k1_chk116 (v278 : IVec S16 32) : Prop :=
  (∀ a x, ((![v278] : Fin 1 → IVec S16 32) a x).toNat < S65536.size a)
theorem k1_idx116_inb : ∀ (v278 : IVec S16 32) (k1_hw116 : k1_chk116 v278), ∀ a x, ((![v278] : Fin 1 → IVec S16 32) a x).toNat < S65536.size a := fun v278 k1_hw116 => k1_hw116
@[reducible] def k1_t118_loop : Scf.Loop 32 :=
  let c0_i32_583 : BitVec 32 := 0#32
  let c64_i32_584 : BitVec 32 := 64#32
  let v122 : BitVec 32 := Scalar.addi c0_i32_583 c64_i32_584
  let c1_i32_585 : BitVec 32 := 1#32
  ⟨c0_i32_583, v122, c1_i32_585⟩
def k1_off120 (k1_t118 : Fin k1_t118_loop.trips) : Fin 2 → Nat :=
  let c4_i32_1282 : BitVec 32 := 4#32
  let v267 : Index := Scalar.indexCast c4_i32_1282
  let c0_i32_583 : BitVec 32 := 0#32
  let c1_i32_585 : BitVec 32 := 1#32
  let arg8 : BitVec 32 := Scf.iv c0_i32_583 c1_i32_585 k1_t118
  let c16_i32 : BitVec 32 := 16#32
  let v266 : BitVec 32 := Scalar.muli arg8 c16_i32
  let v268 : Index := Scalar.indexCast v266
  ![4, v268.toNat]

def k1_chk117 (v278 : IVec S16 32) : Prop :=
  (∀ a x, ((![v278] : Fin 1 → IVec S16 32) a x).toNat < S65536.size a)
theorem k1_idx117_inb : ∀ (v278 : IVec S16 32) (k1_hw117 : k1_chk117 v278), ∀ a x, ((![v278] : Fin 1 → IVec S16 32) a x).toNat < S65536.size a := fun v278 k1_hw117 => k1_hw117
@[reducible] def k1_t119_loop : Scf.Loop 32 :=
  let c0_i32_588 : BitVec 32 := 0#32
  let c64_i32_589 : BitVec 32 := 64#32
  let v123 : BitVec 32 := Scalar.addi c0_i32_588 c64_i32_589
  let c1_i32_590 : BitVec 32 := 1#32
  ⟨c0_i32_588, v123, c1_i32_590⟩
def k1_off121 (k1_t119 : Fin k1_t119_loop.trips) : Fin 2 → Nat :=
  let c5_i32 : BitVec 32 := 5#32
  let v267 : Index := Scalar.indexCast c5_i32
  let c0_i32_588 : BitVec 32 := 0#32
  let c1_i32_590 : BitVec 32 := 1#32
  let arg8 : BitVec 32 := Scf.iv c0_i32_588 c1_i32_590 k1_t119
  let c16_i32 : BitVec 32 := 16#32
  let v266 : BitVec 32 := Scalar.muli arg8 c16_i32
  let v268 : Index := Scalar.indexCast v266
  ![5, v268.toNat]

def k1_chk118 (v278 : IVec S16 32) : Prop :=
  (∀ a x, ((![v278] : Fin 1 → IVec S16 32) a x).toNat < S65536.size a)
theorem k1_idx118_inb : ∀ (v278 : IVec S16 32) (k1_hw118 : k1_chk118 v278), ∀ a x, ((![v278] : Fin 1 → IVec S16 32) a x).toNat < S65536.size a := fun v278 k1_hw118 => k1_hw118
@[reducible] def k1_t120_loop : Scf.Loop 32 :=
  let c0_i32_593 : BitVec 32 := 0#32
  let c64_i32_594 : BitVec 32 := 64#32
  let v124 : BitVec 32 := Scalar.addi c0_i32_593 c64_i32_594
  let c1_i32_595 : BitVec 32 := 1#32
  ⟨c0_i32_593, v124, c1_i32_595⟩
def k1_off122 (k1_t120 : Fin k1_t120_loop.trips) : Fin 2 → Nat :=
  let c6_i32_1282 : BitVec 32 := 6#32
  let v267 : Index := Scalar.indexCast c6_i32_1282
  let c0_i32_593 : BitVec 32 := 0#32
  let c1_i32_595 : BitVec 32 := 1#32
  let arg8 : BitVec 32 := Scf.iv c0_i32_593 c1_i32_595 k1_t120
  let c16_i32 : BitVec 32 := 16#32
  let v266 : BitVec 32 := Scalar.muli arg8 c16_i32
  let v268 : Index := Scalar.indexCast v266
  ![6, v268.toNat]

def k1_chk119 (v278 : IVec S16 32) : Prop :=
  (∀ a x, ((![v278] : Fin 1 → IVec S16 32) a x).toNat < S65536.size a)
theorem k1_idx119_inb : ∀ (v278 : IVec S16 32) (k1_hw119 : k1_chk119 v278), ∀ a x, ((![v278] : Fin 1 → IVec S16 32) a x).toNat < S65536.size a := fun v278 k1_hw119 => k1_hw119
@[reducible] def k1_t121_loop : Scf.Loop 32 :=
  let c0_i32_598 : BitVec 32 := 0#32
  let c64_i32_599 : BitVec 32 := 64#32
  let v125 : BitVec 32 := Scalar.addi c0_i32_598 c64_i32_599
  let c1_i32_600 : BitVec 32 := 1#32
  ⟨c0_i32_598, v125, c1_i32_600⟩
def k1_off123 (k1_t121 : Fin k1_t121_loop.trips) : Fin 2 → Nat :=
  let c7_i32 : BitVec 32 := 7#32
  let v267 : Index := Scalar.indexCast c7_i32
  let c0_i32_598 : BitVec 32 := 0#32
  let c1_i32_600 : BitVec 32 := 1#32
  let arg8 : BitVec 32 := Scf.iv c0_i32_598 c1_i32_600 k1_t121
  let c16_i32 : BitVec 32 := 16#32
  let v266 : BitVec 32 := Scalar.muli arg8 c16_i32
  let v268 : Index := Scalar.indexCast v266
  ![7, v268.toNat]

def k1_chk120 (v278 : IVec S16 32) : Prop :=
  (∀ a x, ((![v278] : Fin 1 → IVec S16 32) a x).toNat < S65536.size a)
theorem k1_idx120_inb : ∀ (v278 : IVec S16 32) (k1_hw120 : k1_chk120 v278), ∀ a x, ((![v278] : Fin 1 → IVec S16 32) a x).toNat < S65536.size a := fun v278 k1_hw120 => k1_hw120
@[reducible] def k1_t122_loop : Scf.Loop 32 :=
  let c0_i32_603 : BitVec 32 := 0#32
  let c64_i32_604 : BitVec 32 := 64#32
  let v126 : BitVec 32 := Scalar.addi c0_i32_603 c64_i32_604
  let c1_i32_605 : BitVec 32 := 1#32
  ⟨c0_i32_603, v126, c1_i32_605⟩
def k1_off124 (k1_t122 : Fin k1_t122_loop.trips) : Fin 2 → Nat :=
  let c8_i32_1282 : BitVec 32 := 8#32
  let v267 : Index := Scalar.indexCast c8_i32_1282
  let c0_i32_603 : BitVec 32 := 0#32
  let c1_i32_605 : BitVec 32 := 1#32
  let arg8 : BitVec 32 := Scf.iv c0_i32_603 c1_i32_605 k1_t122
  let c16_i32 : BitVec 32 := 16#32
  let v266 : BitVec 32 := Scalar.muli arg8 c16_i32
  let v268 : Index := Scalar.indexCast v266
  ![8, v268.toNat]

def k1_chk121 (v278 : IVec S16 32) : Prop :=
  (∀ a x, ((![v278] : Fin 1 → IVec S16 32) a x).toNat < S65536.size a)
theorem k1_idx121_inb : ∀ (v278 : IVec S16 32) (k1_hw121 : k1_chk121 v278), ∀ a x, ((![v278] : Fin 1 → IVec S16 32) a x).toNat < S65536.size a := fun v278 k1_hw121 => k1_hw121
@[reducible] def k1_t123_loop : Scf.Loop 32 :=
  let c0_i32_608 : BitVec 32 := 0#32
  let c64_i32_609 : BitVec 32 := 64#32
  let v127 : BitVec 32 := Scalar.addi c0_i32_608 c64_i32_609
  let c1_i32_610 : BitVec 32 := 1#32
  ⟨c0_i32_608, v127, c1_i32_610⟩
def k1_off125 (k1_t123 : Fin k1_t123_loop.trips) : Fin 2 → Nat :=
  let c9_i32 : BitVec 32 := 9#32
  let v267 : Index := Scalar.indexCast c9_i32
  let c0_i32_608 : BitVec 32 := 0#32
  let c1_i32_610 : BitVec 32 := 1#32
  let arg8 : BitVec 32 := Scf.iv c0_i32_608 c1_i32_610 k1_t123
  let c16_i32 : BitVec 32 := 16#32
  let v266 : BitVec 32 := Scalar.muli arg8 c16_i32
  let v268 : Index := Scalar.indexCast v266
  ![9, v268.toNat]

def k1_chk122 (v278 : IVec S16 32) : Prop :=
  (∀ a x, ((![v278] : Fin 1 → IVec S16 32) a x).toNat < S65536.size a)
theorem k1_idx122_inb : ∀ (v278 : IVec S16 32) (k1_hw122 : k1_chk122 v278), ∀ a x, ((![v278] : Fin 1 → IVec S16 32) a x).toNat < S65536.size a := fun v278 k1_hw122 => k1_hw122
@[reducible] def k1_t124_loop : Scf.Loop 32 :=
  let c0_i32_613 : BitVec 32 := 0#32
  let c64_i32_614 : BitVec 32 := 64#32
  let v128 : BitVec 32 := Scalar.addi c0_i32_613 c64_i32_614
  let c1_i32_615 : BitVec 32 := 1#32
  ⟨c0_i32_613, v128, c1_i32_615⟩
def k1_off126 (k1_t124 : Fin k1_t124_loop.trips) : Fin 2 → Nat :=
  let c10_i32_1282 : BitVec 32 := 10#32
  let v267 : Index := Scalar.indexCast c10_i32_1282
  let c0_i32_613 : BitVec 32 := 0#32
  let c1_i32_615 : BitVec 32 := 1#32
  let arg8 : BitVec 32 := Scf.iv c0_i32_613 c1_i32_615 k1_t124
  let c16_i32 : BitVec 32 := 16#32
  let v266 : BitVec 32 := Scalar.muli arg8 c16_i32
  let v268 : Index := Scalar.indexCast v266
  ![10, v268.toNat]

def k1_chk123 (v278 : IVec S16 32) : Prop :=
  (∀ a x, ((![v278] : Fin 1 → IVec S16 32) a x).toNat < S65536.size a)
theorem k1_idx123_inb : ∀ (v278 : IVec S16 32) (k1_hw123 : k1_chk123 v278), ∀ a x, ((![v278] : Fin 1 → IVec S16 32) a x).toNat < S65536.size a := fun v278 k1_hw123 => k1_hw123
@[reducible] def k1_t125_loop : Scf.Loop 32 :=
  let c0_i32_618 : BitVec 32 := 0#32
  let c64_i32_619 : BitVec 32 := 64#32
  let v129 : BitVec 32 := Scalar.addi c0_i32_618 c64_i32_619
  let c1_i32_620 : BitVec 32 := 1#32
  ⟨c0_i32_618, v129, c1_i32_620⟩
def k1_off127 (k1_t125 : Fin k1_t125_loop.trips) : Fin 2 → Nat :=
  let c11_i32 : BitVec 32 := 11#32
  let v267 : Index := Scalar.indexCast c11_i32
  let c0_i32_618 : BitVec 32 := 0#32
  let c1_i32_620 : BitVec 32 := 1#32
  let arg8 : BitVec 32 := Scf.iv c0_i32_618 c1_i32_620 k1_t125
  let c16_i32 : BitVec 32 := 16#32
  let v266 : BitVec 32 := Scalar.muli arg8 c16_i32
  let v268 : Index := Scalar.indexCast v266
  ![11, v268.toNat]

def k1_chk124 (v278 : IVec S16 32) : Prop :=
  (∀ a x, ((![v278] : Fin 1 → IVec S16 32) a x).toNat < S65536.size a)
theorem k1_idx124_inb : ∀ (v278 : IVec S16 32) (k1_hw124 : k1_chk124 v278), ∀ a x, ((![v278] : Fin 1 → IVec S16 32) a x).toNat < S65536.size a := fun v278 k1_hw124 => k1_hw124
@[reducible] def k1_t126_loop : Scf.Loop 32 :=
  let c0_i32_623 : BitVec 32 := 0#32
  let c64_i32_624 : BitVec 32 := 64#32
  let v130 : BitVec 32 := Scalar.addi c0_i32_623 c64_i32_624
  let c1_i32_625 : BitVec 32 := 1#32
  ⟨c0_i32_623, v130, c1_i32_625⟩
def k1_off128 (k1_t126 : Fin k1_t126_loop.trips) : Fin 2 → Nat :=
  let c12_i32_1282 : BitVec 32 := 12#32
  let v267 : Index := Scalar.indexCast c12_i32_1282
  let c0_i32_623 : BitVec 32 := 0#32
  let c1_i32_625 : BitVec 32 := 1#32
  let arg8 : BitVec 32 := Scf.iv c0_i32_623 c1_i32_625 k1_t126
  let c16_i32 : BitVec 32 := 16#32
  let v266 : BitVec 32 := Scalar.muli arg8 c16_i32
  let v268 : Index := Scalar.indexCast v266
  ![12, v268.toNat]

def k1_chk125 (v278 : IVec S16 32) : Prop :=
  (∀ a x, ((![v278] : Fin 1 → IVec S16 32) a x).toNat < S65536.size a)
theorem k1_idx125_inb : ∀ (v278 : IVec S16 32) (k1_hw125 : k1_chk125 v278), ∀ a x, ((![v278] : Fin 1 → IVec S16 32) a x).toNat < S65536.size a := fun v278 k1_hw125 => k1_hw125
@[reducible] def k1_t127_loop : Scf.Loop 32 :=
  let c0_i32_628 : BitVec 32 := 0#32
  let c64_i32_629 : BitVec 32 := 64#32
  let v131 : BitVec 32 := Scalar.addi c0_i32_628 c64_i32_629
  let c1_i32_630 : BitVec 32 := 1#32
  ⟨c0_i32_628, v131, c1_i32_630⟩
def k1_off129 (k1_t127 : Fin k1_t127_loop.trips) : Fin 2 → Nat :=
  let c13_i32 : BitVec 32 := 13#32
  let v267 : Index := Scalar.indexCast c13_i32
  let c0_i32_628 : BitVec 32 := 0#32
  let c1_i32_630 : BitVec 32 := 1#32
  let arg8 : BitVec 32 := Scf.iv c0_i32_628 c1_i32_630 k1_t127
  let c16_i32 : BitVec 32 := 16#32
  let v266 : BitVec 32 := Scalar.muli arg8 c16_i32
  let v268 : Index := Scalar.indexCast v266
  ![13, v268.toNat]

def k1_chk126 (v278 : IVec S16 32) : Prop :=
  (∀ a x, ((![v278] : Fin 1 → IVec S16 32) a x).toNat < S65536.size a)
theorem k1_idx126_inb : ∀ (v278 : IVec S16 32) (k1_hw126 : k1_chk126 v278), ∀ a x, ((![v278] : Fin 1 → IVec S16 32) a x).toNat < S65536.size a := fun v278 k1_hw126 => k1_hw126
@[reducible] def k1_t128_loop : Scf.Loop 32 :=
  let c0_i32_633 : BitVec 32 := 0#32
  let c64_i32_634 : BitVec 32 := 64#32
  let v132 : BitVec 32 := Scalar.addi c0_i32_633 c64_i32_634
  let c1_i32_635 : BitVec 32 := 1#32
  ⟨c0_i32_633, v132, c1_i32_635⟩
def k1_off130 (k1_t128 : Fin k1_t128_loop.trips) : Fin 2 → Nat :=
  let c14_i32_1282 : BitVec 32 := 14#32
  let v267 : Index := Scalar.indexCast c14_i32_1282
  let c0_i32_633 : BitVec 32 := 0#32
  let c1_i32_635 : BitVec 32 := 1#32
  let arg8 : BitVec 32 := Scf.iv c0_i32_633 c1_i32_635 k1_t128
  let c16_i32 : BitVec 32 := 16#32
  let v266 : BitVec 32 := Scalar.muli arg8 c16_i32
  let v268 : Index := Scalar.indexCast v266
  ![14, v268.toNat]

def k1_chk127 (v278 : IVec S16 32) : Prop :=
  (∀ a x, ((![v278] : Fin 1 → IVec S16 32) a x).toNat < S65536.size a)
theorem k1_idx127_inb : ∀ (v278 : IVec S16 32) (k1_hw127 : k1_chk127 v278), ∀ a x, ((![v278] : Fin 1 → IVec S16 32) a x).toNat < S65536.size a := fun v278 k1_hw127 => k1_hw127
@[reducible] def k1_t129_loop : Scf.Loop 32 :=
  let c0_i32_638 : BitVec 32 := 0#32
  let c64_i32_639 : BitVec 32 := 64#32
  let v133 : BitVec 32 := Scalar.addi c0_i32_638 c64_i32_639
  let c1_i32_640 : BitVec 32 := 1#32
  ⟨c0_i32_638, v133, c1_i32_640⟩
def k1_off131 (k1_t129 : Fin k1_t129_loop.trips) : Fin 2 → Nat :=
  let c15_i32 : BitVec 32 := 15#32
  let v267 : Index := Scalar.indexCast c15_i32
  let c0_i32_638 : BitVec 32 := 0#32
  let c1_i32_640 : BitVec 32 := 1#32
  let arg8 : BitVec 32 := Scf.iv c0_i32_638 c1_i32_640 k1_t129
  let c16_i32 : BitVec 32 := 16#32
  let v266 : BitVec 32 := Scalar.muli arg8 c16_i32
  let v268 : Index := Scalar.indexCast v266
  ![15, v268.toNat]

def k1_chk128 (v278 : IVec S16 32) : Prop :=
  (∀ a x, ((![v278] : Fin 1 → IVec S16 32) a x).toNat < S65536.size a)
theorem k1_idx128_inb : ∀ (v278 : IVec S16 32) (k1_hw128 : k1_chk128 v278), ∀ a x, ((![v278] : Fin 1 → IVec S16 32) a x).toNat < S65536.size a := fun v278 k1_hw128 => k1_hw128
@[reducible] def k1_t130_loop : Scf.Loop 32 :=
  let c0_i32_643 : BitVec 32 := 0#32
  let c64_i32_644 : BitVec 32 := 64#32
  let v135 : BitVec 32 := Scalar.addi c0_i32_643 c64_i32_644
  let c1_i32_645 : BitVec 32 := 1#32
  ⟨c0_i32_643, v135, c1_i32_645⟩
def k1_off132 (k1_t130 : Fin k1_t130_loop.trips) : Fin 2 → Nat :=
  let c0_i32_1282 : BitVec 32 := 0#32
  let v267 : Index := Scalar.indexCast c0_i32_1282
  let c0_i32_643 : BitVec 32 := 0#32
  let c1_i32_645 : BitVec 32 := 1#32
  let arg8 : BitVec 32 := Scf.iv c0_i32_643 c1_i32_645 k1_t130
  let c16_i32 : BitVec 32 := 16#32
  let v266 : BitVec 32 := Scalar.muli arg8 c16_i32
  let v268 : Index := Scalar.indexCast v266
  ![0, v268.toNat]

def k1_chk129 (v282 : IVec S16 32) : Prop :=
  (∀ a x, ((![v282] : Fin 1 → IVec S16 32) a x).toNat < S65536.size a)
theorem k1_idx129_inb : ∀ (v282 : IVec S16 32) (k1_hw129 : k1_chk129 v282), ∀ a x, ((![v282] : Fin 1 → IVec S16 32) a x).toNat < S65536.size a := fun v282 k1_hw129 => k1_hw129
@[reducible] def k1_t131_loop : Scf.Loop 32 :=
  let c0_i32_648 : BitVec 32 := 0#32
  let c64_i32_649 : BitVec 32 := 64#32
  let v136 : BitVec 32 := Scalar.addi c0_i32_648 c64_i32_649
  let c1_i32_650 : BitVec 32 := 1#32
  ⟨c0_i32_648, v136, c1_i32_650⟩
def k1_off133 (k1_t131 : Fin k1_t131_loop.trips) : Fin 2 → Nat :=
  let c1_i32_1282 : BitVec 32 := 1#32
  let v267 : Index := Scalar.indexCast c1_i32_1282
  let c0_i32_648 : BitVec 32 := 0#32
  let c1_i32_650 : BitVec 32 := 1#32
  let arg8 : BitVec 32 := Scf.iv c0_i32_648 c1_i32_650 k1_t131
  let c16_i32 : BitVec 32 := 16#32
  let v266 : BitVec 32 := Scalar.muli arg8 c16_i32
  let v268 : Index := Scalar.indexCast v266
  ![1, v268.toNat]

def k1_chk130 (v282 : IVec S16 32) : Prop :=
  (∀ a x, ((![v282] : Fin 1 → IVec S16 32) a x).toNat < S65536.size a)
theorem k1_idx130_inb : ∀ (v282 : IVec S16 32) (k1_hw130 : k1_chk130 v282), ∀ a x, ((![v282] : Fin 1 → IVec S16 32) a x).toNat < S65536.size a := fun v282 k1_hw130 => k1_hw130
@[reducible] def k1_t132_loop : Scf.Loop 32 :=
  let c0_i32_653 : BitVec 32 := 0#32
  let c64_i32_654 : BitVec 32 := 64#32
  let v137 : BitVec 32 := Scalar.addi c0_i32_653 c64_i32_654
  let c1_i32_655 : BitVec 32 := 1#32
  ⟨c0_i32_653, v137, c1_i32_655⟩
def k1_off134 (k1_t132 : Fin k1_t132_loop.trips) : Fin 2 → Nat :=
  let c2_i32_1282 : BitVec 32 := 2#32
  let v267 : Index := Scalar.indexCast c2_i32_1282
  let c0_i32_653 : BitVec 32 := 0#32
  let c1_i32_655 : BitVec 32 := 1#32
  let arg8 : BitVec 32 := Scf.iv c0_i32_653 c1_i32_655 k1_t132
  let c16_i32 : BitVec 32 := 16#32
  let v266 : BitVec 32 := Scalar.muli arg8 c16_i32
  let v268 : Index := Scalar.indexCast v266
  ![2, v268.toNat]

def k1_chk131 (v282 : IVec S16 32) : Prop :=
  (∀ a x, ((![v282] : Fin 1 → IVec S16 32) a x).toNat < S65536.size a)
theorem k1_idx131_inb : ∀ (v282 : IVec S16 32) (k1_hw131 : k1_chk131 v282), ∀ a x, ((![v282] : Fin 1 → IVec S16 32) a x).toNat < S65536.size a := fun v282 k1_hw131 => k1_hw131
@[reducible] def k1_t133_loop : Scf.Loop 32 :=
  let c0_i32_658 : BitVec 32 := 0#32
  let c64_i32_659 : BitVec 32 := 64#32
  let v138 : BitVec 32 := Scalar.addi c0_i32_658 c64_i32_659
  let c1_i32_660 : BitVec 32 := 1#32
  ⟨c0_i32_658, v138, c1_i32_660⟩
def k1_off135 (k1_t133 : Fin k1_t133_loop.trips) : Fin 2 → Nat :=
  let c3_i32 : BitVec 32 := 3#32
  let v267 : Index := Scalar.indexCast c3_i32
  let c0_i32_658 : BitVec 32 := 0#32
  let c1_i32_660 : BitVec 32 := 1#32
  let arg8 : BitVec 32 := Scf.iv c0_i32_658 c1_i32_660 k1_t133
  let c16_i32 : BitVec 32 := 16#32
  let v266 : BitVec 32 := Scalar.muli arg8 c16_i32
  let v268 : Index := Scalar.indexCast v266
  ![3, v268.toNat]

def k1_chk132 (v282 : IVec S16 32) : Prop :=
  (∀ a x, ((![v282] : Fin 1 → IVec S16 32) a x).toNat < S65536.size a)
theorem k1_idx132_inb : ∀ (v282 : IVec S16 32) (k1_hw132 : k1_chk132 v282), ∀ a x, ((![v282] : Fin 1 → IVec S16 32) a x).toNat < S65536.size a := fun v282 k1_hw132 => k1_hw132
@[reducible] def k1_t134_loop : Scf.Loop 32 :=
  let c0_i32_663 : BitVec 32 := 0#32
  let c64_i32_664 : BitVec 32 := 64#32
  let v139 : BitVec 32 := Scalar.addi c0_i32_663 c64_i32_664
  let c1_i32_665 : BitVec 32 := 1#32
  ⟨c0_i32_663, v139, c1_i32_665⟩
def k1_off136 (k1_t134 : Fin k1_t134_loop.trips) : Fin 2 → Nat :=
  let c4_i32_1282 : BitVec 32 := 4#32
  let v267 : Index := Scalar.indexCast c4_i32_1282
  let c0_i32_663 : BitVec 32 := 0#32
  let c1_i32_665 : BitVec 32 := 1#32
  let arg8 : BitVec 32 := Scf.iv c0_i32_663 c1_i32_665 k1_t134
  let c16_i32 : BitVec 32 := 16#32
  let v266 : BitVec 32 := Scalar.muli arg8 c16_i32
  let v268 : Index := Scalar.indexCast v266
  ![4, v268.toNat]

def k1_chk133 (v282 : IVec S16 32) : Prop :=
  (∀ a x, ((![v282] : Fin 1 → IVec S16 32) a x).toNat < S65536.size a)
theorem k1_idx133_inb : ∀ (v282 : IVec S16 32) (k1_hw133 : k1_chk133 v282), ∀ a x, ((![v282] : Fin 1 → IVec S16 32) a x).toNat < S65536.size a := fun v282 k1_hw133 => k1_hw133
@[reducible] def k1_t135_loop : Scf.Loop 32 :=
  let c0_i32_668 : BitVec 32 := 0#32
  let c64_i32_669 : BitVec 32 := 64#32
  let v140 : BitVec 32 := Scalar.addi c0_i32_668 c64_i32_669
  let c1_i32_670 : BitVec 32 := 1#32
  ⟨c0_i32_668, v140, c1_i32_670⟩
def k1_off137 (k1_t135 : Fin k1_t135_loop.trips) : Fin 2 → Nat :=
  let c5_i32 : BitVec 32 := 5#32
  let v267 : Index := Scalar.indexCast c5_i32
  let c0_i32_668 : BitVec 32 := 0#32
  let c1_i32_670 : BitVec 32 := 1#32
  let arg8 : BitVec 32 := Scf.iv c0_i32_668 c1_i32_670 k1_t135
  let c16_i32 : BitVec 32 := 16#32
  let v266 : BitVec 32 := Scalar.muli arg8 c16_i32
  let v268 : Index := Scalar.indexCast v266
  ![5, v268.toNat]

def k1_chk134 (v282 : IVec S16 32) : Prop :=
  (∀ a x, ((![v282] : Fin 1 → IVec S16 32) a x).toNat < S65536.size a)
theorem k1_idx134_inb : ∀ (v282 : IVec S16 32) (k1_hw134 : k1_chk134 v282), ∀ a x, ((![v282] : Fin 1 → IVec S16 32) a x).toNat < S65536.size a := fun v282 k1_hw134 => k1_hw134
@[reducible] def k1_t136_loop : Scf.Loop 32 :=
  let c0_i32_673 : BitVec 32 := 0#32
  let c64_i32_674 : BitVec 32 := 64#32
  let v141 : BitVec 32 := Scalar.addi c0_i32_673 c64_i32_674
  let c1_i32_675 : BitVec 32 := 1#32
  ⟨c0_i32_673, v141, c1_i32_675⟩
def k1_off138 (k1_t136 : Fin k1_t136_loop.trips) : Fin 2 → Nat :=
  let c6_i32_1282 : BitVec 32 := 6#32
  let v267 : Index := Scalar.indexCast c6_i32_1282
  let c0_i32_673 : BitVec 32 := 0#32
  let c1_i32_675 : BitVec 32 := 1#32
  let arg8 : BitVec 32 := Scf.iv c0_i32_673 c1_i32_675 k1_t136
  let c16_i32 : BitVec 32 := 16#32
  let v266 : BitVec 32 := Scalar.muli arg8 c16_i32
  let v268 : Index := Scalar.indexCast v266
  ![6, v268.toNat]

def k1_chk135 (v282 : IVec S16 32) : Prop :=
  (∀ a x, ((![v282] : Fin 1 → IVec S16 32) a x).toNat < S65536.size a)
theorem k1_idx135_inb : ∀ (v282 : IVec S16 32) (k1_hw135 : k1_chk135 v282), ∀ a x, ((![v282] : Fin 1 → IVec S16 32) a x).toNat < S65536.size a := fun v282 k1_hw135 => k1_hw135
@[reducible] def k1_t137_loop : Scf.Loop 32 :=
  let c0_i32_678 : BitVec 32 := 0#32
  let c64_i32_679 : BitVec 32 := 64#32
  let v142 : BitVec 32 := Scalar.addi c0_i32_678 c64_i32_679
  let c1_i32_680 : BitVec 32 := 1#32
  ⟨c0_i32_678, v142, c1_i32_680⟩
def k1_off139 (k1_t137 : Fin k1_t137_loop.trips) : Fin 2 → Nat :=
  let c7_i32 : BitVec 32 := 7#32
  let v267 : Index := Scalar.indexCast c7_i32
  let c0_i32_678 : BitVec 32 := 0#32
  let c1_i32_680 : BitVec 32 := 1#32
  let arg8 : BitVec 32 := Scf.iv c0_i32_678 c1_i32_680 k1_t137
  let c16_i32 : BitVec 32 := 16#32
  let v266 : BitVec 32 := Scalar.muli arg8 c16_i32
  let v268 : Index := Scalar.indexCast v266
  ![7, v268.toNat]

def k1_chk136 (v282 : IVec S16 32) : Prop :=
  (∀ a x, ((![v282] : Fin 1 → IVec S16 32) a x).toNat < S65536.size a)
theorem k1_idx136_inb : ∀ (v282 : IVec S16 32) (k1_hw136 : k1_chk136 v282), ∀ a x, ((![v282] : Fin 1 → IVec S16 32) a x).toNat < S65536.size a := fun v282 k1_hw136 => k1_hw136
@[reducible] def k1_t138_loop : Scf.Loop 32 :=
  let c0_i32_683 : BitVec 32 := 0#32
  let c64_i32_684 : BitVec 32 := 64#32
  let v143 : BitVec 32 := Scalar.addi c0_i32_683 c64_i32_684
  let c1_i32_685 : BitVec 32 := 1#32
  ⟨c0_i32_683, v143, c1_i32_685⟩
def k1_off140 (k1_t138 : Fin k1_t138_loop.trips) : Fin 2 → Nat :=
  let c8_i32_1282 : BitVec 32 := 8#32
  let v267 : Index := Scalar.indexCast c8_i32_1282
  let c0_i32_683 : BitVec 32 := 0#32
  let c1_i32_685 : BitVec 32 := 1#32
  let arg8 : BitVec 32 := Scf.iv c0_i32_683 c1_i32_685 k1_t138
  let c16_i32 : BitVec 32 := 16#32
  let v266 : BitVec 32 := Scalar.muli arg8 c16_i32
  let v268 : Index := Scalar.indexCast v266
  ![8, v268.toNat]

def k1_chk137 (v282 : IVec S16 32) : Prop :=
  (∀ a x, ((![v282] : Fin 1 → IVec S16 32) a x).toNat < S65536.size a)
theorem k1_idx137_inb : ∀ (v282 : IVec S16 32) (k1_hw137 : k1_chk137 v282), ∀ a x, ((![v282] : Fin 1 → IVec S16 32) a x).toNat < S65536.size a := fun v282 k1_hw137 => k1_hw137
@[reducible] def k1_t139_loop : Scf.Loop 32 :=
  let c0_i32_688 : BitVec 32 := 0#32
  let c64_i32_689 : BitVec 32 := 64#32
  let v144 : BitVec 32 := Scalar.addi c0_i32_688 c64_i32_689
  let c1_i32_690 : BitVec 32 := 1#32
  ⟨c0_i32_688, v144, c1_i32_690⟩
def k1_off141 (k1_t139 : Fin k1_t139_loop.trips) : Fin 2 → Nat :=
  let c9_i32 : BitVec 32 := 9#32
  let v267 : Index := Scalar.indexCast c9_i32
  let c0_i32_688 : BitVec 32 := 0#32
  let c1_i32_690 : BitVec 32 := 1#32
  let arg8 : BitVec 32 := Scf.iv c0_i32_688 c1_i32_690 k1_t139
  let c16_i32 : BitVec 32 := 16#32
  let v266 : BitVec 32 := Scalar.muli arg8 c16_i32
  let v268 : Index := Scalar.indexCast v266
  ![9, v268.toNat]

def k1_chk138 (v282 : IVec S16 32) : Prop :=
  (∀ a x, ((![v282] : Fin 1 → IVec S16 32) a x).toNat < S65536.size a)
theorem k1_idx138_inb : ∀ (v282 : IVec S16 32) (k1_hw138 : k1_chk138 v282), ∀ a x, ((![v282] : Fin 1 → IVec S16 32) a x).toNat < S65536.size a := fun v282 k1_hw138 => k1_hw138
@[reducible] def k1_t140_loop : Scf.Loop 32 :=
  let c0_i32_693 : BitVec 32 := 0#32
  let c64_i32_694 : BitVec 32 := 64#32
  let v145 : BitVec 32 := Scalar.addi c0_i32_693 c64_i32_694
  let c1_i32_695 : BitVec 32 := 1#32
  ⟨c0_i32_693, v145, c1_i32_695⟩
def k1_off142 (k1_t140 : Fin k1_t140_loop.trips) : Fin 2 → Nat :=
  let c10_i32_1282 : BitVec 32 := 10#32
  let v267 : Index := Scalar.indexCast c10_i32_1282
  let c0_i32_693 : BitVec 32 := 0#32
  let c1_i32_695 : BitVec 32 := 1#32
  let arg8 : BitVec 32 := Scf.iv c0_i32_693 c1_i32_695 k1_t140
  let c16_i32 : BitVec 32 := 16#32
  let v266 : BitVec 32 := Scalar.muli arg8 c16_i32
  let v268 : Index := Scalar.indexCast v266
  ![10, v268.toNat]

def k1_chk139 (v282 : IVec S16 32) : Prop :=
  (∀ a x, ((![v282] : Fin 1 → IVec S16 32) a x).toNat < S65536.size a)
theorem k1_idx139_inb : ∀ (v282 : IVec S16 32) (k1_hw139 : k1_chk139 v282), ∀ a x, ((![v282] : Fin 1 → IVec S16 32) a x).toNat < S65536.size a := fun v282 k1_hw139 => k1_hw139
@[reducible] def k1_t141_loop : Scf.Loop 32 :=
  let c0_i32_698 : BitVec 32 := 0#32
  let c64_i32_699 : BitVec 32 := 64#32
  let v146 : BitVec 32 := Scalar.addi c0_i32_698 c64_i32_699
  let c1_i32_700 : BitVec 32 := 1#32
  ⟨c0_i32_698, v146, c1_i32_700⟩
def k1_off143 (k1_t141 : Fin k1_t141_loop.trips) : Fin 2 → Nat :=
  let c11_i32 : BitVec 32 := 11#32
  let v267 : Index := Scalar.indexCast c11_i32
  let c0_i32_698 : BitVec 32 := 0#32
  let c1_i32_700 : BitVec 32 := 1#32
  let arg8 : BitVec 32 := Scf.iv c0_i32_698 c1_i32_700 k1_t141
  let c16_i32 : BitVec 32 := 16#32
  let v266 : BitVec 32 := Scalar.muli arg8 c16_i32
  let v268 : Index := Scalar.indexCast v266
  ![11, v268.toNat]

def k1_chk140 (v282 : IVec S16 32) : Prop :=
  (∀ a x, ((![v282] : Fin 1 → IVec S16 32) a x).toNat < S65536.size a)
theorem k1_idx140_inb : ∀ (v282 : IVec S16 32) (k1_hw140 : k1_chk140 v282), ∀ a x, ((![v282] : Fin 1 → IVec S16 32) a x).toNat < S65536.size a := fun v282 k1_hw140 => k1_hw140
@[reducible] def k1_t142_loop : Scf.Loop 32 :=
  let c0_i32_703 : BitVec 32 := 0#32
  let c64_i32_704 : BitVec 32 := 64#32
  let v147 : BitVec 32 := Scalar.addi c0_i32_703 c64_i32_704
  let c1_i32_705 : BitVec 32 := 1#32
  ⟨c0_i32_703, v147, c1_i32_705⟩
def k1_off144 (k1_t142 : Fin k1_t142_loop.trips) : Fin 2 → Nat :=
  let c12_i32_1282 : BitVec 32 := 12#32
  let v267 : Index := Scalar.indexCast c12_i32_1282
  let c0_i32_703 : BitVec 32 := 0#32
  let c1_i32_705 : BitVec 32 := 1#32
  let arg8 : BitVec 32 := Scf.iv c0_i32_703 c1_i32_705 k1_t142
  let c16_i32 : BitVec 32 := 16#32
  let v266 : BitVec 32 := Scalar.muli arg8 c16_i32
  let v268 : Index := Scalar.indexCast v266
  ![12, v268.toNat]

def k1_chk141 (v282 : IVec S16 32) : Prop :=
  (∀ a x, ((![v282] : Fin 1 → IVec S16 32) a x).toNat < S65536.size a)
theorem k1_idx141_inb : ∀ (v282 : IVec S16 32) (k1_hw141 : k1_chk141 v282), ∀ a x, ((![v282] : Fin 1 → IVec S16 32) a x).toNat < S65536.size a := fun v282 k1_hw141 => k1_hw141
@[reducible] def k1_t143_loop : Scf.Loop 32 :=
  let c0_i32_708 : BitVec 32 := 0#32
  let c64_i32_709 : BitVec 32 := 64#32
  let v148 : BitVec 32 := Scalar.addi c0_i32_708 c64_i32_709
  let c1_i32_710 : BitVec 32 := 1#32
  ⟨c0_i32_708, v148, c1_i32_710⟩
def k1_off145 (k1_t143 : Fin k1_t143_loop.trips) : Fin 2 → Nat :=
  let c13_i32 : BitVec 32 := 13#32
  let v267 : Index := Scalar.indexCast c13_i32
  let c0_i32_708 : BitVec 32 := 0#32
  let c1_i32_710 : BitVec 32 := 1#32
  let arg8 : BitVec 32 := Scf.iv c0_i32_708 c1_i32_710 k1_t143
  let c16_i32 : BitVec 32 := 16#32
  let v266 : BitVec 32 := Scalar.muli arg8 c16_i32
  let v268 : Index := Scalar.indexCast v266
  ![13, v268.toNat]

def k1_chk142 (v282 : IVec S16 32) : Prop :=
  (∀ a x, ((![v282] : Fin 1 → IVec S16 32) a x).toNat < S65536.size a)
theorem k1_idx142_inb : ∀ (v282 : IVec S16 32) (k1_hw142 : k1_chk142 v282), ∀ a x, ((![v282] : Fin 1 → IVec S16 32) a x).toNat < S65536.size a := fun v282 k1_hw142 => k1_hw142
@[reducible] def k1_t144_loop : Scf.Loop 32 :=
  let c0_i32_713 : BitVec 32 := 0#32
  let c64_i32_714 : BitVec 32 := 64#32
  let v149 : BitVec 32 := Scalar.addi c0_i32_713 c64_i32_714
  let c1_i32_715 : BitVec 32 := 1#32
  ⟨c0_i32_713, v149, c1_i32_715⟩
def k1_off146 (k1_t144 : Fin k1_t144_loop.trips) : Fin 2 → Nat :=
  let c14_i32_1282 : BitVec 32 := 14#32
  let v267 : Index := Scalar.indexCast c14_i32_1282
  let c0_i32_713 : BitVec 32 := 0#32
  let c1_i32_715 : BitVec 32 := 1#32
  let arg8 : BitVec 32 := Scf.iv c0_i32_713 c1_i32_715 k1_t144
  let c16_i32 : BitVec 32 := 16#32
  let v266 : BitVec 32 := Scalar.muli arg8 c16_i32
  let v268 : Index := Scalar.indexCast v266
  ![14, v268.toNat]

def k1_chk143 (v282 : IVec S16 32) : Prop :=
  (∀ a x, ((![v282] : Fin 1 → IVec S16 32) a x).toNat < S65536.size a)
theorem k1_idx143_inb : ∀ (v282 : IVec S16 32) (k1_hw143 : k1_chk143 v282), ∀ a x, ((![v282] : Fin 1 → IVec S16 32) a x).toNat < S65536.size a := fun v282 k1_hw143 => k1_hw143
@[reducible] def k1_t145_loop : Scf.Loop 32 :=
  let c0_i32_718 : BitVec 32 := 0#32
  let c64_i32_719 : BitVec 32 := 64#32
  let v150 : BitVec 32 := Scalar.addi c0_i32_718 c64_i32_719
  let c1_i32_720 : BitVec 32 := 1#32
  ⟨c0_i32_718, v150, c1_i32_720⟩
def k1_off147 (k1_t145 : Fin k1_t145_loop.trips) : Fin 2 → Nat :=
  let c15_i32 : BitVec 32 := 15#32
  let v267 : Index := Scalar.indexCast c15_i32
  let c0_i32_718 : BitVec 32 := 0#32
  let c1_i32_720 : BitVec 32 := 1#32
  let arg8 : BitVec 32 := Scf.iv c0_i32_718 c1_i32_720 k1_t145
  let c16_i32 : BitVec 32 := 16#32
  let v266 : BitVec 32 := Scalar.muli arg8 c16_i32
  let v268 : Index := Scalar.indexCast v266
  ![15, v268.toNat]

def k1_chk144 (v282 : IVec S16 32) : Prop :=
  (∀ a x, ((![v282] : Fin 1 → IVec S16 32) a x).toNat < S65536.size a)
theorem k1_idx144_inb : ∀ (v282 : IVec S16 32) (k1_hw144 : k1_chk144 v282), ∀ a x, ((![v282] : Fin 1 → IVec S16 32) a x).toNat < S65536.size a := fun v282 k1_hw144 => k1_hw144
@[reducible] def k1_t146_loop : Scf.Loop 32 :=
  let c0_i32_723 : BitVec 32 := 0#32
  let c64_i32_724 : BitVec 32 := 64#32
  let v151 : BitVec 32 := Scalar.addi c0_i32_723 c64_i32_724
  let c1_i32_725 : BitVec 32 := 1#32
  ⟨c0_i32_723, v151, c1_i32_725⟩
def k1_off148 (k1_t146 : Fin k1_t146_loop.trips) : Fin 2 → Nat :=
  let c0_i32_1282 : BitVec 32 := 0#32
  let v267 : Index := Scalar.indexCast c0_i32_1282
  let c0_i32_723 : BitVec 32 := 0#32
  let c1_i32_725 : BitVec 32 := 1#32
  let arg8 : BitVec 32 := Scf.iv c0_i32_723 c1_i32_725 k1_t146
  let c16_i32 : BitVec 32 := 16#32
  let v266 : BitVec 32 := Scalar.muli arg8 c16_i32
  let v268 : Index := Scalar.indexCast v266
  ![0, v268.toNat]

def k1_chk145 (v278 : IVec S16 32) : Prop :=
  (∀ a x, ((![v278] : Fin 1 → IVec S16 32) a x).toNat < S65536.size a)
theorem k1_idx145_inb : ∀ (v278 : IVec S16 32) (k1_hw145 : k1_chk145 v278), ∀ a x, ((![v278] : Fin 1 → IVec S16 32) a x).toNat < S65536.size a := fun v278 k1_hw145 => k1_hw145
@[reducible] def k1_t147_loop : Scf.Loop 32 :=
  let c0_i32_728 : BitVec 32 := 0#32
  let c64_i32_729 : BitVec 32 := 64#32
  let v152 : BitVec 32 := Scalar.addi c0_i32_728 c64_i32_729
  let c1_i32_730 : BitVec 32 := 1#32
  ⟨c0_i32_728, v152, c1_i32_730⟩
def k1_off149 (k1_t147 : Fin k1_t147_loop.trips) : Fin 2 → Nat :=
  let c1_i32_1282 : BitVec 32 := 1#32
  let v267 : Index := Scalar.indexCast c1_i32_1282
  let c0_i32_728 : BitVec 32 := 0#32
  let c1_i32_730 : BitVec 32 := 1#32
  let arg8 : BitVec 32 := Scf.iv c0_i32_728 c1_i32_730 k1_t147
  let c16_i32 : BitVec 32 := 16#32
  let v266 : BitVec 32 := Scalar.muli arg8 c16_i32
  let v268 : Index := Scalar.indexCast v266
  ![1, v268.toNat]

def k1_chk146 (v278 : IVec S16 32) : Prop :=
  (∀ a x, ((![v278] : Fin 1 → IVec S16 32) a x).toNat < S65536.size a)
theorem k1_idx146_inb : ∀ (v278 : IVec S16 32) (k1_hw146 : k1_chk146 v278), ∀ a x, ((![v278] : Fin 1 → IVec S16 32) a x).toNat < S65536.size a := fun v278 k1_hw146 => k1_hw146
@[reducible] def k1_t148_loop : Scf.Loop 32 :=
  let c0_i32_733 : BitVec 32 := 0#32
  let c64_i32_734 : BitVec 32 := 64#32
  let v153 : BitVec 32 := Scalar.addi c0_i32_733 c64_i32_734
  let c1_i32_735 : BitVec 32 := 1#32
  ⟨c0_i32_733, v153, c1_i32_735⟩
def k1_off150 (k1_t148 : Fin k1_t148_loop.trips) : Fin 2 → Nat :=
  let c2_i32_1282 : BitVec 32 := 2#32
  let v267 : Index := Scalar.indexCast c2_i32_1282
  let c0_i32_733 : BitVec 32 := 0#32
  let c1_i32_735 : BitVec 32 := 1#32
  let arg8 : BitVec 32 := Scf.iv c0_i32_733 c1_i32_735 k1_t148
  let c16_i32 : BitVec 32 := 16#32
  let v266 : BitVec 32 := Scalar.muli arg8 c16_i32
  let v268 : Index := Scalar.indexCast v266
  ![2, v268.toNat]

def k1_chk147 (v278 : IVec S16 32) : Prop :=
  (∀ a x, ((![v278] : Fin 1 → IVec S16 32) a x).toNat < S65536.size a)
theorem k1_idx147_inb : ∀ (v278 : IVec S16 32) (k1_hw147 : k1_chk147 v278), ∀ a x, ((![v278] : Fin 1 → IVec S16 32) a x).toNat < S65536.size a := fun v278 k1_hw147 => k1_hw147
@[reducible] def k1_t149_loop : Scf.Loop 32 :=
  let c0_i32_738 : BitVec 32 := 0#32
  let c64_i32_739 : BitVec 32 := 64#32
  let v154 : BitVec 32 := Scalar.addi c0_i32_738 c64_i32_739
  let c1_i32_740 : BitVec 32 := 1#32
  ⟨c0_i32_738, v154, c1_i32_740⟩
def k1_off151 (k1_t149 : Fin k1_t149_loop.trips) : Fin 2 → Nat :=
  let c3_i32 : BitVec 32 := 3#32
  let v267 : Index := Scalar.indexCast c3_i32
  let c0_i32_738 : BitVec 32 := 0#32
  let c1_i32_740 : BitVec 32 := 1#32
  let arg8 : BitVec 32 := Scf.iv c0_i32_738 c1_i32_740 k1_t149
  let c16_i32 : BitVec 32 := 16#32
  let v266 : BitVec 32 := Scalar.muli arg8 c16_i32
  let v268 : Index := Scalar.indexCast v266
  ![3, v268.toNat]

def k1_chk148 (v278 : IVec S16 32) : Prop :=
  (∀ a x, ((![v278] : Fin 1 → IVec S16 32) a x).toNat < S65536.size a)
theorem k1_idx148_inb : ∀ (v278 : IVec S16 32) (k1_hw148 : k1_chk148 v278), ∀ a x, ((![v278] : Fin 1 → IVec S16 32) a x).toNat < S65536.size a := fun v278 k1_hw148 => k1_hw148
@[reducible] def k1_t150_loop : Scf.Loop 32 :=
  let c0_i32_743 : BitVec 32 := 0#32
  let c64_i32_744 : BitVec 32 := 64#32
  let v155 : BitVec 32 := Scalar.addi c0_i32_743 c64_i32_744
  let c1_i32_745 : BitVec 32 := 1#32
  ⟨c0_i32_743, v155, c1_i32_745⟩
def k1_off152 (k1_t150 : Fin k1_t150_loop.trips) : Fin 2 → Nat :=
  let c4_i32_1282 : BitVec 32 := 4#32
  let v267 : Index := Scalar.indexCast c4_i32_1282
  let c0_i32_743 : BitVec 32 := 0#32
  let c1_i32_745 : BitVec 32 := 1#32
  let arg8 : BitVec 32 := Scf.iv c0_i32_743 c1_i32_745 k1_t150
  let c16_i32 : BitVec 32 := 16#32
  let v266 : BitVec 32 := Scalar.muli arg8 c16_i32
  let v268 : Index := Scalar.indexCast v266
  ![4, v268.toNat]

def k1_chk149 (v278 : IVec S16 32) : Prop :=
  (∀ a x, ((![v278] : Fin 1 → IVec S16 32) a x).toNat < S65536.size a)
theorem k1_idx149_inb : ∀ (v278 : IVec S16 32) (k1_hw149 : k1_chk149 v278), ∀ a x, ((![v278] : Fin 1 → IVec S16 32) a x).toNat < S65536.size a := fun v278 k1_hw149 => k1_hw149
@[reducible] def k1_t151_loop : Scf.Loop 32 :=
  let c0_i32_748 : BitVec 32 := 0#32
  let c64_i32_749 : BitVec 32 := 64#32
  let v156 : BitVec 32 := Scalar.addi c0_i32_748 c64_i32_749
  let c1_i32_750 : BitVec 32 := 1#32
  ⟨c0_i32_748, v156, c1_i32_750⟩
def k1_off153 (k1_t151 : Fin k1_t151_loop.trips) : Fin 2 → Nat :=
  let c5_i32 : BitVec 32 := 5#32
  let v267 : Index := Scalar.indexCast c5_i32
  let c0_i32_748 : BitVec 32 := 0#32
  let c1_i32_750 : BitVec 32 := 1#32
  let arg8 : BitVec 32 := Scf.iv c0_i32_748 c1_i32_750 k1_t151
  let c16_i32 : BitVec 32 := 16#32
  let v266 : BitVec 32 := Scalar.muli arg8 c16_i32
  let v268 : Index := Scalar.indexCast v266
  ![5, v268.toNat]

def k1_chk150 (v278 : IVec S16 32) : Prop :=
  (∀ a x, ((![v278] : Fin 1 → IVec S16 32) a x).toNat < S65536.size a)
theorem k1_idx150_inb : ∀ (v278 : IVec S16 32) (k1_hw150 : k1_chk150 v278), ∀ a x, ((![v278] : Fin 1 → IVec S16 32) a x).toNat < S65536.size a := fun v278 k1_hw150 => k1_hw150
@[reducible] def k1_t152_loop : Scf.Loop 32 :=
  let c0_i32_753 : BitVec 32 := 0#32
  let c64_i32_754 : BitVec 32 := 64#32
  let v157 : BitVec 32 := Scalar.addi c0_i32_753 c64_i32_754
  let c1_i32_755 : BitVec 32 := 1#32
  ⟨c0_i32_753, v157, c1_i32_755⟩
def k1_off154 (k1_t152 : Fin k1_t152_loop.trips) : Fin 2 → Nat :=
  let c6_i32_1282 : BitVec 32 := 6#32
  let v267 : Index := Scalar.indexCast c6_i32_1282
  let c0_i32_753 : BitVec 32 := 0#32
  let c1_i32_755 : BitVec 32 := 1#32
  let arg8 : BitVec 32 := Scf.iv c0_i32_753 c1_i32_755 k1_t152
  let c16_i32 : BitVec 32 := 16#32
  let v266 : BitVec 32 := Scalar.muli arg8 c16_i32
  let v268 : Index := Scalar.indexCast v266
  ![6, v268.toNat]

def k1_chk151 (v278 : IVec S16 32) : Prop :=
  (∀ a x, ((![v278] : Fin 1 → IVec S16 32) a x).toNat < S65536.size a)
theorem k1_idx151_inb : ∀ (v278 : IVec S16 32) (k1_hw151 : k1_chk151 v278), ∀ a x, ((![v278] : Fin 1 → IVec S16 32) a x).toNat < S65536.size a := fun v278 k1_hw151 => k1_hw151
@[reducible] def k1_t153_loop : Scf.Loop 32 :=
  let c0_i32_758 : BitVec 32 := 0#32
  let c64_i32_759 : BitVec 32 := 64#32
  let v158 : BitVec 32 := Scalar.addi c0_i32_758 c64_i32_759
  let c1_i32_760 : BitVec 32 := 1#32
  ⟨c0_i32_758, v158, c1_i32_760⟩
def k1_off155 (k1_t153 : Fin k1_t153_loop.trips) : Fin 2 → Nat :=
  let c7_i32 : BitVec 32 := 7#32
  let v267 : Index := Scalar.indexCast c7_i32
  let c0_i32_758 : BitVec 32 := 0#32
  let c1_i32_760 : BitVec 32 := 1#32
  let arg8 : BitVec 32 := Scf.iv c0_i32_758 c1_i32_760 k1_t153
  let c16_i32 : BitVec 32 := 16#32
  let v266 : BitVec 32 := Scalar.muli arg8 c16_i32
  let v268 : Index := Scalar.indexCast v266
  ![7, v268.toNat]

def k1_chk152 (v278 : IVec S16 32) : Prop :=
  (∀ a x, ((![v278] : Fin 1 → IVec S16 32) a x).toNat < S65536.size a)
theorem k1_idx152_inb : ∀ (v278 : IVec S16 32) (k1_hw152 : k1_chk152 v278), ∀ a x, ((![v278] : Fin 1 → IVec S16 32) a x).toNat < S65536.size a := fun v278 k1_hw152 => k1_hw152
@[reducible] def k1_t154_loop : Scf.Loop 32 :=
  let c0_i32_763 : BitVec 32 := 0#32
  let c64_i32_764 : BitVec 32 := 64#32
  let v159 : BitVec 32 := Scalar.addi c0_i32_763 c64_i32_764
  let c1_i32_765 : BitVec 32 := 1#32
  ⟨c0_i32_763, v159, c1_i32_765⟩
def k1_off156 (k1_t154 : Fin k1_t154_loop.trips) : Fin 2 → Nat :=
  let c8_i32_1282 : BitVec 32 := 8#32
  let v267 : Index := Scalar.indexCast c8_i32_1282
  let c0_i32_763 : BitVec 32 := 0#32
  let c1_i32_765 : BitVec 32 := 1#32
  let arg8 : BitVec 32 := Scf.iv c0_i32_763 c1_i32_765 k1_t154
  let c16_i32 : BitVec 32 := 16#32
  let v266 : BitVec 32 := Scalar.muli arg8 c16_i32
  let v268 : Index := Scalar.indexCast v266
  ![8, v268.toNat]

def k1_chk153 (v278 : IVec S16 32) : Prop :=
  (∀ a x, ((![v278] : Fin 1 → IVec S16 32) a x).toNat < S65536.size a)
theorem k1_idx153_inb : ∀ (v278 : IVec S16 32) (k1_hw153 : k1_chk153 v278), ∀ a x, ((![v278] : Fin 1 → IVec S16 32) a x).toNat < S65536.size a := fun v278 k1_hw153 => k1_hw153
@[reducible] def k1_t155_loop : Scf.Loop 32 :=
  let c0_i32_768 : BitVec 32 := 0#32
  let c64_i32_769 : BitVec 32 := 64#32
  let v160 : BitVec 32 := Scalar.addi c0_i32_768 c64_i32_769
  let c1_i32_770 : BitVec 32 := 1#32
  ⟨c0_i32_768, v160, c1_i32_770⟩
def k1_off157 (k1_t155 : Fin k1_t155_loop.trips) : Fin 2 → Nat :=
  let c9_i32 : BitVec 32 := 9#32
  let v267 : Index := Scalar.indexCast c9_i32
  let c0_i32_768 : BitVec 32 := 0#32
  let c1_i32_770 : BitVec 32 := 1#32
  let arg8 : BitVec 32 := Scf.iv c0_i32_768 c1_i32_770 k1_t155
  let c16_i32 : BitVec 32 := 16#32
  let v266 : BitVec 32 := Scalar.muli arg8 c16_i32
  let v268 : Index := Scalar.indexCast v266
  ![9, v268.toNat]

def k1_chk154 (v278 : IVec S16 32) : Prop :=
  (∀ a x, ((![v278] : Fin 1 → IVec S16 32) a x).toNat < S65536.size a)
theorem k1_idx154_inb : ∀ (v278 : IVec S16 32) (k1_hw154 : k1_chk154 v278), ∀ a x, ((![v278] : Fin 1 → IVec S16 32) a x).toNat < S65536.size a := fun v278 k1_hw154 => k1_hw154
@[reducible] def k1_t156_loop : Scf.Loop 32 :=
  let c0_i32_773 : BitVec 32 := 0#32
  let c64_i32_774 : BitVec 32 := 64#32
  let v161 : BitVec 32 := Scalar.addi c0_i32_773 c64_i32_774
  let c1_i32_775 : BitVec 32 := 1#32
  ⟨c0_i32_773, v161, c1_i32_775⟩
def k1_off158 (k1_t156 : Fin k1_t156_loop.trips) : Fin 2 → Nat :=
  let c10_i32_1282 : BitVec 32 := 10#32
  let v267 : Index := Scalar.indexCast c10_i32_1282
  let c0_i32_773 : BitVec 32 := 0#32
  let c1_i32_775 : BitVec 32 := 1#32
  let arg8 : BitVec 32 := Scf.iv c0_i32_773 c1_i32_775 k1_t156
  let c16_i32 : BitVec 32 := 16#32
  let v266 : BitVec 32 := Scalar.muli arg8 c16_i32
  let v268 : Index := Scalar.indexCast v266
  ![10, v268.toNat]

def k1_chk155 (v278 : IVec S16 32) : Prop :=
  (∀ a x, ((![v278] : Fin 1 → IVec S16 32) a x).toNat < S65536.size a)
theorem k1_idx155_inb : ∀ (v278 : IVec S16 32) (k1_hw155 : k1_chk155 v278), ∀ a x, ((![v278] : Fin 1 → IVec S16 32) a x).toNat < S65536.size a := fun v278 k1_hw155 => k1_hw155
@[reducible] def k1_t157_loop : Scf.Loop 32 :=
  let c0_i32_778 : BitVec 32 := 0#32
  let c64_i32_779 : BitVec 32 := 64#32
  let v162 : BitVec 32 := Scalar.addi c0_i32_778 c64_i32_779
  let c1_i32_780 : BitVec 32 := 1#32
  ⟨c0_i32_778, v162, c1_i32_780⟩
def k1_off159 (k1_t157 : Fin k1_t157_loop.trips) : Fin 2 → Nat :=
  let c11_i32 : BitVec 32 := 11#32
  let v267 : Index := Scalar.indexCast c11_i32
  let c0_i32_778 : BitVec 32 := 0#32
  let c1_i32_780 : BitVec 32 := 1#32
  let arg8 : BitVec 32 := Scf.iv c0_i32_778 c1_i32_780 k1_t157
  let c16_i32 : BitVec 32 := 16#32
  let v266 : BitVec 32 := Scalar.muli arg8 c16_i32
  let v268 : Index := Scalar.indexCast v266
  ![11, v268.toNat]

def k1_chk156 (v278 : IVec S16 32) : Prop :=
  (∀ a x, ((![v278] : Fin 1 → IVec S16 32) a x).toNat < S65536.size a)
theorem k1_idx156_inb : ∀ (v278 : IVec S16 32) (k1_hw156 : k1_chk156 v278), ∀ a x, ((![v278] : Fin 1 → IVec S16 32) a x).toNat < S65536.size a := fun v278 k1_hw156 => k1_hw156
@[reducible] def k1_t158_loop : Scf.Loop 32 :=
  let c0_i32_783 : BitVec 32 := 0#32
  let c64_i32_784 : BitVec 32 := 64#32
  let v163 : BitVec 32 := Scalar.addi c0_i32_783 c64_i32_784
  let c1_i32_785 : BitVec 32 := 1#32
  ⟨c0_i32_783, v163, c1_i32_785⟩
def k1_off160 (k1_t158 : Fin k1_t158_loop.trips) : Fin 2 → Nat :=
  let c12_i32_1282 : BitVec 32 := 12#32
  let v267 : Index := Scalar.indexCast c12_i32_1282
  let c0_i32_783 : BitVec 32 := 0#32
  let c1_i32_785 : BitVec 32 := 1#32
  let arg8 : BitVec 32 := Scf.iv c0_i32_783 c1_i32_785 k1_t158
  let c16_i32 : BitVec 32 := 16#32
  let v266 : BitVec 32 := Scalar.muli arg8 c16_i32
  let v268 : Index := Scalar.indexCast v266
  ![12, v268.toNat]

def k1_chk157 (v278 : IVec S16 32) : Prop :=
  (∀ a x, ((![v278] : Fin 1 → IVec S16 32) a x).toNat < S65536.size a)
theorem k1_idx157_inb : ∀ (v278 : IVec S16 32) (k1_hw157 : k1_chk157 v278), ∀ a x, ((![v278] : Fin 1 → IVec S16 32) a x).toNat < S65536.size a := fun v278 k1_hw157 => k1_hw157
@[reducible] def k1_t159_loop : Scf.Loop 32 :=
  let c0_i32_788 : BitVec 32 := 0#32
  let c64_i32_789 : BitVec 32 := 64#32
  let v164 : BitVec 32 := Scalar.addi c0_i32_788 c64_i32_789
  let c1_i32_790 : BitVec 32 := 1#32
  ⟨c0_i32_788, v164, c1_i32_790⟩
def k1_off161 (k1_t159 : Fin k1_t159_loop.trips) : Fin 2 → Nat :=
  let c13_i32 : BitVec 32 := 13#32
  let v267 : Index := Scalar.indexCast c13_i32
  let c0_i32_788 : BitVec 32 := 0#32
  let c1_i32_790 : BitVec 32 := 1#32
  let arg8 : BitVec 32 := Scf.iv c0_i32_788 c1_i32_790 k1_t159
  let c16_i32 : BitVec 32 := 16#32
  let v266 : BitVec 32 := Scalar.muli arg8 c16_i32
  let v268 : Index := Scalar.indexCast v266
  ![13, v268.toNat]

def k1_chk158 (v278 : IVec S16 32) : Prop :=
  (∀ a x, ((![v278] : Fin 1 → IVec S16 32) a x).toNat < S65536.size a)
theorem k1_idx158_inb : ∀ (v278 : IVec S16 32) (k1_hw158 : k1_chk158 v278), ∀ a x, ((![v278] : Fin 1 → IVec S16 32) a x).toNat < S65536.size a := fun v278 k1_hw158 => k1_hw158
@[reducible] def k1_t160_loop : Scf.Loop 32 :=
  let c0_i32_793 : BitVec 32 := 0#32
  let c64_i32_794 : BitVec 32 := 64#32
  let v165 : BitVec 32 := Scalar.addi c0_i32_793 c64_i32_794
  let c1_i32_795 : BitVec 32 := 1#32
  ⟨c0_i32_793, v165, c1_i32_795⟩
def k1_off162 (k1_t160 : Fin k1_t160_loop.trips) : Fin 2 → Nat :=
  let c14_i32_1282 : BitVec 32 := 14#32
  let v267 : Index := Scalar.indexCast c14_i32_1282
  let c0_i32_793 : BitVec 32 := 0#32
  let c1_i32_795 : BitVec 32 := 1#32
  let arg8 : BitVec 32 := Scf.iv c0_i32_793 c1_i32_795 k1_t160
  let c16_i32 : BitVec 32 := 16#32
  let v266 : BitVec 32 := Scalar.muli arg8 c16_i32
  let v268 : Index := Scalar.indexCast v266
  ![14, v268.toNat]

def k1_chk159 (v278 : IVec S16 32) : Prop :=
  (∀ a x, ((![v278] : Fin 1 → IVec S16 32) a x).toNat < S65536.size a)
theorem k1_idx159_inb : ∀ (v278 : IVec S16 32) (k1_hw159 : k1_chk159 v278), ∀ a x, ((![v278] : Fin 1 → IVec S16 32) a x).toNat < S65536.size a := fun v278 k1_hw159 => k1_hw159
@[reducible] def k1_t161_loop : Scf.Loop 32 :=
  let c0_i32_798 : BitVec 32 := 0#32
  let c64_i32_799 : BitVec 32 := 64#32
  let v166 : BitVec 32 := Scalar.addi c0_i32_798 c64_i32_799
  let c1_i32_800 : BitVec 32 := 1#32
  ⟨c0_i32_798, v166, c1_i32_800⟩
def k1_off163 (k1_t161 : Fin k1_t161_loop.trips) : Fin 2 → Nat :=
  let c15_i32 : BitVec 32 := 15#32
  let v267 : Index := Scalar.indexCast c15_i32
  let c0_i32_798 : BitVec 32 := 0#32
  let c1_i32_800 : BitVec 32 := 1#32
  let arg8 : BitVec 32 := Scf.iv c0_i32_798 c1_i32_800 k1_t161
  let c16_i32 : BitVec 32 := 16#32
  let v266 : BitVec 32 := Scalar.muli arg8 c16_i32
  let v268 : Index := Scalar.indexCast v266
  ![15, v268.toNat]

def k1_chk160 (v278 : IVec S16 32) : Prop :=
  (∀ a x, ((![v278] : Fin 1 → IVec S16 32) a x).toNat < S65536.size a)
theorem k1_idx160_inb : ∀ (v278 : IVec S16 32) (k1_hw160 : k1_chk160 v278), ∀ a x, ((![v278] : Fin 1 → IVec S16 32) a x).toNat < S65536.size a := fun v278 k1_hw160 => k1_hw160
@[reducible] def k1_t162_loop : Scf.Loop 32 :=
  let c0_i32_803 : BitVec 32 := 0#32
  let c64_i32_804 : BitVec 32 := 64#32
  let v168 : BitVec 32 := Scalar.addi c0_i32_803 c64_i32_804
  let c1_i32_805 : BitVec 32 := 1#32
  ⟨c0_i32_803, v168, c1_i32_805⟩
def k1_off164 (k1_t162 : Fin k1_t162_loop.trips) : Fin 2 → Nat :=
  let c0_i32_1282 : BitVec 32 := 0#32
  let v267 : Index := Scalar.indexCast c0_i32_1282
  let c0_i32_803 : BitVec 32 := 0#32
  let c1_i32_805 : BitVec 32 := 1#32
  let arg8 : BitVec 32 := Scf.iv c0_i32_803 c1_i32_805 k1_t162
  let c16_i32 : BitVec 32 := 16#32
  let v266 : BitVec 32 := Scalar.muli arg8 c16_i32
  let v268 : Index := Scalar.indexCast v266
  ![0, v268.toNat]

def k1_chk161 (v282 : IVec S16 32) : Prop :=
  (∀ a x, ((![v282] : Fin 1 → IVec S16 32) a x).toNat < S65536.size a)
theorem k1_idx161_inb : ∀ (v282 : IVec S16 32) (k1_hw161 : k1_chk161 v282), ∀ a x, ((![v282] : Fin 1 → IVec S16 32) a x).toNat < S65536.size a := fun v282 k1_hw161 => k1_hw161
@[reducible] def k1_t163_loop : Scf.Loop 32 :=
  let c0_i32_808 : BitVec 32 := 0#32
  let c64_i32_809 : BitVec 32 := 64#32
  let v169 : BitVec 32 := Scalar.addi c0_i32_808 c64_i32_809
  let c1_i32_810 : BitVec 32 := 1#32
  ⟨c0_i32_808, v169, c1_i32_810⟩
def k1_off165 (k1_t163 : Fin k1_t163_loop.trips) : Fin 2 → Nat :=
  let c1_i32_1282 : BitVec 32 := 1#32
  let v267 : Index := Scalar.indexCast c1_i32_1282
  let c0_i32_808 : BitVec 32 := 0#32
  let c1_i32_810 : BitVec 32 := 1#32
  let arg8 : BitVec 32 := Scf.iv c0_i32_808 c1_i32_810 k1_t163
  let c16_i32 : BitVec 32 := 16#32
  let v266 : BitVec 32 := Scalar.muli arg8 c16_i32
  let v268 : Index := Scalar.indexCast v266
  ![1, v268.toNat]

def k1_chk162 (v282 : IVec S16 32) : Prop :=
  (∀ a x, ((![v282] : Fin 1 → IVec S16 32) a x).toNat < S65536.size a)
theorem k1_idx162_inb : ∀ (v282 : IVec S16 32) (k1_hw162 : k1_chk162 v282), ∀ a x, ((![v282] : Fin 1 → IVec S16 32) a x).toNat < S65536.size a := fun v282 k1_hw162 => k1_hw162
@[reducible] def k1_t164_loop : Scf.Loop 32 :=
  let c0_i32_813 : BitVec 32 := 0#32
  let c64_i32_814 : BitVec 32 := 64#32
  let v170 : BitVec 32 := Scalar.addi c0_i32_813 c64_i32_814
  let c1_i32_815 : BitVec 32 := 1#32
  ⟨c0_i32_813, v170, c1_i32_815⟩
def k1_off166 (k1_t164 : Fin k1_t164_loop.trips) : Fin 2 → Nat :=
  let c2_i32_1282 : BitVec 32 := 2#32
  let v267 : Index := Scalar.indexCast c2_i32_1282
  let c0_i32_813 : BitVec 32 := 0#32
  let c1_i32_815 : BitVec 32 := 1#32
  let arg8 : BitVec 32 := Scf.iv c0_i32_813 c1_i32_815 k1_t164
  let c16_i32 : BitVec 32 := 16#32
  let v266 : BitVec 32 := Scalar.muli arg8 c16_i32
  let v268 : Index := Scalar.indexCast v266
  ![2, v268.toNat]

def k1_chk163 (v282 : IVec S16 32) : Prop :=
  (∀ a x, ((![v282] : Fin 1 → IVec S16 32) a x).toNat < S65536.size a)
theorem k1_idx163_inb : ∀ (v282 : IVec S16 32) (k1_hw163 : k1_chk163 v282), ∀ a x, ((![v282] : Fin 1 → IVec S16 32) a x).toNat < S65536.size a := fun v282 k1_hw163 => k1_hw163
@[reducible] def k1_t165_loop : Scf.Loop 32 :=
  let c0_i32_818 : BitVec 32 := 0#32
  let c64_i32_819 : BitVec 32 := 64#32
  let v171 : BitVec 32 := Scalar.addi c0_i32_818 c64_i32_819
  let c1_i32_820 : BitVec 32 := 1#32
  ⟨c0_i32_818, v171, c1_i32_820⟩
def k1_off167 (k1_t165 : Fin k1_t165_loop.trips) : Fin 2 → Nat :=
  let c3_i32 : BitVec 32 := 3#32
  let v267 : Index := Scalar.indexCast c3_i32
  let c0_i32_818 : BitVec 32 := 0#32
  let c1_i32_820 : BitVec 32 := 1#32
  let arg8 : BitVec 32 := Scf.iv c0_i32_818 c1_i32_820 k1_t165
  let c16_i32 : BitVec 32 := 16#32
  let v266 : BitVec 32 := Scalar.muli arg8 c16_i32
  let v268 : Index := Scalar.indexCast v266
  ![3, v268.toNat]

def k1_chk164 (v282 : IVec S16 32) : Prop :=
  (∀ a x, ((![v282] : Fin 1 → IVec S16 32) a x).toNat < S65536.size a)
theorem k1_idx164_inb : ∀ (v282 : IVec S16 32) (k1_hw164 : k1_chk164 v282), ∀ a x, ((![v282] : Fin 1 → IVec S16 32) a x).toNat < S65536.size a := fun v282 k1_hw164 => k1_hw164
@[reducible] def k1_t166_loop : Scf.Loop 32 :=
  let c0_i32_823 : BitVec 32 := 0#32
  let c64_i32_824 : BitVec 32 := 64#32
  let v172 : BitVec 32 := Scalar.addi c0_i32_823 c64_i32_824
  let c1_i32_825 : BitVec 32 := 1#32
  ⟨c0_i32_823, v172, c1_i32_825⟩
def k1_off168 (k1_t166 : Fin k1_t166_loop.trips) : Fin 2 → Nat :=
  let c4_i32_1282 : BitVec 32 := 4#32
  let v267 : Index := Scalar.indexCast c4_i32_1282
  let c0_i32_823 : BitVec 32 := 0#32
  let c1_i32_825 : BitVec 32 := 1#32
  let arg8 : BitVec 32 := Scf.iv c0_i32_823 c1_i32_825 k1_t166
  let c16_i32 : BitVec 32 := 16#32
  let v266 : BitVec 32 := Scalar.muli arg8 c16_i32
  let v268 : Index := Scalar.indexCast v266
  ![4, v268.toNat]

def k1_chk165 (v282 : IVec S16 32) : Prop :=
  (∀ a x, ((![v282] : Fin 1 → IVec S16 32) a x).toNat < S65536.size a)
theorem k1_idx165_inb : ∀ (v282 : IVec S16 32) (k1_hw165 : k1_chk165 v282), ∀ a x, ((![v282] : Fin 1 → IVec S16 32) a x).toNat < S65536.size a := fun v282 k1_hw165 => k1_hw165
@[reducible] def k1_t167_loop : Scf.Loop 32 :=
  let c0_i32_828 : BitVec 32 := 0#32
  let c64_i32_829 : BitVec 32 := 64#32
  let v173 : BitVec 32 := Scalar.addi c0_i32_828 c64_i32_829
  let c1_i32_830 : BitVec 32 := 1#32
  ⟨c0_i32_828, v173, c1_i32_830⟩
def k1_off169 (k1_t167 : Fin k1_t167_loop.trips) : Fin 2 → Nat :=
  let c5_i32 : BitVec 32 := 5#32
  let v267 : Index := Scalar.indexCast c5_i32
  let c0_i32_828 : BitVec 32 := 0#32
  let c1_i32_830 : BitVec 32 := 1#32
  let arg8 : BitVec 32 := Scf.iv c0_i32_828 c1_i32_830 k1_t167
  let c16_i32 : BitVec 32 := 16#32
  let v266 : BitVec 32 := Scalar.muli arg8 c16_i32
  let v268 : Index := Scalar.indexCast v266
  ![5, v268.toNat]

def k1_chk166 (v282 : IVec S16 32) : Prop :=
  (∀ a x, ((![v282] : Fin 1 → IVec S16 32) a x).toNat < S65536.size a)
theorem k1_idx166_inb : ∀ (v282 : IVec S16 32) (k1_hw166 : k1_chk166 v282), ∀ a x, ((![v282] : Fin 1 → IVec S16 32) a x).toNat < S65536.size a := fun v282 k1_hw166 => k1_hw166
@[reducible] def k1_t168_loop : Scf.Loop 32 :=
  let c0_i32_833 : BitVec 32 := 0#32
  let c64_i32_834 : BitVec 32 := 64#32
  let v174 : BitVec 32 := Scalar.addi c0_i32_833 c64_i32_834
  let c1_i32_835 : BitVec 32 := 1#32
  ⟨c0_i32_833, v174, c1_i32_835⟩
def k1_off170 (k1_t168 : Fin k1_t168_loop.trips) : Fin 2 → Nat :=
  let c6_i32_1282 : BitVec 32 := 6#32
  let v267 : Index := Scalar.indexCast c6_i32_1282
  let c0_i32_833 : BitVec 32 := 0#32
  let c1_i32_835 : BitVec 32 := 1#32
  let arg8 : BitVec 32 := Scf.iv c0_i32_833 c1_i32_835 k1_t168
  let c16_i32 : BitVec 32 := 16#32
  let v266 : BitVec 32 := Scalar.muli arg8 c16_i32
  let v268 : Index := Scalar.indexCast v266
  ![6, v268.toNat]

def k1_chk167 (v282 : IVec S16 32) : Prop :=
  (∀ a x, ((![v282] : Fin 1 → IVec S16 32) a x).toNat < S65536.size a)
theorem k1_idx167_inb : ∀ (v282 : IVec S16 32) (k1_hw167 : k1_chk167 v282), ∀ a x, ((![v282] : Fin 1 → IVec S16 32) a x).toNat < S65536.size a := fun v282 k1_hw167 => k1_hw167
@[reducible] def k1_t169_loop : Scf.Loop 32 :=
  let c0_i32_838 : BitVec 32 := 0#32
  let c64_i32_839 : BitVec 32 := 64#32
  let v175 : BitVec 32 := Scalar.addi c0_i32_838 c64_i32_839
  let c1_i32_840 : BitVec 32 := 1#32
  ⟨c0_i32_838, v175, c1_i32_840⟩
def k1_off171 (k1_t169 : Fin k1_t169_loop.trips) : Fin 2 → Nat :=
  let c7_i32 : BitVec 32 := 7#32
  let v267 : Index := Scalar.indexCast c7_i32
  let c0_i32_838 : BitVec 32 := 0#32
  let c1_i32_840 : BitVec 32 := 1#32
  let arg8 : BitVec 32 := Scf.iv c0_i32_838 c1_i32_840 k1_t169
  let c16_i32 : BitVec 32 := 16#32
  let v266 : BitVec 32 := Scalar.muli arg8 c16_i32
  let v268 : Index := Scalar.indexCast v266
  ![7, v268.toNat]

def k1_chk168 (v282 : IVec S16 32) : Prop :=
  (∀ a x, ((![v282] : Fin 1 → IVec S16 32) a x).toNat < S65536.size a)
theorem k1_idx168_inb : ∀ (v282 : IVec S16 32) (k1_hw168 : k1_chk168 v282), ∀ a x, ((![v282] : Fin 1 → IVec S16 32) a x).toNat < S65536.size a := fun v282 k1_hw168 => k1_hw168
@[reducible] def k1_t170_loop : Scf.Loop 32 :=
  let c0_i32_843 : BitVec 32 := 0#32
  let c64_i32_844 : BitVec 32 := 64#32
  let v176 : BitVec 32 := Scalar.addi c0_i32_843 c64_i32_844
  let c1_i32_845 : BitVec 32 := 1#32
  ⟨c0_i32_843, v176, c1_i32_845⟩
def k1_off172 (k1_t170 : Fin k1_t170_loop.trips) : Fin 2 → Nat :=
  let c8_i32_1282 : BitVec 32 := 8#32
  let v267 : Index := Scalar.indexCast c8_i32_1282
  let c0_i32_843 : BitVec 32 := 0#32
  let c1_i32_845 : BitVec 32 := 1#32
  let arg8 : BitVec 32 := Scf.iv c0_i32_843 c1_i32_845 k1_t170
  let c16_i32 : BitVec 32 := 16#32
  let v266 : BitVec 32 := Scalar.muli arg8 c16_i32
  let v268 : Index := Scalar.indexCast v266
  ![8, v268.toNat]

def k1_chk169 (v282 : IVec S16 32) : Prop :=
  (∀ a x, ((![v282] : Fin 1 → IVec S16 32) a x).toNat < S65536.size a)
theorem k1_idx169_inb : ∀ (v282 : IVec S16 32) (k1_hw169 : k1_chk169 v282), ∀ a x, ((![v282] : Fin 1 → IVec S16 32) a x).toNat < S65536.size a := fun v282 k1_hw169 => k1_hw169
@[reducible] def k1_t171_loop : Scf.Loop 32 :=
  let c0_i32_848 : BitVec 32 := 0#32
  let c64_i32_849 : BitVec 32 := 64#32
  let v177 : BitVec 32 := Scalar.addi c0_i32_848 c64_i32_849
  let c1_i32_850 : BitVec 32 := 1#32
  ⟨c0_i32_848, v177, c1_i32_850⟩
def k1_off173 (k1_t171 : Fin k1_t171_loop.trips) : Fin 2 → Nat :=
  let c9_i32 : BitVec 32 := 9#32
  let v267 : Index := Scalar.indexCast c9_i32
  let c0_i32_848 : BitVec 32 := 0#32
  let c1_i32_850 : BitVec 32 := 1#32
  let arg8 : BitVec 32 := Scf.iv c0_i32_848 c1_i32_850 k1_t171
  let c16_i32 : BitVec 32 := 16#32
  let v266 : BitVec 32 := Scalar.muli arg8 c16_i32
  let v268 : Index := Scalar.indexCast v266
  ![9, v268.toNat]

def k1_chk170 (v282 : IVec S16 32) : Prop :=
  (∀ a x, ((![v282] : Fin 1 → IVec S16 32) a x).toNat < S65536.size a)
theorem k1_idx170_inb : ∀ (v282 : IVec S16 32) (k1_hw170 : k1_chk170 v282), ∀ a x, ((![v282] : Fin 1 → IVec S16 32) a x).toNat < S65536.size a := fun v282 k1_hw170 => k1_hw170
@[reducible] def k1_t172_loop : Scf.Loop 32 :=
  let c0_i32_853 : BitVec 32 := 0#32
  let c64_i32_854 : BitVec 32 := 64#32
  let v178 : BitVec 32 := Scalar.addi c0_i32_853 c64_i32_854
  let c1_i32_855 : BitVec 32 := 1#32
  ⟨c0_i32_853, v178, c1_i32_855⟩
def k1_off174 (k1_t172 : Fin k1_t172_loop.trips) : Fin 2 → Nat :=
  let c10_i32_1282 : BitVec 32 := 10#32
  let v267 : Index := Scalar.indexCast c10_i32_1282
  let c0_i32_853 : BitVec 32 := 0#32
  let c1_i32_855 : BitVec 32 := 1#32
  let arg8 : BitVec 32 := Scf.iv c0_i32_853 c1_i32_855 k1_t172
  let c16_i32 : BitVec 32 := 16#32
  let v266 : BitVec 32 := Scalar.muli arg8 c16_i32
  let v268 : Index := Scalar.indexCast v266
  ![10, v268.toNat]

def k1_chk171 (v282 : IVec S16 32) : Prop :=
  (∀ a x, ((![v282] : Fin 1 → IVec S16 32) a x).toNat < S65536.size a)
theorem k1_idx171_inb : ∀ (v282 : IVec S16 32) (k1_hw171 : k1_chk171 v282), ∀ a x, ((![v282] : Fin 1 → IVec S16 32) a x).toNat < S65536.size a := fun v282 k1_hw171 => k1_hw171
@[reducible] def k1_t173_loop : Scf.Loop 32 :=
  let c0_i32_858 : BitVec 32 := 0#32
  let c64_i32_859 : BitVec 32 := 64#32
  let v179 : BitVec 32 := Scalar.addi c0_i32_858 c64_i32_859
  let c1_i32_860 : BitVec 32 := 1#32
  ⟨c0_i32_858, v179, c1_i32_860⟩
def k1_off175 (k1_t173 : Fin k1_t173_loop.trips) : Fin 2 → Nat :=
  let c11_i32 : BitVec 32 := 11#32
  let v267 : Index := Scalar.indexCast c11_i32
  let c0_i32_858 : BitVec 32 := 0#32
  let c1_i32_860 : BitVec 32 := 1#32
  let arg8 : BitVec 32 := Scf.iv c0_i32_858 c1_i32_860 k1_t173
  let c16_i32 : BitVec 32 := 16#32
  let v266 : BitVec 32 := Scalar.muli arg8 c16_i32
  let v268 : Index := Scalar.indexCast v266
  ![11, v268.toNat]

def k1_chk172 (v282 : IVec S16 32) : Prop :=
  (∀ a x, ((![v282] : Fin 1 → IVec S16 32) a x).toNat < S65536.size a)
theorem k1_idx172_inb : ∀ (v282 : IVec S16 32) (k1_hw172 : k1_chk172 v282), ∀ a x, ((![v282] : Fin 1 → IVec S16 32) a x).toNat < S65536.size a := fun v282 k1_hw172 => k1_hw172
@[reducible] def k1_t174_loop : Scf.Loop 32 :=
  let c0_i32_863 : BitVec 32 := 0#32
  let c64_i32_864 : BitVec 32 := 64#32
  let v180 : BitVec 32 := Scalar.addi c0_i32_863 c64_i32_864
  let c1_i32_865 : BitVec 32 := 1#32
  ⟨c0_i32_863, v180, c1_i32_865⟩
def k1_off176 (k1_t174 : Fin k1_t174_loop.trips) : Fin 2 → Nat :=
  let c12_i32_1282 : BitVec 32 := 12#32
  let v267 : Index := Scalar.indexCast c12_i32_1282
  let c0_i32_863 : BitVec 32 := 0#32
  let c1_i32_865 : BitVec 32 := 1#32
  let arg8 : BitVec 32 := Scf.iv c0_i32_863 c1_i32_865 k1_t174
  let c16_i32 : BitVec 32 := 16#32
  let v266 : BitVec 32 := Scalar.muli arg8 c16_i32
  let v268 : Index := Scalar.indexCast v266
  ![12, v268.toNat]

def k1_chk173 (v282 : IVec S16 32) : Prop :=
  (∀ a x, ((![v282] : Fin 1 → IVec S16 32) a x).toNat < S65536.size a)
theorem k1_idx173_inb : ∀ (v282 : IVec S16 32) (k1_hw173 : k1_chk173 v282), ∀ a x, ((![v282] : Fin 1 → IVec S16 32) a x).toNat < S65536.size a := fun v282 k1_hw173 => k1_hw173
@[reducible] def k1_t175_loop : Scf.Loop 32 :=
  let c0_i32_868 : BitVec 32 := 0#32
  let c64_i32_869 : BitVec 32 := 64#32
  let v181 : BitVec 32 := Scalar.addi c0_i32_868 c64_i32_869
  let c1_i32_870 : BitVec 32 := 1#32
  ⟨c0_i32_868, v181, c1_i32_870⟩
def k1_off177 (k1_t175 : Fin k1_t175_loop.trips) : Fin 2 → Nat :=
  let c13_i32 : BitVec 32 := 13#32
  let v267 : Index := Scalar.indexCast c13_i32
  let c0_i32_868 : BitVec 32 := 0#32
  let c1_i32_870 : BitVec 32 := 1#32
  let arg8 : BitVec 32 := Scf.iv c0_i32_868 c1_i32_870 k1_t175
  let c16_i32 : BitVec 32 := 16#32
  let v266 : BitVec 32 := Scalar.muli arg8 c16_i32
  let v268 : Index := Scalar.indexCast v266
  ![13, v268.toNat]

def k1_chk174 (v282 : IVec S16 32) : Prop :=
  (∀ a x, ((![v282] : Fin 1 → IVec S16 32) a x).toNat < S65536.size a)
theorem k1_idx174_inb : ∀ (v282 : IVec S16 32) (k1_hw174 : k1_chk174 v282), ∀ a x, ((![v282] : Fin 1 → IVec S16 32) a x).toNat < S65536.size a := fun v282 k1_hw174 => k1_hw174
@[reducible] def k1_t176_loop : Scf.Loop 32 :=
  let c0_i32_873 : BitVec 32 := 0#32
  let c64_i32_874 : BitVec 32 := 64#32
  let v182 : BitVec 32 := Scalar.addi c0_i32_873 c64_i32_874
  let c1_i32_875 : BitVec 32 := 1#32
  ⟨c0_i32_873, v182, c1_i32_875⟩
def k1_off178 (k1_t176 : Fin k1_t176_loop.trips) : Fin 2 → Nat :=
  let c14_i32_1282 : BitVec 32 := 14#32
  let v267 : Index := Scalar.indexCast c14_i32_1282
  let c0_i32_873 : BitVec 32 := 0#32
  let c1_i32_875 : BitVec 32 := 1#32
  let arg8 : BitVec 32 := Scf.iv c0_i32_873 c1_i32_875 k1_t176
  let c16_i32 : BitVec 32 := 16#32
  let v266 : BitVec 32 := Scalar.muli arg8 c16_i32
  let v268 : Index := Scalar.indexCast v266
  ![14, v268.toNat]

def k1_chk175 (v282 : IVec S16 32) : Prop :=
  (∀ a x, ((![v282] : Fin 1 → IVec S16 32) a x).toNat < S65536.size a)
theorem k1_idx175_inb : ∀ (v282 : IVec S16 32) (k1_hw175 : k1_chk175 v282), ∀ a x, ((![v282] : Fin 1 → IVec S16 32) a x).toNat < S65536.size a := fun v282 k1_hw175 => k1_hw175
@[reducible] def k1_t177_loop : Scf.Loop 32 :=
  let c0_i32_878 : BitVec 32 := 0#32
  let c64_i32_879 : BitVec 32 := 64#32
  let v183 : BitVec 32 := Scalar.addi c0_i32_878 c64_i32_879
  let c1_i32_880 : BitVec 32 := 1#32
  ⟨c0_i32_878, v183, c1_i32_880⟩
def k1_off179 (k1_t177 : Fin k1_t177_loop.trips) : Fin 2 → Nat :=
  let c15_i32 : BitVec 32 := 15#32
  let v267 : Index := Scalar.indexCast c15_i32
  let c0_i32_878 : BitVec 32 := 0#32
  let c1_i32_880 : BitVec 32 := 1#32
  let arg8 : BitVec 32 := Scf.iv c0_i32_878 c1_i32_880 k1_t177
  let c16_i32 : BitVec 32 := 16#32
  let v266 : BitVec 32 := Scalar.muli arg8 c16_i32
  let v268 : Index := Scalar.indexCast v266
  ![15, v268.toNat]

def k1_chk176 (v282 : IVec S16 32) : Prop :=
  (∀ a x, ((![v282] : Fin 1 → IVec S16 32) a x).toNat < S65536.size a)
theorem k1_idx176_inb : ∀ (v282 : IVec S16 32) (k1_hw176 : k1_chk176 v282), ∀ a x, ((![v282] : Fin 1 → IVec S16 32) a x).toNat < S65536.size a := fun v282 k1_hw176 => k1_hw176
@[reducible] def k1_t178_loop : Scf.Loop 32 :=
  let c0_i32_883 : BitVec 32 := 0#32
  let c64_i32_884 : BitVec 32 := 64#32
  let v184 : BitVec 32 := Scalar.addi c0_i32_883 c64_i32_884
  let c1_i32_885 : BitVec 32 := 1#32
  ⟨c0_i32_883, v184, c1_i32_885⟩
def k1_off180 (k1_t178 : Fin k1_t178_loop.trips) : Fin 2 → Nat :=
  let c0_i32_1282 : BitVec 32 := 0#32
  let v267 : Index := Scalar.indexCast c0_i32_1282
  let c0_i32_883 : BitVec 32 := 0#32
  let c1_i32_885 : BitVec 32 := 1#32
  let arg8 : BitVec 32 := Scf.iv c0_i32_883 c1_i32_885 k1_t178
  let c16_i32 : BitVec 32 := 16#32
  let v266 : BitVec 32 := Scalar.muli arg8 c16_i32
  let v268 : Index := Scalar.indexCast v266
  ![0, v268.toNat]

def k1_chk177 (v278 : IVec S16 32) : Prop :=
  (∀ a x, ((![v278] : Fin 1 → IVec S16 32) a x).toNat < S65536.size a)
theorem k1_idx177_inb : ∀ (v278 : IVec S16 32) (k1_hw177 : k1_chk177 v278), ∀ a x, ((![v278] : Fin 1 → IVec S16 32) a x).toNat < S65536.size a := fun v278 k1_hw177 => k1_hw177
@[reducible] def k1_t179_loop : Scf.Loop 32 :=
  let c0_i32_888 : BitVec 32 := 0#32
  let c64_i32_889 : BitVec 32 := 64#32
  let v185 : BitVec 32 := Scalar.addi c0_i32_888 c64_i32_889
  let c1_i32_890 : BitVec 32 := 1#32
  ⟨c0_i32_888, v185, c1_i32_890⟩
def k1_off181 (k1_t179 : Fin k1_t179_loop.trips) : Fin 2 → Nat :=
  let c1_i32_1282 : BitVec 32 := 1#32
  let v267 : Index := Scalar.indexCast c1_i32_1282
  let c0_i32_888 : BitVec 32 := 0#32
  let c1_i32_890 : BitVec 32 := 1#32
  let arg8 : BitVec 32 := Scf.iv c0_i32_888 c1_i32_890 k1_t179
  let c16_i32 : BitVec 32 := 16#32
  let v266 : BitVec 32 := Scalar.muli arg8 c16_i32
  let v268 : Index := Scalar.indexCast v266
  ![1, v268.toNat]

def k1_chk178 (v278 : IVec S16 32) : Prop :=
  (∀ a x, ((![v278] : Fin 1 → IVec S16 32) a x).toNat < S65536.size a)
theorem k1_idx178_inb : ∀ (v278 : IVec S16 32) (k1_hw178 : k1_chk178 v278), ∀ a x, ((![v278] : Fin 1 → IVec S16 32) a x).toNat < S65536.size a := fun v278 k1_hw178 => k1_hw178
@[reducible] def k1_t180_loop : Scf.Loop 32 :=
  let c0_i32_893 : BitVec 32 := 0#32
  let c64_i32_894 : BitVec 32 := 64#32
  let v186 : BitVec 32 := Scalar.addi c0_i32_893 c64_i32_894
  let c1_i32_895 : BitVec 32 := 1#32
  ⟨c0_i32_893, v186, c1_i32_895⟩
def k1_off182 (k1_t180 : Fin k1_t180_loop.trips) : Fin 2 → Nat :=
  let c2_i32_1282 : BitVec 32 := 2#32
  let v267 : Index := Scalar.indexCast c2_i32_1282
  let c0_i32_893 : BitVec 32 := 0#32
  let c1_i32_895 : BitVec 32 := 1#32
  let arg8 : BitVec 32 := Scf.iv c0_i32_893 c1_i32_895 k1_t180
  let c16_i32 : BitVec 32 := 16#32
  let v266 : BitVec 32 := Scalar.muli arg8 c16_i32
  let v268 : Index := Scalar.indexCast v266
  ![2, v268.toNat]

def k1_chk179 (v278 : IVec S16 32) : Prop :=
  (∀ a x, ((![v278] : Fin 1 → IVec S16 32) a x).toNat < S65536.size a)
theorem k1_idx179_inb : ∀ (v278 : IVec S16 32) (k1_hw179 : k1_chk179 v278), ∀ a x, ((![v278] : Fin 1 → IVec S16 32) a x).toNat < S65536.size a := fun v278 k1_hw179 => k1_hw179
@[reducible] def k1_t181_loop : Scf.Loop 32 :=
  let c0_i32_898 : BitVec 32 := 0#32
  let c64_i32_899 : BitVec 32 := 64#32
  let v187 : BitVec 32 := Scalar.addi c0_i32_898 c64_i32_899
  let c1_i32_900 : BitVec 32 := 1#32
  ⟨c0_i32_898, v187, c1_i32_900⟩
def k1_off183 (k1_t181 : Fin k1_t181_loop.trips) : Fin 2 → Nat :=
  let c3_i32 : BitVec 32 := 3#32
  let v267 : Index := Scalar.indexCast c3_i32
  let c0_i32_898 : BitVec 32 := 0#32
  let c1_i32_900 : BitVec 32 := 1#32
  let arg8 : BitVec 32 := Scf.iv c0_i32_898 c1_i32_900 k1_t181
  let c16_i32 : BitVec 32 := 16#32
  let v266 : BitVec 32 := Scalar.muli arg8 c16_i32
  let v268 : Index := Scalar.indexCast v266
  ![3, v268.toNat]

def k1_chk180 (v278 : IVec S16 32) : Prop :=
  (∀ a x, ((![v278] : Fin 1 → IVec S16 32) a x).toNat < S65536.size a)
theorem k1_idx180_inb : ∀ (v278 : IVec S16 32) (k1_hw180 : k1_chk180 v278), ∀ a x, ((![v278] : Fin 1 → IVec S16 32) a x).toNat < S65536.size a := fun v278 k1_hw180 => k1_hw180
@[reducible] def k1_t182_loop : Scf.Loop 32 :=
  let c0_i32_903 : BitVec 32 := 0#32
  let c64_i32_904 : BitVec 32 := 64#32
  let v188 : BitVec 32 := Scalar.addi c0_i32_903 c64_i32_904
  let c1_i32_905 : BitVec 32 := 1#32
  ⟨c0_i32_903, v188, c1_i32_905⟩
def k1_off184 (k1_t182 : Fin k1_t182_loop.trips) : Fin 2 → Nat :=
  let c4_i32_1282 : BitVec 32 := 4#32
  let v267 : Index := Scalar.indexCast c4_i32_1282
  let c0_i32_903 : BitVec 32 := 0#32
  let c1_i32_905 : BitVec 32 := 1#32
  let arg8 : BitVec 32 := Scf.iv c0_i32_903 c1_i32_905 k1_t182
  let c16_i32 : BitVec 32 := 16#32
  let v266 : BitVec 32 := Scalar.muli arg8 c16_i32
  let v268 : Index := Scalar.indexCast v266
  ![4, v268.toNat]

def k1_chk181 (v278 : IVec S16 32) : Prop :=
  (∀ a x, ((![v278] : Fin 1 → IVec S16 32) a x).toNat < S65536.size a)
theorem k1_idx181_inb : ∀ (v278 : IVec S16 32) (k1_hw181 : k1_chk181 v278), ∀ a x, ((![v278] : Fin 1 → IVec S16 32) a x).toNat < S65536.size a := fun v278 k1_hw181 => k1_hw181
@[reducible] def k1_t183_loop : Scf.Loop 32 :=
  let c0_i32_908 : BitVec 32 := 0#32
  let c64_i32_909 : BitVec 32 := 64#32
  let v189 : BitVec 32 := Scalar.addi c0_i32_908 c64_i32_909
  let c1_i32_910 : BitVec 32 := 1#32
  ⟨c0_i32_908, v189, c1_i32_910⟩
def k1_off185 (k1_t183 : Fin k1_t183_loop.trips) : Fin 2 → Nat :=
  let c5_i32 : BitVec 32 := 5#32
  let v267 : Index := Scalar.indexCast c5_i32
  let c0_i32_908 : BitVec 32 := 0#32
  let c1_i32_910 : BitVec 32 := 1#32
  let arg8 : BitVec 32 := Scf.iv c0_i32_908 c1_i32_910 k1_t183
  let c16_i32 : BitVec 32 := 16#32
  let v266 : BitVec 32 := Scalar.muli arg8 c16_i32
  let v268 : Index := Scalar.indexCast v266
  ![5, v268.toNat]

def k1_chk182 (v278 : IVec S16 32) : Prop :=
  (∀ a x, ((![v278] : Fin 1 → IVec S16 32) a x).toNat < S65536.size a)
theorem k1_idx182_inb : ∀ (v278 : IVec S16 32) (k1_hw182 : k1_chk182 v278), ∀ a x, ((![v278] : Fin 1 → IVec S16 32) a x).toNat < S65536.size a := fun v278 k1_hw182 => k1_hw182
@[reducible] def k1_t184_loop : Scf.Loop 32 :=
  let c0_i32_913 : BitVec 32 := 0#32
  let c64_i32_914 : BitVec 32 := 64#32
  let v190 : BitVec 32 := Scalar.addi c0_i32_913 c64_i32_914
  let c1_i32_915 : BitVec 32 := 1#32
  ⟨c0_i32_913, v190, c1_i32_915⟩
def k1_off186 (k1_t184 : Fin k1_t184_loop.trips) : Fin 2 → Nat :=
  let c6_i32_1282 : BitVec 32 := 6#32
  let v267 : Index := Scalar.indexCast c6_i32_1282
  let c0_i32_913 : BitVec 32 := 0#32
  let c1_i32_915 : BitVec 32 := 1#32
  let arg8 : BitVec 32 := Scf.iv c0_i32_913 c1_i32_915 k1_t184
  let c16_i32 : BitVec 32 := 16#32
  let v266 : BitVec 32 := Scalar.muli arg8 c16_i32
  let v268 : Index := Scalar.indexCast v266
  ![6, v268.toNat]

def k1_chk183 (v278 : IVec S16 32) : Prop :=
  (∀ a x, ((![v278] : Fin 1 → IVec S16 32) a x).toNat < S65536.size a)
theorem k1_idx183_inb : ∀ (v278 : IVec S16 32) (k1_hw183 : k1_chk183 v278), ∀ a x, ((![v278] : Fin 1 → IVec S16 32) a x).toNat < S65536.size a := fun v278 k1_hw183 => k1_hw183
@[reducible] def k1_t185_loop : Scf.Loop 32 :=
  let c0_i32_918 : BitVec 32 := 0#32
  let c64_i32_919 : BitVec 32 := 64#32
  let v191 : BitVec 32 := Scalar.addi c0_i32_918 c64_i32_919
  let c1_i32_920 : BitVec 32 := 1#32
  ⟨c0_i32_918, v191, c1_i32_920⟩
def k1_off187 (k1_t185 : Fin k1_t185_loop.trips) : Fin 2 → Nat :=
  let c7_i32 : BitVec 32 := 7#32
  let v267 : Index := Scalar.indexCast c7_i32
  let c0_i32_918 : BitVec 32 := 0#32
  let c1_i32_920 : BitVec 32 := 1#32
  let arg8 : BitVec 32 := Scf.iv c0_i32_918 c1_i32_920 k1_t185
  let c16_i32 : BitVec 32 := 16#32
  let v266 : BitVec 32 := Scalar.muli arg8 c16_i32
  let v268 : Index := Scalar.indexCast v266
  ![7, v268.toNat]

def k1_chk184 (v278 : IVec S16 32) : Prop :=
  (∀ a x, ((![v278] : Fin 1 → IVec S16 32) a x).toNat < S65536.size a)
theorem k1_idx184_inb : ∀ (v278 : IVec S16 32) (k1_hw184 : k1_chk184 v278), ∀ a x, ((![v278] : Fin 1 → IVec S16 32) a x).toNat < S65536.size a := fun v278 k1_hw184 => k1_hw184
@[reducible] def k1_t186_loop : Scf.Loop 32 :=
  let c0_i32_923 : BitVec 32 := 0#32
  let c64_i32_924 : BitVec 32 := 64#32
  let v192 : BitVec 32 := Scalar.addi c0_i32_923 c64_i32_924
  let c1_i32_925 : BitVec 32 := 1#32
  ⟨c0_i32_923, v192, c1_i32_925⟩
def k1_off188 (k1_t186 : Fin k1_t186_loop.trips) : Fin 2 → Nat :=
  let c8_i32_1282 : BitVec 32 := 8#32
  let v267 : Index := Scalar.indexCast c8_i32_1282
  let c0_i32_923 : BitVec 32 := 0#32
  let c1_i32_925 : BitVec 32 := 1#32
  let arg8 : BitVec 32 := Scf.iv c0_i32_923 c1_i32_925 k1_t186
  let c16_i32 : BitVec 32 := 16#32
  let v266 : BitVec 32 := Scalar.muli arg8 c16_i32
  let v268 : Index := Scalar.indexCast v266
  ![8, v268.toNat]

def k1_chk185 (v278 : IVec S16 32) : Prop :=
  (∀ a x, ((![v278] : Fin 1 → IVec S16 32) a x).toNat < S65536.size a)
theorem k1_idx185_inb : ∀ (v278 : IVec S16 32) (k1_hw185 : k1_chk185 v278), ∀ a x, ((![v278] : Fin 1 → IVec S16 32) a x).toNat < S65536.size a := fun v278 k1_hw185 => k1_hw185
@[reducible] def k1_t187_loop : Scf.Loop 32 :=
  let c0_i32_928 : BitVec 32 := 0#32
  let c64_i32_929 : BitVec 32 := 64#32
  let v193 : BitVec 32 := Scalar.addi c0_i32_928 c64_i32_929
  let c1_i32_930 : BitVec 32 := 1#32
  ⟨c0_i32_928, v193, c1_i32_930⟩
def k1_off189 (k1_t187 : Fin k1_t187_loop.trips) : Fin 2 → Nat :=
  let c9_i32 : BitVec 32 := 9#32
  let v267 : Index := Scalar.indexCast c9_i32
  let c0_i32_928 : BitVec 32 := 0#32
  let c1_i32_930 : BitVec 32 := 1#32
  let arg8 : BitVec 32 := Scf.iv c0_i32_928 c1_i32_930 k1_t187
  let c16_i32 : BitVec 32 := 16#32
  let v266 : BitVec 32 := Scalar.muli arg8 c16_i32
  let v268 : Index := Scalar.indexCast v266
  ![9, v268.toNat]

def k1_chk186 (v278 : IVec S16 32) : Prop :=
  (∀ a x, ((![v278] : Fin 1 → IVec S16 32) a x).toNat < S65536.size a)
theorem k1_idx186_inb : ∀ (v278 : IVec S16 32) (k1_hw186 : k1_chk186 v278), ∀ a x, ((![v278] : Fin 1 → IVec S16 32) a x).toNat < S65536.size a := fun v278 k1_hw186 => k1_hw186
@[reducible] def k1_t188_loop : Scf.Loop 32 :=
  let c0_i32_933 : BitVec 32 := 0#32
  let c64_i32_934 : BitVec 32 := 64#32
  let v194 : BitVec 32 := Scalar.addi c0_i32_933 c64_i32_934
  let c1_i32_935 : BitVec 32 := 1#32
  ⟨c0_i32_933, v194, c1_i32_935⟩
def k1_off190 (k1_t188 : Fin k1_t188_loop.trips) : Fin 2 → Nat :=
  let c10_i32_1282 : BitVec 32 := 10#32
  let v267 : Index := Scalar.indexCast c10_i32_1282
  let c0_i32_933 : BitVec 32 := 0#32
  let c1_i32_935 : BitVec 32 := 1#32
  let arg8 : BitVec 32 := Scf.iv c0_i32_933 c1_i32_935 k1_t188
  let c16_i32 : BitVec 32 := 16#32
  let v266 : BitVec 32 := Scalar.muli arg8 c16_i32
  let v268 : Index := Scalar.indexCast v266
  ![10, v268.toNat]

def k1_chk187 (v278 : IVec S16 32) : Prop :=
  (∀ a x, ((![v278] : Fin 1 → IVec S16 32) a x).toNat < S65536.size a)
theorem k1_idx187_inb : ∀ (v278 : IVec S16 32) (k1_hw187 : k1_chk187 v278), ∀ a x, ((![v278] : Fin 1 → IVec S16 32) a x).toNat < S65536.size a := fun v278 k1_hw187 => k1_hw187
@[reducible] def k1_t189_loop : Scf.Loop 32 :=
  let c0_i32_938 : BitVec 32 := 0#32
  let c64_i32_939 : BitVec 32 := 64#32
  let v195 : BitVec 32 := Scalar.addi c0_i32_938 c64_i32_939
  let c1_i32_940 : BitVec 32 := 1#32
  ⟨c0_i32_938, v195, c1_i32_940⟩
def k1_off191 (k1_t189 : Fin k1_t189_loop.trips) : Fin 2 → Nat :=
  let c11_i32 : BitVec 32 := 11#32
  let v267 : Index := Scalar.indexCast c11_i32
  let c0_i32_938 : BitVec 32 := 0#32
  let c1_i32_940 : BitVec 32 := 1#32
  let arg8 : BitVec 32 := Scf.iv c0_i32_938 c1_i32_940 k1_t189
  let c16_i32 : BitVec 32 := 16#32
  let v266 : BitVec 32 := Scalar.muli arg8 c16_i32
  let v268 : Index := Scalar.indexCast v266
  ![11, v268.toNat]

def k1_chk188 (v278 : IVec S16 32) : Prop :=
  (∀ a x, ((![v278] : Fin 1 → IVec S16 32) a x).toNat < S65536.size a)
theorem k1_idx188_inb : ∀ (v278 : IVec S16 32) (k1_hw188 : k1_chk188 v278), ∀ a x, ((![v278] : Fin 1 → IVec S16 32) a x).toNat < S65536.size a := fun v278 k1_hw188 => k1_hw188
@[reducible] def k1_t190_loop : Scf.Loop 32 :=
  let c0_i32_943 : BitVec 32 := 0#32
  let c64_i32_944 : BitVec 32 := 64#32
  let v196 : BitVec 32 := Scalar.addi c0_i32_943 c64_i32_944
  let c1_i32_945 : BitVec 32 := 1#32
  ⟨c0_i32_943, v196, c1_i32_945⟩
def k1_off192 (k1_t190 : Fin k1_t190_loop.trips) : Fin 2 → Nat :=
  let c12_i32_1282 : BitVec 32 := 12#32
  let v267 : Index := Scalar.indexCast c12_i32_1282
  let c0_i32_943 : BitVec 32 := 0#32
  let c1_i32_945 : BitVec 32 := 1#32
  let arg8 : BitVec 32 := Scf.iv c0_i32_943 c1_i32_945 k1_t190
  let c16_i32 : BitVec 32 := 16#32
  let v266 : BitVec 32 := Scalar.muli arg8 c16_i32
  let v268 : Index := Scalar.indexCast v266
  ![12, v268.toNat]

def k1_chk189 (v278 : IVec S16 32) : Prop :=
  (∀ a x, ((![v278] : Fin 1 → IVec S16 32) a x).toNat < S65536.size a)
theorem k1_idx189_inb : ∀ (v278 : IVec S16 32) (k1_hw189 : k1_chk189 v278), ∀ a x, ((![v278] : Fin 1 → IVec S16 32) a x).toNat < S65536.size a := fun v278 k1_hw189 => k1_hw189
@[reducible] def k1_t191_loop : Scf.Loop 32 :=
  let c0_i32_948 : BitVec 32 := 0#32
  let c64_i32_949 : BitVec 32 := 64#32
  let v197 : BitVec 32 := Scalar.addi c0_i32_948 c64_i32_949
  let c1_i32_950 : BitVec 32 := 1#32
  ⟨c0_i32_948, v197, c1_i32_950⟩
def k1_off193 (k1_t191 : Fin k1_t191_loop.trips) : Fin 2 → Nat :=
  let c13_i32 : BitVec 32 := 13#32
  let v267 : Index := Scalar.indexCast c13_i32
  let c0_i32_948 : BitVec 32 := 0#32
  let c1_i32_950 : BitVec 32 := 1#32
  let arg8 : BitVec 32 := Scf.iv c0_i32_948 c1_i32_950 k1_t191
  let c16_i32 : BitVec 32 := 16#32
  let v266 : BitVec 32 := Scalar.muli arg8 c16_i32
  let v268 : Index := Scalar.indexCast v266
  ![13, v268.toNat]

def k1_chk190 (v278 : IVec S16 32) : Prop :=
  (∀ a x, ((![v278] : Fin 1 → IVec S16 32) a x).toNat < S65536.size a)
theorem k1_idx190_inb : ∀ (v278 : IVec S16 32) (k1_hw190 : k1_chk190 v278), ∀ a x, ((![v278] : Fin 1 → IVec S16 32) a x).toNat < S65536.size a := fun v278 k1_hw190 => k1_hw190
@[reducible] def k1_t192_loop : Scf.Loop 32 :=
  let c0_i32_953 : BitVec 32 := 0#32
  let c64_i32_954 : BitVec 32 := 64#32
  let v198 : BitVec 32 := Scalar.addi c0_i32_953 c64_i32_954
  let c1_i32_955 : BitVec 32 := 1#32
  ⟨c0_i32_953, v198, c1_i32_955⟩
def k1_off194 (k1_t192 : Fin k1_t192_loop.trips) : Fin 2 → Nat :=
  let c14_i32_1282 : BitVec 32 := 14#32
  let v267 : Index := Scalar.indexCast c14_i32_1282
  let c0_i32_953 : BitVec 32 := 0#32
  let c1_i32_955 : BitVec 32 := 1#32
  let arg8 : BitVec 32 := Scf.iv c0_i32_953 c1_i32_955 k1_t192
  let c16_i32 : BitVec 32 := 16#32
  let v266 : BitVec 32 := Scalar.muli arg8 c16_i32
  let v268 : Index := Scalar.indexCast v266
  ![14, v268.toNat]

def k1_chk191 (v278 : IVec S16 32) : Prop :=
  (∀ a x, ((![v278] : Fin 1 → IVec S16 32) a x).toNat < S65536.size a)
theorem k1_idx191_inb : ∀ (v278 : IVec S16 32) (k1_hw191 : k1_chk191 v278), ∀ a x, ((![v278] : Fin 1 → IVec S16 32) a x).toNat < S65536.size a := fun v278 k1_hw191 => k1_hw191
@[reducible] def k1_t193_loop : Scf.Loop 32 :=
  let c0_i32_958 : BitVec 32 := 0#32
  let c64_i32_959 : BitVec 32 := 64#32
  let v199 : BitVec 32 := Scalar.addi c0_i32_958 c64_i32_959
  let c1_i32_960 : BitVec 32 := 1#32
  ⟨c0_i32_958, v199, c1_i32_960⟩
def k1_off195 (k1_t193 : Fin k1_t193_loop.trips) : Fin 2 → Nat :=
  let c15_i32 : BitVec 32 := 15#32
  let v267 : Index := Scalar.indexCast c15_i32
  let c0_i32_958 : BitVec 32 := 0#32
  let c1_i32_960 : BitVec 32 := 1#32
  let arg8 : BitVec 32 := Scf.iv c0_i32_958 c1_i32_960 k1_t193
  let c16_i32 : BitVec 32 := 16#32
  let v266 : BitVec 32 := Scalar.muli arg8 c16_i32
  let v268 : Index := Scalar.indexCast v266
  ![15, v268.toNat]

def k1_chk192 (v278 : IVec S16 32) : Prop :=
  (∀ a x, ((![v278] : Fin 1 → IVec S16 32) a x).toNat < S65536.size a)
theorem k1_idx192_inb : ∀ (v278 : IVec S16 32) (k1_hw192 : k1_chk192 v278), ∀ a x, ((![v278] : Fin 1 → IVec S16 32) a x).toNat < S65536.size a := fun v278 k1_hw192 => k1_hw192
@[reducible] def k1_t194_loop : Scf.Loop 32 :=
  let c0_i32_963 : BitVec 32 := 0#32
  let c64_i32_964 : BitVec 32 := 64#32
  let v201 : BitVec 32 := Scalar.addi c0_i32_963 c64_i32_964
  let c1_i32_965 : BitVec 32 := 1#32
  ⟨c0_i32_963, v201, c1_i32_965⟩
def k1_off196 (k1_t194 : Fin k1_t194_loop.trips) : Fin 2 → Nat :=
  let c0_i32_1282 : BitVec 32 := 0#32
  let v267 : Index := Scalar.indexCast c0_i32_1282
  let c0_i32_963 : BitVec 32 := 0#32
  let c1_i32_965 : BitVec 32 := 1#32
  let arg8 : BitVec 32 := Scf.iv c0_i32_963 c1_i32_965 k1_t194
  let c16_i32 : BitVec 32 := 16#32
  let v266 : BitVec 32 := Scalar.muli arg8 c16_i32
  let v268 : Index := Scalar.indexCast v266
  ![0, v268.toNat]

def k1_chk193 (v282 : IVec S16 32) : Prop :=
  (∀ a x, ((![v282] : Fin 1 → IVec S16 32) a x).toNat < S65536.size a)
theorem k1_idx193_inb : ∀ (v282 : IVec S16 32) (k1_hw193 : k1_chk193 v282), ∀ a x, ((![v282] : Fin 1 → IVec S16 32) a x).toNat < S65536.size a := fun v282 k1_hw193 => k1_hw193
@[reducible] def k1_t195_loop : Scf.Loop 32 :=
  let c0_i32_968 : BitVec 32 := 0#32
  let c64_i32_969 : BitVec 32 := 64#32
  let v202 : BitVec 32 := Scalar.addi c0_i32_968 c64_i32_969
  let c1_i32_970 : BitVec 32 := 1#32
  ⟨c0_i32_968, v202, c1_i32_970⟩
def k1_off197 (k1_t195 : Fin k1_t195_loop.trips) : Fin 2 → Nat :=
  let c1_i32_1282 : BitVec 32 := 1#32
  let v267 : Index := Scalar.indexCast c1_i32_1282
  let c0_i32_968 : BitVec 32 := 0#32
  let c1_i32_970 : BitVec 32 := 1#32
  let arg8 : BitVec 32 := Scf.iv c0_i32_968 c1_i32_970 k1_t195
  let c16_i32 : BitVec 32 := 16#32
  let v266 : BitVec 32 := Scalar.muli arg8 c16_i32
  let v268 : Index := Scalar.indexCast v266
  ![1, v268.toNat]

def k1_chk194 (v282 : IVec S16 32) : Prop :=
  (∀ a x, ((![v282] : Fin 1 → IVec S16 32) a x).toNat < S65536.size a)
theorem k1_idx194_inb : ∀ (v282 : IVec S16 32) (k1_hw194 : k1_chk194 v282), ∀ a x, ((![v282] : Fin 1 → IVec S16 32) a x).toNat < S65536.size a := fun v282 k1_hw194 => k1_hw194
@[reducible] def k1_t196_loop : Scf.Loop 32 :=
  let c0_i32_973 : BitVec 32 := 0#32
  let c64_i32_974 : BitVec 32 := 64#32
  let v203 : BitVec 32 := Scalar.addi c0_i32_973 c64_i32_974
  let c1_i32_975 : BitVec 32 := 1#32
  ⟨c0_i32_973, v203, c1_i32_975⟩
def k1_off198 (k1_t196 : Fin k1_t196_loop.trips) : Fin 2 → Nat :=
  let c2_i32_1282 : BitVec 32 := 2#32
  let v267 : Index := Scalar.indexCast c2_i32_1282
  let c0_i32_973 : BitVec 32 := 0#32
  let c1_i32_975 : BitVec 32 := 1#32
  let arg8 : BitVec 32 := Scf.iv c0_i32_973 c1_i32_975 k1_t196
  let c16_i32 : BitVec 32 := 16#32
  let v266 : BitVec 32 := Scalar.muli arg8 c16_i32
  let v268 : Index := Scalar.indexCast v266
  ![2, v268.toNat]

def k1_chk195 (v282 : IVec S16 32) : Prop :=
  (∀ a x, ((![v282] : Fin 1 → IVec S16 32) a x).toNat < S65536.size a)
theorem k1_idx195_inb : ∀ (v282 : IVec S16 32) (k1_hw195 : k1_chk195 v282), ∀ a x, ((![v282] : Fin 1 → IVec S16 32) a x).toNat < S65536.size a := fun v282 k1_hw195 => k1_hw195
@[reducible] def k1_t197_loop : Scf.Loop 32 :=
  let c0_i32_978 : BitVec 32 := 0#32
  let c64_i32_979 : BitVec 32 := 64#32
  let v204 : BitVec 32 := Scalar.addi c0_i32_978 c64_i32_979
  let c1_i32_980 : BitVec 32 := 1#32
  ⟨c0_i32_978, v204, c1_i32_980⟩
def k1_off199 (k1_t197 : Fin k1_t197_loop.trips) : Fin 2 → Nat :=
  let c3_i32 : BitVec 32 := 3#32
  let v267 : Index := Scalar.indexCast c3_i32
  let c0_i32_978 : BitVec 32 := 0#32
  let c1_i32_980 : BitVec 32 := 1#32
  let arg8 : BitVec 32 := Scf.iv c0_i32_978 c1_i32_980 k1_t197
  let c16_i32 : BitVec 32 := 16#32
  let v266 : BitVec 32 := Scalar.muli arg8 c16_i32
  let v268 : Index := Scalar.indexCast v266
  ![3, v268.toNat]

def k1_chk196 (v282 : IVec S16 32) : Prop :=
  (∀ a x, ((![v282] : Fin 1 → IVec S16 32) a x).toNat < S65536.size a)
theorem k1_idx196_inb : ∀ (v282 : IVec S16 32) (k1_hw196 : k1_chk196 v282), ∀ a x, ((![v282] : Fin 1 → IVec S16 32) a x).toNat < S65536.size a := fun v282 k1_hw196 => k1_hw196
@[reducible] def k1_t198_loop : Scf.Loop 32 :=
  let c0_i32_983 : BitVec 32 := 0#32
  let c64_i32_984 : BitVec 32 := 64#32
  let v205 : BitVec 32 := Scalar.addi c0_i32_983 c64_i32_984
  let c1_i32_985 : BitVec 32 := 1#32
  ⟨c0_i32_983, v205, c1_i32_985⟩
def k1_off200 (k1_t198 : Fin k1_t198_loop.trips) : Fin 2 → Nat :=
  let c4_i32_1282 : BitVec 32 := 4#32
  let v267 : Index := Scalar.indexCast c4_i32_1282
  let c0_i32_983 : BitVec 32 := 0#32
  let c1_i32_985 : BitVec 32 := 1#32
  let arg8 : BitVec 32 := Scf.iv c0_i32_983 c1_i32_985 k1_t198
  let c16_i32 : BitVec 32 := 16#32
  let v266 : BitVec 32 := Scalar.muli arg8 c16_i32
  let v268 : Index := Scalar.indexCast v266
  ![4, v268.toNat]

def k1_chk197 (v282 : IVec S16 32) : Prop :=
  (∀ a x, ((![v282] : Fin 1 → IVec S16 32) a x).toNat < S65536.size a)
theorem k1_idx197_inb : ∀ (v282 : IVec S16 32) (k1_hw197 : k1_chk197 v282), ∀ a x, ((![v282] : Fin 1 → IVec S16 32) a x).toNat < S65536.size a := fun v282 k1_hw197 => k1_hw197
@[reducible] def k1_t199_loop : Scf.Loop 32 :=
  let c0_i32_988 : BitVec 32 := 0#32
  let c64_i32_989 : BitVec 32 := 64#32
  let v206 : BitVec 32 := Scalar.addi c0_i32_988 c64_i32_989
  let c1_i32_990 : BitVec 32 := 1#32
  ⟨c0_i32_988, v206, c1_i32_990⟩
def k1_off201 (k1_t199 : Fin k1_t199_loop.trips) : Fin 2 → Nat :=
  let c5_i32 : BitVec 32 := 5#32
  let v267 : Index := Scalar.indexCast c5_i32
  let c0_i32_988 : BitVec 32 := 0#32
  let c1_i32_990 : BitVec 32 := 1#32
  let arg8 : BitVec 32 := Scf.iv c0_i32_988 c1_i32_990 k1_t199
  let c16_i32 : BitVec 32 := 16#32
  let v266 : BitVec 32 := Scalar.muli arg8 c16_i32
  let v268 : Index := Scalar.indexCast v266
  ![5, v268.toNat]

def k1_chk198 (v282 : IVec S16 32) : Prop :=
  (∀ a x, ((![v282] : Fin 1 → IVec S16 32) a x).toNat < S65536.size a)
theorem k1_idx198_inb : ∀ (v282 : IVec S16 32) (k1_hw198 : k1_chk198 v282), ∀ a x, ((![v282] : Fin 1 → IVec S16 32) a x).toNat < S65536.size a := fun v282 k1_hw198 => k1_hw198
@[reducible] def k1_t200_loop : Scf.Loop 32 :=
  let c0_i32_993 : BitVec 32 := 0#32
  let c64_i32_994 : BitVec 32 := 64#32
  let v207 : BitVec 32 := Scalar.addi c0_i32_993 c64_i32_994
  let c1_i32_995 : BitVec 32 := 1#32
  ⟨c0_i32_993, v207, c1_i32_995⟩
def k1_off202 (k1_t200 : Fin k1_t200_loop.trips) : Fin 2 → Nat :=
  let c6_i32_1282 : BitVec 32 := 6#32
  let v267 : Index := Scalar.indexCast c6_i32_1282
  let c0_i32_993 : BitVec 32 := 0#32
  let c1_i32_995 : BitVec 32 := 1#32
  let arg8 : BitVec 32 := Scf.iv c0_i32_993 c1_i32_995 k1_t200
  let c16_i32 : BitVec 32 := 16#32
  let v266 : BitVec 32 := Scalar.muli arg8 c16_i32
  let v268 : Index := Scalar.indexCast v266
  ![6, v268.toNat]

def k1_chk199 (v282 : IVec S16 32) : Prop :=
  (∀ a x, ((![v282] : Fin 1 → IVec S16 32) a x).toNat < S65536.size a)
theorem k1_idx199_inb : ∀ (v282 : IVec S16 32) (k1_hw199 : k1_chk199 v282), ∀ a x, ((![v282] : Fin 1 → IVec S16 32) a x).toNat < S65536.size a := fun v282 k1_hw199 => k1_hw199
@[reducible] def k1_t201_loop : Scf.Loop 32 :=
  let c0_i32_998 : BitVec 32 := 0#32
  let c64_i32_999 : BitVec 32 := 64#32
  let v208 : BitVec 32 := Scalar.addi c0_i32_998 c64_i32_999
  let c1_i32_1000 : BitVec 32 := 1#32
  ⟨c0_i32_998, v208, c1_i32_1000⟩
def k1_off203 (k1_t201 : Fin k1_t201_loop.trips) : Fin 2 → Nat :=
  let c7_i32 : BitVec 32 := 7#32
  let v267 : Index := Scalar.indexCast c7_i32
  let c0_i32_998 : BitVec 32 := 0#32
  let c1_i32_1000 : BitVec 32 := 1#32
  let arg8 : BitVec 32 := Scf.iv c0_i32_998 c1_i32_1000 k1_t201
  let c16_i32 : BitVec 32 := 16#32
  let v266 : BitVec 32 := Scalar.muli arg8 c16_i32
  let v268 : Index := Scalar.indexCast v266
  ![7, v268.toNat]

def k1_chk200 (v282 : IVec S16 32) : Prop :=
  (∀ a x, ((![v282] : Fin 1 → IVec S16 32) a x).toNat < S65536.size a)
theorem k1_idx200_inb : ∀ (v282 : IVec S16 32) (k1_hw200 : k1_chk200 v282), ∀ a x, ((![v282] : Fin 1 → IVec S16 32) a x).toNat < S65536.size a := fun v282 k1_hw200 => k1_hw200
@[reducible] def k1_t202_loop : Scf.Loop 32 :=
  let c0_i32_1003 : BitVec 32 := 0#32
  let c64_i32_1004 : BitVec 32 := 64#32
  let v209 : BitVec 32 := Scalar.addi c0_i32_1003 c64_i32_1004
  let c1_i32_1005 : BitVec 32 := 1#32
  ⟨c0_i32_1003, v209, c1_i32_1005⟩
def k1_off204 (k1_t202 : Fin k1_t202_loop.trips) : Fin 2 → Nat :=
  let c8_i32_1282 : BitVec 32 := 8#32
  let v267 : Index := Scalar.indexCast c8_i32_1282
  let c0_i32_1003 : BitVec 32 := 0#32
  let c1_i32_1005 : BitVec 32 := 1#32
  let arg8 : BitVec 32 := Scf.iv c0_i32_1003 c1_i32_1005 k1_t202
  let c16_i32 : BitVec 32 := 16#32
  let v266 : BitVec 32 := Scalar.muli arg8 c16_i32
  let v268 : Index := Scalar.indexCast v266
  ![8, v268.toNat]

def k1_chk201 (v282 : IVec S16 32) : Prop :=
  (∀ a x, ((![v282] : Fin 1 → IVec S16 32) a x).toNat < S65536.size a)
theorem k1_idx201_inb : ∀ (v282 : IVec S16 32) (k1_hw201 : k1_chk201 v282), ∀ a x, ((![v282] : Fin 1 → IVec S16 32) a x).toNat < S65536.size a := fun v282 k1_hw201 => k1_hw201
@[reducible] def k1_t203_loop : Scf.Loop 32 :=
  let c0_i32_1008 : BitVec 32 := 0#32
  let c64_i32_1009 : BitVec 32 := 64#32
  let v210 : BitVec 32 := Scalar.addi c0_i32_1008 c64_i32_1009
  let c1_i32_1010 : BitVec 32 := 1#32
  ⟨c0_i32_1008, v210, c1_i32_1010⟩
def k1_off205 (k1_t203 : Fin k1_t203_loop.trips) : Fin 2 → Nat :=
  let c9_i32 : BitVec 32 := 9#32
  let v267 : Index := Scalar.indexCast c9_i32
  let c0_i32_1008 : BitVec 32 := 0#32
  let c1_i32_1010 : BitVec 32 := 1#32
  let arg8 : BitVec 32 := Scf.iv c0_i32_1008 c1_i32_1010 k1_t203
  let c16_i32 : BitVec 32 := 16#32
  let v266 : BitVec 32 := Scalar.muli arg8 c16_i32
  let v268 : Index := Scalar.indexCast v266
  ![9, v268.toNat]

def k1_chk202 (v282 : IVec S16 32) : Prop :=
  (∀ a x, ((![v282] : Fin 1 → IVec S16 32) a x).toNat < S65536.size a)
theorem k1_idx202_inb : ∀ (v282 : IVec S16 32) (k1_hw202 : k1_chk202 v282), ∀ a x, ((![v282] : Fin 1 → IVec S16 32) a x).toNat < S65536.size a := fun v282 k1_hw202 => k1_hw202
@[reducible] def k1_t204_loop : Scf.Loop 32 :=
  let c0_i32_1013 : BitVec 32 := 0#32
  let c64_i32_1014 : BitVec 32 := 64#32
  let v211 : BitVec 32 := Scalar.addi c0_i32_1013 c64_i32_1014
  let c1_i32_1015 : BitVec 32 := 1#32
  ⟨c0_i32_1013, v211, c1_i32_1015⟩
def k1_off206 (k1_t204 : Fin k1_t204_loop.trips) : Fin 2 → Nat :=
  let c10_i32_1282 : BitVec 32 := 10#32
  let v267 : Index := Scalar.indexCast c10_i32_1282
  let c0_i32_1013 : BitVec 32 := 0#32
  let c1_i32_1015 : BitVec 32 := 1#32
  let arg8 : BitVec 32 := Scf.iv c0_i32_1013 c1_i32_1015 k1_t204
  let c16_i32 : BitVec 32 := 16#32
  let v266 : BitVec 32 := Scalar.muli arg8 c16_i32
  let v268 : Index := Scalar.indexCast v266
  ![10, v268.toNat]

def k1_chk203 (v282 : IVec S16 32) : Prop :=
  (∀ a x, ((![v282] : Fin 1 → IVec S16 32) a x).toNat < S65536.size a)
theorem k1_idx203_inb : ∀ (v282 : IVec S16 32) (k1_hw203 : k1_chk203 v282), ∀ a x, ((![v282] : Fin 1 → IVec S16 32) a x).toNat < S65536.size a := fun v282 k1_hw203 => k1_hw203
@[reducible] def k1_t205_loop : Scf.Loop 32 :=
  let c0_i32_1018 : BitVec 32 := 0#32
  let c64_i32_1019 : BitVec 32 := 64#32
  let v212 : BitVec 32 := Scalar.addi c0_i32_1018 c64_i32_1019
  let c1_i32_1020 : BitVec 32 := 1#32
  ⟨c0_i32_1018, v212, c1_i32_1020⟩
def k1_off207 (k1_t205 : Fin k1_t205_loop.trips) : Fin 2 → Nat :=
  let c11_i32 : BitVec 32 := 11#32
  let v267 : Index := Scalar.indexCast c11_i32
  let c0_i32_1018 : BitVec 32 := 0#32
  let c1_i32_1020 : BitVec 32 := 1#32
  let arg8 : BitVec 32 := Scf.iv c0_i32_1018 c1_i32_1020 k1_t205
  let c16_i32 : BitVec 32 := 16#32
  let v266 : BitVec 32 := Scalar.muli arg8 c16_i32
  let v268 : Index := Scalar.indexCast v266
  ![11, v268.toNat]

def k1_chk204 (v282 : IVec S16 32) : Prop :=
  (∀ a x, ((![v282] : Fin 1 → IVec S16 32) a x).toNat < S65536.size a)
theorem k1_idx204_inb : ∀ (v282 : IVec S16 32) (k1_hw204 : k1_chk204 v282), ∀ a x, ((![v282] : Fin 1 → IVec S16 32) a x).toNat < S65536.size a := fun v282 k1_hw204 => k1_hw204
@[reducible] def k1_t206_loop : Scf.Loop 32 :=
  let c0_i32_1023 : BitVec 32 := 0#32
  let c64_i32_1024 : BitVec 32 := 64#32
  let v213 : BitVec 32 := Scalar.addi c0_i32_1023 c64_i32_1024
  let c1_i32_1025 : BitVec 32 := 1#32
  ⟨c0_i32_1023, v213, c1_i32_1025⟩
def k1_off208 (k1_t206 : Fin k1_t206_loop.trips) : Fin 2 → Nat :=
  let c12_i32_1282 : BitVec 32 := 12#32
  let v267 : Index := Scalar.indexCast c12_i32_1282
  let c0_i32_1023 : BitVec 32 := 0#32
  let c1_i32_1025 : BitVec 32 := 1#32
  let arg8 : BitVec 32 := Scf.iv c0_i32_1023 c1_i32_1025 k1_t206
  let c16_i32 : BitVec 32 := 16#32
  let v266 : BitVec 32 := Scalar.muli arg8 c16_i32
  let v268 : Index := Scalar.indexCast v266
  ![12, v268.toNat]

def k1_chk205 (v282 : IVec S16 32) : Prop :=
  (∀ a x, ((![v282] : Fin 1 → IVec S16 32) a x).toNat < S65536.size a)
theorem k1_idx205_inb : ∀ (v282 : IVec S16 32) (k1_hw205 : k1_chk205 v282), ∀ a x, ((![v282] : Fin 1 → IVec S16 32) a x).toNat < S65536.size a := fun v282 k1_hw205 => k1_hw205
@[reducible] def k1_t207_loop : Scf.Loop 32 :=
  let c0_i32_1028 : BitVec 32 := 0#32
  let c64_i32_1029 : BitVec 32 := 64#32
  let v214 : BitVec 32 := Scalar.addi c0_i32_1028 c64_i32_1029
  let c1_i32_1030 : BitVec 32 := 1#32
  ⟨c0_i32_1028, v214, c1_i32_1030⟩
def k1_off209 (k1_t207 : Fin k1_t207_loop.trips) : Fin 2 → Nat :=
  let c13_i32 : BitVec 32 := 13#32
  let v267 : Index := Scalar.indexCast c13_i32
  let c0_i32_1028 : BitVec 32 := 0#32
  let c1_i32_1030 : BitVec 32 := 1#32
  let arg8 : BitVec 32 := Scf.iv c0_i32_1028 c1_i32_1030 k1_t207
  let c16_i32 : BitVec 32 := 16#32
  let v266 : BitVec 32 := Scalar.muli arg8 c16_i32
  let v268 : Index := Scalar.indexCast v266
  ![13, v268.toNat]

def k1_chk206 (v282 : IVec S16 32) : Prop :=
  (∀ a x, ((![v282] : Fin 1 → IVec S16 32) a x).toNat < S65536.size a)
theorem k1_idx206_inb : ∀ (v282 : IVec S16 32) (k1_hw206 : k1_chk206 v282), ∀ a x, ((![v282] : Fin 1 → IVec S16 32) a x).toNat < S65536.size a := fun v282 k1_hw206 => k1_hw206
@[reducible] def k1_t208_loop : Scf.Loop 32 :=
  let c0_i32_1033 : BitVec 32 := 0#32
  let c64_i32_1034 : BitVec 32 := 64#32
  let v215 : BitVec 32 := Scalar.addi c0_i32_1033 c64_i32_1034
  let c1_i32_1035 : BitVec 32 := 1#32
  ⟨c0_i32_1033, v215, c1_i32_1035⟩
def k1_off210 (k1_t208 : Fin k1_t208_loop.trips) : Fin 2 → Nat :=
  let c14_i32_1282 : BitVec 32 := 14#32
  let v267 : Index := Scalar.indexCast c14_i32_1282
  let c0_i32_1033 : BitVec 32 := 0#32
  let c1_i32_1035 : BitVec 32 := 1#32
  let arg8 : BitVec 32 := Scf.iv c0_i32_1033 c1_i32_1035 k1_t208
  let c16_i32 : BitVec 32 := 16#32
  let v266 : BitVec 32 := Scalar.muli arg8 c16_i32
  let v268 : Index := Scalar.indexCast v266
  ![14, v268.toNat]

def k1_chk207 (v282 : IVec S16 32) : Prop :=
  (∀ a x, ((![v282] : Fin 1 → IVec S16 32) a x).toNat < S65536.size a)
theorem k1_idx207_inb : ∀ (v282 : IVec S16 32) (k1_hw207 : k1_chk207 v282), ∀ a x, ((![v282] : Fin 1 → IVec S16 32) a x).toNat < S65536.size a := fun v282 k1_hw207 => k1_hw207
@[reducible] def k1_t209_loop : Scf.Loop 32 :=
  let c0_i32_1038 : BitVec 32 := 0#32
  let c64_i32_1039 : BitVec 32 := 64#32
  let v216 : BitVec 32 := Scalar.addi c0_i32_1038 c64_i32_1039
  let c1_i32_1040 : BitVec 32 := 1#32
  ⟨c0_i32_1038, v216, c1_i32_1040⟩
def k1_off211 (k1_t209 : Fin k1_t209_loop.trips) : Fin 2 → Nat :=
  let c15_i32 : BitVec 32 := 15#32
  let v267 : Index := Scalar.indexCast c15_i32
  let c0_i32_1038 : BitVec 32 := 0#32
  let c1_i32_1040 : BitVec 32 := 1#32
  let arg8 : BitVec 32 := Scf.iv c0_i32_1038 c1_i32_1040 k1_t209
  let c16_i32 : BitVec 32 := 16#32
  let v266 : BitVec 32 := Scalar.muli arg8 c16_i32
  let v268 : Index := Scalar.indexCast v266
  ![15, v268.toNat]

def k1_chk208 (v282 : IVec S16 32) : Prop :=
  (∀ a x, ((![v282] : Fin 1 → IVec S16 32) a x).toNat < S65536.size a)
theorem k1_idx208_inb : ∀ (v282 : IVec S16 32) (k1_hw208 : k1_chk208 v282), ∀ a x, ((![v282] : Fin 1 → IVec S16 32) a x).toNat < S65536.size a := fun v282 k1_hw208 => k1_hw208
@[reducible] def k1_t210_loop : Scf.Loop 32 :=
  let c0_i32_1043 : BitVec 32 := 0#32
  let c64_i32_1044 : BitVec 32 := 64#32
  let v217 : BitVec 32 := Scalar.addi c0_i32_1043 c64_i32_1044
  let c1_i32_1045 : BitVec 32 := 1#32
  ⟨c0_i32_1043, v217, c1_i32_1045⟩
def k1_off212 (k1_t210 : Fin k1_t210_loop.trips) : Fin 2 → Nat :=
  let c0_i32_1282 : BitVec 32 := 0#32
  let v267 : Index := Scalar.indexCast c0_i32_1282
  let c0_i32_1043 : BitVec 32 := 0#32
  let c1_i32_1045 : BitVec 32 := 1#32
  let arg8 : BitVec 32 := Scf.iv c0_i32_1043 c1_i32_1045 k1_t210
  let c16_i32 : BitVec 32 := 16#32
  let v266 : BitVec 32 := Scalar.muli arg8 c16_i32
  let v268 : Index := Scalar.indexCast v266
  ![0, v268.toNat]

def k1_chk209 (v278 : IVec S16 32) : Prop :=
  (∀ a x, ((![v278] : Fin 1 → IVec S16 32) a x).toNat < S65536.size a)
theorem k1_idx209_inb : ∀ (v278 : IVec S16 32) (k1_hw209 : k1_chk209 v278), ∀ a x, ((![v278] : Fin 1 → IVec S16 32) a x).toNat < S65536.size a := fun v278 k1_hw209 => k1_hw209
@[reducible] def k1_t211_loop : Scf.Loop 32 :=
  let c0_i32_1048 : BitVec 32 := 0#32
  let c64_i32_1049 : BitVec 32 := 64#32
  let v218 : BitVec 32 := Scalar.addi c0_i32_1048 c64_i32_1049
  let c1_i32_1050 : BitVec 32 := 1#32
  ⟨c0_i32_1048, v218, c1_i32_1050⟩
def k1_off213 (k1_t211 : Fin k1_t211_loop.trips) : Fin 2 → Nat :=
  let c1_i32_1282 : BitVec 32 := 1#32
  let v267 : Index := Scalar.indexCast c1_i32_1282
  let c0_i32_1048 : BitVec 32 := 0#32
  let c1_i32_1050 : BitVec 32 := 1#32
  let arg8 : BitVec 32 := Scf.iv c0_i32_1048 c1_i32_1050 k1_t211
  let c16_i32 : BitVec 32 := 16#32
  let v266 : BitVec 32 := Scalar.muli arg8 c16_i32
  let v268 : Index := Scalar.indexCast v266
  ![1, v268.toNat]

def k1_chk210 (v278 : IVec S16 32) : Prop :=
  (∀ a x, ((![v278] : Fin 1 → IVec S16 32) a x).toNat < S65536.size a)
theorem k1_idx210_inb : ∀ (v278 : IVec S16 32) (k1_hw210 : k1_chk210 v278), ∀ a x, ((![v278] : Fin 1 → IVec S16 32) a x).toNat < S65536.size a := fun v278 k1_hw210 => k1_hw210
@[reducible] def k1_t212_loop : Scf.Loop 32 :=
  let c0_i32_1053 : BitVec 32 := 0#32
  let c64_i32_1054 : BitVec 32 := 64#32
  let v219 : BitVec 32 := Scalar.addi c0_i32_1053 c64_i32_1054
  let c1_i32_1055 : BitVec 32 := 1#32
  ⟨c0_i32_1053, v219, c1_i32_1055⟩
def k1_off214 (k1_t212 : Fin k1_t212_loop.trips) : Fin 2 → Nat :=
  let c2_i32_1282 : BitVec 32 := 2#32
  let v267 : Index := Scalar.indexCast c2_i32_1282
  let c0_i32_1053 : BitVec 32 := 0#32
  let c1_i32_1055 : BitVec 32 := 1#32
  let arg8 : BitVec 32 := Scf.iv c0_i32_1053 c1_i32_1055 k1_t212
  let c16_i32 : BitVec 32 := 16#32
  let v266 : BitVec 32 := Scalar.muli arg8 c16_i32
  let v268 : Index := Scalar.indexCast v266
  ![2, v268.toNat]

def k1_chk211 (v278 : IVec S16 32) : Prop :=
  (∀ a x, ((![v278] : Fin 1 → IVec S16 32) a x).toNat < S65536.size a)
theorem k1_idx211_inb : ∀ (v278 : IVec S16 32) (k1_hw211 : k1_chk211 v278), ∀ a x, ((![v278] : Fin 1 → IVec S16 32) a x).toNat < S65536.size a := fun v278 k1_hw211 => k1_hw211
@[reducible] def k1_t213_loop : Scf.Loop 32 :=
  let c0_i32_1058 : BitVec 32 := 0#32
  let c64_i32_1059 : BitVec 32 := 64#32
  let v220 : BitVec 32 := Scalar.addi c0_i32_1058 c64_i32_1059
  let c1_i32_1060 : BitVec 32 := 1#32
  ⟨c0_i32_1058, v220, c1_i32_1060⟩
def k1_off215 (k1_t213 : Fin k1_t213_loop.trips) : Fin 2 → Nat :=
  let c3_i32 : BitVec 32 := 3#32
  let v267 : Index := Scalar.indexCast c3_i32
  let c0_i32_1058 : BitVec 32 := 0#32
  let c1_i32_1060 : BitVec 32 := 1#32
  let arg8 : BitVec 32 := Scf.iv c0_i32_1058 c1_i32_1060 k1_t213
  let c16_i32 : BitVec 32 := 16#32
  let v266 : BitVec 32 := Scalar.muli arg8 c16_i32
  let v268 : Index := Scalar.indexCast v266
  ![3, v268.toNat]

def k1_chk212 (v278 : IVec S16 32) : Prop :=
  (∀ a x, ((![v278] : Fin 1 → IVec S16 32) a x).toNat < S65536.size a)
theorem k1_idx212_inb : ∀ (v278 : IVec S16 32) (k1_hw212 : k1_chk212 v278), ∀ a x, ((![v278] : Fin 1 → IVec S16 32) a x).toNat < S65536.size a := fun v278 k1_hw212 => k1_hw212
@[reducible] def k1_t214_loop : Scf.Loop 32 :=
  let c0_i32_1063 : BitVec 32 := 0#32
  let c64_i32_1064 : BitVec 32 := 64#32
  let v221 : BitVec 32 := Scalar.addi c0_i32_1063 c64_i32_1064
  let c1_i32_1065 : BitVec 32 := 1#32
  ⟨c0_i32_1063, v221, c1_i32_1065⟩
def k1_off216 (k1_t214 : Fin k1_t214_loop.trips) : Fin 2 → Nat :=
  let c4_i32_1282 : BitVec 32 := 4#32
  let v267 : Index := Scalar.indexCast c4_i32_1282
  let c0_i32_1063 : BitVec 32 := 0#32
  let c1_i32_1065 : BitVec 32 := 1#32
  let arg8 : BitVec 32 := Scf.iv c0_i32_1063 c1_i32_1065 k1_t214
  let c16_i32 : BitVec 32 := 16#32
  let v266 : BitVec 32 := Scalar.muli arg8 c16_i32
  let v268 : Index := Scalar.indexCast v266
  ![4, v268.toNat]

def k1_chk213 (v278 : IVec S16 32) : Prop :=
  (∀ a x, ((![v278] : Fin 1 → IVec S16 32) a x).toNat < S65536.size a)
theorem k1_idx213_inb : ∀ (v278 : IVec S16 32) (k1_hw213 : k1_chk213 v278), ∀ a x, ((![v278] : Fin 1 → IVec S16 32) a x).toNat < S65536.size a := fun v278 k1_hw213 => k1_hw213
@[reducible] def k1_t215_loop : Scf.Loop 32 :=
  let c0_i32_1068 : BitVec 32 := 0#32
  let c64_i32_1069 : BitVec 32 := 64#32
  let v222 : BitVec 32 := Scalar.addi c0_i32_1068 c64_i32_1069
  let c1_i32_1070 : BitVec 32 := 1#32
  ⟨c0_i32_1068, v222, c1_i32_1070⟩
def k1_off217 (k1_t215 : Fin k1_t215_loop.trips) : Fin 2 → Nat :=
  let c5_i32 : BitVec 32 := 5#32
  let v267 : Index := Scalar.indexCast c5_i32
  let c0_i32_1068 : BitVec 32 := 0#32
  let c1_i32_1070 : BitVec 32 := 1#32
  let arg8 : BitVec 32 := Scf.iv c0_i32_1068 c1_i32_1070 k1_t215
  let c16_i32 : BitVec 32 := 16#32
  let v266 : BitVec 32 := Scalar.muli arg8 c16_i32
  let v268 : Index := Scalar.indexCast v266
  ![5, v268.toNat]

def k1_chk214 (v278 : IVec S16 32) : Prop :=
  (∀ a x, ((![v278] : Fin 1 → IVec S16 32) a x).toNat < S65536.size a)
theorem k1_idx214_inb : ∀ (v278 : IVec S16 32) (k1_hw214 : k1_chk214 v278), ∀ a x, ((![v278] : Fin 1 → IVec S16 32) a x).toNat < S65536.size a := fun v278 k1_hw214 => k1_hw214
@[reducible] def k1_t216_loop : Scf.Loop 32 :=
  let c0_i32_1073 : BitVec 32 := 0#32
  let c64_i32_1074 : BitVec 32 := 64#32
  let v223 : BitVec 32 := Scalar.addi c0_i32_1073 c64_i32_1074
  let c1_i32_1075 : BitVec 32 := 1#32
  ⟨c0_i32_1073, v223, c1_i32_1075⟩
def k1_off218 (k1_t216 : Fin k1_t216_loop.trips) : Fin 2 → Nat :=
  let c6_i32_1282 : BitVec 32 := 6#32
  let v267 : Index := Scalar.indexCast c6_i32_1282
  let c0_i32_1073 : BitVec 32 := 0#32
  let c1_i32_1075 : BitVec 32 := 1#32
  let arg8 : BitVec 32 := Scf.iv c0_i32_1073 c1_i32_1075 k1_t216
  let c16_i32 : BitVec 32 := 16#32
  let v266 : BitVec 32 := Scalar.muli arg8 c16_i32
  let v268 : Index := Scalar.indexCast v266
  ![6, v268.toNat]

def k1_chk215 (v278 : IVec S16 32) : Prop :=
  (∀ a x, ((![v278] : Fin 1 → IVec S16 32) a x).toNat < S65536.size a)
theorem k1_idx215_inb : ∀ (v278 : IVec S16 32) (k1_hw215 : k1_chk215 v278), ∀ a x, ((![v278] : Fin 1 → IVec S16 32) a x).toNat < S65536.size a := fun v278 k1_hw215 => k1_hw215
@[reducible] def k1_t217_loop : Scf.Loop 32 :=
  let c0_i32_1078 : BitVec 32 := 0#32
  let c64_i32_1079 : BitVec 32 := 64#32
  let v224 : BitVec 32 := Scalar.addi c0_i32_1078 c64_i32_1079
  let c1_i32_1080 : BitVec 32 := 1#32
  ⟨c0_i32_1078, v224, c1_i32_1080⟩
def k1_off219 (k1_t217 : Fin k1_t217_loop.trips) : Fin 2 → Nat :=
  let c7_i32 : BitVec 32 := 7#32
  let v267 : Index := Scalar.indexCast c7_i32
  let c0_i32_1078 : BitVec 32 := 0#32
  let c1_i32_1080 : BitVec 32 := 1#32
  let arg8 : BitVec 32 := Scf.iv c0_i32_1078 c1_i32_1080 k1_t217
  let c16_i32 : BitVec 32 := 16#32
  let v266 : BitVec 32 := Scalar.muli arg8 c16_i32
  let v268 : Index := Scalar.indexCast v266
  ![7, v268.toNat]

def k1_chk216 (v278 : IVec S16 32) : Prop :=
  (∀ a x, ((![v278] : Fin 1 → IVec S16 32) a x).toNat < S65536.size a)
theorem k1_idx216_inb : ∀ (v278 : IVec S16 32) (k1_hw216 : k1_chk216 v278), ∀ a x, ((![v278] : Fin 1 → IVec S16 32) a x).toNat < S65536.size a := fun v278 k1_hw216 => k1_hw216
@[reducible] def k1_t218_loop : Scf.Loop 32 :=
  let c0_i32_1083 : BitVec 32 := 0#32
  let c64_i32_1084 : BitVec 32 := 64#32
  let v225 : BitVec 32 := Scalar.addi c0_i32_1083 c64_i32_1084
  let c1_i32_1085 : BitVec 32 := 1#32
  ⟨c0_i32_1083, v225, c1_i32_1085⟩
def k1_off220 (k1_t218 : Fin k1_t218_loop.trips) : Fin 2 → Nat :=
  let c8_i32_1282 : BitVec 32 := 8#32
  let v267 : Index := Scalar.indexCast c8_i32_1282
  let c0_i32_1083 : BitVec 32 := 0#32
  let c1_i32_1085 : BitVec 32 := 1#32
  let arg8 : BitVec 32 := Scf.iv c0_i32_1083 c1_i32_1085 k1_t218
  let c16_i32 : BitVec 32 := 16#32
  let v266 : BitVec 32 := Scalar.muli arg8 c16_i32
  let v268 : Index := Scalar.indexCast v266
  ![8, v268.toNat]

def k1_chk217 (v278 : IVec S16 32) : Prop :=
  (∀ a x, ((![v278] : Fin 1 → IVec S16 32) a x).toNat < S65536.size a)
theorem k1_idx217_inb : ∀ (v278 : IVec S16 32) (k1_hw217 : k1_chk217 v278), ∀ a x, ((![v278] : Fin 1 → IVec S16 32) a x).toNat < S65536.size a := fun v278 k1_hw217 => k1_hw217
@[reducible] def k1_t219_loop : Scf.Loop 32 :=
  let c0_i32_1088 : BitVec 32 := 0#32
  let c64_i32_1089 : BitVec 32 := 64#32
  let v226 : BitVec 32 := Scalar.addi c0_i32_1088 c64_i32_1089
  let c1_i32_1090 : BitVec 32 := 1#32
  ⟨c0_i32_1088, v226, c1_i32_1090⟩
def k1_off221 (k1_t219 : Fin k1_t219_loop.trips) : Fin 2 → Nat :=
  let c9_i32 : BitVec 32 := 9#32
  let v267 : Index := Scalar.indexCast c9_i32
  let c0_i32_1088 : BitVec 32 := 0#32
  let c1_i32_1090 : BitVec 32 := 1#32
  let arg8 : BitVec 32 := Scf.iv c0_i32_1088 c1_i32_1090 k1_t219
  let c16_i32 : BitVec 32 := 16#32
  let v266 : BitVec 32 := Scalar.muli arg8 c16_i32
  let v268 : Index := Scalar.indexCast v266
  ![9, v268.toNat]

def k1_chk218 (v278 : IVec S16 32) : Prop :=
  (∀ a x, ((![v278] : Fin 1 → IVec S16 32) a x).toNat < S65536.size a)
theorem k1_idx218_inb : ∀ (v278 : IVec S16 32) (k1_hw218 : k1_chk218 v278), ∀ a x, ((![v278] : Fin 1 → IVec S16 32) a x).toNat < S65536.size a := fun v278 k1_hw218 => k1_hw218
@[reducible] def k1_t220_loop : Scf.Loop 32 :=
  let c0_i32_1093 : BitVec 32 := 0#32
  let c64_i32_1094 : BitVec 32 := 64#32
  let v227 : BitVec 32 := Scalar.addi c0_i32_1093 c64_i32_1094
  let c1_i32_1095 : BitVec 32 := 1#32
  ⟨c0_i32_1093, v227, c1_i32_1095⟩
def k1_off222 (k1_t220 : Fin k1_t220_loop.trips) : Fin 2 → Nat :=
  let c10_i32_1282 : BitVec 32 := 10#32
  let v267 : Index := Scalar.indexCast c10_i32_1282
  let c0_i32_1093 : BitVec 32 := 0#32
  let c1_i32_1095 : BitVec 32 := 1#32
  let arg8 : BitVec 32 := Scf.iv c0_i32_1093 c1_i32_1095 k1_t220
  let c16_i32 : BitVec 32 := 16#32
  let v266 : BitVec 32 := Scalar.muli arg8 c16_i32
  let v268 : Index := Scalar.indexCast v266
  ![10, v268.toNat]

def k1_chk219 (v278 : IVec S16 32) : Prop :=
  (∀ a x, ((![v278] : Fin 1 → IVec S16 32) a x).toNat < S65536.size a)
theorem k1_idx219_inb : ∀ (v278 : IVec S16 32) (k1_hw219 : k1_chk219 v278), ∀ a x, ((![v278] : Fin 1 → IVec S16 32) a x).toNat < S65536.size a := fun v278 k1_hw219 => k1_hw219
@[reducible] def k1_t221_loop : Scf.Loop 32 :=
  let c0_i32_1098 : BitVec 32 := 0#32
  let c64_i32_1099 : BitVec 32 := 64#32
  let v228 : BitVec 32 := Scalar.addi c0_i32_1098 c64_i32_1099
  let c1_i32_1100 : BitVec 32 := 1#32
  ⟨c0_i32_1098, v228, c1_i32_1100⟩
def k1_off223 (k1_t221 : Fin k1_t221_loop.trips) : Fin 2 → Nat :=
  let c11_i32 : BitVec 32 := 11#32
  let v267 : Index := Scalar.indexCast c11_i32
  let c0_i32_1098 : BitVec 32 := 0#32
  let c1_i32_1100 : BitVec 32 := 1#32
  let arg8 : BitVec 32 := Scf.iv c0_i32_1098 c1_i32_1100 k1_t221
  let c16_i32 : BitVec 32 := 16#32
  let v266 : BitVec 32 := Scalar.muli arg8 c16_i32
  let v268 : Index := Scalar.indexCast v266
  ![11, v268.toNat]

def k1_chk220 (v278 : IVec S16 32) : Prop :=
  (∀ a x, ((![v278] : Fin 1 → IVec S16 32) a x).toNat < S65536.size a)
theorem k1_idx220_inb : ∀ (v278 : IVec S16 32) (k1_hw220 : k1_chk220 v278), ∀ a x, ((![v278] : Fin 1 → IVec S16 32) a x).toNat < S65536.size a := fun v278 k1_hw220 => k1_hw220
@[reducible] def k1_t222_loop : Scf.Loop 32 :=
  let c0_i32_1103 : BitVec 32 := 0#32
  let c64_i32_1104 : BitVec 32 := 64#32
  let v229 : BitVec 32 := Scalar.addi c0_i32_1103 c64_i32_1104
  let c1_i32_1105 : BitVec 32 := 1#32
  ⟨c0_i32_1103, v229, c1_i32_1105⟩
def k1_off224 (k1_t222 : Fin k1_t222_loop.trips) : Fin 2 → Nat :=
  let c12_i32_1282 : BitVec 32 := 12#32
  let v267 : Index := Scalar.indexCast c12_i32_1282
  let c0_i32_1103 : BitVec 32 := 0#32
  let c1_i32_1105 : BitVec 32 := 1#32
  let arg8 : BitVec 32 := Scf.iv c0_i32_1103 c1_i32_1105 k1_t222
  let c16_i32 : BitVec 32 := 16#32
  let v266 : BitVec 32 := Scalar.muli arg8 c16_i32
  let v268 : Index := Scalar.indexCast v266
  ![12, v268.toNat]

def k1_chk221 (v278 : IVec S16 32) : Prop :=
  (∀ a x, ((![v278] : Fin 1 → IVec S16 32) a x).toNat < S65536.size a)
theorem k1_idx221_inb : ∀ (v278 : IVec S16 32) (k1_hw221 : k1_chk221 v278), ∀ a x, ((![v278] : Fin 1 → IVec S16 32) a x).toNat < S65536.size a := fun v278 k1_hw221 => k1_hw221
@[reducible] def k1_t223_loop : Scf.Loop 32 :=
  let c0_i32_1108 : BitVec 32 := 0#32
  let c64_i32_1109 : BitVec 32 := 64#32
  let v230 : BitVec 32 := Scalar.addi c0_i32_1108 c64_i32_1109
  let c1_i32_1110 : BitVec 32 := 1#32
  ⟨c0_i32_1108, v230, c1_i32_1110⟩
def k1_off225 (k1_t223 : Fin k1_t223_loop.trips) : Fin 2 → Nat :=
  let c13_i32 : BitVec 32 := 13#32
  let v267 : Index := Scalar.indexCast c13_i32
  let c0_i32_1108 : BitVec 32 := 0#32
  let c1_i32_1110 : BitVec 32 := 1#32
  let arg8 : BitVec 32 := Scf.iv c0_i32_1108 c1_i32_1110 k1_t223
  let c16_i32 : BitVec 32 := 16#32
  let v266 : BitVec 32 := Scalar.muli arg8 c16_i32
  let v268 : Index := Scalar.indexCast v266
  ![13, v268.toNat]

def k1_chk222 (v278 : IVec S16 32) : Prop :=
  (∀ a x, ((![v278] : Fin 1 → IVec S16 32) a x).toNat < S65536.size a)
theorem k1_idx222_inb : ∀ (v278 : IVec S16 32) (k1_hw222 : k1_chk222 v278), ∀ a x, ((![v278] : Fin 1 → IVec S16 32) a x).toNat < S65536.size a := fun v278 k1_hw222 => k1_hw222
@[reducible] def k1_t224_loop : Scf.Loop 32 :=
  let c0_i32_1113 : BitVec 32 := 0#32
  let c64_i32_1114 : BitVec 32 := 64#32
  let v231 : BitVec 32 := Scalar.addi c0_i32_1113 c64_i32_1114
  let c1_i32_1115 : BitVec 32 := 1#32
  ⟨c0_i32_1113, v231, c1_i32_1115⟩
def k1_off226 (k1_t224 : Fin k1_t224_loop.trips) : Fin 2 → Nat :=
  let c14_i32_1282 : BitVec 32 := 14#32
  let v267 : Index := Scalar.indexCast c14_i32_1282
  let c0_i32_1113 : BitVec 32 := 0#32
  let c1_i32_1115 : BitVec 32 := 1#32
  let arg8 : BitVec 32 := Scf.iv c0_i32_1113 c1_i32_1115 k1_t224
  let c16_i32 : BitVec 32 := 16#32
  let v266 : BitVec 32 := Scalar.muli arg8 c16_i32
  let v268 : Index := Scalar.indexCast v266
  ![14, v268.toNat]

def k1_chk223 (v278 : IVec S16 32) : Prop :=
  (∀ a x, ((![v278] : Fin 1 → IVec S16 32) a x).toNat < S65536.size a)
theorem k1_idx223_inb : ∀ (v278 : IVec S16 32) (k1_hw223 : k1_chk223 v278), ∀ a x, ((![v278] : Fin 1 → IVec S16 32) a x).toNat < S65536.size a := fun v278 k1_hw223 => k1_hw223
@[reducible] def k1_t225_loop : Scf.Loop 32 :=
  let c0_i32_1118 : BitVec 32 := 0#32
  let c64_i32_1119 : BitVec 32 := 64#32
  let v232 : BitVec 32 := Scalar.addi c0_i32_1118 c64_i32_1119
  let c1_i32_1120 : BitVec 32 := 1#32
  ⟨c0_i32_1118, v232, c1_i32_1120⟩
def k1_off227 (k1_t225 : Fin k1_t225_loop.trips) : Fin 2 → Nat :=
  let c15_i32 : BitVec 32 := 15#32
  let v267 : Index := Scalar.indexCast c15_i32
  let c0_i32_1118 : BitVec 32 := 0#32
  let c1_i32_1120 : BitVec 32 := 1#32
  let arg8 : BitVec 32 := Scf.iv c0_i32_1118 c1_i32_1120 k1_t225
  let c16_i32 : BitVec 32 := 16#32
  let v266 : BitVec 32 := Scalar.muli arg8 c16_i32
  let v268 : Index := Scalar.indexCast v266
  ![15, v268.toNat]

def k1_chk224 (v278 : IVec S16 32) : Prop :=
  (∀ a x, ((![v278] : Fin 1 → IVec S16 32) a x).toNat < S65536.size a)
theorem k1_idx224_inb : ∀ (v278 : IVec S16 32) (k1_hw224 : k1_chk224 v278), ∀ a x, ((![v278] : Fin 1 → IVec S16 32) a x).toNat < S65536.size a := fun v278 k1_hw224 => k1_hw224
@[reducible] def k1_t226_loop : Scf.Loop 32 :=
  let c0_i32_1123 : BitVec 32 := 0#32
  let c64_i32_1124 : BitVec 32 := 64#32
  let v234 : BitVec 32 := Scalar.addi c0_i32_1123 c64_i32_1124
  let c1_i32_1125 : BitVec 32 := 1#32
  ⟨c0_i32_1123, v234, c1_i32_1125⟩
def k1_off228 (k1_t226 : Fin k1_t226_loop.trips) : Fin 2 → Nat :=
  let c0_i32_1282 : BitVec 32 := 0#32
  let v267 : Index := Scalar.indexCast c0_i32_1282
  let c0_i32_1123 : BitVec 32 := 0#32
  let c1_i32_1125 : BitVec 32 := 1#32
  let arg8 : BitVec 32 := Scf.iv c0_i32_1123 c1_i32_1125 k1_t226
  let c16_i32 : BitVec 32 := 16#32
  let v266 : BitVec 32 := Scalar.muli arg8 c16_i32
  let v268 : Index := Scalar.indexCast v266
  ![0, v268.toNat]

def k1_chk225 (v282 : IVec S16 32) : Prop :=
  (∀ a x, ((![v282] : Fin 1 → IVec S16 32) a x).toNat < S65536.size a)
theorem k1_idx225_inb : ∀ (v282 : IVec S16 32) (k1_hw225 : k1_chk225 v282), ∀ a x, ((![v282] : Fin 1 → IVec S16 32) a x).toNat < S65536.size a := fun v282 k1_hw225 => k1_hw225
@[reducible] def k1_t227_loop : Scf.Loop 32 :=
  let c0_i32_1128 : BitVec 32 := 0#32
  let c64_i32_1129 : BitVec 32 := 64#32
  let v235 : BitVec 32 := Scalar.addi c0_i32_1128 c64_i32_1129
  let c1_i32_1130 : BitVec 32 := 1#32
  ⟨c0_i32_1128, v235, c1_i32_1130⟩
def k1_off229 (k1_t227 : Fin k1_t227_loop.trips) : Fin 2 → Nat :=
  let c1_i32_1282 : BitVec 32 := 1#32
  let v267 : Index := Scalar.indexCast c1_i32_1282
  let c0_i32_1128 : BitVec 32 := 0#32
  let c1_i32_1130 : BitVec 32 := 1#32
  let arg8 : BitVec 32 := Scf.iv c0_i32_1128 c1_i32_1130 k1_t227
  let c16_i32 : BitVec 32 := 16#32
  let v266 : BitVec 32 := Scalar.muli arg8 c16_i32
  let v268 : Index := Scalar.indexCast v266
  ![1, v268.toNat]

def k1_chk226 (v282 : IVec S16 32) : Prop :=
  (∀ a x, ((![v282] : Fin 1 → IVec S16 32) a x).toNat < S65536.size a)
theorem k1_idx226_inb : ∀ (v282 : IVec S16 32) (k1_hw226 : k1_chk226 v282), ∀ a x, ((![v282] : Fin 1 → IVec S16 32) a x).toNat < S65536.size a := fun v282 k1_hw226 => k1_hw226
@[reducible] def k1_t228_loop : Scf.Loop 32 :=
  let c0_i32_1133 : BitVec 32 := 0#32
  let c64_i32_1134 : BitVec 32 := 64#32
  let v236 : BitVec 32 := Scalar.addi c0_i32_1133 c64_i32_1134
  let c1_i32_1135 : BitVec 32 := 1#32
  ⟨c0_i32_1133, v236, c1_i32_1135⟩
def k1_off230 (k1_t228 : Fin k1_t228_loop.trips) : Fin 2 → Nat :=
  let c2_i32_1282 : BitVec 32 := 2#32
  let v267 : Index := Scalar.indexCast c2_i32_1282
  let c0_i32_1133 : BitVec 32 := 0#32
  let c1_i32_1135 : BitVec 32 := 1#32
  let arg8 : BitVec 32 := Scf.iv c0_i32_1133 c1_i32_1135 k1_t228
  let c16_i32 : BitVec 32 := 16#32
  let v266 : BitVec 32 := Scalar.muli arg8 c16_i32
  let v268 : Index := Scalar.indexCast v266
  ![2, v268.toNat]

def k1_chk227 (v282 : IVec S16 32) : Prop :=
  (∀ a x, ((![v282] : Fin 1 → IVec S16 32) a x).toNat < S65536.size a)
theorem k1_idx227_inb : ∀ (v282 : IVec S16 32) (k1_hw227 : k1_chk227 v282), ∀ a x, ((![v282] : Fin 1 → IVec S16 32) a x).toNat < S65536.size a := fun v282 k1_hw227 => k1_hw227
@[reducible] def k1_t229_loop : Scf.Loop 32 :=
  let c0_i32_1138 : BitVec 32 := 0#32
  let c64_i32_1139 : BitVec 32 := 64#32
  let v237 : BitVec 32 := Scalar.addi c0_i32_1138 c64_i32_1139
  let c1_i32_1140 : BitVec 32 := 1#32
  ⟨c0_i32_1138, v237, c1_i32_1140⟩
def k1_off231 (k1_t229 : Fin k1_t229_loop.trips) : Fin 2 → Nat :=
  let c3_i32 : BitVec 32 := 3#32
  let v267 : Index := Scalar.indexCast c3_i32
  let c0_i32_1138 : BitVec 32 := 0#32
  let c1_i32_1140 : BitVec 32 := 1#32
  let arg8 : BitVec 32 := Scf.iv c0_i32_1138 c1_i32_1140 k1_t229
  let c16_i32 : BitVec 32 := 16#32
  let v266 : BitVec 32 := Scalar.muli arg8 c16_i32
  let v268 : Index := Scalar.indexCast v266
  ![3, v268.toNat]

def k1_chk228 (v282 : IVec S16 32) : Prop :=
  (∀ a x, ((![v282] : Fin 1 → IVec S16 32) a x).toNat < S65536.size a)
theorem k1_idx228_inb : ∀ (v282 : IVec S16 32) (k1_hw228 : k1_chk228 v282), ∀ a x, ((![v282] : Fin 1 → IVec S16 32) a x).toNat < S65536.size a := fun v282 k1_hw228 => k1_hw228
@[reducible] def k1_t230_loop : Scf.Loop 32 :=
  let c0_i32_1143 : BitVec 32 := 0#32
  let c64_i32_1144 : BitVec 32 := 64#32
  let v238 : BitVec 32 := Scalar.addi c0_i32_1143 c64_i32_1144
  let c1_i32_1145 : BitVec 32 := 1#32
  ⟨c0_i32_1143, v238, c1_i32_1145⟩
def k1_off232 (k1_t230 : Fin k1_t230_loop.trips) : Fin 2 → Nat :=
  let c4_i32_1282 : BitVec 32 := 4#32
  let v267 : Index := Scalar.indexCast c4_i32_1282
  let c0_i32_1143 : BitVec 32 := 0#32
  let c1_i32_1145 : BitVec 32 := 1#32
  let arg8 : BitVec 32 := Scf.iv c0_i32_1143 c1_i32_1145 k1_t230
  let c16_i32 : BitVec 32 := 16#32
  let v266 : BitVec 32 := Scalar.muli arg8 c16_i32
  let v268 : Index := Scalar.indexCast v266
  ![4, v268.toNat]

def k1_chk229 (v282 : IVec S16 32) : Prop :=
  (∀ a x, ((![v282] : Fin 1 → IVec S16 32) a x).toNat < S65536.size a)
theorem k1_idx229_inb : ∀ (v282 : IVec S16 32) (k1_hw229 : k1_chk229 v282), ∀ a x, ((![v282] : Fin 1 → IVec S16 32) a x).toNat < S65536.size a := fun v282 k1_hw229 => k1_hw229
@[reducible] def k1_t231_loop : Scf.Loop 32 :=
  let c0_i32_1148 : BitVec 32 := 0#32
  let c64_i32_1149 : BitVec 32 := 64#32
  let v239 : BitVec 32 := Scalar.addi c0_i32_1148 c64_i32_1149
  let c1_i32_1150 : BitVec 32 := 1#32
  ⟨c0_i32_1148, v239, c1_i32_1150⟩
def k1_off233 (k1_t231 : Fin k1_t231_loop.trips) : Fin 2 → Nat :=
  let c5_i32 : BitVec 32 := 5#32
  let v267 : Index := Scalar.indexCast c5_i32
  let c0_i32_1148 : BitVec 32 := 0#32
  let c1_i32_1150 : BitVec 32 := 1#32
  let arg8 : BitVec 32 := Scf.iv c0_i32_1148 c1_i32_1150 k1_t231
  let c16_i32 : BitVec 32 := 16#32
  let v266 : BitVec 32 := Scalar.muli arg8 c16_i32
  let v268 : Index := Scalar.indexCast v266
  ![5, v268.toNat]

def k1_chk230 (v282 : IVec S16 32) : Prop :=
  (∀ a x, ((![v282] : Fin 1 → IVec S16 32) a x).toNat < S65536.size a)
theorem k1_idx230_inb : ∀ (v282 : IVec S16 32) (k1_hw230 : k1_chk230 v282), ∀ a x, ((![v282] : Fin 1 → IVec S16 32) a x).toNat < S65536.size a := fun v282 k1_hw230 => k1_hw230
@[reducible] def k1_t232_loop : Scf.Loop 32 :=
  let c0_i32_1153 : BitVec 32 := 0#32
  let c64_i32_1154 : BitVec 32 := 64#32
  let v240 : BitVec 32 := Scalar.addi c0_i32_1153 c64_i32_1154
  let c1_i32_1155 : BitVec 32 := 1#32
  ⟨c0_i32_1153, v240, c1_i32_1155⟩
def k1_off234 (k1_t232 : Fin k1_t232_loop.trips) : Fin 2 → Nat :=
  let c6_i32_1282 : BitVec 32 := 6#32
  let v267 : Index := Scalar.indexCast c6_i32_1282
  let c0_i32_1153 : BitVec 32 := 0#32
  let c1_i32_1155 : BitVec 32 := 1#32
  let arg8 : BitVec 32 := Scf.iv c0_i32_1153 c1_i32_1155 k1_t232
  let c16_i32 : BitVec 32 := 16#32
  let v266 : BitVec 32 := Scalar.muli arg8 c16_i32
  let v268 : Index := Scalar.indexCast v266
  ![6, v268.toNat]

def k1_chk231 (v282 : IVec S16 32) : Prop :=
  (∀ a x, ((![v282] : Fin 1 → IVec S16 32) a x).toNat < S65536.size a)
theorem k1_idx231_inb : ∀ (v282 : IVec S16 32) (k1_hw231 : k1_chk231 v282), ∀ a x, ((![v282] : Fin 1 → IVec S16 32) a x).toNat < S65536.size a := fun v282 k1_hw231 => k1_hw231
@[reducible] def k1_t233_loop : Scf.Loop 32 :=
  let c0_i32_1158 : BitVec 32 := 0#32
  let c64_i32_1159 : BitVec 32 := 64#32
  let v241 : BitVec 32 := Scalar.addi c0_i32_1158 c64_i32_1159
  let c1_i32_1160 : BitVec 32 := 1#32
  ⟨c0_i32_1158, v241, c1_i32_1160⟩
def k1_off235 (k1_t233 : Fin k1_t233_loop.trips) : Fin 2 → Nat :=
  let c7_i32 : BitVec 32 := 7#32
  let v267 : Index := Scalar.indexCast c7_i32
  let c0_i32_1158 : BitVec 32 := 0#32
  let c1_i32_1160 : BitVec 32 := 1#32
  let arg8 : BitVec 32 := Scf.iv c0_i32_1158 c1_i32_1160 k1_t233
  let c16_i32 : BitVec 32 := 16#32
  let v266 : BitVec 32 := Scalar.muli arg8 c16_i32
  let v268 : Index := Scalar.indexCast v266
  ![7, v268.toNat]

def k1_chk232 (v282 : IVec S16 32) : Prop :=
  (∀ a x, ((![v282] : Fin 1 → IVec S16 32) a x).toNat < S65536.size a)
theorem k1_idx232_inb : ∀ (v282 : IVec S16 32) (k1_hw232 : k1_chk232 v282), ∀ a x, ((![v282] : Fin 1 → IVec S16 32) a x).toNat < S65536.size a := fun v282 k1_hw232 => k1_hw232
@[reducible] def k1_t234_loop : Scf.Loop 32 :=
  let c0_i32_1163 : BitVec 32 := 0#32
  let c64_i32_1164 : BitVec 32 := 64#32
  let v242 : BitVec 32 := Scalar.addi c0_i32_1163 c64_i32_1164
  let c1_i32_1165 : BitVec 32 := 1#32
  ⟨c0_i32_1163, v242, c1_i32_1165⟩
def k1_off236 (k1_t234 : Fin k1_t234_loop.trips) : Fin 2 → Nat :=
  let c8_i32_1282 : BitVec 32 := 8#32
  let v267 : Index := Scalar.indexCast c8_i32_1282
  let c0_i32_1163 : BitVec 32 := 0#32
  let c1_i32_1165 : BitVec 32 := 1#32
  let arg8 : BitVec 32 := Scf.iv c0_i32_1163 c1_i32_1165 k1_t234
  let c16_i32 : BitVec 32 := 16#32
  let v266 : BitVec 32 := Scalar.muli arg8 c16_i32
  let v268 : Index := Scalar.indexCast v266
  ![8, v268.toNat]

def k1_chk233 (v282 : IVec S16 32) : Prop :=
  (∀ a x, ((![v282] : Fin 1 → IVec S16 32) a x).toNat < S65536.size a)
theorem k1_idx233_inb : ∀ (v282 : IVec S16 32) (k1_hw233 : k1_chk233 v282), ∀ a x, ((![v282] : Fin 1 → IVec S16 32) a x).toNat < S65536.size a := fun v282 k1_hw233 => k1_hw233
@[reducible] def k1_t235_loop : Scf.Loop 32 :=
  let c0_i32_1168 : BitVec 32 := 0#32
  let c64_i32_1169 : BitVec 32 := 64#32
  let v243 : BitVec 32 := Scalar.addi c0_i32_1168 c64_i32_1169
  let c1_i32_1170 : BitVec 32 := 1#32
  ⟨c0_i32_1168, v243, c1_i32_1170⟩
def k1_off237 (k1_t235 : Fin k1_t235_loop.trips) : Fin 2 → Nat :=
  let c9_i32 : BitVec 32 := 9#32
  let v267 : Index := Scalar.indexCast c9_i32
  let c0_i32_1168 : BitVec 32 := 0#32
  let c1_i32_1170 : BitVec 32 := 1#32
  let arg8 : BitVec 32 := Scf.iv c0_i32_1168 c1_i32_1170 k1_t235
  let c16_i32 : BitVec 32 := 16#32
  let v266 : BitVec 32 := Scalar.muli arg8 c16_i32
  let v268 : Index := Scalar.indexCast v266
  ![9, v268.toNat]

def k1_chk234 (v282 : IVec S16 32) : Prop :=
  (∀ a x, ((![v282] : Fin 1 → IVec S16 32) a x).toNat < S65536.size a)
theorem k1_idx234_inb : ∀ (v282 : IVec S16 32) (k1_hw234 : k1_chk234 v282), ∀ a x, ((![v282] : Fin 1 → IVec S16 32) a x).toNat < S65536.size a := fun v282 k1_hw234 => k1_hw234
@[reducible] def k1_t236_loop : Scf.Loop 32 :=
  let c0_i32_1173 : BitVec 32 := 0#32
  let c64_i32_1174 : BitVec 32 := 64#32
  let v244 : BitVec 32 := Scalar.addi c0_i32_1173 c64_i32_1174
  let c1_i32_1175 : BitVec 32 := 1#32
  ⟨c0_i32_1173, v244, c1_i32_1175⟩
def k1_off238 (k1_t236 : Fin k1_t236_loop.trips) : Fin 2 → Nat :=
  let c10_i32_1282 : BitVec 32 := 10#32
  let v267 : Index := Scalar.indexCast c10_i32_1282
  let c0_i32_1173 : BitVec 32 := 0#32
  let c1_i32_1175 : BitVec 32 := 1#32
  let arg8 : BitVec 32 := Scf.iv c0_i32_1173 c1_i32_1175 k1_t236
  let c16_i32 : BitVec 32 := 16#32
  let v266 : BitVec 32 := Scalar.muli arg8 c16_i32
  let v268 : Index := Scalar.indexCast v266
  ![10, v268.toNat]

def k1_chk235 (v282 : IVec S16 32) : Prop :=
  (∀ a x, ((![v282] : Fin 1 → IVec S16 32) a x).toNat < S65536.size a)
theorem k1_idx235_inb : ∀ (v282 : IVec S16 32) (k1_hw235 : k1_chk235 v282), ∀ a x, ((![v282] : Fin 1 → IVec S16 32) a x).toNat < S65536.size a := fun v282 k1_hw235 => k1_hw235
@[reducible] def k1_t237_loop : Scf.Loop 32 :=
  let c0_i32_1178 : BitVec 32 := 0#32
  let c64_i32_1179 : BitVec 32 := 64#32
  let v245 : BitVec 32 := Scalar.addi c0_i32_1178 c64_i32_1179
  let c1_i32_1180 : BitVec 32 := 1#32
  ⟨c0_i32_1178, v245, c1_i32_1180⟩
def k1_off239 (k1_t237 : Fin k1_t237_loop.trips) : Fin 2 → Nat :=
  let c11_i32 : BitVec 32 := 11#32
  let v267 : Index := Scalar.indexCast c11_i32
  let c0_i32_1178 : BitVec 32 := 0#32
  let c1_i32_1180 : BitVec 32 := 1#32
  let arg8 : BitVec 32 := Scf.iv c0_i32_1178 c1_i32_1180 k1_t237
  let c16_i32 : BitVec 32 := 16#32
  let v266 : BitVec 32 := Scalar.muli arg8 c16_i32
  let v268 : Index := Scalar.indexCast v266
  ![11, v268.toNat]

def k1_chk236 (v282 : IVec S16 32) : Prop :=
  (∀ a x, ((![v282] : Fin 1 → IVec S16 32) a x).toNat < S65536.size a)
theorem k1_idx236_inb : ∀ (v282 : IVec S16 32) (k1_hw236 : k1_chk236 v282), ∀ a x, ((![v282] : Fin 1 → IVec S16 32) a x).toNat < S65536.size a := fun v282 k1_hw236 => k1_hw236
@[reducible] def k1_t238_loop : Scf.Loop 32 :=
  let c0_i32_1183 : BitVec 32 := 0#32
  let c64_i32_1184 : BitVec 32 := 64#32
  let v246 : BitVec 32 := Scalar.addi c0_i32_1183 c64_i32_1184
  let c1_i32_1185 : BitVec 32 := 1#32
  ⟨c0_i32_1183, v246, c1_i32_1185⟩
def k1_off240 (k1_t238 : Fin k1_t238_loop.trips) : Fin 2 → Nat :=
  let c12_i32_1282 : BitVec 32 := 12#32
  let v267 : Index := Scalar.indexCast c12_i32_1282
  let c0_i32_1183 : BitVec 32 := 0#32
  let c1_i32_1185 : BitVec 32 := 1#32
  let arg8 : BitVec 32 := Scf.iv c0_i32_1183 c1_i32_1185 k1_t238
  let c16_i32 : BitVec 32 := 16#32
  let v266 : BitVec 32 := Scalar.muli arg8 c16_i32
  let v268 : Index := Scalar.indexCast v266
  ![12, v268.toNat]

def k1_chk237 (v282 : IVec S16 32) : Prop :=
  (∀ a x, ((![v282] : Fin 1 → IVec S16 32) a x).toNat < S65536.size a)
theorem k1_idx237_inb : ∀ (v282 : IVec S16 32) (k1_hw237 : k1_chk237 v282), ∀ a x, ((![v282] : Fin 1 → IVec S16 32) a x).toNat < S65536.size a := fun v282 k1_hw237 => k1_hw237
@[reducible] def k1_t239_loop : Scf.Loop 32 :=
  let c0_i32_1188 : BitVec 32 := 0#32
  let c64_i32_1189 : BitVec 32 := 64#32
  let v247 : BitVec 32 := Scalar.addi c0_i32_1188 c64_i32_1189
  let c1_i32_1190 : BitVec 32 := 1#32
  ⟨c0_i32_1188, v247, c1_i32_1190⟩
def k1_off241 (k1_t239 : Fin k1_t239_loop.trips) : Fin 2 → Nat :=
  let c13_i32 : BitVec 32 := 13#32
  let v267 : Index := Scalar.indexCast c13_i32
  let c0_i32_1188 : BitVec 32 := 0#32
  let c1_i32_1190 : BitVec 32 := 1#32
  let arg8 : BitVec 32 := Scf.iv c0_i32_1188 c1_i32_1190 k1_t239
  let c16_i32 : BitVec 32 := 16#32
  let v266 : BitVec 32 := Scalar.muli arg8 c16_i32
  let v268 : Index := Scalar.indexCast v266
  ![13, v268.toNat]

def k1_chk238 (v282 : IVec S16 32) : Prop :=
  (∀ a x, ((![v282] : Fin 1 → IVec S16 32) a x).toNat < S65536.size a)
theorem k1_idx238_inb : ∀ (v282 : IVec S16 32) (k1_hw238 : k1_chk238 v282), ∀ a x, ((![v282] : Fin 1 → IVec S16 32) a x).toNat < S65536.size a := fun v282 k1_hw238 => k1_hw238
@[reducible] def k1_t240_loop : Scf.Loop 32 :=
  let c0_i32_1193 : BitVec 32 := 0#32
  let c64_i32_1194 : BitVec 32 := 64#32
  let v248 : BitVec 32 := Scalar.addi c0_i32_1193 c64_i32_1194
  let c1_i32_1195 : BitVec 32 := 1#32
  ⟨c0_i32_1193, v248, c1_i32_1195⟩
def k1_off242 (k1_t240 : Fin k1_t240_loop.trips) : Fin 2 → Nat :=
  let c14_i32_1282 : BitVec 32 := 14#32
  let v267 : Index := Scalar.indexCast c14_i32_1282
  let c0_i32_1193 : BitVec 32 := 0#32
  let c1_i32_1195 : BitVec 32 := 1#32
  let arg8 : BitVec 32 := Scf.iv c0_i32_1193 c1_i32_1195 k1_t240
  let c16_i32 : BitVec 32 := 16#32
  let v266 : BitVec 32 := Scalar.muli arg8 c16_i32
  let v268 : Index := Scalar.indexCast v266
  ![14, v268.toNat]

def k1_chk239 (v282 : IVec S16 32) : Prop :=
  (∀ a x, ((![v282] : Fin 1 → IVec S16 32) a x).toNat < S65536.size a)
theorem k1_idx239_inb : ∀ (v282 : IVec S16 32) (k1_hw239 : k1_chk239 v282), ∀ a x, ((![v282] : Fin 1 → IVec S16 32) a x).toNat < S65536.size a := fun v282 k1_hw239 => k1_hw239
@[reducible] def k1_t241_loop : Scf.Loop 32 :=
  let c0_i32_1198 : BitVec 32 := 0#32
  let c64_i32_1199 : BitVec 32 := 64#32
  let v249 : BitVec 32 := Scalar.addi c0_i32_1198 c64_i32_1199
  let c1_i32_1200 : BitVec 32 := 1#32
  ⟨c0_i32_1198, v249, c1_i32_1200⟩
def k1_off243 (k1_t241 : Fin k1_t241_loop.trips) : Fin 2 → Nat :=
  let c15_i32 : BitVec 32 := 15#32
  let v267 : Index := Scalar.indexCast c15_i32
  let c0_i32_1198 : BitVec 32 := 0#32
  let c1_i32_1200 : BitVec 32 := 1#32
  let arg8 : BitVec 32 := Scf.iv c0_i32_1198 c1_i32_1200 k1_t241
  let c16_i32 : BitVec 32 := 16#32
  let v266 : BitVec 32 := Scalar.muli arg8 c16_i32
  let v268 : Index := Scalar.indexCast v266
  ![15, v268.toNat]

def k1_chk240 (v282 : IVec S16 32) : Prop :=
  (∀ a x, ((![v282] : Fin 1 → IVec S16 32) a x).toNat < S65536.size a)
theorem k1_idx240_inb : ∀ (v282 : IVec S16 32) (k1_hw240 : k1_chk240 v282), ∀ a x, ((![v282] : Fin 1 → IVec S16 32) a x).toNat < S65536.size a := fun v282 k1_hw240 => k1_hw240
@[reducible] def k1_t242_loop : Scf.Loop 32 :=
  let c0_i32_1203 : BitVec 32 := 0#32
  let c64_i32_1204 : BitVec 32 := 64#32
  let v250 : BitVec 32 := Scalar.addi c0_i32_1203 c64_i32_1204
  let c1_i32_1205 : BitVec 32 := 1#32
  ⟨c0_i32_1203, v250, c1_i32_1205⟩
def k1_off244 (k1_t242 : Fin k1_t242_loop.trips) : Fin 2 → Nat :=
  let c0_i32_1282 : BitVec 32 := 0#32
  let v267 : Index := Scalar.indexCast c0_i32_1282
  let c0_i32_1203 : BitVec 32 := 0#32
  let c1_i32_1205 : BitVec 32 := 1#32
  let arg8 : BitVec 32 := Scf.iv c0_i32_1203 c1_i32_1205 k1_t242
  let c16_i32 : BitVec 32 := 16#32
  let v266 : BitVec 32 := Scalar.muli arg8 c16_i32
  let v268 : Index := Scalar.indexCast v266
  ![0, v268.toNat]

def k1_chk241 (v278 : IVec S16 32) : Prop :=
  (∀ a x, ((![v278] : Fin 1 → IVec S16 32) a x).toNat < S65536.size a)
theorem k1_idx241_inb : ∀ (v278 : IVec S16 32) (k1_hw241 : k1_chk241 v278), ∀ a x, ((![v278] : Fin 1 → IVec S16 32) a x).toNat < S65536.size a := fun v278 k1_hw241 => k1_hw241
@[reducible] def k1_t243_loop : Scf.Loop 32 :=
  let c0_i32_1208 : BitVec 32 := 0#32
  let c64_i32_1209 : BitVec 32 := 64#32
  let v251 : BitVec 32 := Scalar.addi c0_i32_1208 c64_i32_1209
  let c1_i32_1210 : BitVec 32 := 1#32
  ⟨c0_i32_1208, v251, c1_i32_1210⟩
def k1_off245 (k1_t243 : Fin k1_t243_loop.trips) : Fin 2 → Nat :=
  let c1_i32_1282 : BitVec 32 := 1#32
  let v267 : Index := Scalar.indexCast c1_i32_1282
  let c0_i32_1208 : BitVec 32 := 0#32
  let c1_i32_1210 : BitVec 32 := 1#32
  let arg8 : BitVec 32 := Scf.iv c0_i32_1208 c1_i32_1210 k1_t243
  let c16_i32 : BitVec 32 := 16#32
  let v266 : BitVec 32 := Scalar.muli arg8 c16_i32
  let v268 : Index := Scalar.indexCast v266
  ![1, v268.toNat]

def k1_chk242 (v278 : IVec S16 32) : Prop :=
  (∀ a x, ((![v278] : Fin 1 → IVec S16 32) a x).toNat < S65536.size a)
theorem k1_idx242_inb : ∀ (v278 : IVec S16 32) (k1_hw242 : k1_chk242 v278), ∀ a x, ((![v278] : Fin 1 → IVec S16 32) a x).toNat < S65536.size a := fun v278 k1_hw242 => k1_hw242
@[reducible] def k1_t244_loop : Scf.Loop 32 :=
  let c0_i32_1213 : BitVec 32 := 0#32
  let c64_i32_1214 : BitVec 32 := 64#32
  let v252 : BitVec 32 := Scalar.addi c0_i32_1213 c64_i32_1214
  let c1_i32_1215 : BitVec 32 := 1#32
  ⟨c0_i32_1213, v252, c1_i32_1215⟩
def k1_off246 (k1_t244 : Fin k1_t244_loop.trips) : Fin 2 → Nat :=
  let c2_i32_1282 : BitVec 32 := 2#32
  let v267 : Index := Scalar.indexCast c2_i32_1282
  let c0_i32_1213 : BitVec 32 := 0#32
  let c1_i32_1215 : BitVec 32 := 1#32
  let arg8 : BitVec 32 := Scf.iv c0_i32_1213 c1_i32_1215 k1_t244
  let c16_i32 : BitVec 32 := 16#32
  let v266 : BitVec 32 := Scalar.muli arg8 c16_i32
  let v268 : Index := Scalar.indexCast v266
  ![2, v268.toNat]

def k1_chk243 (v278 : IVec S16 32) : Prop :=
  (∀ a x, ((![v278] : Fin 1 → IVec S16 32) a x).toNat < S65536.size a)
theorem k1_idx243_inb : ∀ (v278 : IVec S16 32) (k1_hw243 : k1_chk243 v278), ∀ a x, ((![v278] : Fin 1 → IVec S16 32) a x).toNat < S65536.size a := fun v278 k1_hw243 => k1_hw243
@[reducible] def k1_t245_loop : Scf.Loop 32 :=
  let c0_i32_1218 : BitVec 32 := 0#32
  let c64_i32_1219 : BitVec 32 := 64#32
  let v253 : BitVec 32 := Scalar.addi c0_i32_1218 c64_i32_1219
  let c1_i32_1220 : BitVec 32 := 1#32
  ⟨c0_i32_1218, v253, c1_i32_1220⟩
def k1_off247 (k1_t245 : Fin k1_t245_loop.trips) : Fin 2 → Nat :=
  let c3_i32 : BitVec 32 := 3#32
  let v267 : Index := Scalar.indexCast c3_i32
  let c0_i32_1218 : BitVec 32 := 0#32
  let c1_i32_1220 : BitVec 32 := 1#32
  let arg8 : BitVec 32 := Scf.iv c0_i32_1218 c1_i32_1220 k1_t245
  let c16_i32 : BitVec 32 := 16#32
  let v266 : BitVec 32 := Scalar.muli arg8 c16_i32
  let v268 : Index := Scalar.indexCast v266
  ![3, v268.toNat]

def k1_chk244 (v278 : IVec S16 32) : Prop :=
  (∀ a x, ((![v278] : Fin 1 → IVec S16 32) a x).toNat < S65536.size a)
theorem k1_idx244_inb : ∀ (v278 : IVec S16 32) (k1_hw244 : k1_chk244 v278), ∀ a x, ((![v278] : Fin 1 → IVec S16 32) a x).toNat < S65536.size a := fun v278 k1_hw244 => k1_hw244
@[reducible] def k1_t246_loop : Scf.Loop 32 :=
  let c0_i32_1223 : BitVec 32 := 0#32
  let c64_i32_1224 : BitVec 32 := 64#32
  let v254 : BitVec 32 := Scalar.addi c0_i32_1223 c64_i32_1224
  let c1_i32_1225 : BitVec 32 := 1#32
  ⟨c0_i32_1223, v254, c1_i32_1225⟩
def k1_off248 (k1_t246 : Fin k1_t246_loop.trips) : Fin 2 → Nat :=
  let c4_i32_1282 : BitVec 32 := 4#32
  let v267 : Index := Scalar.indexCast c4_i32_1282
  let c0_i32_1223 : BitVec 32 := 0#32
  let c1_i32_1225 : BitVec 32 := 1#32
  let arg8 : BitVec 32 := Scf.iv c0_i32_1223 c1_i32_1225 k1_t246
  let c16_i32 : BitVec 32 := 16#32
  let v266 : BitVec 32 := Scalar.muli arg8 c16_i32
  let v268 : Index := Scalar.indexCast v266
  ![4, v268.toNat]

def k1_chk245 (v278 : IVec S16 32) : Prop :=
  (∀ a x, ((![v278] : Fin 1 → IVec S16 32) a x).toNat < S65536.size a)
theorem k1_idx245_inb : ∀ (v278 : IVec S16 32) (k1_hw245 : k1_chk245 v278), ∀ a x, ((![v278] : Fin 1 → IVec S16 32) a x).toNat < S65536.size a := fun v278 k1_hw245 => k1_hw245
@[reducible] def k1_t247_loop : Scf.Loop 32 :=
  let c0_i32_1228 : BitVec 32 := 0#32
  let c64_i32_1229 : BitVec 32 := 64#32
  let v255 : BitVec 32 := Scalar.addi c0_i32_1228 c64_i32_1229
  let c1_i32_1230 : BitVec 32 := 1#32
  ⟨c0_i32_1228, v255, c1_i32_1230⟩
def k1_off249 (k1_t247 : Fin k1_t247_loop.trips) : Fin 2 → Nat :=
  let c5_i32 : BitVec 32 := 5#32
  let v267 : Index := Scalar.indexCast c5_i32
  let c0_i32_1228 : BitVec 32 := 0#32
  let c1_i32_1230 : BitVec 32 := 1#32
  let arg8 : BitVec 32 := Scf.iv c0_i32_1228 c1_i32_1230 k1_t247
  let c16_i32 : BitVec 32 := 16#32
  let v266 : BitVec 32 := Scalar.muli arg8 c16_i32
  let v268 : Index := Scalar.indexCast v266
  ![5, v268.toNat]

def k1_chk246 (v278 : IVec S16 32) : Prop :=
  (∀ a x, ((![v278] : Fin 1 → IVec S16 32) a x).toNat < S65536.size a)
theorem k1_idx246_inb : ∀ (v278 : IVec S16 32) (k1_hw246 : k1_chk246 v278), ∀ a x, ((![v278] : Fin 1 → IVec S16 32) a x).toNat < S65536.size a := fun v278 k1_hw246 => k1_hw246
@[reducible] def k1_t248_loop : Scf.Loop 32 :=
  let c0_i32_1233 : BitVec 32 := 0#32
  let c64_i32_1234 : BitVec 32 := 64#32
  let v256 : BitVec 32 := Scalar.addi c0_i32_1233 c64_i32_1234
  let c1_i32_1235 : BitVec 32 := 1#32
  ⟨c0_i32_1233, v256, c1_i32_1235⟩
def k1_off250 (k1_t248 : Fin k1_t248_loop.trips) : Fin 2 → Nat :=
  let c6_i32_1282 : BitVec 32 := 6#32
  let v267 : Index := Scalar.indexCast c6_i32_1282
  let c0_i32_1233 : BitVec 32 := 0#32
  let c1_i32_1235 : BitVec 32 := 1#32
  let arg8 : BitVec 32 := Scf.iv c0_i32_1233 c1_i32_1235 k1_t248
  let c16_i32 : BitVec 32 := 16#32
  let v266 : BitVec 32 := Scalar.muli arg8 c16_i32
  let v268 : Index := Scalar.indexCast v266
  ![6, v268.toNat]

def k1_chk247 (v278 : IVec S16 32) : Prop :=
  (∀ a x, ((![v278] : Fin 1 → IVec S16 32) a x).toNat < S65536.size a)
theorem k1_idx247_inb : ∀ (v278 : IVec S16 32) (k1_hw247 : k1_chk247 v278), ∀ a x, ((![v278] : Fin 1 → IVec S16 32) a x).toNat < S65536.size a := fun v278 k1_hw247 => k1_hw247
@[reducible] def k1_t249_loop : Scf.Loop 32 :=
  let c0_i32_1238 : BitVec 32 := 0#32
  let c64_i32_1239 : BitVec 32 := 64#32
  let v257 : BitVec 32 := Scalar.addi c0_i32_1238 c64_i32_1239
  let c1_i32_1240 : BitVec 32 := 1#32
  ⟨c0_i32_1238, v257, c1_i32_1240⟩
def k1_off251 (k1_t249 : Fin k1_t249_loop.trips) : Fin 2 → Nat :=
  let c7_i32 : BitVec 32 := 7#32
  let v267 : Index := Scalar.indexCast c7_i32
  let c0_i32_1238 : BitVec 32 := 0#32
  let c1_i32_1240 : BitVec 32 := 1#32
  let arg8 : BitVec 32 := Scf.iv c0_i32_1238 c1_i32_1240 k1_t249
  let c16_i32 : BitVec 32 := 16#32
  let v266 : BitVec 32 := Scalar.muli arg8 c16_i32
  let v268 : Index := Scalar.indexCast v266
  ![7, v268.toNat]

def k1_chk248 (v278 : IVec S16 32) : Prop :=
  (∀ a x, ((![v278] : Fin 1 → IVec S16 32) a x).toNat < S65536.size a)
theorem k1_idx248_inb : ∀ (v278 : IVec S16 32) (k1_hw248 : k1_chk248 v278), ∀ a x, ((![v278] : Fin 1 → IVec S16 32) a x).toNat < S65536.size a := fun v278 k1_hw248 => k1_hw248
@[reducible] def k1_t250_loop : Scf.Loop 32 :=
  let c0_i32_1243 : BitVec 32 := 0#32
  let c64_i32_1244 : BitVec 32 := 64#32
  let v258 : BitVec 32 := Scalar.addi c0_i32_1243 c64_i32_1244
  let c1_i32_1245 : BitVec 32 := 1#32
  ⟨c0_i32_1243, v258, c1_i32_1245⟩
def k1_off252 (k1_t250 : Fin k1_t250_loop.trips) : Fin 2 → Nat :=
  let c8_i32_1282 : BitVec 32 := 8#32
  let v267 : Index := Scalar.indexCast c8_i32_1282
  let c0_i32_1243 : BitVec 32 := 0#32
  let c1_i32_1245 : BitVec 32 := 1#32
  let arg8 : BitVec 32 := Scf.iv c0_i32_1243 c1_i32_1245 k1_t250
  let c16_i32 : BitVec 32 := 16#32
  let v266 : BitVec 32 := Scalar.muli arg8 c16_i32
  let v268 : Index := Scalar.indexCast v266
  ![8, v268.toNat]

def k1_chk249 (v278 : IVec S16 32) : Prop :=
  (∀ a x, ((![v278] : Fin 1 → IVec S16 32) a x).toNat < S65536.size a)
theorem k1_idx249_inb : ∀ (v278 : IVec S16 32) (k1_hw249 : k1_chk249 v278), ∀ a x, ((![v278] : Fin 1 → IVec S16 32) a x).toNat < S65536.size a := fun v278 k1_hw249 => k1_hw249
@[reducible] def k1_t251_loop : Scf.Loop 32 :=
  let c0_i32_1248 : BitVec 32 := 0#32
  let c64_i32_1249 : BitVec 32 := 64#32
  let v259 : BitVec 32 := Scalar.addi c0_i32_1248 c64_i32_1249
  let c1_i32_1250 : BitVec 32 := 1#32
  ⟨c0_i32_1248, v259, c1_i32_1250⟩
def k1_off253 (k1_t251 : Fin k1_t251_loop.trips) : Fin 2 → Nat :=
  let c9_i32 : BitVec 32 := 9#32
  let v267 : Index := Scalar.indexCast c9_i32
  let c0_i32_1248 : BitVec 32 := 0#32
  let c1_i32_1250 : BitVec 32 := 1#32
  let arg8 : BitVec 32 := Scf.iv c0_i32_1248 c1_i32_1250 k1_t251
  let c16_i32 : BitVec 32 := 16#32
  let v266 : BitVec 32 := Scalar.muli arg8 c16_i32
  let v268 : Index := Scalar.indexCast v266
  ![9, v268.toNat]

def k1_chk250 (v278 : IVec S16 32) : Prop :=
  (∀ a x, ((![v278] : Fin 1 → IVec S16 32) a x).toNat < S65536.size a)
theorem k1_idx250_inb : ∀ (v278 : IVec S16 32) (k1_hw250 : k1_chk250 v278), ∀ a x, ((![v278] : Fin 1 → IVec S16 32) a x).toNat < S65536.size a := fun v278 k1_hw250 => k1_hw250
@[reducible] def k1_t252_loop : Scf.Loop 32 :=
  let c0_i32_1253 : BitVec 32 := 0#32
  let c64_i32_1254 : BitVec 32 := 64#32
  let v260 : BitVec 32 := Scalar.addi c0_i32_1253 c64_i32_1254
  let c1_i32_1255 : BitVec 32 := 1#32
  ⟨c0_i32_1253, v260, c1_i32_1255⟩
def k1_off254 (k1_t252 : Fin k1_t252_loop.trips) : Fin 2 → Nat :=
  let c10_i32_1282 : BitVec 32 := 10#32
  let v267 : Index := Scalar.indexCast c10_i32_1282
  let c0_i32_1253 : BitVec 32 := 0#32
  let c1_i32_1255 : BitVec 32 := 1#32
  let arg8 : BitVec 32 := Scf.iv c0_i32_1253 c1_i32_1255 k1_t252
  let c16_i32 : BitVec 32 := 16#32
  let v266 : BitVec 32 := Scalar.muli arg8 c16_i32
  let v268 : Index := Scalar.indexCast v266
  ![10, v268.toNat]

def k1_chk251 (v278 : IVec S16 32) : Prop :=
  (∀ a x, ((![v278] : Fin 1 → IVec S16 32) a x).toNat < S65536.size a)
theorem k1_idx251_inb : ∀ (v278 : IVec S16 32) (k1_hw251 : k1_chk251 v278), ∀ a x, ((![v278] : Fin 1 → IVec S16 32) a x).toNat < S65536.size a := fun v278 k1_hw251 => k1_hw251
@[reducible] def k1_t253_loop : Scf.Loop 32 :=
  let c0_i32_1258 : BitVec 32 := 0#32
  let c64_i32_1259 : BitVec 32 := 64#32
  let v261 : BitVec 32 := Scalar.addi c0_i32_1258 c64_i32_1259
  let c1_i32_1260 : BitVec 32 := 1#32
  ⟨c0_i32_1258, v261, c1_i32_1260⟩
def k1_off255 (k1_t253 : Fin k1_t253_loop.trips) : Fin 2 → Nat :=
  let c11_i32 : BitVec 32 := 11#32
  let v267 : Index := Scalar.indexCast c11_i32
  let c0_i32_1258 : BitVec 32 := 0#32
  let c1_i32_1260 : BitVec 32 := 1#32
  let arg8 : BitVec 32 := Scf.iv c0_i32_1258 c1_i32_1260 k1_t253
  let c16_i32 : BitVec 32 := 16#32
  let v266 : BitVec 32 := Scalar.muli arg8 c16_i32
  let v268 : Index := Scalar.indexCast v266
  ![11, v268.toNat]

def k1_chk252 (v278 : IVec S16 32) : Prop :=
  (∀ a x, ((![v278] : Fin 1 → IVec S16 32) a x).toNat < S65536.size a)
theorem k1_idx252_inb : ∀ (v278 : IVec S16 32) (k1_hw252 : k1_chk252 v278), ∀ a x, ((![v278] : Fin 1 → IVec S16 32) a x).toNat < S65536.size a := fun v278 k1_hw252 => k1_hw252
@[reducible] def k1_t254_loop : Scf.Loop 32 :=
  let c0_i32_1263 : BitVec 32 := 0#32
  let c64_i32_1264 : BitVec 32 := 64#32
  let v262 : BitVec 32 := Scalar.addi c0_i32_1263 c64_i32_1264
  let c1_i32_1265 : BitVec 32 := 1#32
  ⟨c0_i32_1263, v262, c1_i32_1265⟩
def k1_off256 (k1_t254 : Fin k1_t254_loop.trips) : Fin 2 → Nat :=
  let c12_i32_1282 : BitVec 32 := 12#32
  let v267 : Index := Scalar.indexCast c12_i32_1282
  let c0_i32_1263 : BitVec 32 := 0#32
  let c1_i32_1265 : BitVec 32 := 1#32
  let arg8 : BitVec 32 := Scf.iv c0_i32_1263 c1_i32_1265 k1_t254
  let c16_i32 : BitVec 32 := 16#32
  let v266 : BitVec 32 := Scalar.muli arg8 c16_i32
  let v268 : Index := Scalar.indexCast v266
  ![12, v268.toNat]

def k1_chk253 (v278 : IVec S16 32) : Prop :=
  (∀ a x, ((![v278] : Fin 1 → IVec S16 32) a x).toNat < S65536.size a)
theorem k1_idx253_inb : ∀ (v278 : IVec S16 32) (k1_hw253 : k1_chk253 v278), ∀ a x, ((![v278] : Fin 1 → IVec S16 32) a x).toNat < S65536.size a := fun v278 k1_hw253 => k1_hw253
@[reducible] def k1_t255_loop : Scf.Loop 32 :=
  let c0_i32_1268 : BitVec 32 := 0#32
  let c64_i32_1269 : BitVec 32 := 64#32
  let v263 : BitVec 32 := Scalar.addi c0_i32_1268 c64_i32_1269
  let c1_i32_1270 : BitVec 32 := 1#32
  ⟨c0_i32_1268, v263, c1_i32_1270⟩
def k1_off257 (k1_t255 : Fin k1_t255_loop.trips) : Fin 2 → Nat :=
  let c13_i32 : BitVec 32 := 13#32
  let v267 : Index := Scalar.indexCast c13_i32
  let c0_i32_1268 : BitVec 32 := 0#32
  let c1_i32_1270 : BitVec 32 := 1#32
  let arg8 : BitVec 32 := Scf.iv c0_i32_1268 c1_i32_1270 k1_t255
  let c16_i32 : BitVec 32 := 16#32
  let v266 : BitVec 32 := Scalar.muli arg8 c16_i32
  let v268 : Index := Scalar.indexCast v266
  ![13, v268.toNat]

def k1_chk254 (v278 : IVec S16 32) : Prop :=
  (∀ a x, ((![v278] : Fin 1 → IVec S16 32) a x).toNat < S65536.size a)
theorem k1_idx254_inb : ∀ (v278 : IVec S16 32) (k1_hw254 : k1_chk254 v278), ∀ a x, ((![v278] : Fin 1 → IVec S16 32) a x).toNat < S65536.size a := fun v278 k1_hw254 => k1_hw254
@[reducible] def k1_t256_loop : Scf.Loop 32 :=
  let c0_i32_1273 : BitVec 32 := 0#32
  let c64_i32_1274 : BitVec 32 := 64#32
  let v264 : BitVec 32 := Scalar.addi c0_i32_1273 c64_i32_1274
  let c1_i32_1275 : BitVec 32 := 1#32
  ⟨c0_i32_1273, v264, c1_i32_1275⟩
def k1_off258 (k1_t256 : Fin k1_t256_loop.trips) : Fin 2 → Nat :=
  let c14_i32_1282 : BitVec 32 := 14#32
  let v267 : Index := Scalar.indexCast c14_i32_1282
  let c0_i32_1273 : BitVec 32 := 0#32
  let c1_i32_1275 : BitVec 32 := 1#32
  let arg8 : BitVec 32 := Scf.iv c0_i32_1273 c1_i32_1275 k1_t256
  let c16_i32 : BitVec 32 := 16#32
  let v266 : BitVec 32 := Scalar.muli arg8 c16_i32
  let v268 : Index := Scalar.indexCast v266
  ![14, v268.toNat]

def k1_chk255 (v278 : IVec S16 32) : Prop :=
  (∀ a x, ((![v278] : Fin 1 → IVec S16 32) a x).toNat < S65536.size a)
theorem k1_idx255_inb : ∀ (v278 : IVec S16 32) (k1_hw255 : k1_chk255 v278), ∀ a x, ((![v278] : Fin 1 → IVec S16 32) a x).toNat < S65536.size a := fun v278 k1_hw255 => k1_hw255
@[reducible] def k1_t257_loop : Scf.Loop 32 :=
  let c0_i32_1278 : BitVec 32 := 0#32
  let c64_i32_1279 : BitVec 32 := 64#32
  let v265 : BitVec 32 := Scalar.addi c0_i32_1278 c64_i32_1279
  let c1_i32_1280 : BitVec 32 := 1#32
  ⟨c0_i32_1278, v265, c1_i32_1280⟩
def k1_off259 (k1_t257 : Fin k1_t257_loop.trips) : Fin 2 → Nat :=
  let c15_i32 : BitVec 32 := 15#32
  let v267 : Index := Scalar.indexCast c15_i32
  let c0_i32_1278 : BitVec 32 := 0#32
  let c1_i32_1280 : BitVec 32 := 1#32
  let arg8 : BitVec 32 := Scf.iv c0_i32_1278 c1_i32_1280 k1_t257
  let c16_i32 : BitVec 32 := 16#32
  let v266 : BitVec 32 := Scalar.muli arg8 c16_i32
  let v268 : Index := Scalar.indexCast v266
  ![15, v268.toNat]

def k1_chk256 (v278 : IVec S16 32) : Prop :=
  (∀ a x, ((![v278] : Fin 1 → IVec S16 32) a x).toNat < S65536.size a)
theorem k1_idx256_inb : ∀ (v278 : IVec S16 32) (k1_hw256 : k1_chk256 v278), ∀ a x, ((![v278] : Fin 1 → IVec S16 32) a x).toNat < S65536.size a := fun v278 k1_hw256 => k1_hw256
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S12x16x1024x64 : Shape := ⟨4, ![12, 16, 1024, 64]⟩
abbrev S16x1024x12x64 : Shape := ⟨4, ![16, 1024, 12, 64]⟩
abbrev S16x1024x768 : Shape := ⟨3, ![16, 1024, 768]⟩
abbrev S_ : Shape := ⟨0, ![]⟩
abbrev S16x1024 : Shape := ⟨2, ![16, 1024]⟩
abbrev S16x1024x1 : Shape := ⟨3, ![16, 1024, 1]⟩
abbrev S16x768x1024 : Shape := ⟨3, ![16, 768, 1024]⟩
abbrev S16x1024x1024 : Shape := ⟨3, ![16, 1024, 1024]⟩
abbrev S16x1024x5 : Shape := ⟨3, ![16, 1024, 5]⟩
abbrev S16 : Shape := ⟨1, ![16]⟩
abbrev S16x1x1 : Shape := ⟨3, ![16, 1, 1]⟩
abbrev S1024 : Shape := ⟨1, ![1024]⟩
abbrev S1x1024x1 : Shape := ⟨3, ![1, 1024, 1]⟩
abbrev S16x1024x5x1 : Shape := ⟨4, ![16, 1024, 5, 1]⟩
abbrev S16x1024x5x3 : Shape := ⟨4, ![16, 1024, 5, 3]⟩

abbrev nBuf : Space → Nat
  | .hbm => 64
  | .vmem => 0
  | .smem => 0
  | _ => 0

abbrev bufTy : (tb : Table) → Fin (tcTables nBuf tb) → BufTy
  | .hbm, ⟨0, _⟩ => ⟨S12x16x1024x64, .f32⟩
  | .hbm, ⟨1, _⟩ => ⟨S16x1024x12x64, .f32⟩
  | .hbm, ⟨2, _⟩ => ⟨S16x1024x768, .f32⟩
  | .hbm, ⟨3, _⟩ => ⟨S16x1024x768, .f32⟩
  | .hbm, ⟨4, _⟩ => ⟨S_, .f32⟩
  | .hbm, ⟨5, _⟩ => ⟨S16x1024, .f32⟩
  | .hbm, ⟨6, _⟩ => ⟨S16x1024x1, .f32⟩
  | .hbm, ⟨7, _⟩ => ⟨S16x1024x1, .f32⟩
  | .hbm, ⟨8, _⟩ => ⟨S16x1024x768, .f32⟩
  | .hbm, ⟨9, _⟩ => ⟨S16x1024x768, .f32⟩
  | .hbm, ⟨10, _⟩ => ⟨S16x768x1024, .f32⟩
  | .hbm, ⟨11, _⟩ => ⟨S16x1024x1024, .f32⟩
  | .hbm, ⟨12, _⟩ => ⟨S16x1024x5, .f32⟩
  | .hbm, ⟨13, _⟩ => ⟨S16x1024x5, .i32⟩
  | .hbm, ⟨14, _⟩ => ⟨S16, .i32⟩
  | .hbm, ⟨15, _⟩ => ⟨S16x1x1, .i32⟩
  | .hbm, ⟨16, _⟩ => ⟨S1024, .i32⟩
  | .hbm, ⟨17, _⟩ => ⟨S1x1024x1, .i32⟩
  | .hbm, ⟨18, _⟩ => ⟨S_, .f32⟩
  | .hbm, ⟨19, _⟩ => ⟨S16x1024x1024, .f32⟩
  | .hbm, ⟨20, _⟩ => ⟨S_, .i32⟩
  | .hbm, ⟨21, _⟩ => ⟨S16x1x1, .i32⟩
  | .hbm, ⟨22, _⟩ => ⟨S16x1x1, .i1⟩
  | .hbm, ⟨23, _⟩ => ⟨S_, .i32⟩
  | .hbm, ⟨24, _⟩ => ⟨S16x1x1, .i32⟩
  | .hbm, ⟨25, _⟩ => ⟨S16x1x1, .i32⟩
  | .hbm, ⟨26, _⟩ => ⟨S16x1x1, .i32⟩
  | .hbm, ⟨27, _⟩ => ⟨S_, .i32⟩
  | .hbm, ⟨28, _⟩ => ⟨S1x1024x1, .i32⟩
  | .hbm, ⟨29, _⟩ => ⟨S1x1024x1, .i1⟩
  | .hbm, ⟨30, _⟩ => ⟨S_, .i32⟩
  | .hbm, ⟨31, _⟩ => ⟨S1x1024x1, .i32⟩
  | .hbm, ⟨32, _⟩ => ⟨S1x1024x1, .i32⟩
  | .hbm, ⟨33, _⟩ => ⟨S1x1024x1, .i32⟩
  | .hbm, ⟨34, _⟩ => ⟨S_, .i32⟩
  | .hbm, ⟨35, _⟩ => ⟨S16x1024x5, .i32⟩
  | .hbm, ⟨36, _⟩ => ⟨S16x1024x5, .i1⟩
  | .hbm, ⟨37, _⟩ => ⟨S_, .i32⟩
  | .hbm, ⟨38, _⟩ => ⟨S16x1024x5, .i32⟩
  | .hbm, ⟨39, _⟩ => ⟨S16x1024x5, .i32⟩
  | .hbm, ⟨40, _⟩ => ⟨S16x1024x5, .i32⟩
  | .hbm, ⟨41, _⟩ => ⟨S16x1024x5, .i32⟩
  | .hbm, ⟨42, _⟩ => ⟨S16x1024x5, .i32⟩
  | .hbm, ⟨43, _⟩ => ⟨S16x1024x5x1, .i32⟩
  | .hbm, ⟨44, _⟩ => ⟨S16x1024x5x1, .i32⟩
  | .hbm, ⟨45, _⟩ => ⟨S16x1024x5x1, .i32⟩
  | .hbm, ⟨46, _⟩ => ⟨S16x1024x5x3, .i32⟩
  | .hbm, ⟨47, _⟩ => ⟨S16x1024x1024, .f32⟩
  | .hbm, ⟨48, _⟩ => ⟨S_, .f32⟩
  | .hbm, ⟨49, _⟩ => ⟨S_, .f32⟩
  | .hbm, ⟨50, _⟩ => ⟨S16x1024x1024, .f32⟩
  | .hbm, ⟨51, _⟩ => ⟨S16x1024x1024, .i1⟩
  | .hbm, ⟨52, _⟩ => ⟨S_, .f32⟩
  | .hbm, ⟨53, _⟩ => ⟨S16x1024x1024, .f32⟩
  | .hbm, ⟨54, _⟩ => ⟨S16x1024x1024, .f32⟩
  | .hbm, ⟨55, _⟩ => ⟨S16x1024x1024, .f32⟩
  | .hbm, ⟨56, _⟩ => ⟨S_, .f32⟩
  | .hbm, ⟨57, _⟩ => ⟨S16x1024x1024, .f32⟩
  | .hbm, ⟨58, _⟩ => ⟨S16x1024x1024, .f32⟩
  | .hbm, ⟨59, _⟩ => ⟨S16x1024x1024, .f32⟩
  | .hbm, ⟨60, _⟩ => ⟨S16x1024x1024, .f32⟩
  | .hbm, ⟨61, _⟩ => ⟨S_, .f32⟩
  | .hbm, ⟨62, _⟩ => ⟨S16x1024x1024, .f32⟩
  | .hbm, ⟨63, _⟩ => ⟨S16x1024x1024, .f32⟩
  | _, _ => ⟨S12x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_values : Ref sig .tc := ⟨.hbm, 12, rfl⟩
abbrev main_indices : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Scatter.lean ====
/-
  What one tile of the SparseCore kernel computes, as functions of the two arrays it reads.

  A tile owns a chunk of 65536 cells. Round by round it adds a batch's updates into the chunk — sixteen planes of
  1024 pairs (cell, value), sixteen pairs at a time —, copies the chunk out, and stores zeros back on the cells it
  touched. Each function below is one of those steps on the contents of the chunk, at any float values `F`.
-/
module

public import proofs.«01_k».proof.Proof.Gen.KernelIdeal.Skeleton
public import Idealize.ShloMosaic.Lib.ValueIdxCore

@[expose] public section

noncomputable section

namespace Cert.KernelIdeal.Tile

open Cert.KernelIdeal Cert.KernelIdeal.Gen Idealize.ShloMosaic

variable {F : FTy → Type} [FloatOps F]

/-- The float zero the kernel writes. -/
abbrev fzero : F .f32 := Scalar.ofBits .f32 0x00000000#32

/-- Where the sixteen updates fall, counted from the chunk's first cell `v0`: as words, possibly outside the chunk. -/
def relOf (v0 : BitVec 32) (ld : Vec F S1x16 .i32) : IVec S16 32 :=
  subi (shapeCast S16 ld shapeCasts_S1x16_S16) (broadcast S16 v0)

/-- Which of the sixteen updates fall in the chunk. -/
def inChunk (v0 : BitVec 32) (ld : Vec F S1x16 .i32) : IVec S16 1 :=
  andi (cmpi .sge (relOf v0 ld) (broadcast S16 0#32)) (cmpi .slt (relOf v0 ld) (broadcast S16 65536#32))

/-- The cell each update goes to: its own if it is in the chunk, else cell 0. -/
def cellOf (v0 : BitVec 32) (ld : Vec F S1x16 .i32) : IVec S16 32 :=
  select (inChunk v0 ld) (relOf v0 ld) (broadcast S16 0#32)

/-- What each update adds: its value if it is in the chunk, else zero. -/
def addOf (v0 : BitVec 32) (ld : Vec F S1x16 .i32) (lv : Vec F S1x16 .f32) : Vec F S16 .f32 :=
  select (inChunk v0 ld) (shapeCast S16 lv shapeCasts_S1x16_S16) (broadcast S16 fzero)

/-- A word that passes both comparisons is, read unsigned, below 65536. -/
theorem word_lt {w : BitVec 32} (h₀ : (0#32).sle w = true) (h₁ : w.slt 65536#32 = true) : w.toNat < 65536 := by
  rw [BitVec.sle, decide_eq_true_eq] at h₀
  rw [BitVec.slt, decide_eq_true_eq] at h₁
  rw [show (0#32).toInt = 0 from rfl] at h₀
  rw [show (65536#32).toInt = 65536 from rfl] at h₁
  have := BitVec.toInt_eq_toNat_cond w
  omega

theorem inChunk_apply (v0 : BitVec 32) (ld : Vec F S1x16 .i32) (x : S16.Idx) :
    inChunk v0 ld x = 1#1 ↔ (0#32).sle (relOf v0 ld x) = true ∧ (relOf v0 ld x).slt 65536#32 = true := by
  show (BitVec.ofBool _ &&& BitVec.ofBool _) = 1#1 ↔ _
  generalize relOf v0 ld x = w
  show (BitVec.ofBool ((0#32).sle w) &&& BitVec.ofBool (w.slt 65536#32)) = 1#1 ↔ _
  cases (0#32).sle w <;> cases w.slt 65536#32 <;> decide

theorem cellOf_lt (v0 : BitVec 32) (ld : Vec F S1x16 .i32) (x : S16.Idx) : (cellOf v0 ld x).toNat < 65536 := by
  show (if inChunk v0 ld x = 1 then relOf v0 ld x else 0#32).toNat < 65536
  split
  · rename_i h
    exact word_lt ((inChunk_apply v0 ld x).1 h).1 ((inChunk_apply v0 ld x).1 h).2
  · decide

theorem cellOf_inb (v0 : BitVec 32) (ld : Vec F S1x16 .i32) :
    ∀ (a : Fin S65536.rank) x, ((![cellOf v0 ld] : Fin S65536.rank → IVec S16 32) a x).toNat < S65536.size a := by
  intro a x
  obtain rfl : a = 0 := Subsingleton.elim _ _
  exact cellOf_lt v0 ld x

/-- The chunk after sixteen updates are added in. -/
def addStep (v0 : BitVec 32) (ld : Vec F S1x16 .i32) (lv : Vec F S1x16 .f32) (f : Vec F S65536 .f32) : Vec F S65536 .f32 :=
  storeIdx f ![cellOf v0 ld] (addOf v0 ld lv) (fun _ => 1#1) true (cellOf_inb v0 ld)

/-- The chunk after zeros are stored where sixteen updates fell. -/
def wipeStep (v0 : BitVec 32) (ld : Vec F S1x16 .i32) (f : Vec F S65536 .f32) : Vec F S65536 .f32 :=
  storeIdx f ![cellOf v0 ld] (broadcast S16 fzero) (inChunk v0 ld) false (cellOf_inb v0 ld)

/-- Sixteen entries in a row of a plane: plane `p`, from column `16 t` on. -/
def row16 {e : EltTy} (A : Vec F S16x1024 e) (p t : ℕ) : Vec F S1x16 e :=
  fun y => A (ValueIdx.ix2 ⟨p % 16, Nat.mod_lt _ (by decide)⟩ ⟨(16 * t + (y 1).val) % 1024, Nat.mod_lt _ (by decide)⟩)

/-- The chunk after the first `t` groups of plane `p` are added in. -/
def addGroups (v0 : BitVec 32) (A : Vec F S16x1024 .i32) (B : Vec F S16x1024 .f32) (p : ℕ) : ℕ → Vec F S65536 .f32 → Vec F S65536 .f32
  | 0, f => f
  | t + 1, f => addStep v0 (row16 A p t) (row16 B p t) (addGroups v0 A B p t f)

/-- The chunk after the first `p` planes are added in. -/
def addPlanes (v0 : BitVec 32) (A : Vec F S16x1024 .i32) (B : Vec F S16x1024 .f32) : ℕ → Vec F S65536 .f32 → Vec F S65536 .f32
  | 0, f => f
  | p + 1, f => addGroups v0 A B p 64 (addPlanes v0 A B p f)

/-- The chunk after the cells of the first `t` groups of plane `p` are wiped. -/
def wipeGroups (v0 : BitVec 32) (A : Vec F S16x1024 .i32) (p : ℕ) : ℕ → Vec F S65536 .f32 → Vec F S65536 .f32
  | 0, f => f
  | t + 1, f => wipeStep v0 (row16 A p t) (wipeGroups v0 A p t f)

/-- The chunk after the cells of the first `p` planes are wiped. -/
def wipePlanes (v0 : BitVec 32) (A : Vec F S16x1024 .i32) : ℕ → Vec F S65536 .f32 → Vec F S65536 .f32
  | 0, f => f
  | p + 1, f => wipeGroups v0 A p 64 (wipePlanes v0 A p f)

/-- Batch `b`'s sixteen planes. -/
def slab {e : EltTy} (A : Vec F S16x16x1024 e) (b : ℕ) : Vec F S16x1024 e :=
  fun y => A (ValueIdx.ix3 ⟨b % 16, Nat.mod_lt _ (by decide)⟩ (y 0) (y 1))

/-- The first cell of tile `s`'s chunk, as the kernel computes it. -/
def firstCell (s : ℕ) : BitVec 32 := Scalar.muli (BitVec.ofNat 32 s) 65536#32

/-- The chunk of tile `s` on core `c` before round `r`: zeros, then what wiping the last round's cells left. -/
def chunkIn (I : Vec F S16x16x1024 .i32) (V : Vec F S16x16x1024 .f32) (c s : ℕ) : ℕ → Vec F S65536 .f32
  | 0 => fun _ => fzero
  | r + 1 => wipePlanes (firstCell s) (slab I (2 * r + c)) 16
      (addPlanes (firstCell s) (slab I (2 * r + c)) (slab V (2 * r + c)) 16 (chunkIn I V c s r))

/-- The chunk of tile `s` on core `c` as round `r` copies it out. -/
def chunkOut (I : Vec F S16x16x1024 .i32) (V : Vec F S16x16x1024 .f32) (c s r : ℕ) : Vec F S65536 .f32 :=
  addPlanes (firstCell s) (slab I (2 * r + c)) (slab V (2 * r + c)) 16 (chunkIn I V c s r)

/-- The whole array the tiles write between them: row `b` is batch `b`, which core `b % 2` does in its round `b / 2`,
    and tile `s` writes the columns of its chunk. -/
def scattered (I : Vec F S16x16x1024 .i32) (V : Vec F S16x16x1024 .f32) : Vec F S16x1048576 .f32 :=
  fun y => chunkOut I V ((y 0).val % 2) ((y 1).val / 65536) ((y 0).val / 2)
 (ValueIdx.ix1 ⟨(y 1).val % 65536, Nat.mod_lt _ (by decide)⟩)

end Cert.KernelIdeal.Tile

end
-- ==== Proof.Setup.lean ====
/-
  The program as the launch theorem sees it: its handshakes' facts, the algebra its proof runs in, and the names of the
  buffers a tile works on.
-/
module

public import proofs.«01_k».proof.Defs
public import proofs.«01_k».proof.Proof.Gen.KernelIdeal
public import proofs.«01_k».proof.Proof.Gen.KernelIdeal.Skeleton
public import proofs.«01_k».proof.Proof.Scatter
public import Idealize.ShloMosaic.Lib.SparseCore.Quiescent
public import Idealize.ShloMosaic.Lib.SparseCore.Ops
public import Idealize.ShloMosaic.Lib.StableHlo.Run
public import Idealize.ShloMosaic.Lib.ValueLayout
public import Idealize.ShloMosaic.Lib.Transfers
public import Idealize.ShloMosaic.Lib.Tactic

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem Idealize.ShloMosaic.Rounds

variable {F : FTy → Type}

/-! ## The program and its handshakes -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra: the handshakes' rounds, the pipeline's rounds, the tiles' transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The buffers -/

/-- The TensorCore's two results, what the tiles write, the argument and the program's result, on device `d`. -/
abbrev iLoc (d : Dev nD) : Loc nD τ sig := (SparseCore.T d).loc main_v0_0
abbrev vLoc (d : Dev nD) : Loc nD τ sig := (SparseCore.T d).loc main_v0_1
abbrev oLoc (d : Dev nD) : Loc nD τ sig := (SparseCore.T d).loc main_v1

abbrev iV : Memref sig .scVector .hbm S16x16x1024 .i32 := Memref.whole main_v0_0_scv
abbrev vV : Memref sig .scVector .hbm S16x16x1024 .f32 := Memref.whole main_v0_1_scv
abbrev oV : Memref sig .scVector .hbm S16x1048576 .f32 := Memref.whole main_v1_scv
/-- A tile's own memory: the cells, the values, the chunk. -/
abbrev sI : Memref sig .scVector .vmem S16x1024 .i32 := Memref.whole cc1_scratch0
abbrev sV : Memref sig .scVector .vmem S16x1024 .f32 := Memref.whole cc1_scratch1
abbrev sC : Memref sig .scVector .vmem S65536 .f32 := Memref.whole cc1_scratch2

abbrev cV (L : grid1.Coords) : Fin τ.nSC := (L 0).castLE hcore1
abbrev jV (L : grid1.Coords) : Fin τ.nSub := (L 1).castLE hsub1
/-- The tile at grid point `L` of device `d`, as a thread. -/
abbrev tile (d : Dev nD) (L : grid1.Coords) : Thread nD τ := V d (cV L) (jV L)

/-- The cells of the written array that tile `s` of core `c` owns in round `r`. -/
def piece (c s r : ℕ) : Finset S16x1048576.Idx :=
  Finset.univ.filter fun y => (y 0).val = 2 * r + c ∧ (y 1).val / 65536 = s

theorem mem_piece {c s r : ℕ} {y : S16x1048576.Idx} : y ∈ piece c s r ↔ (y 0).val = 2 * r + c ∧ (y 1).val / 65536 = s := by
  simp [piece]

/-! ## Reading and writing a tile's slices -/

variable [FloatOps F]

/-- Batch `b`'s planes of an array, as the kernel slices them. -/
abbrev planesOf {e : EltTy} (A : Memref sig .scVector .hbm S16x16x1024 e) (off : Fin 3 → ℕ) (inb : ∀ a, off a + S1x16x1024.size a ≤ S16x16x1024.size a) :
    Memref sig .scVector .hbm S16x1024 e :=
  (A.slice (Rect.unit (s := S16x16x1024) off S1x16x1024.size inb) (fun _ => rfl)).squeeze S16x1024 squeezes_S1x16x1024_S16x1024

/-- A chunk of a row of the written array, as the kernel slices it. -/
abbrev chunkOf (off : Fin 2 → ℕ) (inb : ∀ a, off a + S1x65536.size a ≤ S16x1048576.size a) : Memref sig .scVector .hbm S65536 .f32 :=
  (oV.slice (Rect.unit (s := S16x1048576) off S1x65536.size inb) (fun _ => rfl)).squeeze S65536 squeezes_S1x65536_S65536

theorem squeeze_planes (y : S16x1024.Idx) :
    Shape.reshapeEquiv squeezes_S1x16x1024_S16x1024.numel_eq y = (ValueIdx.ix3 (⟨0, Nat.one_pos⟩ : Fin 1) (y 0) (y 1) : S1x16x1024.Idx) := by
  conv_lhs => rw [ValueIdx.eq_ix2 (n0 := 16) (n1 := 1024) y]
  exact ValueIdx.reshapeEquiv_ix2_1ab (a := 16) (b := 1024) _ (y 0) (y 1)

theorem squeeze_chunk (y : S65536.Idx) :
    Shape.reshapeEquiv squeezes_S1x65536_S65536.numel_eq y = (ValueIdx.ix2 (⟨0, Nat.one_pos⟩ : Fin 1) (y 0) : S1x65536.Idx) := by
  refine Shape.reshapeEquiv_eq_of_rowMajor _ ?_
  rw [Shape.rowMajor_val_two, Shape.rowMajor_val_one]
  show 0 * 65536 + (y 0).val = (y 0).val
  omega

theorem read_iV (b : ℕ) (hb : b < 16) {off : Fin 3 → ℕ} (hoff : off = ![b, 0, 0]) (inb) (I : Vec F S16x16x1024 .i32) :
    (planesOf iV off inb).view.read (Elt F) I = slab I b := by
  subst hoff
  funext y
  show I ((Rect.unit (s := S16x16x1024) ![b, 0, 0] S1x16x1024.size inb).emb (Shape.reshapeEquiv squeezes_S1x16x1024_S16x1024.numel_eq y)) = _
  rw [squeeze_planes]
  refine congrArg I (funext fun a => Fin.ext ?_)
  match a with
  | ⟨0, _⟩ => show b + 1 * 0 = b % 16; omega
  | ⟨1, _⟩ => show 0 + 1 * (y 0).val = (y 0).val; omega
  | ⟨2, _⟩ => show 0 + 1 * (y 1).val = (y 1).val; omega

theorem read_vV (b : ℕ) (hb : b < 16) {off : Fin 3 → ℕ} (hoff : off = ![b, 0, 0]) (inb) (W : Vec F S16x16x1024 .f32) :
    (planesOf vV off inb).view.read (Elt F) W = slab W b := by
  subst hoff
  funext y
  show W ((Rect.unit (s := S16x16x1024) ![b, 0, 0] S1x16x1024.size inb).emb (Shape.reshapeEquiv squeezes_S1x16x1024_S16x1024.numel_eq y)) = _
  rw [squeeze_planes]
  refine congrArg W (funext fun a => Fin.ext ?_)
  match a with
  | ⟨0, _⟩ => show b + 1 * 0 = b % 16; omega
  | ⟨1, _⟩ => show 0 + 1 * (y 0).val = (y 0).val; omega
  | ⟨2, _⟩ => show 0 + 1 * (y 1).val = (y 1).val; omega

/-- Where a chunk's cell lies in the array. -/
theorem emb_chunk (b s : ℕ) (inb : ∀ a, (![b, 65536 * s] : Fin 2 → ℕ) a + S1x65536.size a ≤ S16x1048576.size a) (y : S65536.Idx) :
    ((chunkOf ![b, 65536 * s] inb).view.emb y 0).val = b ∧ ((chunkOf ![b, 65536 * s] inb).view.emb y 1).val = 65536 * s + (y 0).val := by
  have h : ∀ a, ((chunkOf ![b, 65536 * s] inb).view.emb y a).val
      = (![b, 65536 * s] : Fin 2 → ℕ) a + 1 * (Shape.reshapeEquiv squeezes_S1x65536_S65536.numel_eq y a).val := fun _ => rfl
  constructor
  · rw [h, squeeze_chunk]; show b + 1 * 0 = b; omega
  · rw [h, squeeze_chunk]; show 65536 * s + 1 * (y 0).val = _; omega

theorem set_chunk (c s r : ℕ) {off : Fin 2 → ℕ} (hoff : off = ![2 * r + c, 65536 * s]) (inb) :
    (chunkOf off inb).view.set = piece c s r := by
  subst hoff
  ext i
  rw [mem_piece]
  constructor
  · intro h
    obtain ⟨y, -, rfl⟩ := Finset.mem_map.1 h
    obtain ⟨h0, h1⟩ := emb_chunk (2 * r + c) s inb y
    have hy : (y 0).val < 65536 := (y 0).isLt
    refine ⟨h0, ?_⟩
    rw [h1]; omega
  · rintro ⟨h0, h1⟩
    refine Finset.mem_map.2 ⟨ValueIdx.ix1 ⟨(i 1).val % 65536, Nat.mod_lt _ (by decide)⟩, Finset.mem_univ _, ?_⟩
    obtain ⟨g0, g1⟩ := emb_chunk (2 * r + c) s inb (ValueIdx.ix1 ⟨(i 1).val % 65536, Nat.mod_lt _ (by decide)⟩)
    funext a
    apply Fin.ext
    match a with
    | ⟨0, _⟩ => exact g0.trans h0.symm
    | ⟨1, _⟩ =>
      refine g1.trans ?_
      show 65536 * s + (i 1).val % 65536 = (i 1).val
      omega

theorem write_chunk (c s r : ℕ) (hc : c < 2) {off : Fin 2 → ℕ} (hoff : off = ![2 * r + c, 65536 * s]) (inb)
    (I : Vec F S16x16x1024 .i32) (W : Vec F S16x16x1024 .f32) (f : Vec F S16x1048576 .f32) :
    ∀ i ∈ piece c s r, (chunkOf off inb).view.write (Elt F) f (chunkOut I W c s r) Finset.univ i = scattered I W i := by
  intro i hi
  rw [← set_chunk c s r hoff inb] at hi
  subst hoff
  obtain ⟨y, -, rfl⟩ := Finset.mem_map.1 hi
  rw [View.write_emb_of_mem _ _ (Finset.mem_univ y)]
  obtain ⟨h0, h1⟩ := emb_chunk (2 * r + c) s inb y
  have hy : (y 0).val < 65536 := (y 0).isLt
  generalize (chunkOf ![2 * r + c, 65536 * s] inb).view.emb y = i at h0 h1 ⊢
  show chunkOut I W c s r y = chunkOut I W ((i 0).val % 2) ((i 1).val / 65536) ((i 0).val / 2) _
  have e0 : (i 0).val % 2 = c := by rw [h0]; omega
  have e1 : (i 1).val / 65536 = s := by rw [h1]; omega
  have e2 : (i 0).val / 2 = r := by rw [h0]; omega
  rw [e0, e1, e2]
  refine congrArg _ (funext fun a => Fin.ext ?_)
  match a with
  | ⟨0, _⟩ => show (y 0).val = (i 1).val % 65536; rw [h1]; omega

/-- What a load of sixteen entries reads. -/
theorem load_row {e : EltTy} (m : Memref sig .scVector .vmem S16x1024 e) (A : Vec F S16x1024 e)
    (g : m.view.ty.Contents (Elt F)) (hg : m.view.read (Elt F) g = A)
    (p t : ℕ) (hp : p < 16) (ht : t < 64) {off : Fin 2 → ℕ} (hoff : off = ![p, 16 * t]) (inb) :
    m.view.readAt (Elt F) (Rect.unit (s := S16x1024) off S1x16.size inb).toLoadRect g = row16 A p t := by
  subst hoff
  funext y
  rw [View.readAt_apply, hg]
  have h0 : (y 0).val < 1 := (y 0).isLt
  have h1 : (y 1).val < 16 := (y 1).isLt
  refine congrArg A (funext fun a => Fin.ext ?_)
  match a with
  | ⟨0, _⟩ => show p + 1 * (y 0).val = p % 16; omega
  | ⟨1, _⟩ => show 16 * t + 1 * (y 1).val = (16 * t + (y 1).val) % 1024; omega

end Cert.KernelIdeal.Tile

end
-- ==== Proof.Steps.lean ====
/-
  How a tile's run is followed: the stages it passes through, what the tile holds at each, and one lemma per kind of
  statement of its body, taking a stage to the next.
-/
module

public import proofs.«01_k».proof.Proof.Setup

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What the tile holds -/

section Held

variable (d : Dev nD) (L : grid1.Coords) (q : PosShare TreeShare)
variable (I : Vec F S16x16x1024 .i32) (W : Vec F S16x16x1024 .f32) (fo : Vec F S16x1048576 .f32)
variable (O : CellTallies nD τ sig (HIx 1)) (W₀ : Waits sig (HIx 1))

/-- The tile's core and its number on it. -/
abbrev cN : ℕ := (L 0).val
abbrev sN : ℕ := (L 1).val

theorem cN_lt : cN L < 2 := (L 0).isLt

/-- The levels, and what the tile owes: as at its start, having waited only on cells of its own. -/
def duties : sProp 𝕄 :=
  iprop(levAts (K (F := F)).L (K (F := F)).lev ∗ ∃ W', ⌜∀ p ∈ W', p ∈ W₀ ∨ p.2 = none⌝ ∗ owes (tile d L) O W')

/-- The tile's semaphores at zero, but for one. -/
def semsBut (sm : SemLoc sig) : sProp 𝕄 := bigSep ((ownCells (tile d L)).erase (tile d L, sm)) fun g => semVal g 0

/-- The pieces of the written array the tile owns: the first `n` rounds' written, the others as they were. -/
def outs (n : ℕ) : sProp 𝕄 :=
  bigSep Finset.univ fun r : Fin 8 => oLoc d ↦[piece (cN L) (sN L) r.val]{fullShare} (if r.val < n then scattered I W else fo)

/-- The pieces but round `r`'s. -/
def outsBut (r : Fin 8) : sProp 𝕄 :=
  bigSep (Finset.univ.erase r) fun r' : Fin 8 => oLoc d ↦[piece (cN L) (sN L) r'.val]{fullShare} (if r'.val < r.val then scattered I W else fo)

theorem outs_take (r : Fin 8) :
    (outs d L I W fo r.val : sProp 𝕄) = iprop((oLoc d ↦[piece (cN L) (sN L) r.val]{fullShare} fo) ∗ outsBut d L I W fo r) := by
  unfold outs outsBut
  rw [SparseCore.bigSep_erase' (Finset.mem_univ r), if_neg (lt_irrefl _)]

theorem outs_put (r : Fin 8) :
    (outs d L I W fo (r.val + 1) : sProp 𝕄) = iprop((oLoc d ↦[piece (cN L) (sN L) r.val]{fullShare} scattered I W) ∗ outsBut d L I W fo r) := by
  unfold outs outsBut
  rw [SparseCore.bigSep_erase' (Finset.mem_univ r), if_pos (Nat.lt_succ_self _)]
  refine congrArg (fun X : sProp 𝕄 => iprop((oLoc d ↦[piece (cN L) (sN L) r.val]{fullShare} scattered I W) ∗ X)) ?_
  refine bigSep_congr fun r' hr' => ?_
  have hne : r'.val ≠ r.val := fun h => (Finset.mem_erase.1 hr').1 (Fin.ext h)
  by_cases h : r'.val < r.val
  · rw [if_pos h, if_pos (by omega)]
  · rw [if_neg h, if_neg (by omega)]

/-- The two arrays the tile reads, each a share of the whole. -/
def idxA : sProp 𝕄 := iprop(iLoc d ↦{q} I)
def valA : sProp 𝕄 := iprop(vLoc d ↦{q} W)

/-- The tile's own memory. -/
def cells (A : Vec F S16x1024 .i32) : sProp 𝕄 := iprop((tile d L).loc cc1_scratch0 ↦{fullShare} A)
def vals (A : Vec F S16x1024 .f32) : sProp 𝕄 := iprop((tile d L).loc cc1_scratch1 ↦{fullShare} A)
def chunk (A : Vec F S65536 .f32) : sProp 𝕄 := iprop((tile d L).loc cc1_scratch2 ↦{fullShare} A)

/-- A copy in flight on a semaphore that, once waited for, leaves `X`. -/
def Fly (sm : SemLoc sig) (N : ℕ) (X : sProp 𝕄) : sProp 𝕄 :=
  iprop(semsBut d L sm ∗ ∃ R D : sProp 𝕄, R ∗ Transfers.Flight EC (tile d L) sm none N D ∗ ⌜iprop(R ∗ D) ⊢ X⌝)

/-- The stages of the run: nothing done; the chunk zeroed; and in each round the copies in, each plane added, the copy
    out, each plane wiped. -/
inductive Stage where
  | start
  | zeroed
  | flyI (r : ℕ) (sm : SemLoc sig)
  | gotI (r : ℕ)
  | flyV (r : ℕ) (sm : SemLoc sig)
  | add (r p : ℕ)
  | flyO (r : ℕ) (sm : SemLoc sig)
  | wipe (r p : ℕ)

/-- The copies' sizes as the semaphores count them. -/
abbrev nI : ℕ := (sI : Memref sig .scVector .vmem S16x1024 .i32).view.dmaCredit
abbrev nV : ℕ := (sV : Memref sig .scVector .vmem S16x1024 .f32).view.dmaCredit
abbrev nO : ℕ := (chunkOf ![0, 0] (by decide)).view.dmaCredit

/-- The chunk in the middle of round `r`: `p` planes added, and `p` planes wiped. -/
def added (r p : ℕ) : Vec F S65536 .f32 :=
  addPlanes (firstCell (sN L)) (slab I (2 * r + cN L)) (slab W (2 * r + cN L)) p (chunkIn I W (cN L) (sN L) r)
def wiped (r p : ℕ) : Vec F S65536 .f32 :=
  wipePlanes (firstCell (sN L)) (slab I (2 * r + cN L)) p (chunkOut I W (cN L) (sN L) r)

/-- What the tile holds at a stage, beside its duties. -/
def At : Stage → sProp 𝕄
  | .start => iprop(ownSems0 (tile d L) ∗ idxA d q I ∗ valA d q W ∗ outs d L I W fo 0 ∗ (∃ A, cells d L A) ∗ (∃ A, vals d L A) ∗ ∃ A, chunk d L A)
  | .zeroed => iprop(ownSems0 (tile d L) ∗ idxA d q I ∗ valA d q W ∗ outs d L I W fo 0 ∗ (∃ A, cells d L A) ∗ (∃ A, vals d L A)
      ∗ chunk d L fun _ => fzero)
  | .flyI r sm => iprop(Fly d L sm nI iprop(cells d L (slab I (2 * r + cN L)) ∗ idxA d q I) ∗ valA d q W ∗ outs d L I W fo r
      ∗ (∃ A, vals d L A) ∗ chunk d L (added L I W r 0))
  | .gotI r => iprop(ownSems0 (tile d L) ∗ idxA d q I ∗ valA d q W ∗ outs d L I W fo r ∗ cells d L (slab I (2 * r + cN L)) ∗ (∃ A, vals d L A)
      ∗ chunk d L (added L I W r 0))
  | .flyV r sm => iprop(Fly d L sm nV iprop(vals d L (slab W (2 * r + cN L)) ∗ valA d q W) ∗ idxA d q I ∗ outs d L I W fo r
      ∗ cells d L (slab I (2 * r + cN L)) ∗ chunk d L (added L I W r 0))
  | .add r p => iprop(ownSems0 (tile d L) ∗ idxA d q I ∗ valA d q W ∗ outs d L I W fo r ∗ cells d L (slab I (2 * r + cN L))
      ∗ vals d L (slab W (2 * r + cN L)) ∗ chunk d L (added L I W r p))
  | .flyO r sm => iprop(Fly d L sm nO iprop(outs d L I W fo (r + 1) ∗ chunk d L (wiped L I W r 0)) ∗ idxA d q I ∗ valA d q W
      ∗ cells d L (slab I (2 * r + cN L)) ∗ (∃ A, vals d L A))
  | .wipe r p => iprop(ownSems0 (tile d L) ∗ idxA d q I ∗ valA d q W ∗ outs d L I W fo (r + 1) ∗ cells d L (slab I (2 * r + cN L))
      ∗ (∃ A, vals d L A) ∗ chunk d L (wiped L I W r p))

/-- What the tile holds at a stage. -/
def St (g : Stage) : sProp 𝕄 := iprop(duties d L O W₀ ∗ At d L q I W fo g)

/-! ## Running from one assertion to another -/

/-- From `P`, the program runs, returns `a` and leaves `Q`. -/
def Runs {α : Type} (P : sProp 𝕄) (x : Prog (TpuEff nD τ sig (Elt F) Λ₀ (.scVector (cV L) (jV L))) α) (a : α) (Q : sProp 𝕄) : Prop :=
  P ⊢ wp frame (wpE (defs₀ (F := F)) 𝒱₀ (tile d L) none) Set.univ x fun b => iprop(⌜b = a⌝ ∗ Q)

variable {d L q I W fo O W₀}

theorem Runs.bind {α β : Type} {P Q R : sProp 𝕄} {x : Prog (TpuEff nD τ sig (Elt F) Λ₀ (.scVector (cV L) (jV L))) α} {a : α}
    {k : α → Prog (TpuEff nD τ sig (Elt F) Λ₀ (.scVector (cV L) (jV L))) β} {b : β}
    (hx : Runs d L P x a Q) (hk : Runs d L Q (k a) b R) : Runs d L P (x >>= k) b R := by
  unfold Runs at *
  rw [wp_bind]
  refine hx.trans (wp_mono frame _ _ fun c => ?_)
  iintro ⟨%h, H⟩
  subst h
  iapply hk $$ H

theorem Runs.pure {α : Type} {P : sProp 𝕄} {a : α} :
    Runs d L P (pure a : Prog (TpuEff nD τ sig (Elt F) Λ₀ (.scVector (cV L) (jV L))) α) a P := by
  unfold Runs
  rw [Prog.pure_eq_ret]
  iintro H
  sl_step
  isplitr
  · ipureintro; rfl
  · iexact H

theorem Runs.loop {w : ℕ} (P : ℕ → sProp 𝕄) {l : Scf.Loop w} {hok : l.OK} {n : ℕ} (hn : l.trips = n)
    {body : Fin l.trips → Unit → Prog (TpuEff nD τ sig (Elt F) Λ₀ (.scVector (cV L) (jV L))) Unit}
    (h : ∀ t : Fin l.trips, Runs d L (P t.val) (body t ⟨⟩) ⟨⟩ (P (t.val + 1))) :
    Runs d L (P 0) (l.for hok ⟨⟩ body) ⟨⟩ (P n) := by
  subst hn
  unfold Runs at *
  refine BIBase.Entails.trans ?_ (Scf.wp_for frame _ _ l.lb l.ub l.st hok ⟨⟩ body (fun k _ => P k) (fun k u => (h k).trans
    (wp_mono frame _ _ fun _ => by iintro ⟨-, H⟩; iexact H)))
  iintro H
  isplitl [H]
  · iexact H
  · iintro %_ H
    isplitr
    · ipureintro; rfl
    · iexact H

theorem Runs.mono_left {α : Type} {P P' Q : sProp 𝕄} {x : Prog (TpuEff nD τ sig (Elt F) Λ₀ (.scVector (cV L) (jV L))) α} {a : α}
    (hP : P ⊢ P') (h : Runs d L P' x a Q) : Runs d L P x a Q := hP.trans h

theorem Runs.mono_right {α : Type} {P Q Q' : sProp 𝕄} {x : Prog (TpuEff nD τ sig (Elt F) Λ₀ (.scVector (cV L) (jV L))) α} {a : α}
    (h : Runs d L P x a Q) (hQ : Q ⊢ Q') : Runs d L P x a Q' :=
  BIBase.Entails.trans h (wp_mono frame _ _ fun _ => by
    iintro ⟨%e, H⟩
    isplitr
    · ipureintro; exact e
    · iapply hQ $$ H)

theorem Runs.frame {α : Type} {P Q R : sProp 𝕄} {x : Prog (TpuEff nD τ sig (Elt F) Λ₀ (.scVector (cV L) (jV L))) α} {a : α}
    (h : Runs d L P x a Q) : Runs d L iprop(P ∗ R) x a iprop(Q ∗ R) := by
  unfold Runs at *
  refine BIBase.Entails.trans (sep_mono_left h) (BIBase.Entails.trans (wp_frame_r Idealize.ShloMosaic.frame _ _) (wp_mono Idealize.ShloMosaic.frame _ _ fun _ => ?_))
  iintro ⟨⟨%e, HQ⟩, HR⟩
  isplitr
  · ipureintro; exact e
  · isplitl [HQ] <;> iassumption

/-- A copy is issued on one of the tile's semaphores. -/
theorem Runs.issue {sp sp' : Space} {s : Shape} {e : EltTy} {src : Memref sig .scVector sp s e} {dst : Memref sig .scVector sp' s e}
    {sm : SemLoc sig} {h₁ : src.view.WordExact} {h₂ : dst.view.WordExact} {h₃ : DmaTarget.Typed sp sm (.here dst : DmaTarget nD τ sig (.scVector (cV L) (jV L)) sp' s e)}
    {q : PosShare TreeShare} {fs : Buf (Elt F) (src.view.loc (tile d L))} {fd : Buf (Elt F) (dst.view.loc (tile d L))}
    {Sd : Finset (Idx (dst.view.loc (tile d L)))} {R X : sProp 𝕄} {N : ℕ} (hN : dst.view.amount sm = N) (hN0 : 0 < N)
    (hSd : dst.view.set ⊆ Sd) (hsm : sm.isScoped .scVector = true)
    (hX : iprop(R ∗ ((dst.view.loc (tile d L) ↦[Sd]{fullShare} (dst.view.write (Elt F) fd (src.view.read (Elt F) fs) Finset.univ))
      ∗ (src.view.loc (tile d L) ↦[src.view.set]{q} fs))) ⊢ X) :
    Runs d L iprop(ownSems0 (tile d L) ∗ (src.view.loc (tile d L) ↦[src.view.set]{q} fs) ∗ (dst.view.loc (tile d L) ↦[Sd]{fullShare} fd) ∗ R)
      (Prog.lift (.enqueueDma src (.here dst) sm h₁ h₂ h₃)) ⟨⟩ (Fly d L sm N X) := by
  unfold Runs Fly semsBut SparseCore.Cfg.ownSems0
  rw [SparseCore.bigSep_erase' ((mem_ownCells (g := (tile d L, sm))).mpr ⟨rfl, hsm⟩)]
  simp only [Prog.lift]
  iintro ⟨⟨Hv, Hsems⟩, Hs, Hd, HR⟩
  iapply (Transfers.wp_dmaLocal EC 𝒱₀ (tile d L) none none N hN hN0 hSd) $$ [Hs Hd Hv]
  · isplitl [Hs]; · iexact Hs
    isplitl [Hd]; · iexact Hd
    iexact Hv
  iintro HF
  sl_step
  isplitr
  · ipureintro; trivial
  isplitl [Hsems]; · iexact Hsems
  iexists R
  iexists _
  isplitl [HR]; · iexact HR
  isplitl [HF]; · iexact HF
  ipureintro
  exact hX

/-- A copy in flight is waited for. -/
theorem Runs.await (hO : ∀ g, O g none = 0) {sp sp' : Space} {s s' : Shape} {e e' : EltTy} {sem : DmaSem sig} {src : Memref sig .scVector sp' s' e'} {dst : Memref sig .scVector sp s e}
    {h₁ : src.view.WordExact} {h₂ : dst.view.WordExact} {X : sProp 𝕄} {N : ℕ} (hN : dst.view.dmaCredit = N)
    (hsm : (SemLoc.dma sem : SemLoc sig).isScoped .scVector = true) :
    Runs d L iprop(duties d L O W₀ ∗ Fly d L (.dma sem) N X) (Prog.lift (.waitDma2 sem src dst h₁ h₂)) ⟨⟩
      iprop(duties d L O W₀ ∗ ownSems0 (tile d L) ∗ X) := by
  unfold Runs Fly semsBut SparseCore.Cfg.ownSems0 duties
  rw [SparseCore.bigSep_erase' ((mem_ownCells (g := (tile d L, SemLoc.dma sem))).mpr ⟨rfl, hsm⟩)]
  simp only [Prog.lift]
  iintro ⟨⟨#Hlv, %W', %hW', HO⟩, Hsems, %R, %Dl, HR, HF, %hX⟩
  iapply (Transfers.wp_waitLocalO EC 𝒱₀ (tile d L) none none hN (O := O) (W := W')) $$ [HF HO]
  · isplitl [HF]; · iexact HF
    isplitl [HO]; · iexact HO
    iapply ((K (F := F)).mayWait_none (SemLoc.dma sem) hO); iexact Hlv
  iintro ⟨HD, Hv, HO⟩
  sl_step
  isplitr
  · ipureintro; trivial
  isplitl [HO]
  · isplitr; · iexact Hlv
    iexists _
    isplitr
    swap; · iexact HO
    ipureintro
    intro p hp
    rcases Finset.mem_insert.1 hp with rfl | hp
    · exact .inr rfl
    · exact hW' p hp
  isplitl [Hv Hsems]
  · isplitl [Hv]; · iexact Hv
    iexact Hsems
  iapply hX
  isplitl [HR] <;> iassumption

end Held

end Cert.KernelIdeal.Tile

end
-- ==== Proof.Leaves.lean ====
/-
  One lemma per kind of statement of a tile's body: from the stage it starts at to the stage it leaves.
-/
module

public import proofs.«01_k».proof.Proof.Steps

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The trips of the loops, as programs -/

/-- A trip of a loop that adds a plane. -/
def addTrip (L : grid1.Coords) (v0 : BitVec 32) (off : Fin 2 → ℕ) (inb : ∀ a, off a + S1x16.size a ≤ S16x1024.size a)
    (dec : ∀ ld : Vec F S1x16 .i32, Decidable (∀ (a : Fin S65536.rank) x, ((![cellOf v0 ld] : Fin S65536.rank → IVec S16 32) a x).toNat < S65536.size a)) :
    Prog (TpuEff nD τ sig (Elt F) Λ₀ (.scVector (cV L) (jV L))) Unit := do
  let ld : Vec F S1x16 .i32 ← Prog.lift (.load sI (Rect.unit (s := S16x1024) off S1x16.size inb).toLoadRect (View.loadsAt_vmem h_S1x16))
  let lv : Vec F S1x16 .f32 ← Prog.lift (.load sV (Rect.unit (s := S16x1024) off S1x16.size inb).toLoadRect (View.loadsAt_vmem h_S1x16))
  have hw : ∀ (a : Fin S65536.rank) x, ((![cellOf v0 ld] : Fin S65536.rank → IVec S16 32) a x).toNat < S65536.size a :=
    (← Prog.lift (TpuEff.assume _ (dec ld))).down
  SparseCore.vectorStoreIdx sC ![cellOf v0 ld] (addOf v0 ld lv) (fun _ => 1#1) true hw (View.stores_vmem_bits_univ h_S65536 rfl)
  pure ⟨⟩

/-- A trip of a loop that wipes a plane's cells. -/
def wipeTrip (L : grid1.Coords) (v0 : BitVec 32) (off : Fin 2 → ℕ) (inb : ∀ a, off a + S1x16.size a ≤ S16x1024.size a)
    (dec : ∀ ld : Vec F S1x16 .i32, Decidable (∀ (a : Fin S65536.rank) x, ((![cellOf v0 ld] : Fin S65536.rank → IVec S16 32) a x).toNat < S65536.size a)) :
    Prog (TpuEff nD τ sig (Elt F) Λ₀ (.scVector (cV L) (jV L))) Unit := do
  let ld : Vec F S1x16 .i32 ← Prog.lift (.load sI (Rect.unit (s := S16x1024) off S1x16.size inb).toLoadRect (View.loadsAt_vmem h_S1x16))
  have hw : ∀ (a : Fin S65536.rank) x, ((![cellOf v0 ld] : Fin S65536.rank → IVec S16 32) a x).toNat < S65536.size a :=
    (← Prog.lift (TpuEff.assume _ (dec ld))).down
  SparseCore.vectorStoreIdx sC ![cellOf v0 ld] (broadcast S16 fzero) (inChunk v0 ld) false hw (View.stores_vmem_bits_univ h_S65536 rfl)
  pure ⟨⟩

/-- A trip of the loop that zeroes the chunk. -/
def zeroTrip (L : grid1.Coords) (off : Fin 1 → ℕ) (inb : ∀ a, off a + S16.size a ≤ S65536.size a) :
    Prog (TpuEff nD τ sig (Elt F) Λ₀ (.scVector (cV L) (jV L))) Unit := do
  let _v : Vec F S16 .f32 ← Prog.lift (.load sC (Rect.unit (s := S65536) off S16.size inb).toLoadRect (View.loadsAt_vmem h_S16))
  Prog.lift (.store sC (Rect.unit (s := S65536) off S16.size inb) (broadcast S16 (fzero (F := F))) Finset.univ (View.stores_vmem_bits_univ h_S16 rfl) (.inl rfl))
  pure ⟨⟩

section Leaves

variable {d : Dev nD} {L : grid1.Coords} {q : PosShare TreeShare}
variable {I : Vec F S16x16x1024 .i32} {W : Vec F S16x16x1024 .f32} {fo : Vec F S16x1048576 .f32}
variable {O : CellTallies nD τ sig (HIx 1)} {W₀ : Waits sig (HIx 1)}

theorem set_sC : (sC.access (.whole S65536)).set = Finset.univ := Memref.set_access_whole cc1_scratch2
theorem read_sC (f : Vec F S65536 .f32) : View.read (Elt F) (sC.access (.whole S65536)) f = f := Memref.read_access_whole (Elt F) cc1_scratch2 f
theorem write_sC (f g : Vec F S65536 .f32) : View.write (Elt F) (sC.access (.whole S65536)) f g Finset.univ = g :=
  Memref.write_access_whole_univ (Elt F) cc1_scratch2 f g

/-- The chunk, spoken of as the scatter of sixteen updates does. -/
theorem chunk_access (f : Vec F S65536 .f32) :
    (chunk d L f : sProp 𝕄) = iprop((sC.access (.whole S65536)).loc (tile d L) ↦[(sC.access (.whole S65536)).set]{fullShare} f) := by
  rw [set_sC]; rfl

theorem addTrip_runs {v0 : BitVec 32} {off : Fin 2 → ℕ} {inb} {dec} {p t : ℕ} (hp : p < 16) (ht : t < 64) (hoff : off = ![p, 16 * t])
    (A : Vec F S16x1024 .i32) (B : Vec F S16x1024 .f32) (f : Vec F S65536 .f32) :
    Runs d L iprop(cells d L A ∗ vals d L B ∗ chunk d L f) (addTrip L v0 off inb dec) ⟨⟩
      iprop(cells d L A ∗ vals d L B ∗ chunk d L (addStep v0 (row16 A p t) (row16 B p t) f)) := by
  unfold Runs addTrip cells vals
  rw [chunk_access, chunk_access]
  simp only [Prog.lift, Prog.bind_op, Prog.bind_ret, Prog.pure_eq_ret]
  iintro ⟨HA, HB, HC⟩
  iapply (wp_load 𝒱₀ (tile d L) none Set.univ (m := sI) (S := Finset.univ) (Finset.subset_univ _)) $$ HA
  iintro HA
  rw [load_row sI A A rfl p t hp ht hoff inb]
  iapply (wp_load 𝒱₀ (tile d L) none Set.univ (m := sV) (S := Finset.univ) (Finset.subset_univ _)) $$ HB
  iintro HB
  rw [load_row sV B B rfl p t hp ht hoff inb]
  rw [wp_assume_of _ _ _ _ (cellOf_inb v0 (row16 A p t))]
  iapply (SparseCore.wp_vectorStoreIdx 𝒱₀ (tile d L) none Set.univ (base := sC)) $$ HC
  iintro HC
  sl_step
  isplitr
  · ipureintro; trivial
  isplitl [HA]; · iexact HA
  isplitl [HB]; · iexact HB
  rw [write_sC, read_sC]
  iexact HC

theorem wipeTrip_runs {v0 : BitVec 32} {off : Fin 2 → ℕ} {inb} {dec} {p t : ℕ} (hp : p < 16) (ht : t < 64) (hoff : off = ![p, 16 * t])
    (A : Vec F S16x1024 .i32) (f : Vec F S65536 .f32) :
    Runs d L iprop(cells d L A ∗ chunk d L f) (wipeTrip L v0 off inb dec) ⟨⟩
      iprop(cells d L A ∗ chunk d L (wipeStep v0 (row16 A p t) f)) := by
  unfold Runs wipeTrip cells
  rw [chunk_access, chunk_access]
  simp only [Prog.lift, Prog.bind_op, Prog.bind_ret, Prog.pure_eq_ret]
  iintro ⟨HA, HC⟩
  iapply (wp_load 𝒱₀ (tile d L) none Set.univ (m := sI) (S := Finset.univ) (Finset.subset_univ _)) $$ HA
  iintro HA
  rw [load_row sI A A rfl p t hp ht hoff inb]
  rw [wp_assume_of _ _ _ _ (cellOf_inb v0 (row16 A p t))]
  iapply (SparseCore.wp_vectorStoreIdx 𝒱₀ (tile d L) none Set.univ (base := sC)) $$ HC
  iintro HC
  sl_step
  isplitr
  · ipureintro; trivial
  isplitl [HA]; · iexact HA
  rw [write_sC, read_sC]
  iexact HC

/-- The chunk's first `n` cells are zero. -/
def ZeroTo (n : ℕ) (f : Vec F S65536 .f32) : Prop := ∀ y : S65536.Idx, (y 0).val < n → f y = fzero

theorem zeroTrip_runs {off : Fin 1 → ℕ} {inb} {t : ℕ} (hoff : off = ![16 * t]) :
    Runs d L iprop(∃ f : Vec F S65536 .f32, ⌜ZeroTo (16 * t) f⌝ ∗ chunk d L f) (zeroTrip (F := F) L off inb) ⟨⟩
      iprop(∃ f : Vec F S65536 .f32, ⌜ZeroTo (16 * (t + 1)) f⌝ ∗ chunk d L f) := by
  unfold Runs zeroTrip chunk
  simp only [Prog.lift, Prog.bind_op, Prog.bind_ret, Prog.pure_eq_ret]
  iintro ⟨%f, %hf, HC⟩
  iapply (wp_load 𝒱₀ (tile d L) none Set.univ (m := sC) (S := Finset.univ) (Finset.subset_univ _)) $$ HC
  iintro HC
  iapply (wp_store 𝒱₀ (tile d L) none Set.univ (m := sC) (r := Rect.unit (s := S65536) off S16.size inb) (S := Finset.univ) (Finset.subset_univ _)) $$ HC
  iintro HC
  sl_step
  isplitr
  · ipureintro; trivial
  iexists _
  isplitr
  swap; · iexact HC
  ipureintro
  intro y hy
  subst hoff
  by_cases h : y ∈ ((sC : Memref sig .scVector .vmem S65536 .f32).access (Rect.unit (s := S65536) ![16 * t] S16.size inb)).set
  · obtain ⟨z, -, rfl⟩ := Finset.mem_map.1 h
    rw [View.write_emb_of_mem _ _ (Finset.mem_univ z)]
    rfl
  · rw [View.write_of_not_mem _ _ _ h]
    refine hf y ?_
    by_contra hlt
    refine h (Finset.mem_map.2 ⟨ValueIdx.ix1 (⟨(y 0).val - 16 * t, by omega⟩ : Fin 16), Finset.mem_univ _, ?_⟩)
    funext a
    apply Fin.ext
    match a with
    | ⟨0, _⟩ => show 16 * t + 1 * ((y 0).val - 16 * t) = (y 0).val; omega

/-! ## The loops -/

theorem zeroLoop {w : ℕ} {l : Scf.Loop w} {hok : l.OK} (htr : l.trips = 4096) {off : Fin l.trips → Fin 1 → ℕ} {inb : ∀ t a, off t a + S16.size a ≤ S65536.size a}
    {body : Fin l.trips → Unit → Prog (TpuEff nD τ sig (Elt F) Λ₀ (.scVector (cV L) (jV L))) Unit}
    (hbody : ∀ t, body t ⟨⟩ = zeroTrip L (off t) (inb t)) (hoff : ∀ t, off t = ![16 * t.val]) :
    Runs d L (St d L q I W fo O W₀ .start) (l.for hok ⟨⟩ body) ⟨⟩ (St d L q I W fo O W₀ .zeroed) := by
  have hl := Runs.loop (d := d) (L := L) (hok := hok) (body := body)
    (fun t => iprop(∃ f : Vec F S65536 .f32, ⌜ZeroTo (16 * t) f⌝ ∗ chunk d L f)) htr fun t => by
      rw [hbody]; exact zeroTrip_runs (hoff t)
  refine Runs.mono_right (Runs.mono_left ?_ (Runs.frame hl
    (R := iprop(duties d L O W₀ ∗ ownSems0 (tile d L) ∗ idxA d q I ∗ valA d q W ∗ outs d L I W fo 0 ∗ (∃ A, cells d L A) ∗ (∃ A, vals d L A))))) ?_
  · unfold St At
    iintro ⟨HD, HS, HI, HV, HO, HA, HB, %A, HC⟩
    isplitl [HC]
    · iexists A
      isplitr
      · ipureintro; intro y hy; omega
      · iexact HC
    isplitl [HD]; · iexact HD
    isplitl [HS]; · iexact HS
    isplitl [HI]; · iexact HI
    isplitl [HV]; · iexact HV
    isplitl [HO]; · iexact HO
    isplitl [HA]; · iexact HA
    iexact HB
  · unfold St At
    iintro ⟨⟨%f, %hf, HC⟩, HD, HS, HI, HV, HO, HA, HB⟩
    obtain rfl : f = fun _ => fzero := funext fun y => hf y (by have : (y 0).val < 65536 := (y 0).isLt; omega)
    isplitl [HD]; · iexact HD
    isplitl [HS]; · iexact HS
    isplitl [HI]; · iexact HI
    isplitl [HV]; · iexact HV
    isplitl [HO]; · iexact HO
    isplitl [HA]; · iexact HA
    isplitl [HB]; · iexact HB
    iexact HC

theorem addLoop (r p : ℕ) (hp : p < 16) {w : ℕ} {l : Scf.Loop w} {hok : l.OK} (htr : l.trips = 64) {off : Fin l.trips → Fin 2 → ℕ}
    {inb : ∀ t a, off t a + S1x16.size a ≤ S16x1024.size a} {dec}
    {body : Fin l.trips → Unit → Prog (TpuEff nD τ sig (Elt F) Λ₀ (.scVector (cV L) (jV L))) Unit}
    (hbody : ∀ t, body t ⟨⟩ = addTrip L (firstCell (sN L)) (off t) (inb t) dec) (hoff : ∀ t, off t = ![p, 16 * t.val]) :
    Runs d L (St d L q I W fo O W₀ (.add r p)) (l.for hok ⟨⟩ body) ⟨⟩ (St d L q I W fo O W₀ (.add r (p + 1))) := by
  have hl := Runs.loop (d := d) (L := L) (hok := hok) (body := body)
    (fun t => iprop(cells d L (slab I (2 * r + cN L)) ∗ vals d L (slab W (2 * r + cN L))
      ∗ chunk d L (addGroups (firstCell (sN L)) (slab I (2 * r + cN L)) (slab W (2 * r + cN L)) p t (added L I W r p)))) htr fun t => by
      rw [hbody]; exact addTrip_runs hp (htr ▸ t.isLt) (hoff t) _ _ _
  refine Runs.mono_right (Runs.mono_left ?_ (Runs.frame hl
    (R := iprop(duties d L O W₀ ∗ ownSems0 (tile d L) ∗ idxA d q I ∗ valA d q W ∗ outs d L I W fo r)))) ?_
  · unfold St At
    iintro ⟨HD, HS, HI, HV, HO, HA, HB, HC⟩
    isplitl [HA HB HC]
    · isplitl [HA]; · iexact HA
      isplitl [HB]; · iexact HB
      iexact HC
    isplitl [HD]; · iexact HD
    isplitl [HS]; · iexact HS
    isplitl [HI]; · iexact HI
    isplitl [HV]; · iexact HV
    iexact HO
  · unfold St At
    iintro ⟨⟨HA, HB, HC⟩, HD, HS, HI, HV, HO⟩
    isplitl [HD]; · iexact HD
    isplitl [HS]; · iexact HS
    isplitl [HI]; · iexact HI
    isplitl [HV]; · iexact HV
    isplitl [HO]; · iexact HO
    isplitl [HA]; · iexact HA
    isplitl [HB]; · iexact HB
    iexact HC

theorem wipeLoop (r p : ℕ) (hp : p < 16) {w : ℕ} {l : Scf.Loop w} {hok : l.OK} (htr : l.trips = 64) {off : Fin l.trips → Fin 2 → ℕ}
    {inb : ∀ t a, off t a + S1x16.size a ≤ S16x1024.size a} {dec}
    {body : Fin l.trips → Unit → Prog (TpuEff nD τ sig (Elt F) Λ₀ (.scVector (cV L) (jV L))) Unit}
    (hbody : ∀ t, body t ⟨⟩ = wipeTrip L (firstCell (sN L)) (off t) (inb t) dec) (hoff : ∀ t, off t = ![p, 16 * t.val]) :
    Runs d L (St d L q I W fo O W₀ (.wipe r p)) (l.for hok ⟨⟩ body) ⟨⟩ (St d L q I W fo O W₀ (.wipe r (p + 1))) := by
  have hl := Runs.loop (d := d) (L := L) (hok := hok) (body := body)
    (fun t => iprop(cells d L (slab I (2 * r + cN L))
      ∗ chunk d L (wipeGroups (firstCell (sN L)) (slab I (2 * r + cN L)) p t (wiped L I W r p)))) htr fun t => by
      rw [hbody]; exact wipeTrip_runs hp (htr ▸ t.isLt) (hoff t) _ _
  refine Runs.mono_right (Runs.mono_left ?_ (Runs.frame hl
    (R := iprop(duties d L O W₀ ∗ ownSems0 (tile d L) ∗ idxA d q I ∗ valA d q W ∗ outs d L I W fo (r + 1) ∗ ∃ A, vals d L A)))) ?_
  · unfold St At
    iintro ⟨HD, HS, HI, HV, HO, HA, HB, HC⟩
    isplitl [HA HC]
    · isplitl [HA]; · iexact HA
      iexact HC
    isplitl [HD]; · iexact HD
    isplitl [HS]; · iexact HS
    isplitl [HI]; · iexact HI
    isplitl [HV]; · iexact HV
    isplitl [HO]; · iexact HO
    iexact HB
  · unfold St At
    iintro ⟨⟨HA, HC⟩, HD, HS, HI, HV, HO, HB⟩
    isplitl [HD]; · iexact HD
    isplitl [HS]; · iexact HS
    isplitl [HI]; · iexact HI
    isplitl [HV]; · iexact HV
    isplitl [HO]; · iexact HO
    isplitl [HA]; · iexact HA
    isplitl [HB]; · iexact HB
    iexact HC

/-! ## The copies -/

/-- A copy out of a buffer held whole, at a read share, into one held whole. -/
theorem Runs.copyIn {sp sp' : Space} {s : Shape} {e : EltTy} {src : Memref sig .scVector sp s e} {dst : Memref sig .scVector sp' s e}
    {sm : SemLoc sig} {h₁ : src.view.WordExact} {h₂ : dst.view.WordExact} {h₃ : DmaTarget.Typed sp sm (.here dst : DmaTarget nD τ sig (.scVector (cV L) (jV L)) sp' s e)}
    {fs : Buf (Elt F) (src.view.loc (tile d L))} {B : Buf (Elt F) (dst.view.loc (tile d L))} {N : ℕ}
    (hw : ∀ A, dst.view.write (Elt F) A (src.view.read (Elt F) fs) Finset.univ = B)
    (hsm : sm.isScoped .scVector = true) (hN : dst.view.amount sm = N) (hN0 : 0 < N) :
    Runs d L iprop(ownSems0 (tile d L) ∗ (src.view.loc (tile d L) ↦{q} fs) ∗ ∃ A, dst.view.loc (tile d L) ↦{fullShare} A)
      (Prog.lift (.enqueueDma src (.here dst) sm h₁ h₂ h₃)) ⟨⟩
      (Fly d L sm N iprop((dst.view.loc (tile d L) ↦{fullShare} B) ∗ (src.view.loc (tile d L) ↦{q} fs))) := by
  have hsplit : (src.view.loc (tile d L) ↦{q} fs : sProp 𝕄)
      ⊣⊢ iprop((src.view.loc (tile d L) ↦[src.view.set]{q} fs) ∗ (src.view.loc (tile d L) ↦[Finset.univ \ src.view.set]{q} fs)) :=
    pointsTo_split_subset (Finset.subset_univ _)
  have h := fun A => Runs.issue (d := d) (L := L) (src := src) (dst := dst) (sm := sm) (h₁ := h₁) (h₂ := h₂) (h₃ := h₃) (q := q) (fs := fs) (fd := A) (Sd := Finset.univ)
    (R := iprop(src.view.loc (tile d L) ↦[Finset.univ \ src.view.set]{q} fs))
    (X := iprop((dst.view.loc (tile d L) ↦{fullShare} B) ∗ (src.view.loc (tile d L) ↦{q} fs))) hN hN0 (Finset.subset_univ _) hsm (by
      rw [hw]
      iintro ⟨HR, HA, Hs⟩
      isplitl [HA]
      · iexact HA
      · iapply hsplit.2
        isplitl [Hs] <;> iassumption)
  unfold Runs at h ⊢
  iintro ⟨HS, HI, %A, HA⟩
  ihave HI' := hsplit.1 $$ HI
  icases HI' with ⟨Hs, HR⟩
  iapply (h A) $$ [HS Hs HA HR]
  isplitl [HS]; · iexact HS
  isplitl [Hs]; · iexact Hs
  isplitl [HA]; · iexact HA
  iexact HR

/-- Copying a batch's cells in. -/
theorem fly_idx (r : ℕ) (hr : r < 8) {off : Fin 3 → ℕ} {inb} (hoff : off = ![2 * r + cN L, 0, 0]) {sm : SemLoc sig} {h₁} {h₂} {h₃}
    (hsm : sm.isScoped .scVector = true) (hN : (sI : Memref sig .scVector .vmem S16x1024 .i32).view.amount sm = nI) :
    Runs d L iprop(ownSems0 (tile d L) ∗ idxA d q I ∗ ∃ A, cells d L A)
      (Prog.lift (.enqueueDma (planesOf iV off inb) (.here sI) sm h₁ h₂ h₃)) ⟨⟩
      (Fly d L sm nI iprop(cells d L (slab I (2 * r + cN L)) ∗ idxA d q I)) :=
  Runs.copyIn (src := planesOf iV off inb) (dst := sI) (fs := I)
    (fun A => (View.write_whole_univ cc1_scratch0 A _).trans (read_iV _ (by have := cN_lt L; omega) hoff inb I)) hsm hN (by decide)

/-- Copying a batch's values in. -/
theorem fly_val (r : ℕ) (hr : r < 8) {off : Fin 3 → ℕ} {inb} (hoff : off = ![2 * r + cN L, 0, 0]) {sm : SemLoc sig} {h₁} {h₂} {h₃}
    (hsm : sm.isScoped .scVector = true) (hN : (sV : Memref sig .scVector .vmem S16x1024 .f32).view.amount sm = nV) :
    Runs d L iprop(ownSems0 (tile d L) ∗ valA d q W ∗ ∃ A, vals d L A)
      (Prog.lift (.enqueueDma (planesOf vV off inb) (.here sV) sm h₁ h₂ h₃)) ⟨⟩
      (Fly d L sm nV iprop(vals d L (slab W (2 * r + cN L)) ∗ valA d q W)) :=
  Runs.copyIn (src := planesOf vV off inb) (dst := sV) (fs := W)
    (fun A => (View.write_whole_univ cc1_scratch1 A _).trans (read_vV _ (by have := cN_lt L; omega) hoff inb W)) hsm hN (by decide)

theorem chunk_view (f : Vec F S65536 .f32) :
    (chunk d L f : sProp 𝕄) = iprop((sC : Memref sig .scVector .vmem S65536 .f32).view.loc (tile d L)
      ↦[(sC : Memref sig .scVector .vmem S65536 .f32).view.set]{fullShare} f) := by
  rw [show (sC : Memref sig .scVector .vmem S65536 .f32).view.set = Finset.univ from View.set_whole cc1_scratch2]; rfl

/-- Copying the chunk out. -/
theorem fly_out (r : ℕ) (hr : r < 8) {off : Fin 2 → ℕ} {inb} (hoff : off = ![2 * r + cN L, 65536 * sN L]) {sm : SemLoc sig} {h₁} {h₂} {h₃}
    (hsm : sm.isScoped .scVector = true) (hN : (chunkOf off inb).view.amount sm = nO) :
    Runs d L iprop(ownSems0 (tile d L) ∗ outs d L I W fo r ∗ chunk d L (added L I W r 16))
      (Prog.lift (.enqueueDma sC (.here (chunkOf off inb)) sm h₁ h₂ h₃)) ⟨⟩
      (Fly d L sm nO iprop(outs d L I W fo (r + 1) ∗ chunk d L (wiped L I W r 0))) := by
  have hset := set_chunk (cN L) (sN L) r hoff inb
  have h := Runs.issue (d := d) (L := L) (src := (sC : Memref sig .scVector .vmem S65536 .f32)) (dst := chunkOf off inb) (sm := sm) (h₁ := h₁) (h₂ := h₂) (h₃ := h₃)
    (q := fullShare) (fs := added L I W r 16) (fd := fo) (Sd := piece (cN L) (sN L) r) (R := outsBut d L I W fo ⟨r, hr⟩)
    (X := iprop(outs d L I W fo (r + 1) ∗ chunk d L (wiped L I W r 0))) hN (by decide) hset.le hsm (by
      rw [outs_put d L I W fo ⟨r, hr⟩]
      have hc : ((chunkOf off inb).view.loc (tile d L) ↦[piece (cN L) (sN L) r]{fullShare}
          ((chunkOf off inb).view.write (Elt F) fo (View.read (Elt F) (sC : Memref sig .scVector .vmem S65536 .f32).view (added L I W r 16)) Finset.univ) : sProp 𝕄)
          = iprop(oLoc d ↦[piece (cN L) (sN L) r]{fullShare} scattered I W) :=
        pointsTo_congr (write_chunk (cN L) (sN L) r (cN_lt L) hoff inb I W fo)
      rw [hc]
      rw [chunk_view, show wiped L I W r 0 = added L I W r 16 from rfl]
      iintro ⟨HR, HA, Hs⟩
      isplitr [Hs]
      · isplitl [HA] <;> iassumption
      · iexact Hs)
  refine Runs.mono_left ?_ h
  rw [outs_take d L I W fo ⟨r, hr⟩, chunk_view]
  iintro ⟨HS, ⟨HO, HR⟩, HC⟩
  isplitl [HS]; · iexact HS
  isplitl [HC]; · iexact HC
  isplitl [HO]; · iexact HO
  iexact HR

end Leaves

end Cert.KernelIdeal.Tile

end
-- ==== Proof.Copies.lean ====
/-
  The copies as steps between stages: each is issued in one stage and waited for in the next.
-/
module

public import proofs.«01_k».proof.Proof.Leaves

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {L : grid1.Coords} {q : PosShare TreeShare}
variable {I : Vec F S16x16x1024 .i32} {W : Vec F S16x16x1024 .f32} {fo : Vec F S16x1048576 .f32}
variable {O : CellTallies nD τ sig (HIx 1)} {W₀ : Waits sig (HIx 1)}

/-- The first batch's cells are fetched. -/
theorem enqI0 {off : Fin 3 → ℕ} {inb} {sm : SemLoc sig} {h₁} {h₂} {h₃} (hsm : sm.isScoped .scVector = true) (hN : (sI : Memref sig .scVector .vmem S16x1024 .i32).view.amount sm = nI)
    (hoff : off = ![2 * 0 + cN L, 0, 0]) :
    Runs d L (St d L q I W fo O W₀ (.zeroed)) (Prog.lift (.enqueueDma (planesOf iV off inb) (.here sI) sm h₁ h₂ h₃)) ⟨⟩ (St d L q I W fo O W₀ (.flyI 0 sm)) := by
  refine Runs.mono_right (Runs.mono_left ?_ (Runs.frame (fly_idx (q := q) (I := I) 0 (by decide) hoff hsm hN)
    (R := iprop(duties d L O W₀ ∗ valA d q W ∗ outs d L I W fo 0 ∗ (∃ A, vals d L A) ∗ chunk d L (added L I W 0 0))))) ?_
  · unfold St At
    iintro ⟨HD, HS, HI, HV, HO, HA, HBe, HC⟩
    isplitl [HS HI HA]
    · isplitl [HS]; · iexact HS
      isplitl [HI]; · iexact HI
      iexact HA
    isplitl [HD]; · iexact HD
    isplitl [HV]; · iexact HV
    isplitl [HO]; · iexact HO
    isplitl [HBe]; · iexact HBe
    iexact HC
  · unfold St At
    iintro ⟨HF, HD, HV, HO, HBe, HC⟩
    isplitl [HD]; · iexact HD
    isplitl [HF]; · iexact HF
    isplitl [HV]; · iexact HV
    isplitl [HO]; · iexact HO
    isplitl [HBe]; · iexact HBe
    iexact HC

/-- The next batch's cells are fetched. -/
theorem enqI (r : ℕ) (hr : r + 1 < 8) {off : Fin 3 → ℕ} {inb} {sm : SemLoc sig} {h₁} {h₂} {h₃} (hsm : sm.isScoped .scVector = true) (hN : (sI : Memref sig .scVector .vmem S16x1024 .i32).view.amount sm = nI)
    (hoff : off = ![2 * (r + 1) + cN L, 0, 0]) :
    Runs d L (St d L q I W fo O W₀ (.wipe r 16)) (Prog.lift (.enqueueDma (planesOf iV off inb) (.here sI) sm h₁ h₂ h₃)) ⟨⟩ (St d L q I W fo O W₀ (.flyI (r + 1) sm)) := by
  refine Runs.mono_right (Runs.mono_left ?_ (Runs.frame (fly_idx (q := q) (I := I) (r + 1) hr hoff hsm hN)
    (R := iprop(duties d L O W₀ ∗ valA d q W ∗ outs d L I W fo (r + 1) ∗ (∃ A, vals d L A) ∗ chunk d L (added L I W (r + 1) 0))))) ?_
  · unfold St At
    iintro ⟨HD, HS, HI, HV, HO, HA, HBe, HC⟩
    isplitl [HS HI HA]
    · isplitl [HS]; · iexact HS
      isplitl [HI]; · iexact HI
      iexists _; iexact HA
    isplitl [HD]; · iexact HD
    isplitl [HV]; · iexact HV
    isplitl [HO]; · iexact HO
    isplitl [HBe]; · iexact HBe
    iexact HC
  · unfold St At
    iintro ⟨HF, HD, HV, HO, HBe, HC⟩
    isplitl [HD]; · iexact HD
    isplitl [HF]; · iexact HF
    isplitl [HV]; · iexact HV
    isplitl [HO]; · iexact HO
    isplitl [HBe]; · iexact HBe
    iexact HC

/-- The batch's values are fetched. -/
theorem enqV (r : ℕ) (hr : r < 8) {off : Fin 3 → ℕ} {inb} {sm : SemLoc sig} {h₁} {h₂} {h₃} (hsm : sm.isScoped .scVector = true) (hN : (sV : Memref sig .scVector .vmem S16x1024 .f32).view.amount sm = nV)
    (hoff : off = ![2 * r + cN L, 0, 0]) :
    Runs d L (St d L q I W fo O W₀ (.gotI r)) (Prog.lift (.enqueueDma (planesOf vV off inb) (.here sV) sm h₁ h₂ h₃)) ⟨⟩ (St d L q I W fo O W₀ (.flyV r sm)) := by
  refine Runs.mono_right (Runs.mono_left ?_ (Runs.frame (fly_val (q := q) (W := W) r hr hoff hsm hN)
    (R := iprop(duties d L O W₀ ∗ idxA d q I ∗ outs d L I W fo r ∗ cells d L (slab I (2 * r + cN L)) ∗ chunk d L (added L I W r 0))))) ?_
  · unfold St At
    iintro ⟨HD, HS, HI, HV, HO, HA, HBe, HC⟩
    isplitl [HS HV HBe]
    · isplitl [HS]; · iexact HS
      isplitl [HV]; · iexact HV
      iexact HBe
    isplitl [HD]; · iexact HD
    isplitl [HI]; · iexact HI
    isplitl [HO]; · iexact HO
    isplitl [HA]; · iexact HA
    iexact HC
  · unfold St At
    iintro ⟨HF, HD, HI, HO, HA, HC⟩
    isplitl [HD]; · iexact HD
    isplitl [HF]; · iexact HF
    isplitl [HI]; · iexact HI
    isplitl [HO]; · iexact HO
    isplitl [HA]; · iexact HA
    iexact HC

/-- The chunk is copied out. -/
theorem enqO (r : ℕ) (hr : r < 8) {off : Fin 2 → ℕ} {inb} {sm : SemLoc sig} {h₁} {h₂} {h₃} (hsm : sm.isScoped .scVector = true) (hN : (chunkOf off inb).view.amount sm = nO)
    (hoff : off = ![2 * r + cN L, 65536 * sN L]) :
    Runs d L (St d L q I W fo O W₀ (.add r 16)) (Prog.lift (.enqueueDma sC (.here (chunkOf off inb)) sm h₁ h₂ h₃)) ⟨⟩ (St d L q I W fo O W₀ (.flyO r sm)) := by
  refine Runs.mono_right (Runs.mono_left ?_ (Runs.frame (fly_out (I := I) (W := W) (fo := fo) r hr hoff hsm hN)
    (R := iprop(duties d L O W₀ ∗ idxA d q I ∗ valA d q W ∗ cells d L (slab I (2 * r + cN L)) ∗ vals d L (slab W (2 * r + cN L)))))) ?_
  · unfold St At
    iintro ⟨HD, HS, HI, HV, HO, HA, HB, HC⟩
    isplitl [HS HO HC]
    · isplitl [HS]; · iexact HS
      isplitl [HO]; · iexact HO
      iexact HC
    isplitl [HD]; · iexact HD
    isplitl [HI]; · iexact HI
    isplitl [HV]; · iexact HV
    isplitl [HA]; · iexact HA
    iexact HB
  · unfold St At
    iintro ⟨HF, HD, HI, HV, HA, HB⟩
    isplitl [HD]; · iexact HD
    isplitl [HF]; · iexact HF
    isplitl [HI]; · iexact HI
    isplitl [HV]; · iexact HV
    isplitl [HA]; · iexact HA
    iexists _
    iexact HB

/-- The batch's cells have come. -/
theorem waitI (hO : ∀ g, O g none = 0) (r : ℕ) {s' : Shape} {e' : EltTy} {sp' : Space} {src : Memref sig .scVector sp' s' e'} {sem : DmaSem sig} {h₁} {h₂} (hsm : (SemLoc.dma sem : SemLoc sig).isScoped .scVector = true)
    (hN : (sI : Memref sig .scVector .vmem S16x1024 .i32).view.dmaCredit = nI) :
    Runs d L (St d L q I W fo O W₀ (.flyI r (.dma sem))) (Prog.lift (.waitDma2 sem src (sI : Memref sig .scVector .vmem S16x1024 .i32) h₁ h₂)) ⟨⟩ (St d L q I W fo O W₀ (.gotI r)) := by
  refine Runs.mono_right (Runs.mono_left ?_ (Runs.frame (Runs.await (W₀ := W₀)
    (X := iprop(cells d L (slab I (2 * r + cN L)) ∗ idxA d q I)) hO hN hsm)
    (R := iprop(valA d q W ∗ outs d L I W fo r ∗ (∃ A, vals d L A) ∗ chunk d L (added L I W r 0))))) ?_
  · unfold St At
    iintro ⟨HD, HF, HV, HO, HBe, HC⟩
    isplitl [HD HF]
    · isplitl [HD] <;> iassumption
    isplitl [HV]; · iexact HV
    isplitl [HO]; · iexact HO
    isplitl [HBe]; · iexact HBe
    iexact HC
  · unfold St At
    iintro ⟨⟨HD, HS, HA, HI⟩, HV, HO, HBe, HC⟩
    isplitl [HD]; · iexact HD
    isplitl [HS]; · iexact HS
    isplitl [HI]; · iexact HI
    isplitl [HV]; · iexact HV
    isplitl [HO]; · iexact HO
    isplitl [HA]; · iexact HA
    isplitl [HBe]; · iexact HBe
    iexact HC

/-- The batch's values have come. -/
theorem waitV (hO : ∀ g, O g none = 0) (r : ℕ) {s' : Shape} {e' : EltTy} {sp' : Space} {src : Memref sig .scVector sp' s' e'} {sem : DmaSem sig} {h₁} {h₂} (hsm : (SemLoc.dma sem : SemLoc sig).isScoped .scVector = true)
    (hN : (sV : Memref sig .scVector .vmem S16x1024 .f32).view.dmaCredit = nV) :
    Runs d L (St d L q I W fo O W₀ (.flyV r (.dma sem))) (Prog.lift (.waitDma2 sem src (sV : Memref sig .scVector .vmem S16x1024 .f32) h₁ h₂)) ⟨⟩ (St d L q I W fo O W₀ (.add r 0)) := by
  refine Runs.mono_right (Runs.mono_left ?_ (Runs.frame (Runs.await (W₀ := W₀)
    (X := iprop(vals d L (slab W (2 * r + cN L)) ∗ valA d q W)) hO hN hsm)
    (R := iprop(idxA d q I ∗ outs d L I W fo r ∗ cells d L (slab I (2 * r + cN L)) ∗ chunk d L (added L I W r 0))))) ?_
  · unfold St At
    iintro ⟨HD, HF, HI, HO, HA, HC⟩
    isplitl [HD HF]
    · isplitl [HD] <;> iassumption
    isplitl [HI]; · iexact HI
    isplitl [HO]; · iexact HO
    isplitl [HA]; · iexact HA
    iexact HC
  · unfold St At
    iintro ⟨⟨HD, HS, HB, HV⟩, HI, HO, HA, HC⟩
    isplitl [HD]; · iexact HD
    isplitl [HS]; · iexact HS
    isplitl [HI]; · iexact HI
    isplitl [HV]; · iexact HV
    isplitl [HO]; · iexact HO
    isplitl [HA]; · iexact HA
    isplitl [HB]; · iexact HB
    iexact HC

/-- The chunk has gone out. -/
theorem waitO (hO : ∀ g, O g none = 0) (r : ℕ) {s' : Shape} {e' : EltTy} {sp' : Space} {src : Memref sig .scVector sp' s' e'} {off : Fin 2 → ℕ} {inb} {sem : DmaSem sig} {h₁} {h₂} (hsm : (SemLoc.dma sem : SemLoc sig).isScoped .scVector = true)
    (hN : (chunkOf off inb).view.dmaCredit = nO) :
    Runs d L (St d L q I W fo O W₀ (.flyO r (.dma sem))) (Prog.lift (.waitDma2 sem src (chunkOf off inb) h₁ h₂)) ⟨⟩ (St d L q I W fo O W₀ (.wipe r 0)) := by
  refine Runs.mono_right (Runs.mono_left ?_ (Runs.frame (Runs.await (W₀ := W₀)
    (X := iprop(outs d L I W fo (r + 1) ∗ chunk d L (wiped L I W r 0))) hO hN hsm)
    (R := iprop(idxA d q I ∗ valA d q W ∗ cells d L (slab I (2 * r + cN L)) ∗ (∃ A, vals d L A))))) ?_
  · unfold St At
    iintro ⟨HD, HF, HI, HV, HA, HBe⟩
    isplitl [HD HF]
    · isplitl [HD] <;> iassumption
    isplitl [HI]; · iexact HI
    isplitl [HV]; · iexact HV
    isplitl [HA]; · iexact HA
    iexact HBe
  · unfold St At
    iintro ⟨⟨HD, HS, HO, HC⟩, HI, HV, HA, HBe⟩
    isplitl [HD]; · iexact HD
    isplitl [HS]; · iexact HS
    isplitl [HI]; · iexact HI
    isplitl [HV]; · iexact HV
    isplitl [HO]; · iexact HO
    isplitl [HA]; · iexact HA
    isplitl [HBe]; · iexact HBe
    iexact HC

end Cert.KernelIdeal.Tile

end
-- ==== Proof.TileRun.lean ====
/-
  A tile's whole run: its program walked statement by statement through the stages.
-/
module

public import proofs.«01_k».proof.Proof.Copies
public import Idealize.ShloMosaic.Lib.Exec.Geometry

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable {d : Dev nD} {L : grid1.Coords} {q : PosShare TreeShare}
variable {I : Vec F S16x16x1024 .i32} {W : Vec F S16x16x1024 .f32} {fo : Vec F S16x1048576 .f32}
variable {O : CellTallies nD τ sig (HIx 1)} {W₀ : Waits sig (HIx 1)}

attribute [local irreducible] St Runs

set_option maxRecDepth 65536 in
set_option maxHeartbeats 8000000 in
/-- The tile's program runs through its eight rounds. -/
theorem tile_runs (hO : ∀ g, O g none = 0) :
    Runs d L (St d L q I W fo O W₀ .start) (cc1__sc_scatter L iV (Memref.isWhole_whole _) vV (Memref.isWhole_whole _) oV (Memref.isWhole_whole _) sI (Memref.isWhole_whole _) sV (Memref.isWhole_whole _) sC (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23) ⟨⟩ (St d L q I W fo O W₀ (.wipe 7 16)) := by
  rw [cc1__sc_scatter_eq_skeleton]
  unfold cc1__sc_scatter_skel
  repeat' first
    | with_reducible exact Runs.pure
    | with_reducible eapply Runs.bind
    | (rw [k1_part1_eq_skeleton]; unfold k1_part1_skel)
    | (rw [k1_part2_eq_skeleton]; unfold k1_part2_skel)
    | (rw [k1_part3_eq_skeleton]; unfold k1_part3_skel)
    | (rw [k1_part4_eq_skeleton]; unfold k1_part4_skel)
    | (rw [k1_part5_eq_skeleton]; unfold k1_part5_skel)
    | (rw [k1_part6_eq_skeleton]; unfold k1_part6_skel)
    | (rw [k1_part7_eq_skeleton]; unfold k1_part7_skel)
    | (rw [k1_part8_eq_skeleton]; unfold k1_part8_skel)
    | (rw [k1_part9_eq_skeleton]; unfold k1_part9_skel)
    | (rw [k1_part10_eq_skeleton]; unfold k1_part10_skel)
    | (rw [k1_part11_eq_skeleton]; unfold k1_part11_skel)
    | (rw [k1_part12_eq_skeleton]; unfold k1_part12_skel)
    | (rw [k1_part13_eq_skeleton]; unfold k1_part13_skel)
    | (rw [k1_part14_eq_skeleton]; unfold k1_part14_skel)
    | (rw [k1_part15_eq_skeleton]; unfold k1_part15_skel)
    | (rw [k1_part16_eq_skeleton]; unfold k1_part16_skel)
    | (rw [k1_part17_eq_skeleton]; unfold k1_part17_skel)
    | (rw [k1_part18_eq_skeleton]; unfold k1_part18_skel)
    | (rw [k1_part19_eq_skeleton]; unfold k1_part19_skel)
    | (rw [k1_part20_eq_skeleton]; unfold k1_part20_skel)
    | (rw [k1_part21_eq_skeleton]; unfold k1_part21_skel)
    | (rw [k1_part22_eq_skeleton]; unfold k1_part22_skel)
    | (rw [k1_part23_eq_skeleton]; unfold k1_part23_skel)
    | (rw [k1_part24_eq_skeleton]; unfold k1_part24_skel)
    | (rw [k1_part25_eq_skeleton]; unfold k1_part25_skel)
    | (rw [k1_part26_eq_skeleton]; unfold k1_part26_skel)
    | (rw [k1_part27_eq_skeleton]; unfold k1_part27_skel)
    | (rw [k1_part28_eq_skeleton]; unfold k1_part28_skel)
    | (rw [k1_part29_eq_skeleton]; unfold k1_part29_skel)
    | (rw [k1_part30_eq_skeleton]; unfold k1_part30_skel)
    | (rw [k1_part31_eq_skeleton]; unfold k1_part31_skel)
    | (rw [k1_part32_eq_skeleton]; unfold k1_part32_skel)
    | (rw [k1_part33_eq_skeleton]; unfold k1_part33_skel)
    | (rw [k1_part34_eq_skeleton]; unfold k1_part34_skel)
    | (rw [k1_part35_eq_skeleton]; unfold k1_part35_skel)
    | (rw [k1_part36_eq_skeleton]; unfold k1_part36_skel)
    | (rw [k1_part37_eq_skeleton]; unfold k1_part37_skel)
    | exact addLoop _ _ (by decide) (by decide) (fun _ => rfl) (by intro t; exact ClosedOff.eq.trans rfl)
    | exact wipeLoop _ _ (by decide) (by decide) (fun _ => rfl) (by intro t; exact ClosedOff.eq.trans rfl)
    | exact zeroLoop (by decide) (fun _ => rfl) (by intro t; exact ClosedOff.eq.trans rfl)
    | exact enqI0 (by decide) rfl (ClosedOff.eq.trans rfl)
    | exact enqI _ (by decide) (by decide) rfl (ClosedOff.eq.trans rfl)
    | exact waitI hO _ (by decide) rfl
    | exact enqV _ (by decide) (by decide) rfl (ClosedOff.eq.trans rfl)
    | exact waitV hO _ (by decide) rfl
    | exact enqO _ (by decide) (by decide) rfl (ClosedOff.eq.trans rfl)
    | exact waitO hO _ (by decide) rfl
    | exact Runs.pure

end Cert.KernelIdeal.Tile

end
-- ==== Proof.Tiles.lean ====
/-
  The tiles as the launch theorem asks for them: what each is handed and hands back, its body's triple in the launch's
  form, and the arrays cut between the tiles.
-/
module

public import proofs.«01_k».proof.Proof.TileRun

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A tile's body, in the launch's form -/

section Body

variable {d : Dev nD} {L : grid1.Coords} {q : PosShare TreeShare}
variable {I : Vec F S16x16x1024 .i32} {W : Vec F S16x16x1024 .f32} {fo : Vec F S16x1048576 .f32}

/-- A tile's own memory, but for the three buffers its kernel uses. -/
def bufsBut (d : Dev nD) (L : grid1.Coords) : sProp 𝕄 :=
  bigSep ((((ownRefs (τ := τ) (.scVector (cV L) (jV L))).erase ((Proc.scVector (cV L) (jV L)).devRef cc1_scratch0)).erase
      ((Proc.scVector (cV L) (jV L)).devRef cc1_scratch1)).erase ((Proc.scVector (cV L) (jV L)).devRef cc1_scratch2))
    fun b => iprop(∃ f, ((d, b) : Loc nD τ sig) ↦{fullShare} f)

theorem ownBufs_tile :
    (ownBufs (tile d L) : sProp 𝕄) = iprop((∃ A, cells d L A) ∗ (∃ A, vals d L A) ∗ (∃ A, chunk d L A) ∗ bufsBut d L) := by
  unfold SparseCore.Cfg.ownBufs bufsBut cells vals chunk
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV L) (jV L)) (b := (Proc.scVector (cV L) (jV L)).devRef cc1_scratch2) rfl⟩⟩)]
  rfl

/-- What a tile is handed, and (with all its pieces written) hands back. -/
def tileHas (d : Dev nD) (L : grid1.Coords) (q : PosShare TreeShare) (I : Vec F S16x16x1024 .i32) (W : Vec F S16x16x1024 .f32) (fo : Vec F S16x1048576 .f32) (n : ℕ) : sProp 𝕄 :=
  iprop(idxA d q I ∗ valA d q W ∗ outs d L I W fo n)

theorem tile_body (O : CellTallies nD τ sig (HIx 1)) (W₀ : Waits sig (HIx 1)) (hO : ∀ g, O g none = 0) :
    iprop(levAts (K (F := F)).L (K (F := F)).lev ∗ emp ∗ tileHas d L q I W fo 0
        ∗ scopedBufs (tile d L) ∗ scopedSems0 (tile d L) ∗ owes (tile d L) O W₀)
      ⊢ wp frame (wpE (defs₀ (F := F)) 𝒱₀ (tile d L) none) Set.univ
          (cc1__sc_scatter L iV (Memref.isWhole_whole _) vV (Memref.isWhole_whole _) oV (Memref.isWhole_whole _)
            sI (Memref.isWhole_whole _) sV (Memref.isWhole_whole _) sC (Memref.isWhole_whole _)
            cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15
            cc1_scoped16 cc1_scoped17 cc1_scoped18 cc1_scoped19 cc1_scoped20 cc1_scoped21 cc1_scoped22 cc1_scoped23)
          fun _ => iprop(tileHas d L q I W fo 8 ∗ scopedBufs (tile d L) ∗ scopedSems0 (tile d L)
            ∗ ∃ W', ⌜∀ p ∈ W', p ∈ W₀ ∨ p.2 = none⌝ ∗ owes (tile d L) O W') := by
  rw [(K (F := F)).scopedBufs_V facts d (cV L) (jV L), SparseCore.Cfg.scopedSems0_V (Val := Elt F) d (cV L) (jV L), ownBufs_tile]
  have h := Runs.frame (R := bufsBut d L) (tile_runs (d := d) (L := L) (q := q) (I := I) (W := W) (fo := fo) (W₀ := W₀) hO)
  refine BIBase.Entails.trans ?_ (BIBase.Entails.trans h (wp_mono frame _ _ fun _ => ?_))
  · unfold St At duties tileHas
    iintro ⟨#Hlv, -, ⟨HI, HV, Ho⟩, ⟨HA, HB, HC, HR⟩, HS, HO⟩
    isplitr [HR]
    · isplitl [HO]
      · isplitr; · iexact Hlv
        iexists W₀
        isplitr
        · ipureintro; exact fun p hp => .inl hp
        · iexact HO
      isplitl [HS]; · iexact HS
      isplitl [HI]; · iexact HI
      isplitl [HV]; · iexact HV
      isplitl [Ho]; · iexact Ho
      isplitl [HA]; · iexact HA
      isplitl [HB]; · iexact HB
      iexact HC
    · iexact HR
  · unfold St At duties tileHas
    iintro ⟨-, ⟨⟨-, HO⟩, HS, HI, HV, Ho, HA, HB, HC⟩, HR⟩
    isplitl [HI HV Ho]
    · isplitl [HI]; · iexact HI
      isplitl [HV]; · iexact HV
      iexact Ho
    isplitl [HA HB HC HR]
    · isplitl [HA]; · iexists _; iexact HA
      isplitl [HB]; · iexact HB
      isplitl [HC]; · iexists _; iexact HC
      iexact HR
    isplitl [HS]; · iexact HS
    iexact HO

end Body

/-! ## What the handshakes carry -/

def coordsV (c : Fin (grid1.bound 0)) (s : Fin (grid1.bound 1)) : grid1.Coords :=
  fun | 0 => c | 1 => s | ⟨_ + 2, h⟩ => absurd h (Nat.not_lt.2 (Nat.le_add_left _ _))

/-- Tile `i` of core `c`'s share of the arrays all tiles read. -/
def shareOf (c : Fin 2) (i : Fin 16) : PosShare TreeShare :=
  Transfers.dealOf (Transfers.dealOf fullShare (Finset.univ : Finset (Fin 2)) c) (Finset.univ : Finset (Fin 16)) i

variable (I : Dev nD → Vec F S16x16x1024 .i32) (W : Dev nD → Vec F S16x16x1024 .f32) (fo : Dev nD → Vec F S16x1048576 .f32)

/-- What tile `i` of core `c` holds with `n` of its pieces written. -/
def tileAt (d : Dev nD) (c : Fin 2) (i : Fin 16) (n : ℕ) : sProp 𝕄 :=
  tileHas d (coordsV c i) (shareOf c i) (I d) (W d) (fo d) n

def P : (K (F := F)).Pay (nD := nD) (Val := Elt F) (Name := ℕ) (U := UU) where
  st := fun q d c => match q with | 0 => bigSep Finset.univ fun i : Fin 16 => tileAt I W fo d c i 0
  dn := fun q d c => match q with | 0 => bigSep Finset.univ fun i : Fin 16 => tileAt I W fo d c i 8
  go := fun q d c i => match q with | 0 => tileAt I W fo d c i 0
  td := fun q d c i => match q with | 0 => tileAt I W fo d c i 8
  x := fun _ _ => iprop(emp)

instance tileAt_storable (d : Dev nD) (c : Fin 2) (i : Fin 16) (n : ℕ) : BI.Storable (upEmb : UEmb _ 𝕄) (tileAt I W fo d c i n) := by
  unfold tileAt tileHas idxA valA outs; infer_instance

instance P_storable : (P I W fo).IsStorable where
  st q d c := match q with
    | 0 => (inferInstance : BI.Storable (upEmb : UEmb _ 𝕄) (bigSep Finset.univ fun i : Fin 16 => tileAt I W fo d c i 0))
  dn q d c := match q with
    | 0 => (inferInstance : BI.Storable (upEmb : UEmb _ 𝕄) (bigSep Finset.univ fun i : Fin 16 => tileAt I W fo d c i 8))
  go q d c i := match q with | 0 => tileAt_storable I W fo d c i 0
  td q d c i := match q with | 0 => tileAt_storable I W fo d c i 8

/-! ## The launch theorem's obligations -/

theorem defs₀_vector (c : Fin τ.nSC) (s : Fin τ.nSub) :
    defs₀ (F := F) (.scVector c s) 1 ()
      = SparseCore.onTile hcore1 hsub1 (fun c s => cc1__sc_scatter (coordsV c s)
          iV (Memref.isWhole_whole _) vV (Memref.isWhole_whole _) oV (Memref.isWhole_whole _)
          sI (Memref.isWhole_whole _) sV (Memref.isWhole_whole _) sC (Memref.isWhole_whole _)
            cc1_scoped0 cc1_scoped1 cc1_scoped2 cc1_scoped3 cc1_scoped4 cc1_scoped5 cc1_scoped6 cc1_scoped7
            cc1_scoped8 cc1_scoped9 cc1_scoped10 cc1_scoped11 cc1_scoped12 cc1_scoped13 cc1_scoped14 cc1_scoped15
            cc1_scoped16 cc1_scoped17 cc1_scoped18 cc1_scoped19 cc1_scoped20 cc1_scoped21 cc1_scoped22 cc1_scoped23) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
theorem tileObl : (K (F := F)).TileObl (D (F := F)) 𝒱 (P I W fo) v₀ 0 := by
  intro d c i O W₀ hO _ _
  simp only [show (P I W fo).ox = fun _ _ => 0 from rfl, add_zero]
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact BIBase.Entails.trans (tile_body (d := d) (L := coordsV ⟨_, hc.1⟩ ⟨_, hc.2⟩) (q := shareOf c i) (I := I d) (W := W d) (fo := fo d) O W₀ hO)
    (wp_mono frame _ _ fun _ => obl_post)

theorem vecSplit : (K (F := F)).VecSplit' (P I W fo) 0 := by
  intro d c
  show (bigSep Finset.univ fun i : Fin 16 => tileAt I W fo d c i 0) ⊢ |={Set.univ}=> iprop(
      (bigSep Finset.univ fun i : Fin 16 => tileAt I W fo d c i 0)
      ∗ ((bigSep Finset.univ fun i : Fin 16 => tileAt I W fo d c i 8) -∗ (bigSep Finset.univ fun i : Fin 16 => tileAt I W fo d c i 8)))
  iintro H; imodintro
  isplitl [H]; · iexact H
  iintro H; iexact H

/-! ## The arrays cut between the tiles -/

/-- The rows a core writes, and its columns in them that a tile writes. -/
def coreRows (c : Fin 2) : Finset S16x1048576.Idx := Finset.univ.filter fun y => (y 0).val % 2 = c.val
def tileRows (c : Fin 2) (i : Fin 16) : Finset S16x1048576.Idx := (coreRows c).filter fun y => (y 1).val / 65536 = i.val

theorem mem_tileRows {c : Fin 2} {i : Fin 16} {y : S16x1048576.Idx} :
    y ∈ tileRows c i ↔ (y 0).val % 2 = c.val ∧ (y 1).val / 65536 = i.val := by
  simp only [tileRows, coreRows, Finset.mem_filter, Finset.mem_univ, true_and]

omit [FloatOps F] in
theorem cut_read {ℓ : Loc nD τ sig} (f : Buf (Elt F) ℓ) :
    (ℓ ↦{fullShare} f : sProp 𝕄) = bigSep Finset.univ fun c : Fin 2 => bigSep Finset.univ fun i : Fin 16 => ℓ ↦{shareOf c i} f := by
  rw [Transfers.pointsTo_deal (Finset.univ : Finset (Fin 2)) Finset.univ_nonempty fullShare]
  exact bigSep_congr fun c _ => Transfers.pointsTo_deal (Finset.univ : Finset (Fin 16)) Finset.univ_nonempty _

omit [FloatOps F] in
/-- A set held is its parts held. -/
theorem cut_parts {ι : Type} [Fintype ι] [DecidableEq ι] {ℓ : Loc nD τ sig} {A : Finset (Idx ℓ)} (B : ι → Finset (Idx ℓ)) (f : Buf (Elt F) ℓ)
    (hd : ∀ i j, i ≠ j → Disjoint (B i) (B j)) (hA : Finset.univ.biUnion B = A) :
    (ℓ ↦[A]{fullShare} f : sProp 𝕄) = bigSep Finset.univ fun i => ℓ ↦[B i]{fullShare} f := by
  rw [← pointsTo_biUnion Finset.univ B (fun i _ j _ h => hd i j h), hA]

omit [FloatOps F] in
theorem cut_out (d : Dev nD) (f : Vec F S16x1048576 .f32) :
    (oLoc d ↦{fullShare} f : sProp 𝕄)
      = bigSep Finset.univ fun c : Fin 2 => bigSep Finset.univ fun i : Fin 16 => bigSep Finset.univ fun r : Fin 8 =>
          oLoc d ↦[piece c.val i.val r.val]{fullShare} f := by
  have h0 : ∀ y : S16x1048576.Idx, (y 0).val < 16 := fun y => (y 0).isLt
  have h1 : ∀ y : S16x1048576.Idx, (y 1).val < 1048576 := fun y => (y 1).isLt
  rw [cut_parts (ℓ := oLoc d) (fun c : Fin 2 => coreRows c) f (by
      intro c c' hne
      refine Finset.disjoint_left.2 fun y hy hy' => hne (Fin.ext ?_)
      exact (Finset.mem_filter.1 hy).2.symm.trans (Finset.mem_filter.1 hy').2) (by
      ext y
      simp only [Finset.mem_biUnion, Finset.mem_univ, true_and, coreRows, Finset.mem_filter, iff_true]
      exact ⟨⟨(y 0).val % 2, by omega⟩, rfl⟩)]
  refine bigSep_congr fun c _ => ?_
  rw [cut_parts (ℓ := oLoc d) (fun i : Fin 16 => tileRows c i) f (by
      intro i i' hne
      refine Finset.disjoint_left.2 fun y hy hy' => hne (Fin.ext ?_)
      exact (Finset.mem_filter.1 hy).2.symm.trans (Finset.mem_filter.1 hy').2) (by
      ext y
      simp only [Finset.mem_biUnion, Finset.mem_univ, true_and, tileRows, Finset.mem_filter]
      constructor
      · rintro ⟨i, h, -⟩; exact h
      · intro h; exact ⟨⟨(y 1).val / 65536, by have := h1 y; omega⟩, h, rfl⟩)]
  refine bigSep_congr fun i _ => ?_
  rw [cut_parts (ℓ := oLoc d) (fun r : Fin 8 => piece c.val i.val r.val) f (by
      intro r r' hne
      refine Finset.disjoint_left.2 fun y hy hy' => hne (Fin.ext ?_)
      have := (mem_piece.1 hy).1
      have := (mem_piece.1 hy').1
      omega) (by
      ext y
      have hy := h0 y
      rw [mem_tileRows, Finset.mem_biUnion]
      constructor
      · intro h
        obtain ⟨r, -, hr⟩ := h
        have hp := mem_piece.1 hr
        exact ⟨by omega, hp.2⟩
      · intro h
        refine ⟨⟨(y 0).val / 2, by omega⟩, Finset.mem_univ _, mem_piece.2 ⟨?_, h.2⟩⟩
        show (y 0).val = 2 * ((y 0).val / 2) + c.val
        omega)]

theorem tilesCut (d : Dev nD) (g : Vec F S16x1048576 .f32) (n : ℕ) (hg : ∀ r : Fin 8, (if r.val < n then scattered (I d) (W d) else fo d) = g) :
    (bigSep Finset.univ fun c : Fin 2 => bigSep Finset.univ fun i : Fin 16 => tileAt I W fo d c i n)
      = (iprop((iLoc d ↦{fullShare} I d) ∗ (vLoc d ↦{fullShare} W d) ∗ oLoc d ↦{fullShare} g) : sProp 𝕄) := by
  rw [cut_read (ℓ := iLoc d) (I d), cut_read (ℓ := vLoc d) (W d), cut_out d g, ← bigSep_sep', ← bigSep_sep']
  refine bigSep_congr fun c _ => ?_
  rw [← bigSep_sep', ← bigSep_sep']
  refine bigSep_congr fun i _ => ?_
  unfold tileAt tileHas idxA valA outs
  simp only [hg]
  rfl

theorem st_eq (d : Dev nD) :
    (bigSep Finset.univ fun c : Fin ((K (F := F)).nCore 0) => (P I W fo).st 0 d c)
      = iprop((iLoc d ↦{fullShare} I d) ∗ (vLoc d ↦{fullShare} W d) ∗ oLoc d ↦{fullShare} fo d) :=
  tilesCut I W fo d (fo d) 0 fun _ => if_neg (Nat.not_lt_zero _)

theorem dn_eq (d : Dev nD) :
    (bigSep Finset.univ fun c : Fin ((K (F := F)).nCore 0) => (P I W fo).dn 0 d c)
      = iprop((iLoc d ↦{fullShare} I d) ∗ (vLoc d ↦{fullShare} W d) ∗ oLoc d ↦{fullShare} scattered (I d) (W d)) :=
  tilesCut I W fo d _ 8 fun r => if_pos r.isLt

end Cert.KernelIdeal.Tile

end
-- ==== Proof.Planes.lean ====
/-
  What the TensorCore part computes from one batch's block: the similarity matrix, the five rounds of "take the largest
  entry of each row and strike it out", and the two planes of sixteen rows (cells and amounts) the SparseCore part reads.
-/
module

public import proofs.«01_k».proof.Proof.Setup
public import Idealize.ShloMosaic.Lib.Pipeline.FrameBody

@[expose] public section

noncomputable section

namespace Cert.KernelIdeal.Top

open Cert.KernelIdeal Cert.KernelIdeal.Gen
open Idealize.ShloMosaic

variable {F : FTy → Type} [FloatOps F]

/-- Time step `0`, as a rectangle of the block; and the eleven others. -/
abbrev step0 : Rect S12x1x1024x64 := Rect.unit (s := S12x1x1024x64) ![0, 0, 0, 0] S1x1x1024x64.size inb_S12x1x1024x64_S1x1x1024x64_0_0_0_0
abbrev step1 : Rect S12x1x1024x64 := Rect.unit (s := S12x1x1024x64) ![1, 0, 0, 0] S1x1x1024x64.size inb_S12x1x1024x64_S1x1x1024x64_1_0_0_0
abbrev step2 : Rect S12x1x1024x64 := Rect.unit (s := S12x1x1024x64) ![2, 0, 0, 0] S1x1x1024x64.size inb_S12x1x1024x64_S1x1x1024x64_2_0_0_0
abbrev step3 : Rect S12x1x1024x64 := Rect.unit (s := S12x1x1024x64) ![3, 0, 0, 0] S1x1x1024x64.size inb_S12x1x1024x64_S1x1x1024x64_3_0_0_0
abbrev step4 : Rect S12x1x1024x64 := Rect.unit (s := S12x1x1024x64) ![4, 0, 0, 0] S1x1x1024x64.size inb_S12x1x1024x64_S1x1x1024x64_4_0_0_0
abbrev step5 : Rect S12x1x1024x64 := Rect.unit (s := S12x1x1024x64) ![5, 0, 0, 0] S1x1x1024x64.size inb_S12x1x1024x64_S1x1x1024x64_5_0_0_0
abbrev step6 : Rect S12x1x1024x64 := Rect.unit (s := S12x1x1024x64) ![6, 0, 0, 0] S1x1x1024x64.size inb_S12x1x1024x64_S1x1x1024x64_6_0_0_0
abbrev step7 : Rect S12x1x1024x64 := Rect.unit (s := S12x1x1024x64) ![7, 0, 0, 0] S1x1x1024x64.size inb_S12x1x1024x64_S1x1x1024x64_7_0_0_0
abbrev step8 : Rect S12x1x1024x64 := Rect.unit (s := S12x1x1024x64) ![8, 0, 0, 0] S1x1x1024x64.size inb_S12x1x1024x64_S1x1x1024x64_8_0_0_0
abbrev step9 : Rect S12x1x1024x64 := Rect.unit (s := S12x1x1024x64) ![9, 0, 0, 0] S1x1x1024x64.size inb_S12x1x1024x64_S1x1x1024x64_9_0_0_0
abbrev step10 : Rect S12x1x1024x64 := Rect.unit (s := S12x1x1024x64) ![10, 0, 0, 0] S1x1x1024x64.size inb_S12x1x1024x64_S1x1x1024x64_10_0_0_0
abbrev step11 : Rect S12x1x1024x64 := Rect.unit (s := S12x1x1024x64) ![11, 0, 0, 0] S1x1x1024x64.size inb_S12x1x1024x64_S1x1x1024x64_11_0_0_0
/-- The whole of a block of planes. -/
abbrev wholePlanes : Rect S1x16x1024 := Rect.unit (s := S1x16x1024) ![0, 0, 0] S1x16x1024.size inb_S1x16x1024_S1x16x1024_0_0_0

/-! ## The similarity matrix -/

/-- One time step's features, node by node. -/
def slabOf (v : Vec F S1x1x1024x64 .f32) : FVec F S1024x64 .f32 :=
  shapeCast S1024x64 v shapeCasts_S1x1x1024x64_S1024x64

/-- A node's features at all twelve time steps in one row. -/
def feat (x : Vec F S12x1x1024x64 .f32) : FVec F S1024x768 .f32 :=
  concatenate S1024x768 1
    [⟨S1024x64, slabOf (View.ld x step0)⟩, ⟨S1024x64, slabOf (View.ld x step1)⟩, ⟨S1024x64, slabOf (View.ld x step2)⟩,
      ⟨S1024x64, slabOf (View.ld x step3)⟩, ⟨S1024x64, slabOf (View.ld x step4)⟩, ⟨S1024x64, slabOf (View.ld x step5)⟩,
      ⟨S1024x64, slabOf (View.ld x step6)⟩, ⟨S1024x64, slabOf (View.ld x step7)⟩, ⟨S1024x64, slabOf (View.ld x step8)⟩,
      ⟨S1024x64, slabOf (View.ld x step9)⟩, ⟨S1024x64, slabOf (View.ld x step10)⟩, ⟨S1024x64, slabOf (View.ld x step11)⟩]
    concatenates_S1024x64_S1024x64_S1024x64_S1024x64_S1024x64_S1024x64_S1024x64_S1024x64_S1024x64_S1024x64_S1024x64_S1024x64_S1024x768_d1

/-- Each row's sum of squares, as a column. -/
def sqNorm (v : FVec F S1024x768 .f32) : FVec F S1024x1 .f32 :=
  shapeCast S1024x1 (multiReduction .add [1] S1024 (mulf v v) 0x00000000#32 reduces_S1024x768_S1024 (.inl rfl) rfl)
    shapeCasts_S1024_S1024x1

/-- The rows scaled to length one. -/
def unitRows (v : FVec F S1024x768 .f32) : FVec F S1024x768 .f32 :=
  mulf v (broadcastTo S1024x768 (rsqrt (sqNorm v)) broadcasts_S1024x1_S1024x768)

/-- All inner products of scaled rows. -/
def simOf (x : Vec F S12x1x1024x64 .f32) : FVec F S1024x1024 .f32 :=
  matmul dot_S1024x768_S1024x768_S1024x1024_1_1_0_0_n_n none (unitRows (feat x)) (unitRows (feat x))
    (constant S1024x1024 .f32 0x00000000#32)

/-! ## The rounds -/

/-- The column number, at every entry; the row number, down a column. -/
def colNo : IVec S1024x1024 32 := iota .tc S1024x1024 32 [1] iota_S1024x1024_d1_w32
def rowNo : IVec S1024x1 32 := iota .tc S1024x1 32 [0] iota_S1024x1_d0_w32

/-- Each row's largest entry. -/
def best (w : FVec F S1024x1024 .f32) : FVec F S1024x1 .f32 :=
  shapeCast S1024x1 (multiReduction .maximumf [1] S1024 w 0xFF800000#32 reduces_S1024x1024_S1024 (.inl rfl) rfl)
    shapeCasts_S1024_S1024x1

/-- The lowest column at which each row reaches its largest entry. -/
def pick (w : FVec F S1024x1024 .f32) : IVec S1024x1 32 :=
  shapeCast S1024x1
    (multiReductionI .minsi [1] S1024
      (select (cmpf .oge w (broadcastTo S1024x1024 (best w) broadcasts_S1024x1_S1024x1024)) colNo (broadcast S1024x1024 2048#32))
      2147483647#32 reduces_S1024x1024_S1024 rfl)
    shapeCasts_S1024_S1024x1

/-- The matrix with each row's picked entry put out of reach. -/
def strike (w : FVec F S1024x1024 .f32) : FVec F S1024x1024 .f32 :=
  select (cmpi .eq colNo (broadcastTo S1024x1024 (pick w) broadcasts_S1024x1_S1024x1024))
    (broadcast S1024x1024 (Scalar.ofBits .f32 0xFF800000#32)) w

/-- The matrix after `k` rounds. -/
def work (x : Vec F S12x1x1024x64 .f32) : ℕ → FVec F S1024x1024 .f32
  | 0 => simOf x
  | k + 1 => strike (work x k)

/-- Half the leaky rectification. -/
def halfLeaky (m : FVec F S1024x1 .f32) : FVec F S1024x1 .f32 :=
  mulf (select (cmpf .oge m (broadcast S1024x1 (Scalar.ofBits .f32 0x00000000#32))) m
      (mulf (broadcast S1024x1 (Scalar.ofBits .f32 0x3C23D70A#32)) m))
    (broadcast S1024x1 (Scalar.ofBits .f32 0x3F000000#32))

/-- Round `k`'s columns and amounts. -/
def colAt (x : Vec F S12x1x1024x64 .f32) (k : ℕ) : IVec S1024x1 32 := pick (work x k)
def amt (x : Vec F S12x1x1024x64 .f32) (k : ℕ) : FVec F S1024x1 .f32 := halfLeaky (best (work x k))

/-! ## The planes -/

/-- The flat cell of (row, `j`) and of (`j`, row). -/
def cellFwd (j : IVec S1024x1 32) : IVec S1024x1 32 := addi (muli rowNo (broadcast S1024x1 1024#32)) j
def cellBwd (j : IVec S1024x1 32) : IVec S1024x1 32 := addi (muli j (broadcast S1024x1 1024#32)) rowNo

/-- Whether a row's first pick is the row itself. -/
def onDiag (x : Vec F S12x1x1024x64 .f32) : IVec S1024x1 1 := cmpi .eq (colAt x 0) rowNo

/-- The first amounts, doubled on the diagonal where the cell and its mirror are one; and the mirror's, nothing there. -/
def amtFwd0 (x : Vec F S12x1x1024x64 .f32) : FVec F S1024x1 .f32 := select (onDiag x) (addf (amt x 0) (amt x 0)) (amt x 0)
def amtBwd0 (x : Vec F S12x1x1024x64 .f32) : FVec F S1024x1 .f32 :=
  select (onDiag x) (broadcast S1024x1 (Scalar.ofBits .f32 0x00000000#32)) (amt x 0)

/-- Sixteen columns side by side. -/
def beside {α : Type} (v : Fin 16 → S1024x1.Idx → α) : S1024x16.Idx → α :=
  concatenate S1024x16 1
    [⟨S1024x1, v 0⟩, ⟨S1024x1, v 1⟩, ⟨S1024x1, v 2⟩, ⟨S1024x1, v 3⟩, ⟨S1024x1, v 4⟩, ⟨S1024x1, v 5⟩, ⟨S1024x1, v 6⟩,
      ⟨S1024x1, v 7⟩, ⟨S1024x1, v 8⟩, ⟨S1024x1, v 9⟩, ⟨S1024x1, v 10⟩, ⟨S1024x1, v 11⟩, ⟨S1024x1, v 12⟩, ⟨S1024x1, v 13⟩,
      ⟨S1024x1, v 14⟩, ⟨S1024x1, v 15⟩]
    concatenates_S1024x1_S1024x1_S1024x1_S1024x1_S1024x1_S1024x1_S1024x1_S1024x1_S1024x1_S1024x1_S1024x1_S1024x1_S1024x1_S1024x1_S1024x1_S1024x1_S1024x16_d1

/-- Sixteen columns as the sixteen rows of a block of planes. -/
def asPlanes {α : Type} (v : Fin 16 → S1024x1.Idx → α) : S1x16x1024.Idx → α :=
  shapeCast S1x16x1024 (transpose S16x1024 [1, 0] (beside v) transposes_S1024x16_p1_0_S16x1024)
    shapeCasts_S16x1024_S1x16x1024

/-- The sixteen columns of cells: five forward, their five mirrors, six unused. -/
def cellCols (x : Vec F S12x1x1024x64 .f32) : Fin 16 → IVec S1024x1 32 :=
  ![cellFwd (colAt x 0), cellFwd (colAt x 1), cellFwd (colAt x 2), cellFwd (colAt x 3), cellFwd (colAt x 4),
    cellBwd (colAt x 0), cellBwd (colAt x 1), cellBwd (colAt x 2), cellBwd (colAt x 3), cellBwd (colAt x 4),
    broadcast S1024x1 0#32, broadcast S1024x1 0#32, broadcast S1024x1 0#32, broadcast S1024x1 0#32, broadcast S1024x1 0#32,
    broadcast S1024x1 0#32]

/-- The sixteen columns of amounts, of the first forward and backward one and the four that serve both ways. -/
def sixteen (a p q r s b : FVec F S1024x1 .f32) : Fin 16 → FVec F S1024x1 .f32 :=
  ![a, p, q, r, s, b, p, q, r, s,
    broadcast S1024x1 (Scalar.ofBits .f32 0x00000000#32), broadcast S1024x1 (Scalar.ofBits .f32 0x00000000#32),
    broadcast S1024x1 (Scalar.ofBits .f32 0x00000000#32), broadcast S1024x1 (Scalar.ofBits .f32 0x00000000#32),
    broadcast S1024x1 (Scalar.ofBits .f32 0x00000000#32), broadcast S1024x1 (Scalar.ofBits .f32 0x00000000#32)]

theorem congr_sixteen {a a' p p' q q' r r' s s' b b' : FVec F S1024x1 .f32} (ha : a = a') (hp : p = p') (hq : q = q')
    (hr : r = r') (hs : s = s') (hb : b = b') : sixteen a p q r s b = sixteen a' p' q' r' s' b' := by
  subst ha hp hq hr hs hb; rfl

/-- The sixteen columns of amounts. -/
def amtCols (x : Vec F S12x1x1024x64 .f32) : Fin 16 → FVec F S1024x1 .f32 :=
  sixteen (amtFwd0 x) (amt x 1) (amt x 2) (amt x 3) (amt x 4) (amtBwd0 x)

/-- The block of cells and the block of amounts. -/
def cellPlanes (x : Vec F S12x1x1024x64 .f32) : Vec F S1x16x1024 .i32 := asPlanes (cellCols x)
def amtPlanes (x : Vec F S12x1x1024x64 .f32) : Vec F S1x16x1024 .f32 := asPlanes (amtCols x)

/-! ## The whole arrays -/

/-- One batch of the input, as a block. -/
def batchOf (X : Vec F S12x16x1024x64 .f32) (b : Fin 16) : Vec F S12x1x1024x64 .f32 :=
  fun y => X (ValueIdx.ix4 (y 0 : Fin 12) b (y 2 : Fin 1024) (y 3 : Fin 64))

/-- All batches' cells and amounts. -/
def cellsOf (X : Vec F S12x16x1024x64 .f32) : Vec F S16x16x1024 .i32 :=
  fun y => cellPlanes (batchOf X (y 0)) (ValueIdx.ix3 (0 : Fin 1) (y 1 : Fin 16) (y 2 : Fin 1024))
def amtsOf (X : Vec F S12x16x1024x64 .f32) : Vec F S16x16x1024 .f32 :=
  fun y => amtPlanes (batchOf X (y 0)) (ValueIdx.ix3 (0 : Fin 1) (y 1 : Fin 16) (y 2 : Fin 1024))

end Cert.KernelIdeal.Top

end
-- ==== Proof.TopBody.lean ====
/-
  The TensorCore part's body: handed a block of the input and two blocks to fill, it leaves the planes of cells and of
  amounts in them.
-/
module

public import proofs.«01_k».proof.Proof.Planes
public import Idealize.ShloMosaic.Lib.Tactic

@[expose] public section

-- the covering of a block of planes by one store is decided along its long axis
set_option maxRecDepth 16384

noncomputable section

namespace Cert.KernelIdeal.Top

open Cert.KernelIdeal Cert.KernelIdeal.Gen Cert.KernelIdeal.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- One store over the whole block covers it. -/
theorem covered {e : EltTy} (p : Vec F S1x16x1024 e) (y : S1x16x1024.Idx) :
    ∃ q ∈ ([⟨wholePlanes, p⟩] : List (View.Piece (Elt F) S1x16x1024 e)), y ∈ q.1.set :=
  View.cover_of_tiled [⟨wholePlanes, p⟩] S1x16x1024.size (by rfl) y

/-- What a block holds after one store over all of it is what was stored. -/
theorem read_stored {e : EltTy} (v : View sig .tc .vmem S1x16x1024 e) (f : v.ty.Contents (Elt F)) (p : Vec F S1x16x1024 e) :
    v.read (Elt F) (v.writes (Elt F) f [⟨wholePlanes, p⟩]) = p := by
  rw [View.read_writes_eq_canon _ _ _ (covered p)]
  exact View.canon_unit_zero (by decide) _ p

/-- The printed block of amounts, in its columns. -/
theorem amt_planes (p q r s t u : FVec F S1024x1 .f32) :
    k0_pay2 p q r s t u = asPlanes (sixteen t p q r s u) := rfl

set_option maxHeartbeats 1000000 in
/-- The body's triple. -/
theorem body_triple (d : Dev nD) (E : Set ℕ) (i : grid0.Coords)
    (a : Memref sig .tc .vmem S12x1x1024x64 .f32) (ha : a.IsWhole)
    (b : Memref sig .tc .vmem S1x16x1024 .i32) (hb : b.IsWhole)
    (c : Memref sig .tc .vmem S1x16x1024 .f32) (hc : c.IsWhole)
    (x : Vec F S12x1x1024x64 .f32) (Q : PUnit → sProp 𝕄) :
    iprop(owns (d : Thread nD τ) a fullShare x ∗ (∃ v, owns (d : Thread nD τ) b fullShare v) ∗ (∃ v, owns (d : Thread nD τ) c fullShare v)
        ∗ (iprop(owns (d : Thread nD τ) a fullShare x ∗ owns (d : Thread nD τ) b fullShare (cellPlanes x)
            ∗ owns (d : Thread nD τ) c fullShare (amtPlanes x)) -∗ Q ⟨⟩))
      ⊢ wp frame (wpE (defs₀ (F := F)) 𝒱₀ (d : Thread nD τ) none) E (cc0__topk_body i a ha b hb c hc) Q := by
  simp only [cc0__topk_body_eq_skeleton]; unfold cc0__topk_body_skel
  simp only [k0_part1_eq_skeleton, k0_part2_eq_skeleton, k0_part3_eq_skeleton, k0_part4_eq_skeleton]
  unfold owns
  iintro ⟨⟨%f, %hf, Ha⟩, ⟨%vb, %fb, -, Hb⟩, ⟨%vc, %fc, -, Hc⟩, Hk⟩
  subst hf
  sl_exec
  sl_step
  iapply Hk
  isplitl [Ha]
  · iexists f; isplitr; · ipureintro; rfl
    iexact Ha
  isplitl [Hb]
  · iexists _; isplitr
    swap; · iexact Hb
    ipureintro
    refine (read_stored _ _ _).trans ?_
    rfl
  iexists _; isplitr
  swap; · iexact Hc
  ipureintro
  refine (read_stored _ _ _).trans ?_
  refine (amt_planes _ _ _ _ _ _).trans (congrArg asPlanes ?_)
  refine congr_sixteen ?_ ?_ ?_ ?_ ?_ ?_
  · rfl
  · rfl
  · rfl
  · rfl
  · rfl
  · rfl

end Cert.KernelIdeal.Top

end
-- ==== Proof.Region.lean ====
/-
  The TensorCore part's region: the pipeline over the sixteen batches, entered while the core still owes the SparseCores
  their start, and what the two arrays of planes hold when it is left.
-/
module

public import proofs.«01_k».proof.Proof.TopBody
public import proofs.«01_k».proof.Proof.Gen.KernelIdeal.Launch
public import proofs.«01_k».proof.Proof.Gen.KernelIdeal.Points
public import Idealize.ShloMosaic.Lib.Pipeline.ValueKit.Geometry
public import Idealize.ShloMosaic.Lib.Pipeline.RegionsLoop

@[expose] public section

noncomputable section

namespace Cert.KernelIdeal.Top

open Cert.KernelIdeal Cert.KernelIdeal.Gen Cert.KernelIdeal.Tile
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-- What the core's unscoped buffers hold when the region is entered. -/
abbrev Held (F : FTy → Type) : Type := (d : Dev nD) → (b : Ref sig .tc) → Buf (Elt F) ((d : Thread nD τ).loc b)

variable (V : Held F)

/-- The input array at entry, and batch `t` of it as the pipeline stages it. -/
abbrev inputOf (d : Dev nD) : Vec F S12x16x1024x64 .f32 := V d main_arg0
abbrev staged (d : Dev nD) (t : Fin cfg0.N) : Vec F S12x1x1024x64 .f32 :=
  ((cfg0.win 0).blk t).view.read (Elt F) (V d main_arg0)

/-- The pairs a core may have recorded before the SparseCore call: those at the lowest level. -/
def lowPairs (d : Dev nD) : Set (SemLoc sig × HIx 1) := {p | (K (F := F)).lev (T d, p.1) p.2 ≤ 0}

/-- The region's proof data. -/
def dat (d : Dev nD) : Dat τ (Elt F) (HIx 1) ℕ UU ℕ cfg0 d where
  A w := V d (Pipeline.arrRef spec0 w)
  after w t := match w with
    | ⟨0, _⟩ => staged V d t
    | ⟨1, _⟩ => cellPlanes (staged V d t)
    | ⟨2, _⟩ => amtPlanes (staged V d t)
  Φ _ := Pipeline.scopedRest (Ix := HIx 1) (Name := ℕ) (U := UU) (Lvl := ℕ) (Val := Elt F) spec0 d
  q _ := fullShare
  owed _ := (K (F := F)).Otc d 0
  recorded _ := lowPairs (F := F) d

abbrev dats (_ : Fin 1) (d : Dev nD) : Dat τ (Elt F) (HIx 1) ℕ UU ℕ cfg0 d := dat V d

theorem A_eq (d : Dev nD) (w : Fin cfg0.W) : (dat V d).A w = V d (Pipeline.arrRef spec0 w) := by dsimp only [dat]
theorem after_in (d : Dev nD) (t : Fin cfg0.N) : (dat V d).after 0 t = staged V d t := by dsimp only [dat]
theorem after_cells (d : Dev nD) (t : Fin cfg0.N) : (dat V d).after 1 t = cellPlanes (staged V d t) := by dsimp only [dat]
theorem after_amts (d : Dev nD) (t : Fin cfg0.N) : (dat V d).after 2 t = amtPlanes (staged V d t) := by dsimp only [dat]

/-- The input's buffer holds its batch when the body runs. -/
theorem before_in (d : Dev nD) (t : Fin cfg0.N) (x) : (dat V d).before 0 t x = staged V d t :=
  ((dat V d).before_in_eq_fetched 0 rfl (fun _ => rfl) (fun _ _ _ => rfl)
    (fun t => by rw [after_in]; unfold Dat.blockOf; rw [A_eq]) t x).trans
    (by unfold Dat.fetched Dat.blockOf; rw [A_eq]; try rfl)

/-! ## The body at a point -/

def before (d : Dev nD) (t : Fin cfg0.N) : sProp 𝕄 :=
  iprop((dat V d).Φ t.castSucc ∗ (dat V d).owesAt none t.castSucc
    ∗ (∃ x, owns (d : Thread nD τ) (st0_0 t) fullShare ((dat V d).before 0 t x))
    ∗ (∃ x, owns (d : Thread nD τ) (st0_1 t) fullShare ((dat V d).before 1 t x))
    ∗ (∃ x, owns (d : Thread nD τ) (st0_2 t) fullShare ((dat V d).before 2 t x)))

def after (d : Dev nD) (t : Fin cfg0.N) : sProp 𝕄 :=
  iprop((dat V d).Φ t.succ ∗ (dat V d).owesAt none t.succ
    ∗ owns (d : Thread nD τ) (st0_0 t) fullShare ((dat V d).after 0 t)
    ∗ owns (d : Thread nD τ) (st0_1 t) fullShare ((dat V d).after 1 t)
    ∗ owns (d : Thread nD τ) (st0_2 t) fullShare ((dat V d).after 2 t))

theorem point (d : Dev nD) (t : Fin cfg0.N) :
    before V d t ⊢ wp frame (wpE (defs₀ (F := F)) 𝒱₀ (d : Thread nD τ) none) Set.univ (bodyAt0 t) (fun _ => after V d t) := by
  unfold before after bodyAt0
  simp only [before_in]
  rw [show (dat V d).Φ t.succ = (dat V d).Φ t.castSucc from rfl,
    show (dat V d).owesAt none t.succ = (dat V d).owesAt none t.castSucc from rfl, after_in, after_cells, after_amts]
  iintro ⟨HΦ, HO, ⟨%x0, H0⟩, ⟨%x1, H1⟩, ⟨%x2, H2⟩⟩
  iapply (body_triple d Set.univ (grid0.coords t) _ _ _ _ _ _ (staged V d t) _)
  isplitl [H0]; · iexact H0
  isplitl [H1]; · iexists _; iexact H1
  isplitl [H2]; · iexists _; iexact H2
  iintro ⟨H0, H1, H2⟩
  isplitl [HΦ]; · iexact HΦ
  isplitl [HO]; · iexact HO
  isplitl [H0]; · iexact H0
  isplitl [H1] <;> iassumption

theorem defs₀_tc (t : Fin cfg0.N) :
    defs₀ (F := F) .tc cfg0.body (cfg0.bodyArgs t (cfg0.slots t)) = bodyAt0 t := by
  unfold defs₀; rfl

theorem obligation (d : Dev nD) : BodyObligation (dat V d) (defs₀ (F := F)) 𝒱₀ none Set.univ := fun t => by
  rw [bigSep_W0, bigSep_W0, defs₀_tc]
  exact triple_restated (point V d t) rfl .rfl fun _ => .rfl

/-! ## What the arrays of planes hold afterwards -/

theorem coord_cells : ∀ t : Fin cfg0.N, win0_1.index t 0 = t.val ∧ win0_1.index t 1 = 0 ∧ win0_1.index t 2 = 0 := by
  decide +kernel
theorem coord_amts : ∀ t : Fin cfg0.N, win0_2.index t 0 = t.val ∧ win0_2.index t 1 = 0 ∧ win0_2.index t 2 = 0 := by
  decide +kernel
theorem coord_in : ∀ t : Fin cfg0.N,
    win0_0.index t 0 = 0 ∧ win0_0.index t 1 = t.val ∧ win0_0.index t 2 = 0 ∧ win0_0.index t 3 = 0 := by
  decide +kernel

/-- The batch a point stages. -/
theorem staged_eq (d : Dev nD) (t : Fin cfg0.N) : staged V d t = batchOf (inputOf V d) (t.cast rfl) := by
  funext y
  have hy : (y 1).val = 0 := by have : (y 1).val < 1 := (y 1).isLt; omega
  obtain ⟨h0, h1, h2, h3⟩ := coord_in t
  refine congrArg (V d main_arg0) (funext fun a => Fin.ext ?_)
  match a with
  | ⟨0, _⟩ =>
    show win0_0.index t 0 * 12 + 1 * (y 0).val = _
    rw [h0]; show _ = (y 0).val; omega
  | ⟨1, _⟩ =>
    show win0_0.index t 1 * 1 + 1 * (y 1).val = _
    rw [h1, hy]; show _ = t.val; omega
  | ⟨2, _⟩ =>
    show win0_0.index t 2 * 1024 + 1 * (y 2).val = _
    rw [h2]; show _ = (y 2).val; omega
  | ⟨3, _⟩ =>
    show win0_0.index t 3 * 64 + 1 * (y 3).val = _
    rw [h3]; show _ = (y 3).val; omega

theorem final_cells (d : Dev nD) : (dat V d).arrAt 1 cfg0.N = cellsOf (inputOf V d) :=
  (dat V d).arrAt_eq_of_covers 1 _ (by decide +kernel) fun t _ y => by
    obtain ⟨h0, h1, h2⟩ := coord_cells t
    have hy : (y 0).val = 0 := by have : (y 0).val < 1 := (y 0).isLt; omega
    rw [after_cells, staged_eq]
    unfold cellsOf
    have e0 : (((cfg0.win 1).blk t).view.emb y 0 : Fin 16) = (t.cast rfl : Fin 16) := Fin.ext (by
      show win0_1.index t 0 * 1 + 1 * (y 0).val = t.val
      rw [h0, hy]; omega)
    rw [e0]
    refine congrArg (cellPlanes _) (funext fun a => Fin.ext ?_)
    match a with
    | ⟨0, _⟩ => exact hy
    | ⟨1, _⟩ => show (y 1).val = win0_1.index t 1 * 16 + 1 * (y 1).val; rw [h1]; omega
    | ⟨2, _⟩ => show (y 2).val = win0_1.index t 2 * 1024 + 1 * (y 2).val; rw [h2]; omega

theorem final_amts (d : Dev nD) : (dat V d).arrAt 2 cfg0.N = amtsOf (inputOf V d) :=
  (dat V d).arrAt_eq_of_covers 2 _ (by decide +kernel) fun t _ y => by
    obtain ⟨h0, h1, h2⟩ := coord_amts t
    have hy : (y 0).val = 0 := by have : (y 0).val < 1 := (y 0).isLt; omega
    rw [after_amts, staged_eq]
    unfold amtsOf
    have e0 : (((cfg0.win 2).blk t).view.emb y 0 : Fin 16) = (t.cast rfl : Fin 16) := Fin.ext (by
      show win0_2.index t 0 * 1 + 1 * (y 0).val = t.val
      rw [h0, hy]; omega)
    rw [e0]
    refine congrArg (amtPlanes _) (funext fun a => Fin.ext ?_)
    match a with
    | ⟨0, _⟩ => exact hy
    | ⟨1, _⟩ => show (y 1).val = win0_2.index t 1 * 16 + 1 * (y 1).val; rw [h1]; omega
    | ⟨2, _⟩ => show (y 2).val = win0_2.index t 2 * 1024 + 1 * (y 2).val; rw [h2]; omega

/-! ## The region -/

/-- No pipeline here has a prefetched table. -/
abbrev adm : (p : Fin 1) → (pcfgs (F := F) p).Adm := fun p => (cfgs p).toPCfg_adm

/-- Before the call the core owes nothing at the transfers' index. -/
theorem owes_none (d : Dev nD) (g : GSem nD τ sig) : (K (F := F)).Otc d 0 g none = 0 := by
  by_contra h
  have h1 := SparseCore.Cfg.lev_of_Otc_pos (K := K (F := F)) (Nat.pos_of_ne_zero h)
  have h0 : (K (F := F)).lev g none = 0 := rfl
  omega

/-- The core's debts and recorded pairs before the call, as the TensorCore's state keeps them. -/
def debts (d : Dev nD) : sProp 𝕄 :=
  iprop(∃ W, ⌜(K (F := F)).WBelow (T d) W 0⌝ ∗ owes (T d) ((K (F := F)).Otc d 0) W)

variable (V' : Held F)

set_option backward.isDefEq.respectTransparency.types false in
/-- The region, between the core's unscoped buffers at `V` and at `V'`: `V` but for the two arrays of planes. -/
def region (hc : ∀ d, V' d main_v0_0 = cellsOf (inputOf V d)) (ha : ∀ d, V' d main_v0_1 = amtsOf (inputOf V d))
    (hne : ∀ d (b : Ref sig .tc), b ≠ main_v0_0 → b ≠ main_v0_1 → V' d b = V d b) :
    Pipeline.RegionSeg (pcfgs (F := F)) adm (dats V) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (obligation V d).loose
  hwaits d := Pipeline.cellsWaits_intro _ _ _ _ _ fun _ _ _ => (K (F := F)).mayWait_none _ (owes_none d)
  pre d := iprop(unscopedBufs d (V d) ∗ debts d)
  post d := iprop(unscopedBufs d (V' d) ∗ debts d)
  X _ := BI.emp
  Y _ := BI.emp
  Z d := Pipeline.unscopedRest (Ix := HIx 1) (Name := ℕ) (U := UU) (Lvl := ℕ) spec0 d (V d)
  hentry d := by
    rw [Pipeline.ownSems0_none]
    have hcut := Pipeline.arrays_of_unscopedBufs (p := 0) (pcfgs (F := F)) adm (dats V) launch0.win launch0.arr_whole d
      ((dat V d).share_full fun _ => rfl) (V d) fun w => A_eq V d w
    unfold debts
    iintro ⟨⟨Hb, %W, %hW, HO⟩, -, -⟩
    ihave H := hcut $$ Hb
    icases H with ⟨Ha, Hr⟩
    imodintro
    isplitl [Ha]; · iexact Ha
    isplitr
    · unfold Pipeline.prefHeld
      rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      iexact HO
    isplitr; · iempintro
    iexact Hr
  hin d := by
    rw [show (dats V 0 d).Φ 0 = Pipeline.scopedRest spec0 d from rfl]
    iintro ⟨-, -, Hr⟩; iexact Hr
  hout d := by
    rw [Pipeline.ownSems0_none, show (dats V 0 d).Φ (Fin.last _) = Pipeline.scopedRest spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ)
      launch0.win launch0.arr_whole d (dats V) ((dat V d).share_full fun _ => rfl) (V d) (V' d) ((dat V d).arrAt · cfg0.N)
      (fun w => match w with
        | ⟨0, _⟩ => ((dat V d).arrAt_in 0 rfl _).trans ((A_eq V d 0).trans (hne d main_arg0 (by decide) (by decide)).symm)
        | ⟨1, _⟩ => (final_cells V d).trans (hc d).symm
        | ⟨2, _⟩ => (final_amts V d).trans (ha d).symm)
      (fun b hb => hne d b (fun h => hb (h ▸ Finset.mem_image.mpr ⟨1, Finset.mem_univ _, rfl⟩))
        (fun h => hb (h ▸ Finset.mem_image.mpr ⟨2, Finset.mem_univ _, rfl⟩)))
    iintro ⟨Ha, HO, -, Hr⟩
    imodintro
    isplitl [Ha Hr]
    · iapply hjoin; isplitl [Ha] <;> iassumption
    unfold Pipeline.Dat.owesAt Pipeline.owesWithin debts
    icases HO with ⟨%W, %hW, HO⟩
    iexists W; isplitr
    · ipureintro
      intro p hp
      rcases hW hp with h | ⟨w, s, rfl⟩
      · exact h
      · exact le_rfl
    iexact HO

end Cert.KernelIdeal.Top

end
-- ==== Proof.Main.lean ====
/-
  The whole program on its thirty-five threads: the TensorCore's region, the SparseCore call, the reshape of what the tiles
  wrote. At any float values and operations it ends, faults nowhere, leaves the argument as it was, every semaphore at
  zero, and the result at `resultOf` of the argument.
-/
module

public import proofs.«01_k».proof.Proof.Tiles
public import proofs.«01_k».proof.Proof.Region
public import Idealize.ShloMosaic.Lib.SparseCore.Quiescent
public import Idealize.ShloMosaic.Lib.StableHlo.Run

@[expose] public section

noncomputable section

namespace Cert.KernelIdeal.Whole

open Cert.KernelIdeal Cert.KernelIdeal.Gen Cert.KernelIdeal.Tile Cert.KernelIdeal.Top
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- The program's result, of its argument. -/
def resultOf (X : Vec F S12x16x1024x64 .f32) : Vec F S16x1024x1024 .f32 :=
  shapeCast S16x1024x1024 (scattered (cellsOf X) (amtsOf X)) shapeCasts_S16x1048576_S16x1024x1024

variable (m : (ℓ : Loc nD τ sig) → Buf (Elt F) ℓ) (ρ : Dev nD → PrngReg)

/-- The argument, its result's place, and what the two arrays of planes will hold. -/
abbrev xLoc (d : Dev nD) : Loc nD τ sig := (SparseCore.T d).loc main_arg0
abbrev rLoc (d : Dev nD) : Loc nD τ sig := (SparseCore.T d).loc main_v2
abbrev argOf (d : Dev nD) : Vec F S12x16x1024x64 .f32 := m (xLoc d)
abbrev cells (d : Dev nD) : Vec F S16x16x1024 .i32 := cellsOf (argOf m d)
abbrev amts (d : Dev nD) : Vec F S16x16x1024 .f32 := amtsOf (argOf m d)

/-- The unscoped buffers before and after the region. -/
abbrev atStart : Held F := fun d b => m ((SparseCore.T d).loc b)
def afterRegion : Held F := fun d =>
  Function.update (β := fun b : Ref sig .tc => Buf (Elt F) ((d : Thread nD τ).loc b))
    (Function.update (β := fun b : Ref sig .tc => Buf (Elt F) ((d : Thread nD τ).loc b)) (atStart m d) main_v0_0 (cells m d))
    main_v0_1 (amts m d)

theorem afterRegion_cells (d : Dev nD) : afterRegion m d main_v0_0 = cells m d :=
  (Function.update_of_ne (show main_v0_0 ≠ main_v0_1 by decide) _ _).trans (Function.update_self _ _ _)
theorem afterRegion_amts (d : Dev nD) : afterRegion m d main_v0_1 = amts m d := Function.update_self _ _ _
theorem afterRegion_ne (d : Dev nD) (b : Ref sig .tc) (h0 : b ≠ main_v0_0) (h1 : b ≠ main_v0_1) :
    afterRegion m d b = atStart m d b :=
  (Function.update_of_ne h1 _ _).trans (Function.update_of_ne h0 _ _)

/-- The region at these buffers. -/
abbrev theRegion := region (atStart m) (afterRegion m) (afterRegion_cells m) (afterRegion_amts m) (afterRegion_ne m)

/-- The tiles' shares of the call. -/
abbrev Pm : (K (F := F)).Pay (nD := nD) (Val := Elt F) (Name := ℕ) (U := UU) := P (cells m) (amts m) fun d => m (oLoc d)

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (iLoc d ↦{fullShare} W main_v0_0) ∗ (vLoc d ↦{fullShare} W main_v0_1)
          ∗ (oLoc d ↦{fullShare} W main_v1) ∗ rLoc d ↦{fullShare} W main_v2) := by
  unfold unscopedBufs
  rw [show (Finset.univ.filter fun b : Ref sig .tc => ¬ b.isScoped) = {main_arg0, main_v0_0, main_v0_1, main_v1, main_v2} by decide,
    SparseCore.bigSep_insert' (by decide), SparseCore.bigSep_insert' (by decide), SparseCore.bigSep_insert' (by decide),
    SparseCore.bigSep_insert' (by decide), bigSep_singleton]

theorem buffers_after (d : Dev nD) :
    (unscopedBufs d (afterRegion m d) : sProp 𝕄)
      = iprop((xLoc d ↦{fullShare} m (xLoc d)) ∗ (iLoc d ↦{fullShare} cells m d) ∗ (vLoc d ↦{fullShare} amts m d)
          ∗ (oLoc d ↦{fullShare} m (oLoc d)) ∗ rLoc d ↦{fullShare} m (rLoc d)) := by
  rw [unscopedBufs_eq, afterRegion_cells, afterRegion_amts,
    afterRegion_ne m d main_arg0 (by decide) (by decide), afterRegion_ne m d main_v1 (by decide) (by decide),
    afterRegion_ne m d main_v2 (by decide) (by decide)]

/-! ## The reshape -/

abbrev o' : DevRef τ sig := Proc.devRef .tc main_v1
abbrev r' : DevRef τ sig := Proc.devRef .tc main_v2
abbrev S2 : Finset (DevRef τ sig) := {o', r'}
abbrev opR : HloOp τ sig (Elt F) :=
  StableHlo.reshape main_v1 main_v2 (rfl : (.f32 : EltTy) = .f32) shapeCasts_S16x1048576_S16x1024x1024

def beforeReshape (d : Dev nD) : Valuation τ sig (Elt F) :=
  Function.update (fun b => m (d, b)) o' (scattered (cells m d) (amts m d))

theorem beforeReshape_o (d : Dev nD) : beforeReshape m d o' = scattered (cells m d) (amts m d) := Function.update_self _ _ _
theorem beforeReshape_r (d : Dev nD) : beforeReshape m d r' = m (rLoc d) :=
  Function.update_of_ne (show r' ≠ o' by decide) _ _

omit [FloatOps F] in
theorem held_two (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

theorem held_before (d : Dev nD) :
    (held (SparseCore.T d) S2 (beforeReshape m d) : sProp 𝕄)
      = iprop((oLoc d ↦{fullShare} scattered (cells m d) (amts m d)) ∗ rLoc d ↦{fullShare} m (rLoc d)) := by
  rw [held_two, beforeReshape_o, beforeReshape_r]

theorem held_after (d : Dev nD) :
    (held (SparseCore.T d) S2 ((opR (F := F)).result (beforeReshape m d)) : sProp 𝕄)
      = iprop((oLoc d ↦{fullShare} (opR (F := F)).result (beforeReshape m d) o') ∗ rLoc d ↦{fullShare} resultOf (argOf m d)) := by
  rw [held_two, show (opR (F := F)).result (beforeReshape m d) r' = resultOf (argOf m d) from
    (StableHlo.reshape_result _ _ _ _ _ _ _).trans (by rw [beforeReshape_o]; rfl)]

/-! ## @main on the TensorCore -/

/-- What the pipeline's semaphores need of the launch. -/
def G (d : Dev nD) : sProp 𝕄 :=
  iprop(Pipeline.cellsGhost (Pipeline.pin (pcfgs (F := F)) adm) EP 0 d ∗ Pipeline.toksInit (Pipeline.pin (pcfgs (F := F)) adm) EP 0 d)

/-- What @main leaves the claims: the argument as it was, the result at its value. -/
abbrev FIN (d : Dev nD) : sProp 𝕄 :=
  iprop((xLoc d ↦{fullShare} m (xLoc d)) ∗ rLoc d ↦{fullShare} resultOf (argOf m d))

variable [∀ e, Nonempty (Elt F e)]

omit [∀ e, Nonempty (Elt F e)] in
theorem region_pre (d : Dev nD) : (theRegion m).pre d = iprop(unscopedBufs d (atStart m d) ∗ debts d) := rfl
omit [∀ e, Nonempty (Elt F e)] in
theorem region_post (d : Dev nD) : (theRegion m).post d = iprop(unscopedBufs d (afterRegion m d) ∗ debts d) := rfl

/-- The region's step, as the launched program meets it. -/
theorem region_step (d : Dev nD) (Q : PUnit → sProp 𝕄) :
    iprop((boundary (SparseCore.T d) ∗ ((xLoc d ↦{fullShare} m (xLoc d)) ∗ (iLoc d ↦{fullShare} cells m d)
            ∗ (vLoc d ↦{fullShare} amts m d) ∗ (oLoc d ↦{fullShare} m (oLoc d)) ∗ rLoc d ↦{fullShare} m (rLoc d)) ∗ debts d
          -∗ |={Set.univ}=> Q ⟨⟩)
        ∗ boundary (SparseCore.T d) ∗ (unscopedBufs d (atStart m d) ∗ debts d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h := (theRegion m).wp (pcfgs (F := F)) adm (dats (atStart m)) none cellOf_inj EP (defs₀ (F := F)) 𝒱₀
    (K (F := F)).L (K (F := F)).lev d none (fun _ hh => nomatch hh) (fun r => .ret r) Q
  rw [region_post, region_pre, buffers_after, wp_ret] at h
  exact h.trans ((K (F := F)).wp_liftProg (D (F := F)) 𝒱 (SparseCore.T d) Set.univ none
    (.op (.customCall (Pipeline.entry 0) ()) fun r => .ret r) Q)

/-- What the TensorCore holds of its handshakes besides what it owes. -/
def handshakes (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 1).last q)) 1)))

omit [∀ e, Nonempty (Elt F e)] in
theorem tcSt_zero (d : Dev nD) : ((K (F := F)).tcSt EH d 0 : sProp 𝕄) = iprop(debts (F := F) d ∗ handshakes (F := F) d) := rfl

/-- @main on a TensorCore: the region, the call, the reshape; the argument and the result kept. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hrun := (K (F := F)).wp_run (D (F := F)) 𝒱 (EH := EH) (P := Pm m) κ d 0 (Φ := fun _ =>
    wp frame (wpE ((K (F := F)).defs (D (F := F))) 𝒱 (SparseCore.T d) none) Set.univ
      (hlo rfl (opR (F := F)) fun _ => .ret PUnit.unit)
      fun _ => iprop(|={Set.univ}=> ((K (F := F)).tcSt EH d 1 ∗ FIN m d ∗ boundary (SparseCore.T d) ∗ (K (F := F)).tcSems0 d)))
  rw [show (0 : Fin 1).val = 0 from rfl, tcSt_zero, st_eq, dn_eq] at hrun
  have hhlo := wp_hlo_within (defs := (K (F := F)).defs (D (F := F))) 𝒱 (SparseCore.T d) none Set.univ (op := opR (F := F)) (S := S2)
    (hp := rfl) (k := fun _ => .ret PUnit.unit)
    (Q := fun _ => iprop(|={Set.univ}=> ((K (F := F)).tcSt EH d 1 ∗ FIN m d ∗ boundary (SparseCore.T d) ∗ (K (F := F)).tcSems0 d)))
    (show ({o', r'} : Finset (DevRef τ sig)) ⊆ S2 by decide) (V := beforeReshape m d)
  rw [held_before, held_after, wp_ret] at hhlo
  unfold SparseCore.Cfg.tcRes SparseCore.Cfg.tcEnd
  rw [tcSt_zero]
  simp only [main, wp_bind, wp_pure]
  iintro ⟨#Hctx, ⟨HO, Hsh⟩, ⟨Hb, Hbufs, Hts, -⟩, HG⟩
  ihave Hlev := ((K (F := F)).ctx_levAts κ) $$ Hctx
  iapply (region_step m d)
  isplitl [Hsh Hts]
  · iintro ⟨Hb, ⟨Hx, Hi, Hv, Ho, Hres⟩, HO⟩
    imodintro
    iapply hrun
    isplitr; · iexact Hctx
    isplitl [HO Hsh]
    · isplitl [HO] <;> iassumption
    isplitl [Hi Hv Ho]
    · isplitl [Hi]; · iexact Hi
      isplitl [Hv] <;> iassumption
    iintro ⟨Hst, Hi, Hv, Ho⟩
    iapply hhlo $$ [Hb Ho Hres]
    · isplitl [Hb]; · iexact Hb
      isplitl [Ho] <;> iassumption
    iintro ⟨Hb, Ho, Hres⟩
    imodintro; imodintro
    isplitl [Hst]; · iexact Hst
    isplitl [Hx Hres]
    · isplitl [Hx] <;> iassumption
    isplitl [Hb] <;> iassumption
  isplitl [Hb]; · iexact Hb
  isplitl [Hbufs HO]
  · isplitl [Hbufs] <;> iassumption
  isplitl [Hlev]; · iexact Hlev
  iexact HG

/-! ## The launch's ghost state -/

/-- The handshakes' rounds and the pipeline's, at the launch. -/
def u₀ : UU :=
  (initOf (K (F := F)).hsCells (K (F := F)).hsToks,
    (initOf (Pipeline.cells (Pipeline.pin (pcfgs (F := F)) adm) cellOf_inj)
      (Pipeline.launchToks (Pipeline.pin (pcfgs (F := F)) adm) cellOf_inj), 1))

omit [FloatOps F] [∀ e, Nonempty (Elt F e)] in
theorem ghost_split (a : UH) (b : UP) :
    (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [∀ e, Nonempty (Elt F e)] in
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  have hfund := Pipeline.fund_ghost (Pipeline.pin (pcfgs (F := F)) adm) (EP (F := F)) cellOf_inj
  simp only [bigSep_univ_of_subsingleton (0 : Fin 1)] at hfund
  unfold u₀
  iintro Hu
  ihave H := (ghost_split _ _) $$ Hu
  icases H with ⟨HH, HP⟩
  imod hfund $$ HP with ⟨Hc, Ht⟩
  imodintro
  isplitl [HH]; · iexact HH
  isplitl [Hc Ht]
  · rw [bigSep_univ_of_subsingleton (0 : Dev nD)]
    unfold G
    isplitl [Hc]; · iexact Hc
    iexact Ht
  · rw [show (fun thr : Thread nD τ => bigSep Finset.univ fun q : Fin 1 => (Pm m).x q thr) = fun _ => iprop(emp) from
      funext fun thr => bigSep_univ_of_subsingleton (0 : Fin 1),
      show (bigSep Finset.univ fun _ : Thread nD τ => iprop(emp)) = (iprop(emp) : sProp 𝕄) from bigSep_emp_const _]
    iempintro

/-! ## What the run leaves -/

def fq (d : Dev nD) (s' : Phys nD τ sig (Elt F)) : Prop :=
  s'.mem.mem (xLoc d) = m (xLoc d) ∧ s'.mem.mem (rLoc d) = resultOf (argOf m d)

omit [∀ e, Nonempty (Elt F e)] in
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resultOf (argOf m d))) $$ [HSI Hr]
  · isplitl [HSI] <;> iassumption
  icases H with %h2
  ipureintro; exact ⟨funext fun i => h1 i (Finset.mem_univ i), funext fun i => h2 i (Finset.mem_univ i)⟩

/-- The argument unchanged, the result at its value, the semaphores at zero. -/
def QC : PUnit × MemSt nD τ sig (Elt F) → Prop := fun r =>
  (∀ d : Dev nD, r.2.mem (xLoc d) = m (xLoc d) ∧ r.2.mem (rLoc d) = resultOf (argOf m d)) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (cells m) (amts m) fun d => m (oLoc d))
    (fun q _ => match q with | 0 => SparseCore.Cfg.VecSplit.of_plain (vecSplit (cells m) (amts m) fun d => m (oLoc d)))
    m ρ main G (FIN m) (u₀ (F := F)) (sep_elim_left.trans (hu₀ m)) (hmain m ρ) (fq m) (hfin m) (QC m) (fun _ h hz => ⟨h, hz⟩)

end Cert.KernelIdeal.Whole

end
-- ==== Proof.Frames.lean ====
/-
  The three programs run: each ends, faults nowhere, leaves its argument as it was and every semaphore at zero.
-/
module

public import proofs.«01_k».proof.Proof.Main
public import proofs.«01_k».proof.Proof.Gen.Kernel
public import proofs.«01_k».proof.Proof.Gen.ReferenceIdeal
public import proofs.«01_k».proof.Proof.Gen.ReferenceIdeal.Run

@[expose] public section

namespace Cert.Proof

open Idealize.ShloMosaic Idealize.SL.Sem

theorem frame_ideal : Cert.quiescent_KernelIdeal := fun m ρ _ =>
  (θ_run Cert.KernelIdeal.defs _ _).mono (fun _ h => ⟨fun c => (h.1 c).1, h.2⟩)
    (Cert.KernelIdeal.Whole.run_main (F := Ideal) m ρ)

/-- The two printings of the kernel are one text: body by body, label by label. -/
theorem same_bodies (p : Proc Kernel.τ) : ∀ (ℓ : Fin 2) (a : Kernel.Λ₀.Args ℓ),
    Kernel.defs₀ (F := Bits) p ℓ a = KernelIdeal.defs₀ (F := Bits) p ℓ a := by
  rcases p with _ | _ | _ <;> rintro ⟨_ | _ | n, h⟩ a
  · obtain ⟨t, s⟩ := a; rfl
  all_goals first | rfl | exact absurd h (by omega)

theorem same_defs : Kernel.defs (F := Bits) = KernelIdeal.defs (F := Bits) :=
  congrArg (fun d => KernelIdeal.sc.defs (Pipeline.defs KernelIdeal.pcfgs d))
    (funext fun p => funext fun ℓ => funext fun a => same_bodies p ℓ a)

/-- The hardware's program is that text read at bit patterns. -/
theorem frame_kernel : Cert.quiescent_Kernel := by
  intro m ρ _
  rw [same_defs]
  exact (θ_run Cert.KernelIdeal.defs _ _).mono (fun _ h => ⟨fun c => (h.1 c).1, h.2⟩)
    (Cert.KernelIdeal.Whole.run_main (F := Bits) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Ranking.lean ====
/-
  Ranking the entries of a row: what a stable descending sort puts at each place, and the same places found one by one
  as "the largest entry still in play, the leftmost on a tie". Pure mathematics, about any row over a linear order.
-/
module

public import Idealize.ShloMosaic.PureOps
public import Idealize.ShloMosaic.Lib.SortFacts
public import Mathlib.Order.BoundedOrder.Basic

@[expose] public section

namespace Cert.Math

open Idealize.ShloMosaic

variable {n : ℕ} {α : Type} [LinearOrder α]

/-- Place `a` ranks ahead of place `b`: its entry is larger, or the entries are equal and `a` is further left. -/
def Ahead (f : Fin n → α) (a b : Fin n) : Prop := f b < f a ∨ (f a = f b ∧ a < b)

/-- Inserting a place left of all others into a ranked list keeps it ranked. -/
theorem pairwise_insert (f : Fin n → α) (R : Fin n → Fin n → Bool) (hR : ∀ a b, R a b = true ↔ f b < f a) (a : Fin n) :
    ∀ l : List (Fin n), l.Pairwise (Ahead f) → (∀ b ∈ l, a < b) → (insertBefore R a l).Pairwise (Ahead f)
  | [], _, _ => List.pairwise_singleton _ _
  | b :: l, hl, ha => by
    rw [List.pairwise_cons] at hl
    unfold insertBefore
    split
    · rename_i h
      refine List.pairwise_cons.mpr ⟨fun c hc => ?_,
        pairwise_insert f R hR a l hl.2 fun c hc => ha c (List.mem_cons_of_mem _ hc)⟩
      rcases List.mem_cons.mp ((perm_insertBefore R a l).mem_iff.mp hc) with rfl | hc'
      · exact Or.inl ((hR b c).1 h)
      · exact hl.1 c hc'
    · rename_i h
      have hba : f b ≤ f a := not_lt.mp fun q => h ((hR b a).2 q)
      refine List.pairwise_cons.mpr ⟨fun c hc => ?_, List.pairwise_cons.mpr hl⟩
      have hac : a < c := ha c hc
      have hcb : f c ≤ f b := by
        rcases List.mem_cons.mp hc with rfl | hc'
        · exact le_rfl
        · rcases hl.1 c hc' with h' | h'
          · exact h'.le
          · exact h'.1.ge
      rcases (hcb.trans hba).lt_or_eq with h' | h'
      · exact Or.inl h'
      · exact Or.inr ⟨h'.symm, hac⟩

/-- The stable sort of places listed from left to right is ranked. -/
theorem pairwise_sort (f : Fin n → α) (R : Fin n → Fin n → Bool) (hR : ∀ a b, R a b = true ↔ f b < f a) :
    ∀ l : List (Fin n), l.Pairwise (· < ·) → (stableSort R l).Pairwise (Ahead f)
  | [], _ => List.Pairwise.nil
  | a :: l, hl => by
    rw [List.pairwise_cons] at hl
    unfold stableSort
    exact pairwise_insert f R hR a _ (pairwise_sort f R hR l hl.2)
      fun b hb => hl.1 b ((perm_stableSort R l).mem_iff.mp hb)

/-- What the sort puts earlier ranks ahead of what it puts later. -/
theorem sorted_ahead (f : Fin n → α) (R : Fin n → Fin n → Bool) (hR : ∀ a b, R a b = true ↔ f b < f a) (i j : Fin n)
    (hij : i < j) : Ahead f (sortedFrom R i) (sortedFrom R j) := by
  have hp := List.pairwise_iff_get.mp (pairwise_sort f R hR (List.finRange n) (List.pairwise_lt_finRange n))
  unfold sortedFrom
  exact hp _ _ hij

/-- A place the sort has not put before place `k` is the one it puts at `k`, or ranks behind that one. -/
theorem sorted_first (f : Fin n → α) (R : Fin n → Fin n → Bool) (hR : ∀ a b, R a b = true ↔ f b < f a) (k c : Fin n)
    (hc : ∀ i, i < k → sortedFrom R i ≠ c) : c = sortedFrom R k ∨ Ahead f (sortedFrom R k) c := by
  obtain ⟨j, rfl⟩ := sortedFrom_surjective R c
  rcases lt_trichotomy j k with h | h | h
  · exact absurd rfl (hc j h)
  · exact Or.inl (by rw [h])
  · exact Or.inr (sorted_ahead f R hR k j h)

/-- Place `c` holds the row's largest entry, and is the leftmost that does. -/
def IsFirst (w : Fin n → α) (c : Fin n) : Prop := ∀ d, w d ≤ w c ∧ (d < c → w d < w c)

open Classical in
/-- The row with the first `k` places of an order put out of reach. -/
noncomputable def without [OrderBot α] (f : Fin n → α) (σ : Fin n → Fin n) (k : ℕ) : Fin n → α :=
  fun d => if ∃ i : Fin n, i.val < k ∧ σ i = d then ⊥ else f d

theorem without_zero [OrderBot α] (f : Fin n → α) (σ : Fin n → Fin n) : without f σ 0 = f := by
  funext d; unfold without; rw [if_neg]; rintro ⟨i, h, _⟩; omega

/-- Putting one more place out of reach. -/
theorem without_succ [OrderBot α] (f : Fin n → α) (σ : Fin n → Fin n) (k : Fin n) (d : Fin n) :
    without f σ (k.val + 1) d = if d = σ k then ⊥ else without f σ k.val d := by
  unfold without
  by_cases h : d = σ k
  · rw [if_pos ⟨k, Nat.lt_succ_self _, h.symm⟩, if_pos h]
  · rw [if_neg h]
    refine if_congr ⟨?_, ?_⟩ rfl rfl
    · rintro ⟨i, hi, e⟩
      refine ⟨i, ?_, e⟩
      rcases Nat.lt_succ_iff_lt_or_eq.mp hi with h' | h'
      · exact h'
      · exact absurd (by rw [← e]; exact congrArg σ (Fin.ext h')) h
    · rintro ⟨i, hi, e⟩
      exact ⟨i, Nat.lt_succ_of_lt hi, e⟩

/-- A place still in play keeps its entry. -/
theorem without_self [OrderBot α] (f : Fin n → α) (σ : Fin n → Fin n) (hσ : Function.Injective σ) (k : Fin n) :
    without f σ k.val (σ k) = f (σ k) := by
  unfold without
  rw [if_neg]
  rintro ⟨i, hi, e⟩
  rw [hσ e] at hi
  exact lt_irrefl _ hi

/-- Once the sort's first `k` places are out of reach, the leftmost largest entry is where the sort puts its place
    `k` — in a row whose entries are above the least element. -/
theorem isFirst_without [OrderBot α] (f : Fin n → α) (R : Fin n → Fin n → Bool) (hR : ∀ a b, R a b = true ↔ f b < f a)
    (hf : ∀ d, ⊥ < f d) (k : Fin n) : IsFirst (without f (sortedFrom R) k.val) (sortedFrom R k) := by
  intro d
  rw [without_self f _ (sortedFrom_injective R)]
  by_cases h : ∃ i : Fin n, i.val < k.val ∧ sortedFrom R i = d
  · have e : without f (sortedFrom R) k.val d = ⊥ := by unfold without; rw [if_pos h]
    rw [e]
    exact ⟨bot_le, fun _ => hf _⟩
  · have e : without f (sortedFrom R) k.val d = f d := by unfold without; rw [if_neg h]
    rw [e]
    rcases sorted_first f R hR k d (fun i hi q => h ⟨i, hi, q⟩) with rfl | h' | h'
    · exact ⟨le_rfl, fun q => absurd q (lt_irrefl _)⟩
    · exact ⟨h'.le, fun _ => h'⟩
    · exact ⟨h'.1.ge, fun q => absurd q (not_lt.mpr h'.2.le)⟩

end Cert.Math
-- ==== Proof.Entries.lean ====
/-
  The TensorCore part's planes read at an index, over the extended reals: the rows of features, the similarities as sums
  of products, and one round of picking — when a column holds a row's largest entry, leftmost, the round finds it.
-/
module

public import proofs.«01_k».proof.Proof.Planes
public import proofs.«01_k».proof.Proof.Ranking
public import Idealize.ShloMosaic.PureOps.Ideal.Laws
public import Idealize.ShloMosaic.PureOps.Reduce
public import Idealize.ShloMosaic.Lib.ValueIdx
public import Idealize.ShloMosaic.Lib.Pipeline.Value

@[expose] public section

noncomputable section

namespace Cert.KernelIdeal.Top

open Cert.KernelIdeal Cert.KernelIdeal.Gen Idealize.ShloMosaic Idealize.ShloMosaic.ValueIdx
open scoped BigOperators

/-- Feature `j` of node `r` in batch `b`: time step `j / 64`, channel `j % 64`. -/
def entry (X : Vec Ideal S12x16x1024x64 .f32) (b : Fin 16) (r : Fin 1024) (j : Fin 768) : EReal :=
  X (ix4 (⟨j.val / 64, by omega⟩ : Fin 12) b r (⟨j.val % 64, Nat.mod_lt _ (by decide)⟩ : Fin 64))

/-- A node's sum of squares. -/
def normSq (X : Vec Ideal S12x16x1024x64 .f32) (b : Fin 16) (r : Fin 1024) : EReal :=
  ∑ j : Fin 768, entry X b r j * entry X b r j

/-- The inner product of two scaled rows, as the kernel scales them. -/
def likeness (X : Vec Ideal S12x16x1024x64 .f32) (b : Fin 16) (r c : Fin 1024) : EReal :=
  ∑ j : Fin 768, entry X b r j * Ideal.rsqrt (normSq X b r) * (entry X b c j * Ideal.rsqrt (normSq X b c))

/-! ## The similarities -/

/-- A time step of the block, node by node. -/
def slabs (x : Vec Ideal S12x1x1024x64 .f32) : Fin 12 → FVec Ideal S1024x64 .f32 :=
  ![slabOf (View.ld x step0), slabOf (View.ld x step1), slabOf (View.ld x step2), slabOf (View.ld x step3),
    slabOf (View.ld x step4), slabOf (View.ld x step5), slabOf (View.ld x step6), slabOf (View.ld x step7),
    slabOf (View.ld x step8), slabOf (View.ld x step9), slabOf (View.ld x step10), slabOf (View.ld x step11)]

theorem slab_read (x : Vec Ideal S12x1x1024x64 .f32) (t : Fin 12) (inb : ∀ a, (![t.val, 0, 0, 0] : Fin 4 → ℕ) a + S1x1x1024x64.size a ≤ S12x1x1024x64.size a)
    (r : Fin 1024) (d : Fin 64) :
    slabOf (View.ld x (Rect.unit (s := S12x1x1024x64) ![t.val, 0, 0, 0] S1x1x1024x64.size inb)) (ix2 r d)
      = x (ix4 t (0 : Fin 1) r d) := by
  unfold slabOf
  rw [shapeCast_apply _ _ _ (ix4 (0 : Fin 1) (0 : Fin 1) r d) (by
    refine (Shape.rowMajor_val_four _).trans (Eq.trans ?_ (Shape.rowMajor_val_two _).symm)
    show ((0 * 1 + 0) * 1024 + r.val) * 64 + d.val = r.val * 64 + d.val
    omega)]
  refine congrArg x (funext fun a => Fin.ext ?_)
  match a with
  | ⟨0, _⟩ => rfl
  | ⟨1, _⟩ => rfl
  | ⟨2, _⟩ => exact (Nat.zero_add _).trans (Nat.one_mul _)
  | ⟨3, _⟩ => exact (Nat.zero_add _).trans (Nat.one_mul _)

theorem slabs_apply (x : Vec Ideal S12x1x1024x64 .f32) (t : Fin 12) (r : Fin 1024) (d : Fin 64) :
    slabs x t (ix2 r d) = x (ix4 t (0 : Fin 1) r d) := by
  match t with
  | 0 => exact slab_read x 0 inb_S12x1x1024x64_S1x1x1024x64_0_0_0_0 r d
  | 1 => exact slab_read x 1 inb_S12x1x1024x64_S1x1x1024x64_1_0_0_0 r d
  | 2 => exact slab_read x 2 inb_S12x1x1024x64_S1x1x1024x64_2_0_0_0 r d
  | 3 => exact slab_read x 3 inb_S12x1x1024x64_S1x1x1024x64_3_0_0_0 r d
  | 4 => exact slab_read x 4 inb_S12x1x1024x64_S1x1x1024x64_4_0_0_0 r d
  | 5 => exact slab_read x 5 inb_S12x1x1024x64_S1x1x1024x64_5_0_0_0 r d
  | 6 => exact slab_read x 6 inb_S12x1x1024x64_S1x1x1024x64_6_0_0_0 r d
  | 7 => exact slab_read x 7 inb_S12x1x1024x64_S1x1x1024x64_7_0_0_0 r d
  | 8 => exact slab_read x 8 inb_S12x1x1024x64_S1x1x1024x64_8_0_0_0 r d
  | 9 => exact slab_read x 9 inb_S12x1x1024x64_S1x1x1024x64_9_0_0_0 r d
  | 10 => exact slab_read x 10 inb_S12x1x1024x64_S1x1x1024x64_10_0_0_0 r d
  | 11 => exact slab_read x 11 inb_S12x1x1024x64_S1x1x1024x64_11_0_0_0 r d

theorem feat_apply (x : Vec Ideal S12x1x1024x64 .f32) (r : Fin 1024) (j : Fin 768) :
    feat x (ix2 r j) = x (ix4 (⟨j.val / 64, by omega⟩ : Fin 12) (0 : Fin 1) r (⟨j.val % 64, Nat.mod_lt _ (by decide)⟩ : Fin 64)) := by
  refine Eq.trans ?_ (slabs_apply x (⟨j.val / 64, by omega⟩ : Fin 12) r (⟨j.val % 64, Nat.mod_lt _ (by decide)⟩ : Fin 64))
  exact concatenate_ofFn_apply (t := S1024x768) (s₁ := S1024x64) 1 (slabs x)
    concatenates_S1024x64_S1024x64_S1024x64_S1024x64_S1024x64_S1024x64_S1024x64_S1024x64_S1024x64_S1024x64_S1024x64_S1024x64_S1024x768_d1
    rfl 64 rfl (ix2 r j) ⟨j.val / 64, by omega⟩ rfl _ rfl (fun b hb => by
      match b with
      | ⟨0, _⟩ => rfl
      | ⟨1, _⟩ => exact absurd rfl hb)

/-- Index `r` of a reduced array with coordinate `k` put back. -/
theorem lift768 (r : Fin 1024) (k : Fin 768) : reduces_S1024x768_S1024.lift (ix1 r) k = ix2 r k := by
  funext a
  match a with
  | ⟨0, _⟩ => rfl
  | ⟨1, _⟩ => rfl

theorem lift1024 (r : Fin 1024) (k : Fin 1024) : reduces_S1024x1024_S1024.lift (ix1 r) k = ix2 r k := by
  funext a
  match a with
  | ⟨0, _⟩ => rfl
  | ⟨1, _⟩ => rfl

/-- A vector stood up as a column. -/
theorem column_apply {α : Type} (v : S1024.Idx → α) (r : Fin 1024) :
    shapeCast S1024x1 v shapeCasts_S1024_S1024x1 (ix2 r (0 : Fin 1)) = v (ix1 r) :=
  shapeCast_apply _ _ _ _ (by
    refine (Shape.rowMajor_val_one _).trans (Eq.trans ?_ (Shape.rowMajor_val_two _).symm)
    show r.val = r.val * 1 + 0
    omega)

theorem sqNorm_apply (v : FVec Ideal S1024x768 .f32) (r : Fin 1024) :
    sqNorm v (ix2 r (0 : Fin 1)) = ∑ j : Fin 768, v (ix2 r j) * v (ix2 r j) := by
  unfold sqNorm
  rw [column_apply]
  refine (Ideal.multiReduction_add_single _ _ _ _ _ _).trans (Finset.sum_congr rfl fun k _ => ?_)
  exact congrArg (mulf v v) (lift768 r k)

theorem unitRows_apply (v : FVec Ideal S1024x768 .f32) (r : Fin 1024) (j : Fin 768) :
    unitRows v (ix2 r j) = v (ix2 r j) * Ideal.rsqrt (∑ j : Fin 768, v (ix2 r j) * v (ix2 r j)) := by
  unfold unitRows
  rw [mulf_apply, broadcastTo_apply _ _ _ (ix2 r (0 : Fin 1)) (fun a => by
    match a with
    | ⟨0, _⟩ => rfl
    | ⟨1, _⟩ => rfl)]
  rw [← sqNorm_apply]
  rfl

theorem simOf_apply (X : Vec Ideal S12x16x1024x64 .f32) (b : Fin 16) (r c : Fin 1024) :
    simOf (batchOf X b) (ix2 r c) = likeness X b r c := by
  unfold simOf
  refine (Ideal.matmul_constant_zero_apply _ _ _ _ _).trans ?_
  refine (Fintype.sum_equiv (contrEquiv1 dot_S1024x768_S1024x768_S1024x1024_1_1_0_0_n_n 768 rfl rfl) _
    (fun j : Fin 768 => unitRows (feat (batchOf X b)) (ix2 r j) * unitRows (feat (batchOf X b)) (ix2 c j)) fun k => ?_).trans ?_
  · refine congrArg₂ (fun p q => unitRows (feat (batchOf X b)) p * unitRows (feat (batchOf X b)) q) ?_ ?_
    · funext a
      match a with
      | ⟨0, _⟩ => rfl
      | ⟨1, _⟩ => rfl
    · funext a
      match a with
      | ⟨0, _⟩ => rfl
      | ⟨1, _⟩ => rfl
  · unfold likeness
    refine Finset.sum_congr rfl fun j _ => ?_
    rw [unitRows_apply, unitRows_apply]
    simp only [feat_apply]
    rfl

/-! ## One round -/

theorem bot_word : Ideal.ofBits .f32 0xFF800000#32 = ⊥ := by simp [Ideal.ofBits, Ideal.ieee]

theorem best_apply (w : FVec Ideal S1024x1024 .f32) (r c : Fin 1024) (h : Math.IsFirst (fun d => w (ix2 r d)) c) :
    best w (ix2 r (0 : Fin 1)) = w (ix2 r c) := by
  unfold best
  rw [column_apply]
  refine (Ideal.multiReduction_maximumf_single _ _ _ _ _ _).trans (le_antisymm ?_ ?_)
  · refine (Finset.fold_max_le _).mpr ⟨?_, fun k _ => ?_⟩
    · show Ideal.ofBits .f32 0xFF800000#32 ≤ _
      rw [bot_word]; exact bot_le
    · exact (congrArg w (lift1024 r k)).trans_le (h k).1
  · refine (Finset.le_fold_max _).mpr (Or.inr ⟨c, Finset.mem_univ _, ?_⟩)
    exact (congrArg w (lift1024 r c)).ge

/-- Folding the lesser of two signed words comes to a word that is among them and under all of them. -/
theorem fold_least {ι : Type} (s : Finset ι) (f : ι → BitVec 32) (a m : BitVec 32) (ha : m.toInt ≤ a.toInt)
    (hall : ∀ i ∈ s, m.toInt ≤ (f i).toInt) (hm : ∃ i ∈ s, f i = m) : s.fold IKind.minsi.op a f = m := by
  have hop : ∀ x y : BitVec 32, (IKind.minsi.op x y).toInt = min x.toInt y.toInt := by
    intro x y
    show (if x.slt y then x else y).toInt = _
    by_cases q : x.slt y = true
    · rw [if_pos q]
      have : x.toInt < y.toInt := by simpa [BitVec.slt] using q
      omega
    · rw [if_neg q]
      have : ¬ x.toInt < y.toInt := by simpa [BitVec.slt] using q
      omega
  refine BitVec.eq_of_toInt_eq (le_antisymm ?_ ?_)
  · refine (Finset.fold_op_rel_iff_or (op := IKind.minsi.op) (r := fun x y : BitVec 32 => y.toInt ≤ x.toInt)
      (fun {x y z} => by rw [hop]; exact min_le_iff)).mpr (Or.inr ?_)
    obtain ⟨i, hi, e⟩ := hm
    exact ⟨i, hi, by rw [e]⟩
  · exact (Finset.fold_op_rel_iff_and (op := IKind.minsi.op) (r := fun x y : BitVec 32 => x.toInt ≤ y.toInt)
      (fun {x y z} => by rw [hop]; exact le_min_iff)).mpr ⟨ha, hall⟩

theorem toInt_small (n : ℕ) (h : n < 2 ^ 31) : (BitVec.ofNat 32 n).toInt = n := by
  rw [BitVec.toInt_eq_toNat_cond, BitVec.toNat_ofNat, Nat.mod_eq_of_lt (by omega), if_pos (by omega)]

/-- A row's least word, taken as signed. -/
theorem least_apply (src : IVec S1024x1024 32) (r c : Fin 1024) (m acc : BitVec 32) (hm : m.toInt ≤ acc.toInt)
    (hall : ∀ k : Fin 1024, m.toInt ≤ (src (ix2 r k)).toInt) (hc : src (ix2 r c) = m)
    (hacc : acc = IKind.minsi.neutral) :
    multiReductionI .minsi [1] S1024 src acc reduces_S1024x1024_S1024 hacc (ix1 r) = m := by
  refine (multiReductionI_eq_fold .minsi src _ _ hacc _).trans ?_
  refine (Shape.Reduces.fold_filter_drop_single _ _ _ _ _).trans ?_
  refine fold_least _ _ _ _ hm (fun k _ => ?_) ⟨c, Finset.mem_univ _, ?_⟩
  · exact le_of_le_of_eq (hall k) (congrArg (fun i => (src i).toInt) (lift1024 r k)).symm
  · exact (congrArg src (lift1024 r c)).trans hc

/-- The columns that reach the row's largest entry keep their numbers; the others get a number out of range. -/
theorem contender_apply (w : FVec Ideal S1024x1024 .f32) (r c : Fin 1024) (h : Math.IsFirst (fun d => w (ix2 r d)) c) (k : Fin 1024) :
    select (cmpf .oge w (broadcastTo S1024x1024 (best w) broadcasts_S1024x1_S1024x1024)) colNo (broadcast S1024x1024 2048#32)
      (ix2 r k) = if w (ix2 r c) ≤ w (ix2 r k) then BitVec.ofNat 32 k.val else BitVec.ofNat 32 2048 := by
  rw [select_apply, cmpf_apply, broadcastTo_apply _ _ _ (ix2 r (0 : Fin 1)) (fun a => by
    match a with
    | ⟨0, _⟩ => rfl
    | ⟨1, _⟩ => rfl), best_apply w r c h]
  have hc : colNo (ix2 r k) = BitVec.ofNat 32 k.val := iota_single_apply _ _ _ _ _ _
  rw [hc, broadcast_apply]
  show Scalar.select (BitVec.ofBool (decide (w (ix2 r c) ≤ w (ix2 r k)))) _ _ = _
  by_cases q : w (ix2 r c) ≤ w (ix2 r k)
  · rw [if_pos q, decide_eq_true q]; rfl
  · rw [if_neg q, decide_eq_false q]; rfl

theorem pick_apply (w : FVec Ideal S1024x1024 .f32) (r c : Fin 1024) (h : Math.IsFirst (fun d => w (ix2 r d)) c) :
    pick w (ix2 r (0 : Fin 1)) = BitVec.ofNat 32 c.val := by
  unfold pick
  rw [column_apply]
  have hcv : (BitVec.ofNat 32 c.val).toInt = c.val := toInt_small _ (by omega)
  refine least_apply _ r c _ (BitVec.ofNat 32 2147483647) ?_ (fun k => ?_) ?_ _
  · rw [hcv, toInt_small _ (by norm_num)]
    have := c.isLt
    omega
  · rw [contender_apply w r c h, hcv]
    split
    · rename_i q
      rw [toInt_small _ (by omega)]
      have : ¬ k < c := fun hk => absurd ((h k).2 hk) (not_lt.mpr q)
      omega
    · rw [toInt_small _ (by norm_num)]
      have := c.isLt
      omega
  · rw [contender_apply w r c h, if_pos le_rfl]

theorem strike_apply (w : FVec Ideal S1024x1024 .f32) (r c : Fin 1024) (h : Math.IsFirst (fun d => w (ix2 r d)) c)
    (k : Fin 1024) : strike w (ix2 r k) = if k = c then ⊥ else w (ix2 r k) := by
  unfold strike
  rw [select_apply, show cmpi .eq colNo (broadcastTo S1024x1024 (pick w) broadcasts_S1024x1_S1024x1024) (ix2 r k)
    = IntOp.cmpi .eq (colNo (ix2 r k)) (broadcastTo S1024x1024 (pick w) broadcasts_S1024x1_S1024x1024 (ix2 r k)) from rfl,
    broadcastTo_apply _ _ _ (ix2 r (0 : Fin 1)) (fun a => by
      match a with
      | ⟨0, _⟩ => rfl
      | ⟨1, _⟩ => rfl), pick_apply w r c h]
  have hc : colNo (ix2 r k) = BitVec.ofNat 32 k.val := iota_single_apply _ _ _ _ _ _
  rw [hc, broadcast_apply]
  by_cases q : k = c
  · subst q
    rw [if_pos rfl, show IntOp.cmpi .eq (BitVec.ofNat 32 k.val) (BitVec.ofNat 32 k.val) = 1#1 by
      simp [IntOp.cmpi]]
    exact bot_word
  · rw [if_neg q]
    have hne : BitVec.ofNat 32 k.val ≠ BitVec.ofNat 32 c.val := by
      intro e
      have := congrArg BitVec.toNat e
      rw [BitVec.toNat_ofNat, BitVec.toNat_ofNat, Nat.mod_eq_of_lt (by omega), Nat.mod_eq_of_lt (by omega)] at this
      exact q (Fin.ext this)
    rw [show IntOp.cmpi .eq (BitVec.ofNat 32 k.val) (BitVec.ofNat 32 c.val) = 0#1 by
      show BitVec.ofBool (_ == _) = _
      rw [beq_false_of_ne hne]; rfl]
    rfl

end Cert.KernelIdeal.Top

end
-- ==== Proof.Similar.lean ====
/-
  When no row is all zeros, dividing a row by its length is multiplying it by the length's reciprocal, and every scaled
  entry is a real number; so every similarity is one too.
-/
module

public import proofs.«01_k».proof.Proof.Entries
public import Idealize.ShloMosaic.Lib.IdealHost

@[expose] public section

noncomputable section

namespace Cert.Math

open Idealize.ShloMosaic
open scoped BigOperators

/-- Dividing by a positive number's root is multiplying by its reciprocal root. -/
theorem div_root (x n : EReal) (hn : 0 < n) : Ideal.div x (Ideal.sqrt n) = x * Ideal.rsqrt n := by
  induction n using EReal.rec with
  | bot => exact absurd hn (not_lt.mpr bot_le)
  | top => rw [Ideal.sqrt_top, Ideal.rsqrt_top, Ideal.div, if_neg EReal.top_ne_zero, EReal.inv_top]
  | coe a =>
    have ha : 0 < a := EReal.coe_pos.mp hn
    rw [Ideal.sqrt_coe, Ideal.rsqrt_coe, if_neg (not_lt.mpr ha.le), if_neg (not_lt.mpr ha.le), if_neg ha.ne', Ideal.div,
      if_neg (by simpa using (Real.sqrt_pos.mpr ha).ne'), EReal.coe_inv]

/-- A number is real when it is neither infinity. -/
def IsReal (x : EReal) : Prop := ∃ a : ℝ, x = a

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.zero : IsReal 0 := ⟨0, EReal.coe_zero.symm⟩

theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.bot_lt {x : EReal} (h : IsReal x) : ⊥ < x := by obtain ⟨a, rfl⟩ := h; exact EReal.bot_lt_coe a

/-- A row's entry times the reciprocal root of the row's sum of squares is real, whatever the entries, unless the sum
    is zero: an infinite entry makes the sum infinite, and the reciprocal nothing. -/
theorem scaled_real {ι : Type} [Fintype ι] (f : ι → EReal) (hn : 0 < ∑ i, f i * f i) (j : ι) :
    IsReal (f j * Ideal.rsqrt (∑ i, f i * f i)) := by
  by_cases hr : ∀ i, IsReal (f i)
  · obtain ⟨a, ha⟩ : IsReal (∑ i, f i * f i) := IsReal.sum _ _ fun i _ => (hr i).mul (hr i)
    rw [ha] at hn ⊢
    have hp : 0 < a := EReal.coe_pos.mp hn
    rw [Ideal.rsqrt_coe, if_neg (not_lt.mpr hp.le), if_neg hp.ne']
    exact (hr j).mul ⟨_, rfl⟩
  · rw [not_forall] at hr
    obtain ⟨i, hi⟩ := hr
    have hsq : ∀ x : EReal, 0 ≤ x * x := by
      intro x
      induction x using EReal.rec with
      | bot => rw [EReal.bot_mul_bot]; exact le_top
      | top => rw [EReal.top_mul_top]; exact le_top
      | coe a => rw [← EReal.coe_mul]; exact EReal.coe_nonneg.mpr (mul_self_nonneg a)
    have htop : f i * f i = ⊤ := by
      generalize f i = x at hi
      induction x using EReal.rec with
      | bot => exact EReal.bot_mul_bot
      | top => exact EReal.top_mul_top
      | coe a => exact absurd ⟨a, rfl⟩ hi
    have hs : ∑ i, f i * f i = ⊤ := by
      refine top_le_iff.mp ?_
      rw [← htop]
      exact Finset.single_le_sum (f := fun i => f i * f i) (fun k _ => hsq (f k)) (Finset.mem_univ i)
    rw [hs, Ideal.rsqrt_top, mul_zero]
    exact IsReal.zero

end Cert.Math

namespace Cert.KernelIdeal.Top

open Cert.KernelIdeal Cert.KernelIdeal.Gen Idealize.ShloMosaic Idealize.ShloMosaic.ValueIdx
open scoped BigOperators

/-- No row of any batch is all zeros. -/
def NoZeroRow (X : Vec Ideal S12x16x1024x64 .f32) : Prop := ∀ b r, 0 < normSq X b r

theorem likeness_real (X : Vec Ideal S12x16x1024x64 .f32) (hX : NoZeroRow X) (b : Fin 16) (r c : Fin 1024) :
    Math.IsReal (likeness X b r c) := by
  unfold likeness
  exact Math.IsReal.sum _ _ fun j _ => (Math.scaled_real (entry X b r) (hX b r) j).mul (Math.scaled_real (entry X b c) (hX b c) j)

/-- The order in which a row's columns come out, most similar first. -/
def order (X : Vec Ideal S12x16x1024x64 .f32) (b : Fin 16) (r : Fin 1024) : Fin 1024 → Fin 1024 :=
  sortedFrom fun c d => decide (likeness X b r d < likeness X b r c)

/-- Place `k` of that order, for the rounds there are. -/
def place (k : Fin 5) : Fin 1024 := ⟨k.val, by omega⟩

/-- After `k` rounds a row has its `k` most similar columns out of reach. -/
theorem work_apply (X : Vec Ideal S12x16x1024x64 .f32) (hX : NoZeroRow X) (b : Fin 16) (r : Fin 1024) :
    ∀ k : ℕ, k < 1024 → (fun d => work (batchOf X b) k (ix2 r d)) = Math.without (likeness X b r) (order X b r) k
  | 0, _ => by
    rw [Math.without_zero]
    funext d
    exact simOf_apply X b r d
  | k + 1, hk => by
    have ih := work_apply X hX b r k (by omega)
    have hf := Math.isFirst_without (likeness X b r) (fun c d => decide (likeness X b r d < likeness X b r c))
      (fun c d => decide_eq_true_iff) (fun d => (likeness_real X hX b r d).bot_lt) ⟨k, by omega⟩
    funext d
    refine (strike_apply (work (batchOf X b) k) r (order X b r ⟨k, by omega⟩) (by rw [ih]; exact hf) d).trans ?_
    rw [Math.without_succ _ _ ⟨k, by omega⟩ d]
    exact if_congr Iff.rfl rfl (congrFun ih d)

theorem work_first (X : Vec Ideal S12x16x1024x64 .f32) (hX : NoZeroRow X) (b : Fin 16) (r : Fin 1024) (k : Fin 5) :
    Math.IsFirst (fun d => work (batchOf X b) k.val (ix2 r d)) (order X b r (place k)) := by
  rw [work_apply X hX b r k.val (by omega)]
  exact Math.isFirst_without (likeness X b r) (fun c d => decide (likeness X b r d < likeness X b r c))
    (fun c d => decide_eq_true_iff) (fun d => (likeness_real X hX b r d).bot_lt) (place k)

/-- Round `k` picks the column at place `k`, and its best is that column's similarity. -/
theorem colAt_apply (X : Vec Ideal S12x16x1024x64 .f32) (hX : NoZeroRow X) (b : Fin 16) (r : Fin 1024) (k : Fin 5) :
    colAt (batchOf X b) k.val (ix2 r (0 : Fin 1)) = BitVec.ofNat 32 (order X b r (place k)).val :=
  pick_apply _ r _ (work_first X hX b r k)

theorem best_work_apply (X : Vec Ideal S12x16x1024x64 .f32) (hX : NoZeroRow X) (b : Fin 16) (r : Fin 1024) (k : Fin 5) :
    best (work (batchOf X b) k.val) (ix2 r (0 : Fin 1)) = likeness X b r (order X b r (place k)) := by
  rw [best_apply _ r _ (work_first X hX b r k)]
  refine (congrFun (work_apply X hX b r k.val (by omega)) _).trans ?_
  exact Math.without_self _ _ (sortedFrom_injective _) (place k)

/-- Half the leaky rectification of a number. -/
def halfLeak (x : EReal) : EReal :=
  (if 0 ≤ x then x else Ideal.ofBits .f32 0x3C23D70A#32 * x) * Ideal.ofBits .f32 0x3F000000#32

theorem halfLeaky_apply (m : FVec Ideal S1024x1 .f32) (i : S1024x1.Idx) : halfLeaky m i = halfLeak (m i) := by
  unfold halfLeaky halfLeak
  rw [mulf_apply, select_apply, cmpf_apply, mulf_apply]
  simp only [broadcast_apply]
  refine congrArg (· * Ideal.ofBits .f32 0x3F000000#32) ?_
  show Scalar.select (BitVec.ofBool (decide (Ideal.ofBits .f32 0x00000000#32 ≤ m i))) _ _ = _
  rw [Ideal.ofBits_zero_f32]
  by_cases q : 0 ≤ m i
  · rw [if_pos q, decide_eq_true q]; rfl
  · rw [if_neg q, decide_eq_false q]; rfl

/-- What an edge from `r` to its place-`k` neighbour weighs each way. -/
def weight (X : Vec Ideal S12x16x1024x64 .f32) (b : Fin 16) (r : Fin 1024) (k : Fin 5) : EReal :=
  halfLeak (likeness X b r (order X b r (place k)))

theorem amt_apply (X : Vec Ideal S12x16x1024x64 .f32) (hX : NoZeroRow X) (b : Fin 16) (r : Fin 1024) (k : Fin 5) :
    amt (batchOf X b) k.val (ix2 r (0 : Fin 1)) = weight X b r k :=
  (halfLeaky_apply _ _).trans (congrArg halfLeak (best_work_apply X hX b r k))

end Cert.KernelIdeal.Top

end
-- ==== Proof.Adding.lean ====
/-
  What a tile's adding and wiping come to at one cell, over the extended reals: the cell ends with the sum of the values
  of all updates that name it, whatever order they were added in; and wiping leaves zero where anything was added.
-/
module

public import proofs.«01_k».proof.Proof.Scatter
public import Idealize.ShloMosaic.PureOps.Ideal.Laws
public import Idealize.ShloMosaic.Lib.ValueIdx
public import Idealize.ShloMosaic.Lib.Pipeline.Value

@[expose] public section

noncomputable section

namespace Cert.KernelIdeal.Tile

open Cert.KernelIdeal Cert.KernelIdeal.Gen Idealize.ShloMosaic
open scoped BigOperators

/-- One update's share of cell `i` of the chunk that starts at `v0`: its value if it names the cell, else nothing. -/
def share (v0 : BitVec 32) (A : Vec Ideal S16x1024 .i32) (B : Vec Ideal S16x1024 .f32) (i p n : ℕ) : EReal :=
  if A (ValueIdx.ix2 ⟨p % 16, Nat.mod_lt _ (by decide)⟩ ⟨n % 1024, Nat.mod_lt _ (by decide)⟩) - v0 = BitVec.ofNat 32 i then
    B (ValueIdx.ix2 ⟨p % 16, Nat.mod_lt _ (by decide)⟩ ⟨n % 1024, Nat.mod_lt _ (by decide)⟩) else 0

/-- Storing with addition adds to a cell the values of the lanes that name it. -/
theorem storeIdx_add_apply (f : Vec Ideal S65536 .f32) (idxs : Fin S65536.rank → IVec S16 32) (v : Vec Ideal S16 .f32)
    (h : ∀ a x, (idxs a x).toNat < S65536.size a) (j : S65536.Idx) :
    storeIdx f idxs v (fun _ => 1#1) true h j
      = f j + ((List.finRange 16).map fun k : Fin 16 =>
          if idxAt idxs h (Shape.ofLane k) = j then v (Shape.ofLane k) else (0 : EReal)).sum := by
  unfold storeIdx
  show (List.foldl _ f (List.finRange 16)) j = _
  generalize List.finRange 16 = l
  induction l generalizing f with
  | nil => exact (add_zero (f j)).symm
  | cons k l ih =>
    refine (ih _).trans ?_
    rw [List.map_cons, List.sum_cons, ← add_assoc]
    refine congrArg (· + _) ?_
    show (if (1#1 : BitVec 1) = 1 then _ else f) j = _
    refine (congrFun (if_pos rfl) j).trans ?_
    by_cases hk : idxAt idxs h (Shape.ofLane k) = j
    · refine (if_pos fun a => by rw [← hk]).trans (Eq.trans ?_ (congrArg (f j + ·) (if_pos hk).symm))
      exact congrArg (fun q => f q + v (Shape.ofLane k)) hk
    · refine (if_neg fun q => hk (funext fun a => Fin.ext (q a).symm)).trans ?_
      exact ((congrArg (f j + ·) (if_neg hk)).trans (add_zero (f j))).symm

/-- Storing one value under a mask leaves it where a lane with its bit set names the cell. -/
theorem storeIdx_set_apply (f : Vec Ideal S65536 .f32) (idxs : Fin S65536.rank → IVec S16 32) (z : EReal) (mask : IVec S16 1)
    (h : ∀ a x, (idxs a x).toNat < S65536.size a) (j : S65536.Idx) :
    storeIdx f idxs ((fun _ => z) : Vec Ideal S16 .f32) mask false h j
      = open Classical in if ∃ k : Fin 16, k ∈ List.finRange 16 ∧ mask (Shape.ofLane k) = 1 ∧ idxAt idxs h (Shape.ofLane k) = j then z else f j := by
  unfold storeIdx
  show (List.foldl _ f (List.finRange 16)) j = _
  generalize List.finRange 16 = l
  induction l generalizing f with
  | nil => exact (if_neg (by rintro ⟨k, hk, _⟩; exact absurd hk List.not_mem_nil)).symm
  | cons k l ih =>
    refine (ih _).trans ?_
    by_cases hl : ∃ k : Fin 16, k ∈ l ∧ mask (Shape.ofLane k) = 1 ∧ idxAt idxs h (Shape.ofLane k) = j
    · rw [if_pos hl, if_pos]
      obtain ⟨k', hk', q⟩ := hl
      exact ⟨k', List.mem_cons_of_mem _ hk', q⟩
    · rw [if_neg hl]
      show (if mask (Shape.ofLane k) = 1 then _ else f) j = _
      by_cases hm : mask (Shape.ofLane k) = 1
      · refine (congrFun (if_pos hm) j).trans ?_
        by_cases hk : idxAt idxs h (Shape.ofLane k) = j
        · exact (if_pos fun a => by rw [← hk]).trans (if_pos ⟨k, List.mem_cons_self, hm, hk⟩).symm
        · refine (if_neg fun q => hk (funext fun a => Fin.ext (q a).symm)).trans (if_neg ?_).symm
          rintro ⟨k', hk', hm', h'⟩
          rcases List.mem_cons.mp hk' with rfl | hk''
          · exact hk h'
          · exact hl ⟨k', hk'', hm', h'⟩
      · refine (congrFun (if_neg hm) j).trans (if_neg ?_).symm
        rintro ⟨k', hk', hm', h'⟩
        rcases List.mem_cons.mp hk' with rfl | hk''
        · exact hm hm'
        · exact hl ⟨k', hk'', hm', h'⟩

/-- An update in the chunk names a cell exactly when its distance from the chunk's first cell is the cell's number. -/
theorem names_iff (v0 : BitVec 32) (ld : Vec Ideal S1x16 .i32) (x : S16.Idx) {i : ℕ} (hi : i < 65536) :
    (inChunk v0 ld x = 1#1 ∧ (cellOf v0 ld x).toNat = i) ↔ relOf v0 ld x = BitVec.ofNat 32 i := by
  have hc : cellOf v0 ld x = if inChunk v0 ld x = 1 then relOf v0 ld x else 0#32 := rfl
  constructor
  · rintro ⟨h, e⟩
    rw [hc] at e
    replace e := (congrArg BitVec.toNat (if_pos h)).symm.trans e
    rw [← e, BitVec.ofNat_toNat, BitVec.setWidth_eq]
  · intro e
    have h : inChunk v0 ld x = 1#1 := by
      rw [inChunk_apply, e]
      have hn : (BitVec.ofNat 32 i).toInt = i := by
        rw [BitVec.toInt_eq_toNat_cond, BitVec.toNat_ofNat, Nat.mod_eq_of_lt (by omega), if_pos (by omega)]
      constructor
      · rw [BitVec.sle, decide_eq_true_eq, hn, show (0#32).toInt = 0 from rfl]; omega
      · rw [BitVec.slt, decide_eq_true_eq, hn, show (65536#32).toInt = 65536 from rfl]; omega
    refine ⟨h, ?_⟩
    rw [hc]
    refine (congrArg BitVec.toNat (if_pos h)).trans ?_
    rw [e, BitVec.toNat_ofNat, Nat.mod_eq_of_lt (by omega)]

/-- Sixteen updates of a plane, as sixteen words counted from the chunk's first cell, and their values. -/
theorem relOf_row16 (v0 : BitVec 32) (A : Vec Ideal S16x1024 .i32) (p t : ℕ) (k : Fin 16) :
    relOf v0 (row16 A p t) (ValueIdx.ix1 k)
      = A (ValueIdx.ix2 ⟨p % 16, Nat.mod_lt _ (by decide)⟩ ⟨(16 * t + k.val) % 1024, Nat.mod_lt _ (by decide)⟩) - v0 := by
  show shapeCast S16 (row16 A p t) shapeCasts_S1x16_S16 (ValueIdx.ix1 k) - v0 = _
  rw [show shapeCast S16 (row16 A p t) shapeCasts_S1x16_S16 (ValueIdx.ix1 k) = _ from
    shapeCast_dropUnit_apply (![16]) (row16 A p t) shapeCasts_S1x16_S16 (ValueIdx.ix1 k)]
  rfl

theorem val_row16 (B : Vec Ideal S16x1024 .f32) (p t : ℕ) (k : Fin 16) :
    shapeCast S16 (row16 B p t) shapeCasts_S1x16_S16 (ValueIdx.ix1 k)
      = B (ValueIdx.ix2 ⟨p % 16, Nat.mod_lt _ (by decide)⟩ ⟨(16 * t + k.val) % 1024, Nat.mod_lt _ (by decide)⟩) := by
  rw [show shapeCast S16 (row16 B p t) shapeCasts_S1x16_S16 (ValueIdx.ix1 k) = _ from
    shapeCast_dropUnit_apply (![16]) (row16 B p t) shapeCasts_S1x16_S16 (ValueIdx.ix1 k)]
  rfl

theorem ofLane_eq (k : Fin 16) : (Shape.ofLane k : S16.Idx) = ValueIdx.ix1 k := by
  funext a; obtain rfl : a = 0 := Subsingleton.elim _ _; rfl

/-- Sixteen updates added in, at one cell. -/
theorem addStep_apply (v0 : BitVec 32) (A : Vec Ideal S16x1024 .i32) (B : Vec Ideal S16x1024 .f32) (p t : ℕ)
    (f : Vec Ideal S65536 .f32) (i : Fin 65536) :
    addStep v0 (row16 A p t) (row16 B p t) f (ValueIdx.ix1 i)
      = f (ValueIdx.ix1 i) + ∑ k ∈ Finset.range 16, share v0 A B i.val p (16 * t + k) := by
  have h := storeIdx_add_apply f ![cellOf v0 (row16 A p t)] (addOf v0 (row16 A p t) (row16 B p t))
    (cellOf_inb v0 (row16 A p t)) (ValueIdx.ix1 i)
  rw [← Fin.sum_univ_def] at h
  refine h.trans ?_
  · rw [Finset.sum_range]
    refine congrArg (f (ValueIdx.ix1 i) + ·) (Finset.sum_congr rfl fun k _ => ?_)
    rw [ofLane_eq]
    unfold share
    rw [← relOf_row16 v0 A p t k, ← val_row16 B p t k]
    have ha : addOf v0 (row16 A p t) (row16 B p t) (ValueIdx.ix1 k)
        = if inChunk v0 (row16 A p t) (ValueIdx.ix1 k) = 1#1 then
            shapeCast S16 (row16 B p t) shapeCasts_S1x16_S16 (ValueIdx.ix1 k) else 0 := by
      show (if inChunk v0 (row16 A p t) (ValueIdx.ix1 k) = 1 then
            shapeCast S16 (row16 B p t) shapeCasts_S1x16_S16 (ValueIdx.ix1 k) else Ideal.ofBits .f32 0x00000000#32) = _
      rw [Ideal.ofBits_zero_f32]; rfl
    have hcell : (idxAt ![cellOf v0 (row16 A p t)] (cellOf_inb v0 (row16 A p t)) (ValueIdx.ix1 k) = ValueIdx.ix1 i)
        ↔ (cellOf v0 (row16 A p t) (ValueIdx.ix1 k)).toNat = i.val := by
      constructor
      · intro e; exact congrArg (fun y : S65536.Idx => (y 0).val) e
      · intro e; funext a; obtain rfl : a = 0 := Subsingleton.elim _ _; exact Fin.ext e
    have hn := names_iff v0 (row16 A p t) (ValueIdx.ix1 k) i.isLt
    rw [ha]
    by_cases hc : inChunk v0 (row16 A p t) (ValueIdx.ix1 k) = 1#1
    · rw [if_pos hc]
      exact if_congr (hcell.trans ⟨fun q => hn.1 ⟨hc, q⟩, fun q => (hn.2 q).2⟩) rfl rfl
    · rw [if_neg hc, if_neg (fun q => hc (hn.2 q).1), ite_self]

/-- A plane's groups added in, at one cell. -/
theorem addGroups_apply (v0 : BitVec 32) (A : Vec Ideal S16x1024 .i32) (B : Vec Ideal S16x1024 .f32) (p : ℕ)
    (f : Vec Ideal S65536 .f32) (i : Fin 65536) :
    ∀ t, addGroups v0 A B p t f (ValueIdx.ix1 i)
      = f (ValueIdx.ix1 i) + ∑ n ∈ Finset.range (16 * t), share v0 A B i.val p n
  | 0 => by simp [addGroups]
  | t + 1 => by
    rw [addGroups, addStep_apply, addGroups_apply v0 A B p f i t, Nat.mul_succ, Finset.sum_range_add, add_assoc]

/-- The planes added in, at one cell. -/
theorem addPlanes_apply (v0 : BitVec 32) (A : Vec Ideal S16x1024 .i32) (B : Vec Ideal S16x1024 .f32)
    (f : Vec Ideal S65536 .f32) (i : Fin 65536) :
    ∀ P, addPlanes v0 A B P f (ValueIdx.ix1 i)
      = f (ValueIdx.ix1 i) + ∑ p ∈ Finset.range P, ∑ n ∈ Finset.range 1024, share v0 A B i.val p n
  | 0 => by simp [addPlanes]
  | P + 1 => by
    rw [addPlanes, addGroups_apply, addPlanes_apply v0 A B f i P, Finset.sum_range_succ _ P, add_assoc]

/-- One update names cell `i`. -/
def Names (v0 : BitVec 32) (A : Vec Ideal S16x1024 .i32) (i p n : ℕ) : Prop :=
  A (ValueIdx.ix2 ⟨p % 16, Nat.mod_lt _ (by decide)⟩ ⟨n % 1024, Nat.mod_lt _ (by decide)⟩) - v0 = BitVec.ofNat 32 i

/-- Wiping the cells of sixteen updates keeps a zero, and makes one of a cell that is named. -/
theorem wipeStep_apply (v0 : BitVec 32) (A : Vec Ideal S16x1024 .i32) (p t : ℕ) (f : Vec Ideal S65536 .f32) (i : Fin 65536) :
    (f (ValueIdx.ix1 i) = 0 → wipeStep v0 (row16 A p t) f (ValueIdx.ix1 i) = 0)
      ∧ ∀ k : Fin 16, Names v0 A i.val p (16 * t + k.val) → wipeStep v0 (row16 A p t) f (ValueIdx.ix1 i) = 0 := by
  have h : wipeStep v0 (row16 A p t) f (ValueIdx.ix1 i) = _ :=
    storeIdx_set_apply f ![cellOf v0 (row16 A p t)] (fzero (F := Ideal)) (inChunk v0 (row16 A p t))
      (cellOf_inb v0 (row16 A p t)) (ValueIdx.ix1 i)
  rw [show (fzero (F := Ideal)) = 0 from Ideal.ofBits_zero_f32] at h
  rw [h]
  refine ⟨fun e => by rw [e, ite_self], fun k hk => if_pos ⟨k, List.mem_finRange k, ?_⟩⟩
  unfold Names at hk
  rw [← relOf_row16 v0 A p t k] at hk
  have hn := (names_iff v0 (row16 A p t) (ValueIdx.ix1 k) i.isLt).2 hk
  rw [ofLane_eq]
  exact ⟨hn.1, funext fun a => by obtain rfl : a = 0 := Subsingleton.elim _ _; exact Fin.ext hn.2⟩

theorem wipeGroups_apply (v0 : BitVec 32) (A : Vec Ideal S16x1024 .i32) (p : ℕ) (f : Vec Ideal S65536 .f32) (i : Fin 65536) :
    ∀ t, (f (ValueIdx.ix1 i) = 0 → wipeGroups v0 A p t f (ValueIdx.ix1 i) = 0)
      ∧ ∀ n, n < 16 * t → Names v0 A i.val p n → wipeGroups v0 A p t f (ValueIdx.ix1 i) = 0
  | 0 => ⟨fun h => h, fun n hn => absurd hn (by omega)⟩
  | t + 1 => by
    obtain ⟨h0, h1⟩ := wipeGroups_apply v0 A p f i t
    obtain ⟨s0, s1⟩ := wipeStep_apply v0 A p t (wipeGroups v0 A p t f) i
    rw [wipeGroups]
    refine ⟨fun h => s0 (h0 h), fun n hn hN => ?_⟩
    by_cases q : n < 16 * t
    · exact s0 (h1 n q hN)
    · refine s1 ⟨n - 16 * t, by omega⟩ ?_
      rwa [show 16 * t + (n - 16 * t) = n by omega]

theorem wipePlanes_apply (v0 : BitVec 32) (A : Vec Ideal S16x1024 .i32) (f : Vec Ideal S65536 .f32) (i : Fin 65536) :
    ∀ P, (f (ValueIdx.ix1 i) = 0 → wipePlanes v0 A P f (ValueIdx.ix1 i) = 0)
      ∧ ∀ p n, p < P → n < 1024 → Names v0 A i.val p n → wipePlanes v0 A P f (ValueIdx.ix1 i) = 0
  | 0 => ⟨fun h => h, fun p n hp => absurd hp (by omega)⟩
  | P + 1 => by
    obtain ⟨h0, h1⟩ := wipePlanes_apply v0 A f i P
    obtain ⟨s0, s1⟩ := wipeGroups_apply v0 A P (wipePlanes v0 A P f) i 64
    rw [wipePlanes]
    refine ⟨fun h => s0 (h0 h), fun p n hp hn hN => ?_⟩
    by_cases q : p < P
    · exact s0 (h1 p n q hn hN)
    · obtain rfl : p = P := by omega
      exact s1 n hn hN

/-- Adding a batch in and wiping its cells leaves an empty chunk empty. -/
theorem wipe_add (v0 : BitVec 32) (A : Vec Ideal S16x1024 .i32) (B : Vec Ideal S16x1024 .f32) (f : Vec Ideal S65536 .f32)
    (hf : ∀ i : Fin 65536, f (ValueIdx.ix1 i) = 0) (i : Fin 65536) :
    wipePlanes v0 A 16 (addPlanes v0 A B 16 f) (ValueIdx.ix1 i) = 0 := by
  obtain ⟨h0, h1⟩ := wipePlanes_apply v0 A (addPlanes v0 A B 16 f) i 16
  by_cases h : ∃ p n, p < 16 ∧ n < 1024 ∧ Names v0 A i.val p n
  · obtain ⟨p, n, hp, hn, hN⟩ := h
    exact h1 p n hp hn hN
  · refine h0 ?_
    rw [addPlanes_apply, hf, zero_add]
    refine Finset.sum_eq_zero fun p hp => Finset.sum_eq_zero fun n hn => ?_
    exact if_neg fun q => h ⟨p, n, Finset.mem_range.mp hp, Finset.mem_range.mp hn, q⟩

/-- The chunk is empty before every round. -/
theorem chunkIn_zero (I : Vec Ideal S16x16x1024 .i32) (V : Vec Ideal S16x16x1024 .f32) (c s : ℕ) :
    ∀ (r : ℕ) (i : Fin 65536), chunkIn I V c s r (ValueIdx.ix1 i) = 0
  | 0, i => Ideal.ofBits_zero_f32
  | r + 1, i => wipe_add _ _ _ _ (fun i => chunkIn_zero I V c s r i) i

/-- What a tile copies out, at one cell. -/
theorem chunkOut_apply (I : Vec Ideal S16x16x1024 .i32) (V : Vec Ideal S16x16x1024 .f32) (c s r : ℕ) (i : Fin 65536) :
    chunkOut I V c s r (ValueIdx.ix1 i)
      = ∑ p ∈ Finset.range 16, ∑ n ∈ Finset.range 1024, share (firstCell s) (slab I (2 * r + c)) (slab V (2 * r + c)) i.val p n := by
  unfold chunkOut
  rw [addPlanes_apply, chunkIn_zero, zero_add]

/-- The array the tiles write between them: cell `y` of batch `b` is the sum of that batch's values whose cell is `y`. -/
theorem scattered_apply (I : Vec Ideal S16x16x1024 .i32) (V : Vec Ideal S16x16x1024 .f32) (b : Fin 16) (y : Fin 1048576) :
    scattered I V (ValueIdx.ix2 b y)
      = ∑ p : Fin 16, ∑ n : Fin 1024,
          if I (ValueIdx.ix3 b p n) = BitVec.ofNat 32 y.val then V (ValueIdx.ix3 b p n) else 0 := by
  have e : scattered I V (ValueIdx.ix2 b y) = chunkOut I V (b.val % 2) (y.val / 65536) (b.val / 2)
      (ValueIdx.ix1 ⟨y.val % 65536, Nat.mod_lt _ (by decide)⟩) := rfl
  rw [e, chunkOut_apply, Finset.sum_range]
  refine Finset.sum_congr rfl fun p _ => ?_
  rw [Finset.sum_range]
  refine Finset.sum_congr rfl fun n _ => ?_
  have hb : (⟨(2 * (b.val / 2) + b.val % 2) % 16, Nat.mod_lt _ (by decide)⟩ : Fin 16) = b :=
    Fin.ext (by have := b.isLt; show (2 * (b.val / 2) + b.val % 2) % 16 = b.val; omega)
  have hp : (⟨p.val % 16, Nat.mod_lt _ (by decide)⟩ : Fin 16) = p := Fin.ext (Nat.mod_eq_of_lt p.isLt)
  have hn : (⟨n.val % 1024, Nat.mod_lt _ (by decide)⟩ : Fin 1024) = n := Fin.ext (Nat.mod_eq_of_lt n.isLt)
  unfold share slab
  rw [hp, hn]
  show (if I (ValueIdx.ix3 ⟨(2 * (b.val / 2) + b.val % 2) % 16, Nat.mod_lt _ (by decide)⟩ p n) - firstCell (y.val / 65536)
      = BitVec.ofNat 32 (y.val % 65536) then
        V (ValueIdx.ix3 ⟨(2 * (b.val / 2) + b.val % 2) % 16, Nat.mod_lt _ (by decide)⟩ p n) else 0) = _
  rw [hb]
  refine if_congr ?_ rfl rfl
  have hy := y.isLt
  have hs : firstCell (y.val / 65536) = BitVec.ofNat 32 (y.val / 65536 * 65536) := by
    show BitVec.ofNat 32 (y.val / 65536) * 65536#32 = _
    rw [BitVec.ofNat_mul]
  rw [BitVec.sub_eq_iff_eq_add, hs, ← BitVec.ofNat_add, show y.val % 65536 + y.val / 65536 * 65536 = y.val by omega]

end Cert.KernelIdeal.Tile

end
-- ==== Proof.Cells.lean ====
/-
  The sixteen planes read at an index, and what they add up to at a cell: the weight of the edge from the cell's row to
  its column, if there is one, and of the edge back.
-/
module

public import proofs.«01_k».proof.Proof.Similar
public import proofs.«01_k».proof.Proof.Adding

@[expose] public section

noncomputable section

namespace Cert.KernelIdeal.Top

open Cert.KernelIdeal Cert.KernelIdeal.Gen Idealize.ShloMosaic Idealize.ShloMosaic.ValueIdx
open scoped BigOperators

theorem asPlanes_apply {α : Type} (v : Fin 16 → S1024x1.Idx → α) (p : Fin 16) (n : Fin 1024) :
    asPlanes v (ix3 (0 : Fin 1) p n) = v p (ix2 n (0 : Fin 1)) := by
  unfold asPlanes
  rw [shapeCast_apply _ _ _ (ix2 p n) (by
    refine (Shape.rowMajor_val_two _).trans (Eq.trans ?_ (Shape.rowMajor_val_three _).symm)
    show p.val * 1024 + n.val = (0 * 16 + p.val) * 1024 + n.val
    omega)]
  rw [transpose_apply _ _ _ _ (ix2 n p) (fun b => by
    match b with
    | ⟨0, _⟩ => rfl
    | ⟨1, _⟩ => rfl)]
  exact concatenate_ofFn_unit_apply (t := S1024x16) (s₁ := S1024x1) 1 v
    concatenates_S1024x1_S1024x1_S1024x1_S1024x1_S1024x1_S1024x1_S1024x1_S1024x1_S1024x1_S1024x1_S1024x1_S1024x1_S1024x1_S1024x1_S1024x1_S1024x1_S1024x16_d1
    rfl rfl (ix2 n p) p rfl _ (fun b hb => by
      match b with
      | ⟨0, _⟩ => rfl
      | ⟨1, _⟩ => exact absurd rfl hb)

theorem cellFwd_apply (j : IVec S1024x1 32) (n c : Fin 1024) (h : j (ix2 n (0 : Fin 1)) = BitVec.ofNat 32 c.val) :
    cellFwd j (ix2 n (0 : Fin 1)) = BitVec.ofNat 32 (n.val * 1024 + c.val) := by
  have hr : rowNo (ix2 n (0 : Fin 1)) = BitVec.ofNat 32 n.val := iota_single_apply _ _ _ _ _ _
  show rowNo (ix2 n (0 : Fin 1)) * 1024#32 + j (ix2 n (0 : Fin 1)) = _
  rw [hr, h, BitVec.ofNat_add, BitVec.ofNat_mul]

theorem cellBwd_apply (j : IVec S1024x1 32) (n c : Fin 1024) (h : j (ix2 n (0 : Fin 1)) = BitVec.ofNat 32 c.val) :
    cellBwd j (ix2 n (0 : Fin 1)) = BitVec.ofNat 32 (c.val * 1024 + n.val) := by
  have hr : rowNo (ix2 n (0 : Fin 1)) = BitVec.ofNat 32 n.val := iota_single_apply _ _ _ _ _ _
  show j (ix2 n (0 : Fin 1)) * 1024#32 + rowNo (ix2 n (0 : Fin 1)) = _
  rw [hr, h, BitVec.ofNat_add, BitVec.ofNat_mul]

/-- Two flat cells are one exactly when their rows and their columns are. -/
theorem cell_eq (r c R C : Fin 1024) :
    BitVec.ofNat 32 (r.val * 1024 + c.val) = BitVec.ofNat 32 (R.val * 1024 + C.val) ↔ r = R ∧ c = C := by
  constructor
  · intro e
    have := congrArg BitVec.toNat e
    rw [BitVec.toNat_ofNat, BitVec.toNat_ofNat, Nat.mod_eq_of_lt (by omega), Nat.mod_eq_of_lt (by omega)] at this
    exact ⟨Fin.ext (by omega), Fin.ext (by omega)⟩
  · rintro ⟨rfl, rfl⟩; rfl

/-- A column's sum over the rows where one row and one condition are asked for. -/
theorem sum_at (R : Fin 1024) (P : Fin 1024 → Prop) [DecidablePred P] (f : Fin 1024 → EReal) :
    (∑ n : Fin 1024, if n = R ∧ P n then f n else 0) = if P R then f R else 0 := by
  rw [Finset.sum_eq_single R]
  · exact if_congr ⟨fun h => h.2, fun h => ⟨rfl, h⟩⟩ rfl rfl
  · intro n _ hn; exact if_neg fun h => hn h.1
  · intro h; exact absurd (Finset.mem_univ R) h

/-- What plane `p` adds to the cell of row `R` and column `C`. -/
def planeSum (x : Vec Ideal S12x1x1024x64 .f32) (R C : Fin 1024) (p : Fin 16) : EReal :=
  ∑ n : Fin 1024, if cellCols x p (ix2 n (0 : Fin 1)) = BitVec.ofNat 32 (R.val * 1024 + C.val) then
    amtCols x p (ix2 n (0 : Fin 1)) else 0

theorem sum_fwd (j : IVec S1024x1 32) (σ : Fin 1024 → Fin 1024) (h : ∀ n, j (ix2 n (0 : Fin 1)) = BitVec.ofNat 32 (σ n).val)
    (f : Fin 1024 → EReal) (R C : Fin 1024) :
    (∑ n : Fin 1024, if cellFwd j (ix2 n (0 : Fin 1)) = BitVec.ofNat 32 (R.val * 1024 + C.val) then f n else 0)
      = if σ R = C then f R else 0 := by
  refine Eq.trans (Finset.sum_congr rfl fun n _ => ?_) (sum_at R (fun n => σ n = C) f)
  rw [cellFwd_apply j n (σ n) (h n)]
  exact if_congr (cell_eq n (σ n) R C) rfl rfl

theorem sum_bwd (j : IVec S1024x1 32) (σ : Fin 1024 → Fin 1024) (h : ∀ n, j (ix2 n (0 : Fin 1)) = BitVec.ofNat 32 (σ n).val)
    (f : Fin 1024 → EReal) (R C : Fin 1024) :
    (∑ n : Fin 1024, if cellBwd j (ix2 n (0 : Fin 1)) = BitVec.ofNat 32 (R.val * 1024 + C.val) then f n else 0)
      = if σ C = R then f C else 0 := by
  refine Eq.trans (Finset.sum_congr rfl fun n _ => ?_) (sum_at C (fun n => σ n = R) f)
  rw [cellBwd_apply j n (σ n) (h n)]
  exact if_congr ((cell_eq (σ n) n R C).trans and_comm) rfl rfl

theorem zero_word (i : S1024x1.Idx) :
    (broadcast S1024x1 (Scalar.ofBits .f32 0x00000000#32) : FVec Ideal S1024x1 .f32) i = 0 := Ideal.ofBits_zero_f32

/-- A column of nothing adds nothing. -/
theorem sum_none (j : IVec S1024x1 32) (y : BitVec 32) :
    (∑ n : Fin 1024, if j (ix2 n (0 : Fin 1)) = y then
      (broadcast S1024x1 (Scalar.ofBits .f32 0x00000000#32) : FVec Ideal S1024x1 .f32) (ix2 n (0 : Fin 1)) else 0) = 0 := by
  refine Finset.sum_eq_zero fun n _ => ?_
  rw [zero_word, ite_self]

theorem onDiag_apply (X : Vec Ideal S12x16x1024x64 .f32) (hX : NoZeroRow X) (b : Fin 16) (n : Fin 1024) :
    onDiag (batchOf X b) (ix2 n (0 : Fin 1)) = if order X b n (place 0) = n then 1#1 else 0#1 := by
  have hr : rowNo (ix2 n (0 : Fin 1)) = BitVec.ofNat 32 n.val := iota_single_apply _ _ _ _ _ _
  show BitVec.ofBool (colAt (batchOf X b) (0 : Fin 5).val (ix2 n (0 : Fin 1)) == rowNo (ix2 n (0 : Fin 1))) = _
  rw [colAt_apply X hX, hr]
  by_cases q : order X b n (place 0) = n
  · rw [if_pos q, q, beq_self_eq_true]; rfl
  · rw [if_neg q, beq_false_of_ne]
    · rfl
    · intro e
      have := congrArg BitVec.toNat e
      rw [BitVec.toNat_ofNat, BitVec.toNat_ofNat, Nat.mod_eq_of_lt (by omega), Nat.mod_eq_of_lt (by omega)] at this
      exact q (Fin.ext this)

theorem amtFwd0_apply (X : Vec Ideal S12x16x1024x64 .f32) (hX : NoZeroRow X) (b : Fin 16) (n : Fin 1024) :
    amtFwd0 (batchOf X b) (ix2 n (0 : Fin 1))
      = if order X b n (place 0) = n then weight X b n 0 + weight X b n 0 else weight X b n 0 := by
  unfold amtFwd0
  rw [select_apply, onDiag_apply X hX, addf_apply, show amt (batchOf X b) 0 (ix2 n (0 : Fin 1)) = weight X b n 0 from amt_apply X hX b n 0]
  split <;> rfl

theorem amtBwd0_apply (X : Vec Ideal S12x16x1024x64 .f32) (hX : NoZeroRow X) (b : Fin 16) (n : Fin 1024) :
    amtBwd0 (batchOf X b) (ix2 n (0 : Fin 1)) = if order X b n (place 0) = n then 0 else weight X b n 0 := by
  unfold amtBwd0
  rw [select_apply, onDiag_apply X hX, zero_word, show amt (batchOf X b) 0 (ix2 n (0 : Fin 1)) = weight X b n 0 from amt_apply X hX b n 0]
  split <;> rfl

/-- The weight of the edge from `R` to `C`, if `C` is `R`'s neighbour at place `k`. -/
def edge (X : Vec Ideal S12x16x1024x64 .f32) (b : Fin 16) (R C : Fin 1024) (k : Fin 5) : EReal :=
  if order X b R (place k) = C then weight X b R k else 0

/-- The first neighbour's two planes: where they meet on the diagonal the first carries both shares. -/
theorem planes_first (X : Vec Ideal S12x16x1024x64 .f32) (hX : NoZeroRow X) (b : Fin 16) (R C : Fin 1024) :
    planeSum (batchOf X b) R C 0 + planeSum (batchOf X b) R C 5 = edge X b R C 0 + edge X b C R 0 := by
  have hc0 : cellCols (batchOf X b) 0 = cellFwd (colAt (batchOf X b) 0) := by simp only [cellCols, Matrix.cons_val]
  have ha0 : amtCols (batchOf X b) 0 = amtFwd0 (batchOf X b) := by simp only [amtCols, sixteen, Matrix.cons_val]
  have hc5 : cellCols (batchOf X b) 5 = cellBwd (colAt (batchOf X b) 0) := by simp only [cellCols, Matrix.cons_val]
  have ha5 : amtCols (batchOf X b) 5 = amtBwd0 (batchOf X b) := by simp only [amtCols, sixteen, Matrix.cons_val]
  have hcol : ∀ n : Fin 1024, colAt (batchOf X b) 0 (ix2 n (0 : Fin 1)) = BitVec.ofNat 32 (order X b n (place 0)).val :=
    fun n => colAt_apply X hX b n 0
  have h0 : planeSum (batchOf X b) R C 0 = if order X b R (place 0) = C then
      (if order X b R (place 0) = R then weight X b R 0 + weight X b R 0 else weight X b R 0) else 0 := by
    unfold planeSum
    rw [hc0, ha0]
    exact (sum_fwd (colAt (batchOf X b) 0) (fun n => order X b n (place 0)) hcol
      (fun n => amtFwd0 (batchOf X b) (ix2 n (0 : Fin 1))) R C).trans (if_congr Iff.rfl (amtFwd0_apply X hX b R) rfl)
  have h5 : planeSum (batchOf X b) R C 5 = if order X b C (place 0) = R then
      (if order X b C (place 0) = C then 0 else weight X b C 0) else 0 := by
    unfold planeSum
    rw [hc5, ha5]
    exact (sum_bwd (colAt (batchOf X b) 0) (fun n => order X b n (place 0)) hcol
      (fun n => amtBwd0 (batchOf X b) (ix2 n (0 : Fin 1))) R C).trans (if_congr Iff.rfl (amtBwd0_apply X hX b C) rfl)
  rw [h0, h5]
  unfold edge
  by_cases e : R = C
  · subst e
    by_cases q : order X b R (place 0) = R
    · simp only [if_pos q, add_zero]
    · simp only [if_neg q]
  · have q1 : order X b R (place 0) = C → ¬ order X b R (place 0) = R := fun p q => e (q.symm.trans p)
    have q2 : order X b C (place 0) = R → ¬ order X b C (place 0) = C := fun p q => e (p.symm.trans q)
    refine congrArg₂ (· + ·) ?_ ?_
    · by_cases p : order X b R (place 0) = C
      · rw [if_pos p, if_pos p, if_neg (q1 p)]
      · rw [if_neg p, if_neg p]
    · by_cases p : order X b C (place 0) = R
      · rw [if_pos p, if_pos p, if_neg (q2 p)]
      · rw [if_neg p, if_neg p]

/-- A later neighbour's forward plane. -/
theorem plane_fwd (X : Vec Ideal S12x16x1024x64 .f32) (hX : NoZeroRow X) (b : Fin 16) (R C : Fin 1024) (k : Fin 5) (p : Fin 16)
    (q : ℕ) (hq : q = k.val) (hc : cellCols (batchOf X b) p = cellFwd (colAt (batchOf X b) q)) (ha : amtCols (batchOf X b) p = amt (batchOf X b) q) :
    planeSum (batchOf X b) R C p = edge X b R C k := by
  subst hq
  unfold planeSum
  rw [hc, ha]
  refine (sum_fwd (colAt (batchOf X b) k.val) (fun n => order X b n (place k)) (fun n => colAt_apply X hX b n k)
    (fun n => amt (batchOf X b) k.val (ix2 n (0 : Fin 1))) R C).trans ?_
  exact if_congr Iff.rfl (amt_apply X hX b R k) rfl

/-- A later neighbour's backward plane. -/
theorem plane_bwd (X : Vec Ideal S12x16x1024x64 .f32) (hX : NoZeroRow X) (b : Fin 16) (R C : Fin 1024) (k : Fin 5) (p : Fin 16)
    (q : ℕ) (hq : q = k.val) (hc : cellCols (batchOf X b) p = cellBwd (colAt (batchOf X b) q)) (ha : amtCols (batchOf X b) p = amt (batchOf X b) q) :
    planeSum (batchOf X b) R C p = edge X b C R k := by
  subst hq
  unfold planeSum
  rw [hc, ha]
  refine (sum_bwd (colAt (batchOf X b) k.val) (fun n => order X b n (place k)) (fun n => colAt_apply X hX b n k)
    (fun n => amt (batchOf X b) k.val (ix2 n (0 : Fin 1))) R C).trans ?_
  exact if_congr Iff.rfl (amt_apply X hX b C k) rfl

/-- An unused plane. -/
theorem plane_none (x : Vec Ideal S12x1x1024x64 .f32) (R C : Fin 1024) (p : Fin 16)
    (ha : amtCols x p = broadcast S1024x1 (Scalar.ofBits .f32 0x00000000#32)) : planeSum x R C p = 0 := by
  unfold planeSum
  rw [ha]
  exact sum_none _ _

/-- Sixteen terms, gathered as the planes are: the first neighbour's two, the others' forward and backward, the unused. -/
theorem sum_sixteen (f : Fin 16 → EReal) : (∑ p : Fin 16, f p)
    = (f 0 + f 5) + (f 1 + f 2 + f 3 + f 4) + (f 6 + f 7 + f 8 + f 9) + (f 10 + f 11 + f 12 + f 13 + f 14 + f 15) := by
  rw [Fin.sum_univ_def]
  simp only [List.finRange_succ, List.finRange_zero, List.map_cons, List.map_nil, List.sum_cons, List.sum_nil, add_zero]
  show f 0 + (f 1 + (f 2 + (f 3 + (f 4 + (f 5 + (f 6 + (f 7 + (f 8 + (f 9 + (f 10 + (f 11 + (f 12 + (f 13 + (f 14 + f 15)))))))))))))) = _
  abel

/-- All sixteen planes together. -/
theorem planes_total (X : Vec Ideal S12x16x1024x64 .f32) (hX : NoZeroRow X) (b : Fin 16) (R C : Fin 1024) :
    (∑ p : Fin 16, planeSum (batchOf X b) R C p) = (∑ k : Fin 5, edge X b R C k) + ∑ k : Fin 5, edge X b C R k := by
  rw [sum_sixteen, planes_first X hX,
    plane_fwd X hX b R C 1 1 1 rfl (by simp only [cellCols, Matrix.cons_val]) (by simp only [amtCols, sixteen, Matrix.cons_val]),
    plane_fwd X hX b R C 2 2 2 rfl (by simp only [cellCols, Matrix.cons_val]) (by simp only [amtCols, sixteen, Matrix.cons_val]),
    plane_fwd X hX b R C 3 3 3 rfl (by simp only [cellCols, Matrix.cons_val]) (by simp only [amtCols, sixteen, Matrix.cons_val]),
    plane_fwd X hX b R C 4 4 4 rfl (by simp only [cellCols, Matrix.cons_val]) (by simp only [amtCols, sixteen, Matrix.cons_val]),
    plane_bwd X hX b R C 1 6 1 rfl (by simp only [cellCols, Matrix.cons_val]) (by simp only [amtCols, sixteen, Matrix.cons_val]),
    plane_bwd X hX b R C 2 7 2 rfl (by simp only [cellCols, Matrix.cons_val]) (by simp only [amtCols, sixteen, Matrix.cons_val]),
    plane_bwd X hX b R C 3 8 3 rfl (by simp only [cellCols, Matrix.cons_val]) (by simp only [amtCols, sixteen, Matrix.cons_val]),
    plane_bwd X hX b R C 4 9 4 rfl (by simp only [cellCols, Matrix.cons_val]) (by simp only [amtCols, sixteen, Matrix.cons_val]),
    plane_none _ R C 10 (by simp only [amtCols, sixteen, Matrix.cons_val]),
    plane_none _ R C 11 (by simp only [amtCols, sixteen, Matrix.cons_val]),
    plane_none _ R C 12 (by simp only [amtCols, sixteen, Matrix.cons_val]),
    plane_none _ R C 13 (by simp only [amtCols, sixteen, Matrix.cons_val]),
    plane_none _ R C 14 (by simp only [amtCols, sixteen, Matrix.cons_val]),
    plane_none _ R C 15 (by simp only [amtCols, sixteen, Matrix.cons_val]),
    Fin.sum_univ_five, Fin.sum_univ_five]
  simp only [add_zero]
  abel

/-- What the SparseCore part leaves in the cell of row `R` and column `C`. -/
theorem scattered_cell (X : Vec Ideal S12x16x1024x64 .f32) (hX : NoZeroRow X) (b : Fin 16) (R C : Fin 1024) :
    Tile.scattered (cellsOf X) (amtsOf X) (ix2 b (⟨R.val * 1024 + C.val, by omega⟩ : Fin 1048576))
      = (∑ k : Fin 5, edge X b R C k) + ∑ k : Fin 5, edge X b C R k := by
  rw [← planes_total X hX, Tile.scattered_apply]
  refine Finset.sum_congr rfl fun p _ => Finset.sum_congr rfl fun n _ => ?_
  have hc : cellsOf X (ix3 b p n) = cellCols (batchOf X b) p (ix2 n (0 : Fin 1)) := asPlanes_apply _ p n
  have ha : amtsOf X (ix3 b p n) = amtCols (batchOf X b) p (ix2 n (0 : Fin 1)) := asPlanes_apply _ p n
  rw [hc, ha]

end Cert.KernelIdeal.Top

end
-- ==== Proof.Layers.lean ====
/-
  The reference's result in named layers: rows, unit rows, similarities, the five largest of each row, the index triples,
  the scattered matrix, the rectified matrix, and the mean of it and its transpose.
-/
module

public import proofs.«01_k».proof.Proof.Gen.ReferenceIdeal.Run

@[expose] public section

noncomputable section

namespace Cert.ReferenceIdeal.Layers

open Cert.ReferenceIdeal Cert.ReferenceIdeal.Gen
open Idealize.ShloMosaic

variable {F : FTy → Type} [FloatOps F]

/-- Every node's features at all time steps in one row, batch by batch. -/
def flat (X : Vec F S12x16x1024x64 .f32) : FVec F S16x1024x768 .f32 :=
  shapeCast _ (transpose S16x1024x12x64 [1, 2, 0, 3] X transposes_S12x16x1024x64_S16x1024x12x64_1_2_0_3)
    shapeCasts_S16x1024x12x64_S16x1024x768

/-- Each row's sum of squares. -/
def squares (v : FVec F S16x1024x768 .f32) : FVec F S16x1024 .f32 :=
  Host.reduceAdd (mulf v v) (constant S_ .f32 0x00000000#32) reducesTo_S16x1024x768_S16x1024_d2 h_S_

/-- The rows divided by their lengths. -/
def unit (v : FVec F S16x1024x768 .f32) : FVec F S16x1024x768 .f32 :=
  Host.divf v (broadcastInDim S16x1024x768 ![0, 1, 2] bcast_S16x1024x1_S16x1024x768_0_1_2
    (Host.sqrt (broadcastInDim S16x1024x1 ![0, 1] bcast_S16x1024_S16x1024x1_0_1 (squares v))))

/-- All inner products of unit rows. -/
def sim (X : Vec F S12x16x1024x64 .f32) : FVec F S16x1024x1024 .f32 :=
  Host.dotGeneral dot_S16x1024x768_S16x768x1024_S16x1024x1024_2_1_1_2_0_0 none (unit (flat X))
    (transpose S16x768x1024 [0, 2, 1] (unit (flat X)) transposes_S16x1024x768_S16x768x1024_0_2_1)

/-- The five largest of each row, with their columns. -/
def top (w : FVec F S16x1024x1024 .f32) : FVec F S16x1024x5 .f32 × IVec S16x1024x5 32 :=
  Host.topK S16x1024x5 2 (FloatOps.cmpfTotal .gt) w sliceFits_S16x1024x1024_S16x1024x5

/-- Batch numbers and row numbers, each wrapped round if negative. -/
def batchNo : IVec S16x1x1 32 := broadcastInDim S16x1x1 ![0] bcast_S16_S16x1x1_0 (iotaInDim S16 32 0)
def rowNo : IVec S1x1024x1 32 := broadcastInDim S1x1024x1 ![1] bcast_S1024_S1x1024x1_1 (iotaInDim S1024 32 0)

def batchIx : IVec S16x1024x5x1 32 :=
  broadcastInDim S16x1024x5x1 ![0, 1, 2] bcast_S16x1024x5_S16x1024x5x1_0_1_2
    (broadcastInDim S16x1024x5 ![0, 1, 2] bcast_S16x1x1_S16x1024x5_0_1_2
      (select (cmpi .slt batchNo (broadcastInDim S16x1x1 ![] bcast_S_S16x1x1 (constantI S_ 32 0#32)))
        (addi batchNo (broadcastInDim S16x1x1 ![] bcast_S_S16x1x1 (constantI S_ 32 16#32))) batchNo))

def rowIx : IVec S16x1024x5x1 32 :=
  broadcastInDim S16x1024x5x1 ![0, 1, 2] bcast_S16x1024x5_S16x1024x5x1_0_1_2
    (broadcastInDim S16x1024x5 ![0, 1, 2] bcast_S1x1024x1_S16x1024x5_0_1_2
      (select (cmpi .slt rowNo (broadcastInDim S1x1024x1 ![] bcast_S_S1x1024x1 (constantI S_ 32 0#32)))
        (addi rowNo (broadcastInDim S1x1024x1 ![] bcast_S_S1x1024x1 (constantI S_ 32 1024#32))) rowNo))

/-- The columns found, wrapped round if negative. -/
def colIx (t : IVec S16x1024x5 32) : IVec S16x1024x5x1 32 :=
  broadcastInDim S16x1024x5x1 ![0, 1, 2] bcast_S16x1024x5_S16x1024x5x1_0_1_2
    (select (cmpi .slt t (broadcastInDim S16x1024x5 ![] bcast_S_S16x1024x5 (constantI S_ 32 0#32)))
      (addi t (broadcastInDim S16x1024x5 ![] bcast_S_S16x1024x5 (constantI S_ 32 1024#32))) t)

/-- Batch, row and column of every edge. -/
def triples (t : IVec S16x1024x5 32) : IVec S16x1024x5x3 32 :=
  concatenate S16x1024x5x3 3 [⟨S16x1024x5x1, batchIx⟩, ⟨S16x1024x5x1, rowIx⟩, ⟨S16x1024x5x1, colIx t⟩]
    concatenates_S16x1024x5x1_S16x1024x5x1_S16x1024x5x1_S16x1024x5x3_d3

/-- The edges' similarities written into a matrix of zeros. -/
def graph (u : FVec F S16x1024x5 .f32 × IVec S16x1024x5 32) : FVec F S16x1024x1024 .f32 :=
  Host.scatter scatter_S16x1024x1024_S16x1024x5x3_S16x1024x5_n_012_012_3 (fun _ b => b)
    (broadcastInDim S16x1024x1024 ![] bcast_S_S16x1024x1024 (constant S_ .f32 0x00000000#32)) (triples u.2) u.1

/-- The leaky rectification, times one. -/
def rectified (g : FVec F S16x1024x1024 .f32) : FVec F S16x1024x1024 .f32 :=
  mulf (select (cmpf .oge g (broadcastInDim S16x1024x1024 ![] bcast_S_S16x1024x1024 (constant S_ .f32 0x00000000#32))) g
      (mulf (broadcastInDim S16x1024x1024 ![] bcast_S_S16x1024x1024 (id (constant S_ .f32 0x3C23D70A#32))) g))
    (broadcastInDim S16x1024x1024 ![] bcast_S_S16x1024x1024 (constant S_ .f32 0x3F800000#32))

/-- Half of a matrix and its transpose. -/
def mean (g : FVec F S16x1024x1024 .f32) : FVec F S16x1024x1024 .f32 :=
  mulf (broadcastInDim S16x1024x1024 ![] bcast_S_S16x1024x1024 (constant S_ .f32 0x3F000000#32))
    (addf g (transpose S16x1024x1024 [0, 2, 1] g transposes_S16x1024x1024_S16x1024x1024_0_2_1))

/-- The reference's result, of its argument. -/
def answer (X : Vec F S12x16x1024x64 .f32) : FVec F S16x1024x1024 .f32 := mean (rectified (graph (top (sim X))))

set_option maxRecDepth 8192 in
theorem result_eq (m : (ℓ : Loc nD τ sig) → Buf (Elt F) ℓ) (c : Dev nD) :
    Value.res_main_v43 m c = answer (m (c.tc.loc main_arg0)) := by
  unfold Value.res_main_v43 answer mean rectified graph triples colIx rowIx batchIx rowNo batchNo top sim unit squares flat
  rfl

end Cert.ReferenceIdeal.Layers

end
-- ==== Proof.RefRows.lean ====
/-
  The reference's layers read at an index: its rows are the kernel's, its similarities are the kernel's when no row is all
  zeros, and its five largest are the first five places of the same order.
-/
module

public import proofs.«01_k».proof.Proof.Layers
public import proofs.«01_k».proof.Proof.Similar

@[expose] public section

noncomputable section

namespace Cert.ReferenceIdeal.Layers

open Cert.ReferenceIdeal Cert.ReferenceIdeal.Gen
open Idealize.ShloMosaic Idealize.ShloMosaic.ValueIdx
open Cert.KernelIdeal.Top (entry normSq likeness NoZeroRow order place)
open scoped BigOperators

theorem flat_apply (X : Vec Ideal S12x16x1024x64 .f32) (b : Fin 16) (r : Fin 1024) (j : Fin 768) :
    flat X (ix3 b r j) = entry X b r j := by
  unfold flat
  rw [shapeCast_apply _ _ _ (ix4 b r (⟨j.val / 64, by omega⟩ : Fin 12) (⟨j.val % 64, Nat.mod_lt _ (by decide)⟩ : Fin 64)) (by
    refine (Shape.rowMajor_val_four _).trans (Eq.trans ?_ (Shape.rowMajor_val_three _).symm)
    show ((b.val * 1024 + r.val) * 12 + j.val / 64) * 64 + j.val % 64 = (b.val * 1024 + r.val) * 768 + j.val
    omega)]
  exact transpose_apply _ _ _ _ _ (fun b => by
    match b with
    | ⟨0, _⟩ => rfl
    | ⟨1, _⟩ => rfl
    | ⟨2, _⟩ => rfl
    | ⟨3, _⟩ => rfl)

/-- The reduction of the last axis, as the inserted index needs it. -/
theorem reduces_last : S16x1024x768.Reduces [2] S16x1024 := by decide

theorem lift_last (b : Fin 16) (r : Fin 1024) (k : Fin 768) : reduces_last.lift (ix2 b r) k = ix3 b r k := by
  funext a
  match a with
  | ⟨0, _⟩ => rfl
  | ⟨1, _⟩ => rfl
  | ⟨2, _⟩ => rfl

theorem squares_apply (v : FVec Ideal S16x1024x768 .f32) (b : Fin 16) (r : Fin 1024) :
    squares v (ix2 b r) = ∑ j : Fin 768, v (ix3 b r j) * v (ix3 b r j) := by
  unfold squares
  rw [hostReduceAdd_apply]
  refine (Ideal.hostReduceAdd_single _ reduces_last _ _ _).trans ?_
  rw [constant_apply, Ideal.ofBits_zero_f32, zero_add]
  refine Finset.sum_congr rfl fun k _ => ?_
  exact congrArg (mulf v v) (lift_last b r k)

theorem unit_apply (v : FVec Ideal S16x1024x768 .f32) (b : Fin 16) (r : Fin 1024) (j : Fin 768) :
    unit v (ix3 b r j) = Ideal.div (v (ix3 b r j)) (Ideal.sqrt (∑ j : Fin 768, v (ix3 b r j) * v (ix3 b r j))) := by
  unfold unit
  rw [hostDivf_apply, broadcastInDim_apply _ _ _ _ (ix3 b r (0 : Fin 1)) (fun a => by
    match a with
    | ⟨0, _⟩ => rfl
    | ⟨1, _⟩ => rfl
    | ⟨2, _⟩ => rfl), ← squares_apply]
  refine congrArg (fun z => Ideal.div (v (ix3 b r j)) (Ideal.sqrt z)) ?_
  exact broadcastInDim_apply _ _ _ _ (ix2 b r) (fun a => by
    match a with
    | ⟨0, _⟩ => rfl
    | ⟨1, _⟩ => rfl)

theorem sim_apply (X : Vec Ideal S12x16x1024x64 .f32) (hX : NoZeroRow X) (b : Fin 16) (r c : Fin 1024) :
    sim X (ix3 b r c) = likeness X b r c := by
  have hu : ∀ (q : Fin 1024) (j : Fin 768), unit (flat X) (ix3 b q j) = entry X b q j * Ideal.rsqrt (normSq X b q) := by
    intro q j
    rw [unit_apply]
    simp only [flat_apply]
    exact Math.div_root _ _ (hX b q)
  unfold sim
  refine (Ideal.dotGeneral_apply _ _ _ _ _ _).trans ?_
  refine (Fintype.sum_equiv (contrEquiv1 dot_S16x1024x768_S16x768x1024_S16x1024x1024_2_1_1_2_0_0 768 rfl rfl) _
    (fun j : Fin 768 => unit (flat X) (ix3 b r j) * unit (flat X) (ix3 b c j)) fun k => ?_).trans ?_
  · refine congrArg₂ (· * ·) (congrArg (unit (flat X)) ?_) (transpose_apply _ _ _ _ _ (fun a => ?_))
    · funext a
      match a with
      | ⟨0, _⟩ => rfl
      | ⟨1, _⟩ => rfl
      | ⟨2, _⟩ => rfl
    · match a with
      | ⟨0, _⟩ => rfl
      | ⟨1, _⟩ => rfl
      | ⟨2, _⟩ => rfl
  · unfold likeness
    exact Finset.sum_congr rfl fun j _ => by rw [hu, hu]

/-- The order a row's columns are sorted in. -/
def sorted (w : FVec Ideal S16x1024x1024 .f32) (b : Fin 16) (r : Fin 1024) : Fin 1024 → Fin 1024 :=
  sortedFrom fun c d => decide (w (ix3 b r d) < w (ix3 b r c))

theorem along_last (b : Fin 16) (r : Fin 1024) (k c : Fin 1024) :
    (ix3 b r k : S16x1024x1024.Idx).along (2 : Fin 3) c = ix3 b r c := by
  funext a
  match a with
  | ⟨0, _⟩ => rfl
  | ⟨1, _⟩ => rfl
  | ⟨2, _⟩ => rfl

theorem greater_apply (w : FVec Ideal S16x1024x1024 .f32) (b : Fin 16) (r : Fin 1024) (k : Fin 1024) :
    (fun c d : Fin 1024 => (FloatOps.cmpfTotal (F := Ideal) (φ := .f32) .gt (w ((ix3 b r k : S16x1024x1024.Idx).along (2 : Fin 3) c))
      (w ((ix3 b r k : S16x1024x1024.Idx).along (2 : Fin 3) d)) == 1#1)) = fun c d => decide (w (ix3 b r d) < w (ix3 b r c)) := by
  funext c d
  rw [along_last, along_last]
  show (BitVec.ofBool (decide (w (ix3 b r d) < w (ix3 b r c))) == 1#1) = _
  cases decide (w (ix3 b r d) < w (ix3 b r c)) <;> rfl

/-- The first five places of a row. -/
theorem first_five {α : Type} (x : S16x1024x1024.Idx → α) (b : Fin 16) (r : Fin 1024) (k : Fin 5) :
    extractStridedSlice S16x1024x5 (fun _ => 0) x sliceFits_S16x1024x1024_S16x1024x5 (ix3 b r k) = x (ix3 b r (place k)) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm)

theorem top_val (w : FVec Ideal S16x1024x1024 .f32) (b : Fin 16) (r : Fin 1024) (k : Fin 5) :
    (top w).1 (ix3 b r k) = w (ix3 b r (sorted w b r (place k))) := by
  unfold top Host.topK Host.sort2
  dsimp only
  refine (first_five _ b r k).trans ?_
  rw [dif_pos (by decide : 2 < S16x1024x1024.rank)]
  refine (congrArg w (along_last b r (place k) _)).trans ?_
  exact congrArg (fun R => w (ix3 b r (sortedFrom R (place k)))) (greater_apply w b r (place k))

/-- The column numbers, read at another column of the same row. -/
theorem number_apply (b : Fin 16) (r k c : Fin 1024) :
    iotaInDim S16x1024x1024 32 (2 : Fin 3) ((ix3 b r k : S16x1024x1024.Idx).along (2 : Fin 3) c) = BitVec.ofNat 32 c.val :=
  congrArg (iotaInDim S16x1024x1024 32 (2 : Fin 3)) (along_last b r k c)

theorem top_col (w : FVec Ideal S16x1024x1024 .f32) (b : Fin 16) (r : Fin 1024) (k : Fin 5) :
    (top w).2 (ix3 b r k) = BitVec.ofNat 32 (sorted w b r (place k)).val := by
  unfold top Host.topK Host.sort2
  dsimp only
  refine (first_five _ b r k).trans ?_
  rw [dif_pos (by decide : 2 < S16x1024x1024.rank)]
  refine (number_apply b r (place k) _).trans ?_
  exact congrArg (fun R : Fin 1024 → Fin 1024 → Bool => BitVec.ofNat 32 (sortedFrom R (place k)).val) (greater_apply w b r (place k))

theorem sorted_sim (X : Vec Ideal S12x16x1024x64 .f32) (hX : NoZeroRow X) (b : Fin 16) (r : Fin 1024) :
    sorted (sim X) b r = order X b r := by
  unfold sorted order
  simp only [sim_apply X hX]

end Cert.ReferenceIdeal.Layers

end
-- ==== Proof.Landing.lean ====
/-
  A scatter that overwrites, read at an element: if one update lands there, and no other does, the element is that update;
  if none does, it is what stood there. And where the reference's updates land: at the element their index triple names.
-/
module

public import proofs.«01_k».proof.Proof.RefRows
public import Idealize.ShloMosaic.Lib.Routing.OpsPair

@[expose] public section

noncomputable section

namespace Cert.Math

open Idealize.ShloMosaic

/-- Going through a list and overwriting at the places that hit: where the only place that hits is `n₀`, its value stays. -/
theorem foldl_hit {α ι : Type} (p : ι → Prop) [DecidablePred p] (v : ι → α) (n₀ : ι) (hp : ∀ n, p n → n = n₀) :
    ∀ (l : List ι) (a : α), l.foldl (fun a n => if p n then v n else a) a = a ∨ l.foldl (fun a n => if p n then v n else a) a = v n₀
  | [], a => Or.inl rfl
  | n :: l, a => by
    rw [List.foldl_cons]
    by_cases h : p n
    · rw [if_pos h, hp n h]
      rcases foldl_hit p v n₀ hp l (v n₀) with e | e
      · exact Or.inr e
      · exact Or.inr e
    · rw [if_neg h]
      exact foldl_hit p v n₀ hp l a

theorem foldl_miss {α ι : Type} (p : ι → Prop) [DecidablePred p] (v : ι → α) (hp : ∀ n, ¬ p n) :
    ∀ (l : List ι) (a : α), l.foldl (fun a n => if p n then v n else a) a = a
  | [], _ => rfl
  | n :: l, a => by rw [List.foldl_cons, if_neg (hp n)]; exact foldl_miss p v hp l a

theorem foldl_mem {α ι : Type} (p : ι → Prop) [DecidablePred p] (v : ι → α) (n₀ : ι) (h₀ : p n₀) (hp : ∀ n, p n → n = n₀) :
    ∀ (l : List ι) (a : α), n₀ ∈ l → l.foldl (fun a n => if p n then v n else a) a = v n₀
  | n :: l, a, hm => by
    rw [List.foldl_cons]
    by_cases h : p n
    · rw [if_pos h, hp n h]
      rcases foldl_hit p v n₀ hp l (v n₀) with e | e
      · exact e
      · exact e
    · rw [if_neg h]
      rcases List.mem_cons.mp hm with rfl | hm'
      · exact absurd h₀ h
      · exact foldl_mem p v n₀ h₀ hp l a hm'

/-- An overwriting scatter where just one update lands. -/
theorem scatter_hit {α : Type} {s si u : Shape} {w : ℕ} (d : ScatterDims s si u) (x0 : s.Idx → α) (idx : IVec si w)
    (upd : u.Idx → α) (i : s.Idx) (j : u.Idx) (hj : d.resultIdx? j idx = some i)
    (hu : ∀ k, d.resultIdx? k idx = some i → k = j) : Host.scatter d (fun _ b => b) x0 idx upd i = upd j := by
  rw [Routing.scatter_at]
  refine (foldl_mem (fun n => d.resultIdx? (u.rowMajor.symm n) idx = some i) (fun n => upd (u.rowMajor.symm n)) (u.rowMajor j)
    (by rw [Equiv.symm_apply_apply]; exact hj) (fun n hn => ?_) _ _ (List.mem_finRange _)).trans ?_
  · rw [← hu _ hn, Equiv.apply_symm_apply]
  · exact congrArg upd (Equiv.symm_apply_apply _ _)

/-- An overwriting scatter where no update lands. -/
theorem scatter_miss {α : Type} {s si u : Shape} {w : ℕ} (d : ScatterDims s si u) (x0 : s.Idx → α) (idx : IVec si w)
    (upd : u.Idx → α) (i : s.Idx) (hu : ∀ k, d.resultIdx? k idx ≠ some i) :
    Host.scatter d (fun _ b => b) x0 idx upd i = x0 i := by
  rw [Routing.scatter_at]
  exact foldl_miss (fun n => d.resultIdx? (u.rowMajor.symm n) idx = some i) (fun n => upd (u.rowMajor.symm n)) (fun n => hu _) _ _

end Cert.Math

namespace Cert.ReferenceIdeal.Layers

open Cert.ReferenceIdeal Cert.ReferenceIdeal.Gen
open Idealize.ShloMosaic Idealize.ShloMosaic.ValueIdx
open Cert.KernelIdeal.Top (entry normSq likeness NoZeroRow order place)

/-- The reference's scatter, by a short name. -/
abbrev landing : ScatterDims S16x1024x1024 S16x1024x5x3 S16x1024x5 := scatter_S16x1024x1024_S16x1024x5x3_S16x1024x5_n_012_012_3

theorem start_apply (idx : IVec S16x1024x5x3 32) (b : Fin 16) (r : Fin 1024) (k : Fin 5) (q : Fin 3) :
    landing.start (ix3 b r k) idx q = (idx (ix4 b r k q)).toInt := by
  have hm : q ∈ landing.scatterDimsToOperandDims := by
    show q ∈ ([0, 1, 2] : List (Fin 3))
    match q with
    | 0 => exact List.mem_cons_self
    | 1 => exact List.mem_cons_of_mem _ List.mem_cons_self
    | 2 => exact List.mem_cons_of_mem _ (List.mem_cons_of_mem _ List.mem_cons_self)
  unfold ScatterDims.start
  rw [dif_pos hm]
  refine congrArg (fun i => (idx i).toInt) (funext fun a => Fin.ext ?_)
  match a with
  | ⟨0, _⟩ => rfl
  | ⟨1, _⟩ => rfl
  | ⟨2, _⟩ => rfl
  | ⟨3, _⟩ =>
    match q with
    | 0 => rfl
    | 1 => rfl
    | 2 => rfl

theorem window_apply (b : Fin 16) (r : Fin 1024) (k : Fin 5) (q : Fin 3) : landing.window (ix3 b r k) q = 0 := by
  match q with
  | 0 => rfl
  | 1 => rfl
  | 2 => rfl

/-- Update (b, r, k) lands at (B, R, C) exactly when its index triple is that. -/
theorem lands (idx : IVec S16x1024x5x3 32) (b : Fin 16) (r : Fin 1024) (k : Fin 5) (B : Fin 16) (R C : Fin 1024) :
    landing.resultIdx? (ix3 b r k) idx = some (ix3 B R C)
      ↔ (idx (ix4 b r k (0 : Fin 3))).toInt = B.val ∧ (idx (ix4 b r k (1 : Fin 3))).toInt = R.val
        ∧ (idx (ix4 b r k (2 : Fin 3))).toInt = C.val := by
  rw [Routing.resultIdx?_eq_some]
  have h : ∀ q : Fin 3, landing.start (ix3 b r k) idx q + (landing.window (ix3 b r k) q : ℤ) = (idx (ix4 b r k q)).toInt := by
    intro q
    rw [start_apply, window_apply]
    simp
  constructor
  · intro e
    exact ⟨(h 0).symm.trans (e 0), (h 1).symm.trans (e 1), (h 2).symm.trans (e 2)⟩
  · rintro ⟨h0, h1, h2⟩ a
    match a with
    | ⟨0, _⟩ => exact (h 0).trans h0
    | ⟨1, _⟩ => exact (h 1).trans h1
    | ⟨2, _⟩ => exact (h 2).trans h2

/-! ## The index triples -/

/-- A number that is not negative is not wrapped round. -/
theorem unwrapped (n : ℕ) (hn : n < 1024) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

theorem batchIx_apply (b : Fin 16) (r : Fin 1024) (k : Fin 5) : batchIx (ix4 b r k (0 : Fin 1)) = BitVec.ofNat 32 b.val := by
  unfold batchIx
  rw [broadcastInDim_apply _ _ _ _ (ix3 b r k) (fun a => by
      match a with
      | ⟨0, _⟩ => rfl
      | ⟨1, _⟩ => rfl
      | ⟨2, _⟩ => rfl),
    broadcastInDim_apply _ _ _ _ (ix3 b (0 : Fin 1) (0 : Fin 1)) (fun a => by
      match a with
      | ⟨0, _⟩ => rfl
      | ⟨1, _⟩ => rfl
      | ⟨2, _⟩ => rfl)]
  have e : batchNo (ix3 b (0 : Fin 1) (0 : Fin 1)) = BitVec.ofNat 32 b.val :=
    broadcastInDim_apply _ _ _ _ (ix1 b) (fun a => by
      match a with
      | ⟨0, _⟩ => rfl)
  rw [select_apply]
  show Scalar.select (IntOp.cmpi .slt (batchNo (ix3 b (0 : Fin 1) (0 : Fin 1))) 0#32) _ (batchNo (ix3 b (0 : Fin 1) (0 : Fin 1))) = _
  rw [e]
  exact unwrapped _ (by omega) _

theorem rowIx_apply (b : Fin 16) (r : Fin 1024) (k : Fin 5) : rowIx (ix4 b r k (0 : Fin 1)) = BitVec.ofNat 32 r.val := by
  unfold rowIx
  rw [broadcastInDim_apply _ _ _ _ (ix3 b r k) (fun a => by
      match a with
      | ⟨0, _⟩ => rfl
      | ⟨1, _⟩ => rfl
      | ⟨2, _⟩ => rfl),
    broadcastInDim_apply _ _ _ _ (ix3 (0 : Fin 1) r (0 : Fin 1)) (fun a => by
      match a with
      | ⟨0, _⟩ => rfl
      | ⟨1, _⟩ => rfl
      | ⟨2, _⟩ => rfl)]
  have e : rowNo (ix3 (0 : Fin 1) r (0 : Fin 1)) = BitVec.ofNat 32 r.val :=
    broadcastInDim_apply _ _ _ _ (ix1 r) (fun a => by
      match a with
      | ⟨0, _⟩ => rfl)
  rw [select_apply]
  show Scalar.select (IntOp.cmpi .slt (rowNo (ix3 (0 : Fin 1) r (0 : Fin 1))) 0#32) _ (rowNo (ix3 (0 : Fin 1) r (0 : Fin 1))) = _
  rw [e]
  exact unwrapped _ r.isLt _

theorem colIx_apply (t : IVec S16x1024x5 32) (b : Fin 16) (r : Fin 1024) (k : Fin 5) (c : Fin 1024)
    (h : t (ix3 b r k) = BitVec.ofNat 32 c.val) : colIx t (ix4 b r k (0 : Fin 1)) = BitVec.ofNat 32 c.val := by
  unfold colIx
  rw [broadcastInDim_apply _ _ _ _ (ix3 b r k) (fun a => by
      match a with
      | ⟨0, _⟩ => rfl
      | ⟨1, _⟩ => rfl
      | ⟨2, _⟩ => rfl)]
  rw [select_apply]
  show Scalar.select (IntOp.cmpi .slt (t (ix3 b r k)) 0#32) _ (t (ix3 b r k)) = _
  rw [h]
  exact unwrapped _ c.isLt _

/-- The three parts of the triples. -/
def parts (t : IVec S16x1024x5 32) : Fin 3 → IVec S16x1024x5x1 32 := ![batchIx, rowIx, colIx t]

theorem triples_apply (t : IVec S16x1024x5 32) (b : Fin 16) (r : Fin 1024) (k : Fin 5) (q : Fin 3) :
    triples t (ix4 b r k q) = parts t q (ix4 b r k (0 : Fin 1)) :=
  concatenate_ofFn_unit_apply (t := S16x1024x5x3) (s₁ := S16x1024x5x1) 3 (parts t)
    concatenates_S16x1024x5x1_S16x1024x5x1_S16x1024x5x1_S16x1024x5x3_d3
    rfl rfl (ix4 b r k q) q rfl _ (fun a ha => by
      match a with
      | ⟨0, _⟩ => rfl
      | ⟨1, _⟩ => rfl
      | ⟨2, _⟩ => rfl
      | ⟨3, _⟩ => exact absurd rfl ha)

theorem lands_triple (t : IVec S16x1024x5 32) (b : Fin 16) (r : Fin 1024) (k : Fin 5) (c : Fin 1024)
    (h : t (ix3 b r k) = BitVec.ofNat 32 c.val) (B : Fin 16) (R C : Fin 1024) :
    landing.resultIdx? (ix3 b r k) (triples t) = some (ix3 B R C) ↔ b = B ∧ r = R ∧ c = C := by
  have e0 : triples t (ix4 b r k (0 : Fin 3)) = BitVec.ofNat 32 b.val := (triples_apply t b r k 0).trans (batchIx_apply b r k)
  have e1 : triples t (ix4 b r k (1 : Fin 3)) = BitVec.ofNat 32 r.val := (triples_apply t b r k 1).trans (rowIx_apply b r k)
  have e2 : triples t (ix4 b r k (2 : Fin 3)) = BitVec.ofNat 32 c.val := (triples_apply t b r k 2).trans (colIx_apply t b r k c h)
  rw [lands, e0, e1, e2, KernelIdeal.Top.toInt_small _ (by omega), KernelIdeal.Top.toInt_small _ (by omega),
    KernelIdeal.Top.toInt_small _ (by omega)]
  constructor
  · rintro ⟨p, q, s⟩
    exact ⟨Fin.ext (by exact_mod_cast p), Fin.ext (by exact_mod_cast q), Fin.ext (by exact_mod_cast s)⟩
  · rintro ⟨rfl, rfl, rfl⟩
    exact ⟨rfl, rfl, rfl⟩

/-- The scattered matrix: a row's similarity at the columns that are among its five, zero elsewhere. -/
theorem graph_apply (X : Vec Ideal S12x16x1024x64 .f32) (hX : NoZeroRow X) (b : Fin 16) (R C : Fin 1024) :
    graph (top (sim X)) (ix3 b R C)
      = open Classical in if ∃ k : Fin 5, order X b R (place k) = C then likeness X b R C else 0 := by
  have hcol : ∀ (b : Fin 16) (r : Fin 1024) (k : Fin 5),
      (top (sim X)).2 (ix3 b r k) = BitVec.ofNat 32 (order X b r (place k)).val := by
    intro b r k
    rw [top_col, sorted_sim X hX]
  have hl : ∀ (b' : Fin 16) (r : Fin 1024) (k : Fin 5), landing.resultIdx? (ix3 b' r k) (triples (top (sim X)).2) = some (ix3 b R C)
      ↔ b' = b ∧ r = R ∧ order X b' r (place k) = C := fun b' r k => lands_triple _ b' r k _ (hcol b' r k) b R C
  by_cases h : ∃ k : Fin 5, order X b R (place k) = C
  · rw [if_pos h]
    obtain ⟨k, hk⟩ := h
    unfold graph
    refine (Math.scatter_hit landing _ _ _ (ix3 b R C) (ix3 b R k) ((hl b R k).mpr ⟨rfl, rfl, hk⟩) (fun j hj => ?_)).trans ?_
    · have hj' := hj
      rw [eq_ix3 j] at hj' ⊢
      obtain ⟨p, q, s⟩ := (hl (j 0) (j 1) (j 2)).mp hj'
      have p' : (j 0 : Fin 16) = b := p
      have q' : (j 1 : Fin 1024) = R := q
      have s' : (j 2 : Fin 5) = k := by
        rw [p, q, ← hk] at s
        have := sortedFrom_injective _ s
        exact Fin.ext (show (place (j 2)).val = (place k).val from congrArg Fin.val this)
      exact congr (congr (congrArg ix3 p') q') s'
    · rw [top_val, sorted_sim X hX, hk, sim_apply X hX]
  · rw [if_neg h]
    unfold graph
    refine (Math.scatter_miss landing _ _ _ (ix3 b R C) (fun j hj => ?_)).trans ?_
    · rw [eq_ix3 j] at hj
      obtain ⟨p, q, s⟩ := (hl (j 0) (j 1) (j 2)).mp hj
      rw [p, q] at s
      exact h ⟨_, s⟩
    · exact Ideal.ofBits_zero_f32

end Cert.ReferenceIdeal.Layers

end
-- ==== Proof.Agree.lean ====
/-
  The kernel's result and the reference's are one array of extended reals, where no row is all zeros. At (b, R, C) the
  kernel has the weights of the edges from R to C and from C to R, each already halved; the reference takes half of
  the sum of the two rectified similarities. Every number here is real, so half of the sum is the sum of the halves.
-/
module

public import proofs.«01_k».proof.Proof.Cells
public import proofs.«01_k».proof.Proof.Main
public import proofs.«01_k».proof.Proof.Landing
public import Idealize.ShloMosaic.Lib.ReduceAll
public import proofs.«01_k».proof.Pre_no_zero_row
public import proofs.«01_k».proof.Defs

@[expose] public section

noncomputable section

namespace Cert.Math

open Idealize.ShloMosaic

/-- Half of a sum of two reals, each times one. -/
theorem half_sum {a b h : EReal} (ha : IsReal a) (hb : IsReal b) (hh : IsReal h) : h * (a * 1 + b * 1) = a * h + b * h := by
  obtain ⟨a, rfl⟩ := ha; obtain ⟨b, rfl⟩ := hb; obtain ⟨h, rfl⟩ := hh
  rw [mul_one, mul_one, ← EReal.coe_add, ← EReal.coe_mul, ← EReal.coe_mul, ← EReal.coe_mul, ← EReal.coe_add]
  exact congrArg _ (by ring)

theorem half_real : IsReal (Ideal.ofBits .f32 0x3F000000#32) := by
  simp [Ideal.ofBits, Ideal.ieee]
  exact ⟨_, rfl⟩

theorem slope_real : IsReal (Ideal.ofBits .f32 0x3C23D70A#32) := by
  simp [Ideal.ofBits, Ideal.ieee]
  exact ⟨_, rfl⟩

/-- The leaky rectification of a number. -/
def leak (x : EReal) : EReal := if 0 ≤ x then x else Ideal.ofBits .f32 0x3C23D70A#32 * x

theorem leak_zero : leak 0 = 0 := if_pos le_rfl

theorem leak_real {x : EReal} (hx : IsReal x) : IsReal (leak x) := by
  unfold leak
  split
  · exact hx
  · exact slope_real.mul hx

end Cert.Math

namespace Cert.ReferenceIdeal.Layers

open Cert.ReferenceIdeal Cert.ReferenceIdeal.Gen
open Idealize.ShloMosaic Idealize.ShloMosaic.ValueIdx
open Cert.KernelIdeal.Top (likeness NoZeroRow order place edge weight likeness_real halfLeak)

theorem rectified_apply (g : FVec Ideal S16x1024x1024 .f32) (i : S16x1024x1024.Idx) : rectified g i = Math.leak (g i) * 1 := by
  unfold rectified Math.leak
  rw [mulf_apply, select_apply, cmpf_apply, mulf_apply]
  simp only [broadcastInDim_scalar_apply]
  refine congrArg₂ (· * ·) ?_ Ideal.ofBits_one_f32
  show Scalar.select (BitVec.ofBool (decide (Ideal.ofBits .f32 0x00000000#32 ≤ g i))) _ (Ideal.ofBits .f32 0x3C23D70A#32 * g i) = _
  rw [Ideal.ofBits_zero_f32]
  by_cases q : 0 ≤ g i
  · rw [if_pos q, decide_eq_true q]; rfl
  · rw [if_neg q, decide_eq_false q]; rfl

theorem mean_apply (g : FVec Ideal S16x1024x1024 .f32) (b : Fin 16) (R C : Fin 1024) :
    mean g (ix3 b R C) = Ideal.ofBits .f32 0x3F000000#32 * (g (ix3 b R C) + g (ix3 b C R)) := by
  unfold mean
  rw [mulf_apply, addf_apply]
  simp only [broadcastInDim_scalar_apply]
  refine congrArg (fun z => Ideal.ofBits .f32 0x3F000000#32 * (g (ix3 b R C) + z)) ?_
  exact transpose_apply _ _ _ _ (ix3 b C R) (fun a => by
    match a with
    | ⟨0, _⟩ => rfl
    | ⟨1, _⟩ => rfl
    | ⟨2, _⟩ => rfl)

/-- A row has at most one edge to a column: the five weights at the column are the similarity there, or nothing. -/
theorem edges_apply (X : Vec Ideal S12x16x1024x64 .f32) (hX : NoZeroRow X) (b : Fin 16) (R C : Fin 1024) :
    (∑ k : Fin 5, edge X b R C k) = Math.leak (graph (top (sim X)) (ix3 b R C)) * Ideal.ofBits .f32 0x3F000000#32 := by
  rw [graph_apply X hX]
  by_cases h : ∃ k : Fin 5, order X b R (place k) = C
  · rw [if_pos h]
    obtain ⟨k, hk⟩ := h
    rw [Finset.sum_eq_single k (fun l _ hl => ?_) (fun hn => absurd (Finset.mem_univ k) hn)]
    · unfold edge weight
      rw [if_pos hk, hk]
      rfl
    · refine if_neg fun e => hl ?_
      have := sortedFrom_injective _ (e.trans hk.symm)
      exact Fin.ext (show (place l).val = (place k).val from congrArg Fin.val this)
  · rw [if_neg h, Math.leak_zero, zero_mul]
    exact Finset.sum_eq_zero fun k _ => if_neg fun e => h ⟨k, e⟩

theorem graph_real (X : Vec Ideal S12x16x1024x64 .f32) (hX : NoZeroRow X) (b : Fin 16) (R C : Fin 1024) :
    Math.IsReal (graph (top (sim X)) (ix3 b R C)) := by
  rw [graph_apply X hX]
  split
  · exact likeness_real X hX b R C
  · exact Math.IsReal.zero

theorem answer_apply (X : Vec Ideal S12x16x1024x64 .f32) (hX : NoZeroRow X) (b : Fin 16) (R C : Fin 1024) :
    answer X (ix3 b R C) = (∑ k : Fin 5, edge X b R C k) + ∑ k : Fin 5, edge X b C R k := by
  unfold answer
  rw [mean_apply, rectified_apply, rectified_apply, edges_apply X hX, edges_apply X hX]
  exact Math.half_sum (Math.leak_real (graph_real X hX b R C)) (Math.leak_real (graph_real X hX b C R)) Math.half_real

/-- The two results are equal. -/
theorem answer_eq (X : Vec Ideal S12x16x1024x64 .f32) (hX : NoZeroRow X) : KernelIdeal.Whole.resultOf X = answer X := by
  funext i
  obtain ⟨b, R, C, rfl⟩ : ∃ (b : Fin 16) (R C : Fin 1024), i = ix3 b R C := ⟨i 0, i 1, i 2, eq_ix3 i⟩
  rw [answer_apply X hX, ← KernelIdeal.Top.scattered_cell X hX b R C]
  unfold KernelIdeal.Whole.resultOf
  refine shapeCast_apply _ _ (ix3 b R C) _ ?_
  refine (Shape.rowMajor_val_two _).trans (Eq.trans ?_ (Shape.rowMajor_val_three _).symm)
  show b.val * 1048576 + (R.val * 1024 + C.val) = (b.val * 1024 + R.val) * 1024 + C.val
  omega

end Cert.ReferenceIdeal.Layers

namespace Cert.Pre_no_zero_row

open Idealize.ShloMosaic

/-- The predicate's side conditions. -/
instance facts : Facts where
  transposes_S12x16x1024x64_S16x1024x12x64_1_2_0_3 := by decide
  shapeCasts_S16x1024x12x64_S16x1024x768 := by decide
  reducesTo_S16x1024x768_S16x1024_d2 := by decide
  h_S_ := by decide
  bcast_S_S16x1024 := by decide
  reducesTo_S16x1024_S_d0_1 := by decide

end Cert.Pre_no_zero_row

namespace Cert.Proof

open Idealize.ShloMosaic Idealize.ShloMosaic.ValueIdx Idealize.SL.Sem
open Cert.ReferenceIdeal.Layers
open Cert.KernelIdeal.Top (NoZeroRow normSq)

/-- The precondition, as the sums of squares say it. -/
theorem noZeroRow (X : Vec Ideal KernelIdeal.S12x16x1024x64 .f32) (h : Cert.Pre_no_zero_row.fn (F := Ideal) X = fun _ => 1#1) :
    NoZeroRow X := by
  intro b r
  haveI : Subsingleton Cert.Pre_no_zero_row.S_.Idx := ⟨fun x y => funext fun a => a.elim0⟩
  have e := Host.reduce_andi_all _ _ _ _ (fun a => a.elim0) (congrFun h fun a => a.elim0) (ix2 b r)
  have e' : BitVec.ofBool (decide (Ideal.ofBits .f32 0x00000000#32 < squares (flat X) (ix2 b r))) = 1#1 := e
  rw [Ideal.ofBits_zero_f32, squares_apply] at e'
  have p : 0 < ∑ j : Fin 768, flat X (ix3 b r j) * flat X (ix3 b r j) := by
    by_contra q
    rw [decide_eq_false q] at e'
    exact absurd e' (by decide)
  unfold normSq
  simpa only [flat_apply] using p

theorem algebraic : Cert.algebraic_KernelIdeal_ReferenceIdeal_pre_no_zero_row := by
  intro m g m' g' hpre hm
  refine ⟨fun c => KernelIdeal.Whole.resultOf (KernelIdeal.Whole.argOf m c), ?_, ?_⟩
  · exact (θ_run Cert.KernelIdeal.defs _ _).mono (fun _ h c => ⟨(h.1 c).2, (h.1 c).1⟩)
      (Cert.KernelIdeal.Whole.run_main (F := Ideal) m g)
  · refine (θ_run Cert.ReferenceIdeal.defs _ _).mono (fun _ h c => ⟨(h c).1.trans ?_, (h c).2⟩)
      (Cert.ReferenceIdeal.Value.run (F := Ideal) m' g')
    rw [result_eq, hm c]
    exact (answer_eq _ (noZeroRow _ (hpre c))).symm

end Cert.Proof

end
-- ==== Proof.lean ====
module

public import proofs.«01_k».proof.Defs
public import proofs.«01_k».proof.Proof.Frames
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_no_zero_row.facts, frame_kernel, frame_ideal, fun m g _ => frame_ideal m g trivial, frame_reference,
  fun m g _ => frame_reference m g trivial, trivial, algebraic⟩

end Cert.Proof

end
